-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeReferenceIdeal (m : (ℓ : Loc Cert.MoeReferenceIdeal.nD Cert.MoeReferenceIdeal.τ Cert.MoeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MoeS (m : (ℓ : Loc Cert.MoeS.nD Cert.MoeS.τ Cert.MoeS.sig) → Buf (Elt Bits) ℓ) : Prop :=
  True

def Pre_MoeSIdeal (m : (ℓ : Loc Cert.MoeSIdeal.nD Cert.MoeSIdeal.τ Cert.MoeSIdeal.sig) → Buf (Elt Ideal) ℓ) : Prop :=
  True

def Pre_MoeSReferenceIdeal (m : (ℓ : Loc Cert.MoeSReferenceIdeal.nD Cert.MoeSReferenceIdeal.τ Cert.MoeSReferenceIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanReferenceIdeal (m : (ℓ : Loc Cert.ScanReferenceIdeal.nD Cert.ScanReferenceIdeal.τ Cert.ScanReferenceIdeal.sig) → Buf (Elt Ideal) ℓ) : Prop :=
  True

def Pre_ScanS (m : (ℓ : Loc Cert.ScanS.nD Cert.ScanS.τ Cert.ScanS.sig) → Buf (Elt Bits) ℓ) : Prop :=
  True

def Pre_ScanSIdeal (m : (ℓ : Loc Cert.ScanSIdeal.nD Cert.ScanSIdeal.τ Cert.ScanSIdeal.sig) → Buf (Elt Ideal) ℓ) : Prop :=
  True

def Pre_ScanSReferenceIdeal (m : (ℓ : Loc Cert.ScanSReferenceIdeal.nD Cert.ScanSReferenceIdeal.τ Cert.ScanSReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9))
      ∧ r.2.sem = fun _ => 0)

def quiescent_MoeS [hMoeS : Cert.MoeS.Facts] : Prop :=
  ∀ (m : (ℓ : Loc Cert.MoeS.nD Cert.MoeS.τ Cert.MoeS.sig) → Buf (Elt Bits) ℓ) (g : Dev Cert.MoeS.nD → PrngReg), Pre_MoeS m →
    θ_run (Cert.MoeS.defs (F := Bits)) (onTc (τ := Cert.MoeS.τ) (Cert.MoeS.main (F := Bits))) ⟨m, fun _ => 0, g⟩ (fun r => (∀ c : Dev Cert.MoeS.nD,
      r.2.mem ((c.tc : Thread Cert.MoeS.nD Cert.MoeS.τ).loc Cert.MoeS.main_arg0) = m ((c.tc : Thread Cert.MoeS.nD Cert.MoeS.τ).loc Cert.MoeS.main_arg0)
      ∧ r.2.mem ((c.tc : Thread Cert.MoeS.nD Cert.MoeS.τ).loc Cert.MoeS.main_arg1) = m ((c.tc : Thread Cert.MoeS.nD Cert.MoeS.τ).loc Cert.MoeS.main_arg1)
      ∧ r.2.mem ((c.tc : Thread Cert.MoeS.nD Cert.MoeS.τ).loc Cert.MoeS.main_arg2) = m ((c.tc : Thread Cert.MoeS.nD Cert.MoeS.τ).loc Cert.MoeS.main_arg2)
      ∧ r.2.mem ((c.tc : Thread Cert.MoeS.nD Cert.MoeS.τ).loc Cert.MoeS.main_arg3) = m ((c.tc : Thread Cert.MoeS.nD Cert.MoeS.τ).loc Cert.MoeS.main_arg3)
      ∧ r.2.mem ((c.tc : Thread Cert.MoeS.nD Cert.MoeS.τ).loc Cert.MoeS.main_arg4) = m ((c.tc : Thread Cert.MoeS.nD Cert.MoeS.τ).loc Cert.MoeS.main_arg4)
      ∧ r.2.mem ((c.tc : Thread Cert.MoeS.nD Cert.MoeS.τ).loc Cert.MoeS.main_arg5) = m ((c.tc : Thread Cert.MoeS.nD Cert.MoeS.τ).loc Cert.MoeS.main_arg5)
      ∧ r.2.mem ((c.tc : Thread Cert.MoeS.nD Cert.MoeS.τ).loc Cert.MoeS.main_arg6) = m ((c.tc : Thread Cert.MoeS.nD Cert.MoeS.τ).loc Cert.MoeS.main_arg6)
      ∧ r.2.mem ((c.tc : Thread Cert.MoeS.nD Cert.MoeS.τ).loc Cert.MoeS.main_arg7) = m ((c.tc : Thread Cert.MoeS.nD Cert.MoeS.τ).loc Cert.MoeS.main_arg7)
      ∧ r.2.mem ((c.tc : Thread Cert.MoeS.nD Cert.MoeS.τ).loc Cert.MoeS.main_arg8) = m ((c.tc : Thread Cert.MoeS.nD Cert.MoeS.τ).loc Cert.MoeS.main_arg8))
      ∧ r.2.sem = fun _ => 0)

def quiescent_MoeSIdeal [hMoeSIdeal : Cert.MoeSIdeal.Facts] : Prop :=
  ∀ (m : (ℓ : Loc Cert.MoeSIdeal.nD Cert.MoeSIdeal.τ Cert.MoeSIdeal.sig) → Buf (Elt Ideal) ℓ) (g : Dev Cert.MoeSIdeal.nD → PrngReg), Pre_MoeSIdeal m →
    θ_run (Cert.MoeSIdeal.defs (F := Ideal)) (onTc (τ := Cert.MoeSIdeal.τ) (Cert.MoeSIdeal.main (F := Ideal))) ⟨m, fun _ => 0, g⟩ (fun r => (∀ c : Dev Cert.MoeSIdeal.nD,
      r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
      ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
      ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
      ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
      ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
      ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
      ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6)
      ∧ r.2.mem ((c.tc : Thread Cert.MoeSIdeal.nD Cert.MoeSIdeal.τ).loc Cert.MoeSIdeal.main_arg7) = m ((c.tc : Thread Cert.MoeSIdeal.nD Cert.MoeSIdeal.τ).loc Cert.MoeSIdeal.main_arg7)
      ∧ r.2.mem ((c.tc : Thread Cert.MoeSIdeal.nD Cert.MoeSIdeal.τ).loc Cert.MoeSIdeal.main_arg8) = m ((c.tc : Thread Cert.MoeSIdeal.nD Cert.MoeSIdeal.τ).loc Cert.MoeSIdeal.main_arg8))
      ∧ r.2.sem = fun _ => 0)

def quiescent_MoeSReferenceIdeal [hMoeSReferenceIdeal : Cert.MoeSReferenceIdeal.Facts] : Prop :=
  ∀ (m : (ℓ : Loc Cert.MoeSReferenceIdeal.nD Cert.MoeSReferenceIdeal.τ Cert.MoeSReferenceIdeal.sig) → Buf (Elt Ideal) ℓ) (g : Dev Cert.MoeSReferenceIdeal.nD → PrngReg), Pre_MoeSReferenceIdeal m →
    θ_run (Cert.MoeSReferenceIdeal.defs (F := Ideal)) (onTc (τ := Cert.MoeSReferenceIdeal.τ) (Cert.MoeSReferenceIdeal.main (F := Ideal))) ⟨m, fun _ => 0, g⟩ (fun r => (∀ c : Dev Cert.MoeSReferenceIdeal.nD,
      r.2.mem ((c.tc : Thread Cert.MoeSReferenceIdeal.nD Cert.MoeSReferenceIdeal.τ).loc Cert.MoeSReferenceIdeal.main_arg0) = m ((c.tc : Thread Cert.MoeSReferenceIdeal.nD Cert.MoeSReferenceIdeal.τ).loc Cert.MoeSReferenceIdeal.main_arg0)
      ∧ r.2.mem ((c.tc : Thread Cert.MoeSReferenceIdeal.nD Cert.MoeSReferenceIdeal.τ).loc Cert.MoeSReferenceIdeal.main_arg1) = m ((c.tc : Thread Cert.MoeSReferenceIdeal.nD Cert.MoeSReferenceIdeal.τ).loc Cert.MoeSReferenceIdeal.main_arg1)
      ∧ r.2.mem ((c.tc : Thread Cert.MoeSReferenceIdeal.nD Cert.MoeSReferenceIdeal.τ).loc Cert.MoeSReferenceIdeal.main_arg2) = m ((c.tc : Thread Cert.MoeSReferenceIdeal.nD Cert.MoeSReferenceIdeal.τ).loc Cert.MoeSReferenceIdeal.main_arg2)
      ∧ r.2.mem ((c.tc : Thread Cert.MoeSReferenceIdeal.nD Cert.MoeSReferenceIdeal.τ).loc Cert.MoeSReferenceIdeal.main_arg3) = m ((c.tc : Thread Cert.MoeSReferenceIdeal.nD Cert.MoeSReferenceIdeal.τ).loc Cert.MoeSReferenceIdeal.main_arg3)
      ∧ r.2.mem ((c.tc : Thread Cert.MoeSReferenceIdeal.nD Cert.MoeSReferenceIdeal.τ).loc Cert.MoeSReferenceIdeal.main_arg4) = m ((c.tc : Thread Cert.MoeSReferenceIdeal.nD Cert.MoeSReferenceIdeal.τ).loc Cert.MoeSReferenceIdeal.main_arg4)
      ∧ r.2.mem ((c.tc : Thread Cert.MoeSReferenceIdeal.nD Cert.MoeSReferenceIdeal.τ).loc Cert.MoeSReferenceIdeal.main_arg5) = m ((c.tc : Thread Cert.MoeSReferenceIdeal.nD Cert.MoeSReferenceIdeal.τ).loc Cert.MoeSReferenceIdeal.main_arg5)
      ∧ r.2.mem ((c.tc : Thread Cert.MoeSReferenceIdeal.nD Cert.MoeSReferenceIdeal.τ).loc Cert.MoeSReferenceIdeal.main_arg6) = m ((c.tc : Thread Cert.MoeSReferenceIdeal.nD Cert.MoeSReferenceIdeal.τ).loc Cert.MoeSReferenceIdeal.main_arg6)
      ∧ r.2.mem ((c.tc : Thread Cert.MoeSReferenceIdeal.nD Cert.MoeSReferenceIdeal.τ).loc Cert.MoeSReferenceIdeal.main_arg7) = m ((c.tc : Thread Cert.MoeSReferenceIdeal.nD Cert.MoeSReferenceIdeal.τ).loc Cert.MoeSReferenceIdeal.main_arg7)
      ∧ r.2.mem ((c.tc : Thread Cert.MoeSReferenceIdeal.nD Cert.MoeSReferenceIdeal.τ).loc Cert.MoeSReferenceIdeal.main_arg8) = m ((c.tc : Thread Cert.MoeSReferenceIdeal.nD Cert.MoeSReferenceIdeal.τ).loc Cert.MoeSReferenceIdeal.main_arg8))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1))
      ∧ r.2.sem = fun _ => 0)

def quiescent_ScanS [hScanS : Cert.ScanS.Facts] : Prop :=
  ∀ (m : (ℓ : Loc Cert.ScanS.nD Cert.ScanS.τ Cert.ScanS.sig) → Buf (Elt Bits) ℓ) (g : Dev Cert.ScanS.nD → PrngReg), Pre_ScanS m →
    θ_run (Cert.ScanS.defs (F := Bits)) (onTc (τ := Cert.ScanS.τ) (Cert.ScanS.main (F := Bits))) ⟨m, fun _ => 0, g⟩ (fun r => (∀ c : Dev Cert.ScanS.nD,
      r.2.mem ((c.tc : Thread Cert.ScanS.nD Cert.ScanS.τ).loc Cert.ScanS.main_arg0) = m ((c.tc : Thread Cert.ScanS.nD Cert.ScanS.τ).loc Cert.ScanS.main_arg0)
      ∧ r.2.mem ((c.tc : Thread Cert.ScanS.nD Cert.ScanS.τ).loc Cert.ScanS.main_arg1) = m ((c.tc : Thread Cert.ScanS.nD Cert.ScanS.τ).loc Cert.ScanS.main_arg1)
      ∧ r.2.mem ((c.tc : Thread Cert.ScanS.nD Cert.ScanS.τ).loc Cert.ScanS.main_arg2) = m ((c.tc : Thread Cert.ScanS.nD Cert.ScanS.τ).loc Cert.ScanS.main_arg2))
      ∧ r.2.sem = fun _ => 0)

def quiescent_ScanSIdeal [hScanSIdeal : Cert.ScanSIdeal.Facts] : Prop :=
  ∀ (m : (ℓ : Loc Cert.ScanSIdeal.nD Cert.ScanSIdeal.τ Cert.ScanSIdeal.sig) → Buf (Elt Ideal) ℓ) (g : Dev Cert.ScanSIdeal.nD → PrngReg), Pre_ScanSIdeal m →
    θ_run (Cert.ScanSIdeal.defs (F := Ideal)) (onTc (τ := Cert.ScanSIdeal.τ) (Cert.ScanSIdeal.main (F := Ideal))) ⟨m, fun _ => 0, g⟩ (fun r => (∀ c : Dev Cert.ScanSIdeal.nD,
      r.2.mem ((c.tc : Thread Cert.ScanSIdeal.nD Cert.ScanSIdeal.τ).loc Cert.ScanSIdeal.main_arg0) = m ((c.tc : Thread Cert.ScanSIdeal.nD Cert.ScanSIdeal.τ).loc Cert.ScanSIdeal.main_arg0)
      ∧ r.2.mem ((c.tc : Thread Cert.ScanSIdeal.nD Cert.ScanSIdeal.τ).loc Cert.ScanSIdeal.main_arg1) = m ((c.tc : Thread Cert.ScanSIdeal.nD Cert.ScanSIdeal.τ).loc Cert.ScanSIdeal.main_arg1)
      ∧ r.2.mem ((c.tc : Thread Cert.ScanSIdeal.nD Cert.ScanSIdeal.τ).loc Cert.ScanSIdeal.main_arg2) = m ((c.tc : Thread Cert.ScanSIdeal.nD Cert.ScanSIdeal.τ).loc Cert.ScanSIdeal.main_arg2))
      ∧ r.2.sem = fun _ => 0)

def quiescent_ScanSReferenceIdeal [hScanSReferenceIdeal : Cert.ScanSReferenceIdeal.Facts] : Prop :=
  ∀ (m : (ℓ : Loc Cert.ScanSReferenceIdeal.nD Cert.ScanSReferenceIdeal.τ Cert.ScanSReferenceIdeal.sig) → Buf (Elt Ideal) ℓ) (g : Dev Cert.ScanSReferenceIdeal.nD → PrngReg), Pre_ScanSReferenceIdeal m →
    θ_run (Cert.ScanSReferenceIdeal.defs (F := Ideal)) (onTc (τ := Cert.ScanSReferenceIdeal.τ) (Cert.ScanSReferenceIdeal.main (F := Ideal))) ⟨m, fun _ => 0, g⟩ (fun r => (∀ c : Dev Cert.ScanSReferenceIdeal.nD,
      r.2.mem ((c.tc : Thread Cert.ScanSReferenceIdeal.nD Cert.ScanSReferenceIdeal.τ).loc Cert.ScanSReferenceIdeal.main_arg0) = m ((c.tc : Thread Cert.ScanSReferenceIdeal.nD Cert.ScanSReferenceIdeal.τ).loc Cert.ScanSReferenceIdeal.main_arg0)
      ∧ r.2.mem ((c.tc : Thread Cert.ScanSReferenceIdeal.nD Cert.ScanSReferenceIdeal.τ).loc Cert.ScanSReferenceIdeal.main_arg1) = m ((c.tc : Thread Cert.ScanSReferenceIdeal.nD Cert.ScanSReferenceIdeal.τ).loc Cert.ScanSReferenceIdeal.main_arg1)
      ∧ r.2.mem ((c.tc : Thread Cert.ScanSReferenceIdeal.nD Cert.ScanSReferenceIdeal.τ).loc Cert.ScanSReferenceIdeal.main_arg2) = m ((c.tc : Thread Cert.ScanSReferenceIdeal.nD Cert.ScanSReferenceIdeal.τ).loc Cert.ScanSReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17)
      ∧ r.2.mem ((c.tc : Thread Cert.Mix.nD Cert.Mix.τ).loc Cert.Mix.main_arg18) = m ((c.tc : Thread Cert.Mix.nD Cert.Mix.τ).loc Cert.Mix.main_arg18))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15)
      ∧ r.2.mem ((c.tc : Thread Cert.MixReferenceIdeal.nD Cert.MixReferenceIdeal.τ).loc Cert.MixReferenceIdeal.main_arg16) = m ((c.tc : Thread Cert.MixReferenceIdeal.nD Cert.MixReferenceIdeal.τ).loc Cert.MixReferenceIdeal.main_arg16)
      ∧ r.2.mem ((c.tc : Thread Cert.MixReferenceIdeal.nD Cert.MixReferenceIdeal.τ).loc Cert.MixReferenceIdeal.main_arg17) = m ((c.tc : Thread Cert.MixReferenceIdeal.nD Cert.MixReferenceIdeal.τ).loc Cert.MixReferenceIdeal.main_arg17)
      ∧ r.2.mem ((c.tc : Thread Cert.MixReferenceIdeal.nD Cert.MixReferenceIdeal.τ).loc Cert.MixReferenceIdeal.main_arg18) = m ((c.tc : Thread Cert.MixReferenceIdeal.nD Cert.MixReferenceIdeal.τ).loc Cert.MixReferenceIdeal.main_arg18))
      ∧ r.2.sem = fun _ => 0)

def preserves_Moe_MoeIdeal : Prop :=
  True

def algebraic_MoeIdeal_MoeReferenceIdeal [hMoeIdeal : Cert.MoeIdeal.Facts] [hMoeReferenceIdeal : Cert.MoeReferenceIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)
      ∧ m' ((c.tc : Thread Cert.MoeReferenceIdeal.nD Cert.MoeReferenceIdeal.τ).loc Cert.MoeReferenceIdeal.main_arg7) = m ((c.tc : Thread Cert.MoeIdeal.nD Cert.MoeIdeal.τ).loc Cert.MoeIdeal.main_arg7)
      ∧ m' ((c.tc : Thread Cert.MoeReferenceIdeal.nD Cert.MoeReferenceIdeal.τ).loc Cert.MoeReferenceIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v6)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v6) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v45) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7)
          ∧ r.2.mem ((c.tc : Thread Cert.MoeReferenceIdeal.nD Cert.MoeReferenceIdeal.τ).loc Cert.MoeReferenceIdeal.main_arg8) = m' ((c.tc : Thread Cert.MoeReferenceIdeal.nD Cert.MoeReferenceIdeal.τ).loc Cert.MoeReferenceIdeal.main_arg8))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v59)) (v1 : (c : Dev Cert.ProjIdeal.nD) → Buf (Elt Ideal) ((c.tc : Thread Cert.ProjIdeal.nD Cert.ProjIdeal.τ).loc Cert.ProjIdeal.main_v60)) (v2 : (c : Dev Cert.ProjIdeal.nD) → Buf (Elt Ideal) ((c.tc : Thread Cert.ProjIdeal.nD Cert.ProjIdeal.τ).loc Cert.ProjIdeal.main_v53_6)) (v3 : (c : Dev Cert.ProjIdeal.nD) → Buf (Elt Ideal) ((c.tc : Thread Cert.ProjIdeal.nD Cert.ProjIdeal.τ).loc Cert.ProjIdeal.main_v58)) (v4 : (c : Dev Cert.ProjIdeal.nD) → Buf (Elt Ideal) ((c.tc : Thread Cert.ProjIdeal.nD Cert.ProjIdeal.τ).loc Cert.ProjIdeal.main_v53_8)) (v5 : (c : Dev Cert.ProjIdeal.nD) → Buf (Elt Ideal) ((c.tc : Thread Cert.ProjIdeal.nD Cert.ProjIdeal.τ).loc Cert.ProjIdeal.main_v54_1)) (v6 : (c : Dev Cert.ProjIdeal.nD) → Buf (Elt Ideal) ((c.tc : Thread Cert.ProjIdeal.nD Cert.ProjIdeal.τ).loc Cert.ProjIdeal.main_v54_2)) (v7 : (c : Dev Cert.ProjIdeal.nD) → Buf (Elt Ideal) ((c.tc : Thread Cert.ProjIdeal.nD Cert.ProjIdeal.τ).loc Cert.ProjIdeal.main_v53_0)) (v8 : (c : Dev Cert.ProjIdeal.nD) → Buf (Elt Ideal) ((c.tc : Thread Cert.ProjIdeal.nD Cert.ProjIdeal.τ).loc Cert.ProjIdeal.main_v53_3)) (v9 : (c : Dev Cert.ProjIdeal.nD) → Buf (Elt Ideal) ((c.tc : Thread Cert.ProjIdeal.nD Cert.ProjIdeal.τ).loc Cert.ProjIdeal.main_v53_4)) (v10 : (c : Dev Cert.ProjIdeal.nD) → Buf (Elt Ideal) ((c.tc : Thread Cert.ProjIdeal.nD Cert.ProjIdeal.τ).loc Cert.ProjIdeal.main_v53_5)) (v11 : (c : Dev Cert.ProjIdeal.nD) → Buf (Elt Ideal) ((c.tc : Thread Cert.ProjIdeal.nD Cert.ProjIdeal.τ).loc Cert.ProjIdeal.main_v53_7)) (v12 : (c : Dev Cert.ProjIdeal.nD) → Buf (Elt Ideal) ((c.tc : Thread Cert.ProjIdeal.nD Cert.ProjIdeal.τ).loc Cert.ProjIdeal.main_v54_0)) (v13 : (c : Dev Cert.ProjIdeal.nD) → Buf (Elt Ideal) ((c.tc : Thread Cert.ProjIdeal.nD Cert.ProjIdeal.τ).loc Cert.ProjIdeal.main_v67)) (v14 : (c : Dev Cert.ProjIdeal.nD) → Buf (Elt Ideal) ((c.tc : Thread Cert.ProjIdeal.nD Cert.ProjIdeal.τ).loc Cert.ProjIdeal.main_v68)) (v15 : (c : Dev Cert.ProjIdeal.nD) → Buf (Elt Ideal) ((c.tc : Thread Cert.ProjIdeal.nD Cert.ProjIdeal.τ).loc Cert.ProjIdeal.main_v61_6)) (v16 : (c : Dev Cert.ProjIdeal.nD) → Buf (Elt Ideal) ((c.tc : Thread Cert.ProjIdeal.nD Cert.ProjIdeal.τ).loc Cert.ProjIdeal.main_v66)) (v17 : (c : Dev Cert.ProjIdeal.nD) → Buf (Elt Ideal) ((c.tc : Thread Cert.ProjIdeal.nD Cert.ProjIdeal.τ).loc Cert.ProjIdeal.main_v61_8)) (v18 : (c : Dev Cert.ProjIdeal.nD) → Buf (Elt Ideal) ((c.tc : Thread Cert.ProjIdeal.nD Cert.ProjIdeal.τ).loc Cert.ProjIdeal.main_v62_1)) (v19 : (c : Dev Cert.ProjIdeal.nD) → Buf (Elt Ideal) ((c.tc : Thread Cert.ProjIdeal.nD Cert.ProjIdeal.τ).loc Cert.ProjIdeal.main_v62_2)) (v20 : (c : Dev Cert.ProjIdeal.nD) → Buf (Elt Ideal) ((c.tc : Thread Cert.ProjIdeal.nD Cert.ProjIdeal.τ).loc Cert.ProjIdeal.main_v61_0)) (v21 : (c : Dev Cert.ProjIdeal.nD) → Buf (Elt Ideal) ((c.tc : Thread Cert.ProjIdeal.nD Cert.ProjIdeal.τ).loc Cert.ProjIdeal.main_v61_3)) (v22 : (c : Dev Cert.ProjIdeal.nD) → Buf (Elt Ideal) ((c.tc : Thread Cert.ProjIdeal.nD Cert.ProjIdeal.τ).loc Cert.ProjIdeal.main_v61_4)) (v23 : (c : Dev Cert.ProjIdeal.nD) → Buf (Elt Ideal) ((c.tc : Thread Cert.ProjIdeal.nD Cert.ProjIdeal.τ).loc Cert.ProjIdeal.main_v61_5)) (v24 : (c : Dev Cert.ProjIdeal.nD) → Buf (Elt Ideal) ((c.tc : Thread Cert.ProjIdeal.nD Cert.ProjIdeal.τ).loc Cert.ProjIdeal.main_v61_7)) (v25 : (c : Dev Cert.ProjIdeal.nD) → Buf (Elt Ideal) ((c.tc : Thread Cert.ProjIdeal.nD Cert.ProjIdeal.τ).loc Cert.ProjIdeal.main_v62_0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v59) = v0 c
          ∧ r.2.mem ((c.tc : Thread Cert.ProjIdeal.nD Cert.ProjIdeal.τ).loc Cert.ProjIdeal.main_v60) = v1 c
          ∧ r.2.mem ((c.tc : Thread Cert.ProjIdeal.nD Cert.ProjIdeal.τ).loc Cert.ProjIdeal.main_v53_6) = v2 c
          ∧ r.2.mem ((c.tc : Thread Cert.ProjIdeal.nD Cert.ProjIdeal.τ).loc Cert.ProjIdeal.main_v58) = v3 c
          ∧ r.2.mem ((c.tc : Thread Cert.ProjIdeal.nD Cert.ProjIdeal.τ).loc Cert.ProjIdeal.main_v53_8) = v4 c
          ∧ r.2.mem ((c.tc : Thread Cert.ProjIdeal.nD Cert.ProjIdeal.τ).loc Cert.ProjIdeal.main_v54_1) = v5 c
          ∧ r.2.mem ((c.tc : Thread Cert.ProjIdeal.nD Cert.ProjIdeal.τ).loc Cert.ProjIdeal.main_v54_2) = v6 c
          ∧ r.2.mem ((c.tc : Thread Cert.ProjIdeal.nD Cert.ProjIdeal.τ).loc Cert.ProjIdeal.main_v53_0) = v7 c
          ∧ r.2.mem ((c.tc : Thread Cert.ProjIdeal.nD Cert.ProjIdeal.τ).loc Cert.ProjIdeal.main_v53_3) = v8 c
          ∧ r.2.mem ((c.tc : Thread Cert.ProjIdeal.nD Cert.ProjIdeal.τ).loc Cert.ProjIdeal.main_v53_4) = v9 c
          ∧ r.2.mem ((c.tc : Thread Cert.ProjIdeal.nD Cert.ProjIdeal.τ).loc Cert.ProjIdeal.main_v53_5) = v10 c
          ∧ r.2.mem ((c.tc : Thread Cert.ProjIdeal.nD Cert.ProjIdeal.τ).loc Cert.ProjIdeal.main_v53_7) = v11 c
          ∧ r.2.mem ((c.tc : Thread Cert.ProjIdeal.nD Cert.ProjIdeal.τ).loc Cert.ProjIdeal.main_v54_0) = v12 c
          ∧ r.2.mem ((c.tc : Thread Cert.ProjIdeal.nD Cert.ProjIdeal.τ).loc Cert.ProjIdeal.main_v67) = v13 c
          ∧ r.2.mem ((c.tc : Thread Cert.ProjIdeal.nD Cert.ProjIdeal.τ).loc Cert.ProjIdeal.main_v68) = v14 c
          ∧ r.2.mem ((c.tc : Thread Cert.ProjIdeal.nD Cert.ProjIdeal.τ).loc Cert.ProjIdeal.main_v61_6) = v15 c
          ∧ r.2.mem ((c.tc : Thread Cert.ProjIdeal.nD Cert.ProjIdeal.τ).loc Cert.ProjIdeal.main_v66) = v16 c
          ∧ r.2.mem ((c.tc : Thread Cert.ProjIdeal.nD Cert.ProjIdeal.τ).loc Cert.ProjIdeal.main_v61_8) = v17 c
          ∧ r.2.mem ((c.tc : Thread Cert.ProjIdeal.nD Cert.ProjIdeal.τ).loc Cert.ProjIdeal.main_v62_1) = v18 c
          ∧ r.2.mem ((c.tc : Thread Cert.ProjIdeal.nD Cert.ProjIdeal.τ).loc Cert.ProjIdeal.main_v62_2) = v19 c
          ∧ r.2.mem ((c.tc : Thread Cert.ProjIdeal.nD Cert.ProjIdeal.τ).loc Cert.ProjIdeal.main_v61_0) = v20 c
          ∧ r.2.mem ((c.tc : Thread Cert.ProjIdeal.nD Cert.ProjIdeal.τ).loc Cert.ProjIdeal.main_v61_3) = v21 c
          ∧ r.2.mem ((c.tc : Thread Cert.ProjIdeal.nD Cert.ProjIdeal.τ).loc Cert.ProjIdeal.main_v61_4) = v22 c
          ∧ r.2.mem ((c.tc : Thread Cert.ProjIdeal.nD Cert.ProjIdeal.τ).loc Cert.ProjIdeal.main_v61_5) = v23 c
          ∧ r.2.mem ((c.tc : Thread Cert.ProjIdeal.nD Cert.ProjIdeal.τ).loc Cert.ProjIdeal.main_v61_7) = v24 c
          ∧ r.2.mem ((c.tc : Thread Cert.ProjIdeal.nD Cert.ProjIdeal.τ).loc Cert.ProjIdeal.main_v62_0) = v25 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v41) = v0 c
          ∧ r.2.mem ((c.tc : Thread Cert.ProjReferenceIdeal.nD Cert.ProjReferenceIdeal.τ).loc Cert.ProjReferenceIdeal.main_v42) = v1 c
          ∧ r.2.mem ((c.tc : Thread Cert.ProjReferenceIdeal.nD Cert.ProjReferenceIdeal.τ).loc Cert.ProjReferenceIdeal.main_v66) = v2 c
          ∧ r.2.mem ((c.tc : Thread Cert.ProjReferenceIdeal.nD Cert.ProjReferenceIdeal.τ).loc Cert.ProjReferenceIdeal.main_v67) = v3 c
          ∧ r.2.mem ((c.tc : Thread Cert.ProjReferenceIdeal.nD Cert.ProjReferenceIdeal.τ).loc Cert.ProjReferenceIdeal.main_v69) = v4 c
          ∧ r.2.mem ((c.tc : Thread Cert.ProjReferenceIdeal.nD Cert.ProjReferenceIdeal.τ).loc Cert.ProjReferenceIdeal.main_v75) = v5 c
          ∧ r.2.mem ((c.tc : Thread Cert.ProjReferenceIdeal.nD Cert.ProjReferenceIdeal.τ).loc Cert.ProjReferenceIdeal.main_v81) = v6 c
          ∧ r.2.mem ((c.tc : Thread Cert.ProjReferenceIdeal.nD Cert.ProjReferenceIdeal.τ).loc Cert.ProjReferenceIdeal.main_v91) = v7 c
          ∧ r.2.mem ((c.tc : Thread Cert.ProjReferenceIdeal.nD Cert.ProjReferenceIdeal.τ).loc Cert.ProjReferenceIdeal.main_v92) = v8 c
          ∧ r.2.mem ((c.tc : Thread Cert.ProjReferenceIdeal.nD Cert.ProjReferenceIdeal.τ).loc Cert.ProjReferenceIdeal.main_v93) = v9 c
          ∧ r.2.mem ((c.tc : Thread Cert.ProjReferenceIdeal.nD Cert.ProjReferenceIdeal.τ).loc Cert.ProjReferenceIdeal.main_v97) = v10 c
          ∧ r.2.mem ((c.tc : Thread Cert.ProjReferenceIdeal.nD Cert.ProjReferenceIdeal.τ).loc Cert.ProjReferenceIdeal.main_v99) = v11 c
          ∧ r.2.mem ((c.tc : Thread Cert.ProjReferenceIdeal.nD Cert.ProjReferenceIdeal.τ).loc Cert.ProjReferenceIdeal.main_v105) = v12 c
          ∧ r.2.mem ((c.tc : Thread Cert.ProjReferenceIdeal.nD Cert.ProjReferenceIdeal.τ).loc Cert.ProjReferenceIdeal.main_v147) = v13 c
          ∧ r.2.mem ((c.tc : Thread Cert.ProjReferenceIdeal.nD Cert.ProjReferenceIdeal.τ).loc Cert.ProjReferenceIdeal.main_v148) = v14 c
          ∧ r.2.mem ((c.tc : Thread Cert.ProjReferenceIdeal.nD Cert.ProjReferenceIdeal.τ).loc Cert.ProjReferenceIdeal.main_v172) = v15 c
          ∧ r.2.mem ((c.tc : Thread Cert.ProjReferenceIdeal.nD Cert.ProjReferenceIdeal.τ).loc Cert.ProjReferenceIdeal.main_v173) = v16 c
          ∧ r.2.mem ((c.tc : Thread Cert.ProjReferenceIdeal.nD Cert.ProjReferenceIdeal.τ).loc Cert.ProjReferenceIdeal.main_v175) = v17 c
          ∧ r.2.mem ((c.tc : Thread Cert.ProjReferenceIdeal.nD Cert.ProjReferenceIdeal.τ).loc Cert.ProjReferenceIdeal.main_v181) = v18 c
          ∧ r.2.mem ((c.tc : Thread Cert.ProjReferenceIdeal.nD Cert.ProjReferenceIdeal.τ).loc Cert.ProjReferenceIdeal.main_v187) = v19 c
          ∧ r.2.mem ((c.tc : Thread Cert.ProjReferenceIdeal.nD Cert.ProjReferenceIdeal.τ).loc Cert.ProjReferenceIdeal.main_v197) = v20 c
          ∧ r.2.mem ((c.tc : Thread Cert.ProjReferenceIdeal.nD Cert.ProjReferenceIdeal.τ).loc Cert.ProjReferenceIdeal.main_v198) = v21 c
          ∧ r.2.mem ((c.tc : Thread Cert.ProjReferenceIdeal.nD Cert.ProjReferenceIdeal.τ).loc Cert.ProjReferenceIdeal.main_v199) = v22 c
          ∧ r.2.mem ((c.tc : Thread Cert.ProjReferenceIdeal.nD Cert.ProjReferenceIdeal.τ).loc Cert.ProjReferenceIdeal.main_v203) = v23 c
          ∧ r.2.mem ((c.tc : Thread Cert.ProjReferenceIdeal.nD Cert.ProjReferenceIdeal.τ).loc Cert.ProjReferenceIdeal.main_v205) = v24 c
          ∧ r.2.mem ((c.tc : Thread Cert.ProjReferenceIdeal.nD Cert.ProjReferenceIdeal.τ).loc Cert.ProjReferenceIdeal.main_v211) = v25 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9))

def preserves_MoeS_MoeSIdeal : Prop :=
  True

def algebraic_MoeSIdeal_MoeSReferenceIdeal [hMoeSIdeal : Cert.MoeSIdeal.Facts] [hMoeSReferenceIdeal : Cert.MoeSReferenceIdeal.Facts] : Prop :=
  ∀ (m : (ℓ : Loc Cert.MoeSIdeal.nD Cert.MoeSIdeal.τ Cert.MoeSIdeal.sig) → Buf (Elt Ideal) ℓ) (g : Dev Cert.MoeSIdeal.nD → PrngReg)
    (m' : (ℓ : Loc Cert.MoeSReferenceIdeal.nD Cert.MoeSReferenceIdeal.τ Cert.MoeSReferenceIdeal.sig) → Buf (Elt Ideal) ℓ) (g' : Dev Cert.MoeSReferenceIdeal.nD → PrngReg), Pre_MoeSIdeal m →
    (∀ c : Dev Cert.MoeSIdeal.nD,
      m' ((c.tc : Thread Cert.MoeSReferenceIdeal.nD Cert.MoeSReferenceIdeal.τ).loc Cert.MoeSReferenceIdeal.main_arg0) = m ((c.tc : Thread Cert.MoeSIdeal.nD Cert.MoeSIdeal.τ).loc Cert.MoeSIdeal.main_arg0)
      ∧ m' ((c.tc : Thread Cert.MoeSReferenceIdeal.nD Cert.MoeSReferenceIdeal.τ).loc Cert.MoeSReferenceIdeal.main_arg1) = m ((c.tc : Thread Cert.MoeSIdeal.nD Cert.MoeSIdeal.τ).loc Cert.MoeSIdeal.main_arg1)
      ∧ m' ((c.tc : Thread Cert.MoeSReferenceIdeal.nD Cert.MoeSReferenceIdeal.τ).loc Cert.MoeSReferenceIdeal.main_arg2) = m ((c.tc : Thread Cert.MoeSIdeal.nD Cert.MoeSIdeal.τ).loc Cert.MoeSIdeal.main_arg2)
      ∧ m' ((c.tc : Thread Cert.MoeSReferenceIdeal.nD Cert.MoeSReferenceIdeal.τ).loc Cert.MoeSReferenceIdeal.main_arg3) = m ((c.tc : Thread Cert.MoeSIdeal.nD Cert.MoeSIdeal.τ).loc Cert.MoeSIdeal.main_arg3)
      ∧ m' ((c.tc : Thread Cert.MoeSReferenceIdeal.nD Cert.MoeSReferenceIdeal.τ).loc Cert.MoeSReferenceIdeal.main_arg4) = m ((c.tc : Thread Cert.MoeSIdeal.nD Cert.MoeSIdeal.τ).loc Cert.MoeSIdeal.main_arg4)
      ∧ m' ((c.tc : Thread Cert.MoeSReferenceIdeal.nD Cert.MoeSReferenceIdeal.τ).loc Cert.MoeSReferenceIdeal.main_arg5) = m ((c.tc : Thread Cert.MoeSIdeal.nD Cert.MoeSIdeal.τ).loc Cert.MoeSIdeal.main_arg5)
      ∧ m' ((c.tc : Thread Cert.MoeSReferenceIdeal.nD Cert.MoeSReferenceIdeal.τ).loc Cert.MoeSReferenceIdeal.main_arg6) = m ((c.tc : Thread Cert.MoeSIdeal.nD Cert.MoeSIdeal.τ).loc Cert.MoeSIdeal.main_arg6)
      ∧ m' ((c.tc : Thread Cert.MoeSReferenceIdeal.nD Cert.MoeSReferenceIdeal.τ).loc Cert.MoeSReferenceIdeal.main_arg7) = m ((c.tc : Thread Cert.MoeSIdeal.nD Cert.MoeSIdeal.τ).loc Cert.MoeSIdeal.main_arg7)
      ∧ m' ((c.tc : Thread Cert.MoeSReferenceIdeal.nD Cert.MoeSReferenceIdeal.τ).loc Cert.MoeSReferenceIdeal.main_arg8) = m ((c.tc : Thread Cert.MoeSIdeal.nD Cert.MoeSIdeal.τ).loc Cert.MoeSIdeal.main_arg8)) →
    ∃ (v0 : (c : Dev Cert.MoeSIdeal.nD) → Buf (Elt Ideal) ((c.tc : Thread Cert.MoeSIdeal.nD Cert.MoeSIdeal.τ).loc Cert.MoeSIdeal.main_v8)),
      θ_run (Cert.MoeSIdeal.defs (F := Ideal)) (onTc (τ := Cert.MoeSIdeal.τ) (Cert.MoeSIdeal.main (F := Ideal))) ⟨m, fun _ => 0, g⟩ (fun r => ∀ c : Dev Cert.MoeSIdeal.nD,
          r.2.mem ((c.tc : Thread Cert.MoeSIdeal.nD Cert.MoeSIdeal.τ).loc Cert.MoeSIdeal.main_v8) = v0 c
          ∧ r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
          ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
          ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
          ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
          ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
          ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
          ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6)
          ∧ r.2.mem ((c.tc : Thread Cert.MoeSIdeal.nD Cert.MoeSIdeal.τ).loc Cert.MoeSIdeal.main_arg7) = m ((c.tc : Thread Cert.MoeSIdeal.nD Cert.MoeSIdeal.τ).loc Cert.MoeSIdeal.main_arg7)
          ∧ r.2.mem ((c.tc : Thread Cert.MoeSIdeal.nD Cert.MoeSIdeal.τ).loc Cert.MoeSIdeal.main_arg8) = m ((c.tc : Thread Cert.MoeSIdeal.nD Cert.MoeSIdeal.τ).loc Cert.MoeSIdeal.main_arg8))
      ∧ θ_run (Cert.MoeSReferenceIdeal.defs (F := Ideal)) (onTc (τ := Cert.MoeSReferenceIdeal.τ) (Cert.MoeSReferenceIdeal.main (F := Ideal))) ⟨m', fun _ => 0, g'⟩ (fun r => ∀ c : Dev Cert.MoeSReferenceIdeal.nD,
          r.2.mem ((c.tc : Thread Cert.MoeSReferenceIdeal.nD Cert.MoeSReferenceIdeal.τ).loc Cert.MoeSReferenceIdeal.main_v45) = v0 c
          ∧ r.2.mem ((c.tc : Thread Cert.MoeSReferenceIdeal.nD Cert.MoeSReferenceIdeal.τ).loc Cert.MoeSReferenceIdeal.main_arg0) = m' ((c.tc : Thread Cert.MoeSReferenceIdeal.nD Cert.MoeSReferenceIdeal.τ).loc Cert.MoeSReferenceIdeal.main_arg0)
          ∧ r.2.mem ((c.tc : Thread Cert.MoeSReferenceIdeal.nD Cert.MoeSReferenceIdeal.τ).loc Cert.MoeSReferenceIdeal.main_arg1) = m' ((c.tc : Thread Cert.MoeSReferenceIdeal.nD Cert.MoeSReferenceIdeal.τ).loc Cert.MoeSReferenceIdeal.main_arg1)
          ∧ r.2.mem ((c.tc : Thread Cert.MoeSReferenceIdeal.nD Cert.MoeSReferenceIdeal.τ).loc Cert.MoeSReferenceIdeal.main_arg2) = m' ((c.tc : Thread Cert.MoeSReferenceIdeal.nD Cert.MoeSReferenceIdeal.τ).loc Cert.MoeSReferenceIdeal.main_arg2)
          ∧ r.2.mem ((c.tc : Thread Cert.MoeSReferenceIdeal.nD Cert.MoeSReferenceIdeal.τ).loc Cert.MoeSReferenceIdeal.main_arg3) = m' ((c.tc : Thread Cert.MoeSReferenceIdeal.nD Cert.MoeSReferenceIdeal.τ).loc Cert.MoeSReferenceIdeal.main_arg3)
          ∧ r.2.mem ((c.tc : Thread Cert.MoeSReferenceIdeal.nD Cert.MoeSReferenceIdeal.τ).loc Cert.MoeSReferenceIdeal.main_arg4) = m' ((c.tc : Thread Cert.MoeSReferenceIdeal.nD Cert.MoeSReferenceIdeal.τ).loc Cert.MoeSReferenceIdeal.main_arg4)
          ∧ r.2.mem ((c.tc : Thread Cert.MoeSReferenceIdeal.nD Cert.MoeSReferenceIdeal.τ).loc Cert.MoeSReferenceIdeal.main_arg5) = m' ((c.tc : Thread Cert.MoeSReferenceIdeal.nD Cert.MoeSReferenceIdeal.τ).loc Cert.MoeSReferenceIdeal.main_arg5)
          ∧ r.2.mem ((c.tc : Thread Cert.MoeSReferenceIdeal.nD Cert.MoeSReferenceIdeal.τ).loc Cert.MoeSReferenceIdeal.main_arg6) = m' ((c.tc : Thread Cert.MoeSReferenceIdeal.nD Cert.MoeSReferenceIdeal.τ).loc Cert.MoeSReferenceIdeal.main_arg6)
          ∧ r.2.mem ((c.tc : Thread Cert.MoeSReferenceIdeal.nD Cert.MoeSReferenceIdeal.τ).loc Cert.MoeSReferenceIdeal.main_arg7) = m' ((c.tc : Thread Cert.MoeSReferenceIdeal.nD Cert.MoeSReferenceIdeal.τ).loc Cert.MoeSReferenceIdeal.main_arg7)
          ∧ r.2.mem ((c.tc : Thread Cert.MoeSReferenceIdeal.nD Cert.MoeSReferenceIdeal.τ).loc Cert.MoeSReferenceIdeal.main_arg8) = m' ((c.tc : Thread Cert.MoeSReferenceIdeal.nD Cert.MoeSReferenceIdeal.τ).loc Cert.MoeSReferenceIdeal.main_arg8))

def preserves_Scan_ScanIdeal : Prop :=
  True

def algebraic_ScanIdeal_ScanReferenceIdeal [hScanIdeal : Cert.ScanIdeal.Facts] [hScanReferenceIdeal : Cert.ScanReferenceIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanIdeal m →
    (∀ c : Dev Cert.ScanIdeal.nD,
      m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0)
      ∧ m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1)) →
    ∃ (v0 : (c : Dev Cert.ScanIdeal.nD) → Buf (Elt Ideal) ((c.tc : Thread Cert.ScanIdeal.nD Cert.ScanIdeal.τ).loc Cert.ScanIdeal.main_v5)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v5) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v4) = v0 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1))

def preserves_ScanS_ScanSIdeal : Prop :=
  True

def algebraic_ScanSIdeal_ScanSReferenceIdeal [hScanSIdeal : Cert.ScanSIdeal.Facts] [hScanSReferenceIdeal : Cert.ScanSReferenceIdeal.Facts] : Prop :=
  ∀ (m : (ℓ : Loc Cert.ScanSIdeal.nD Cert.ScanSIdeal.τ Cert.ScanSIdeal.sig) → Buf (Elt Ideal) ℓ) (g : Dev Cert.ScanSIdeal.nD → PrngReg)
    (m' : (ℓ : Loc Cert.ScanSReferenceIdeal.nD Cert.ScanSReferenceIdeal.τ Cert.ScanSReferenceIdeal.sig) → Buf (Elt Ideal) ℓ) (g' : Dev Cert.ScanSReferenceIdeal.nD → PrngReg), Pre_ScanSIdeal m →
    (∀ c : Dev Cert.ScanSIdeal.nD,
      m' ((c.tc : Thread Cert.ScanSReferenceIdeal.nD Cert.ScanSReferenceIdeal.τ).loc Cert.ScanSReferenceIdeal.main_arg0) = m ((c.tc : Thread Cert.ScanSIdeal.nD Cert.ScanSIdeal.τ).loc Cert.ScanSIdeal.main_arg0)
      ∧ m' ((c.tc : Thread Cert.ScanSReferenceIdeal.nD Cert.ScanSReferenceIdeal.τ).loc Cert.ScanSReferenceIdeal.main_arg1) = m ((c.tc : Thread Cert.ScanSIdeal.nD Cert.ScanSIdeal.τ).loc Cert.ScanSIdeal.main_arg1)
      ∧ m' ((c.tc : Thread Cert.ScanSReferenceIdeal.nD Cert.ScanSReferenceIdeal.τ).loc Cert.ScanSReferenceIdeal.main_arg2) = m ((c.tc : Thread Cert.ScanSIdeal.nD Cert.ScanSIdeal.τ).loc Cert.ScanSIdeal.main_arg2)) →
    ∃ (v0 : (c : Dev Cert.ScanSIdeal.nD) → Buf (Elt Ideal) ((c.tc : Thread Cert.ScanSIdeal.nD Cert.ScanSIdeal.τ).loc Cert.ScanSIdeal.main_v4)),
      θ_run (Cert.ScanSIdeal.defs (F := Ideal)) (onTc (τ := Cert.ScanSIdeal.τ) (Cert.ScanSIdeal.main (F := Ideal))) ⟨m, fun _ => 0, g⟩ (fun r => ∀ c : Dev Cert.ScanSIdeal.nD,
          r.2.mem ((c.tc : Thread Cert.ScanSIdeal.nD Cert.ScanSIdeal.τ).loc Cert.ScanSIdeal.main_v4) = v0 c
          ∧ r.2.mem ((c.tc : Thread Cert.ScanSIdeal.nD Cert.ScanSIdeal.τ).loc Cert.ScanSIdeal.main_arg0) = m ((c.tc : Thread Cert.ScanSIdeal.nD Cert.ScanSIdeal.τ).loc Cert.ScanSIdeal.main_arg0)
          ∧ r.2.mem ((c.tc : Thread Cert.ScanSIdeal.nD Cert.ScanSIdeal.τ).loc Cert.ScanSIdeal.main_arg1) = m ((c.tc : Thread Cert.ScanSIdeal.nD Cert.ScanSIdeal.τ).loc Cert.ScanSIdeal.main_arg1)
          ∧ r.2.mem ((c.tc : Thread Cert.ScanSIdeal.nD Cert.ScanSIdeal.τ).loc Cert.ScanSIdeal.main_arg2) = m ((c.tc : Thread Cert.ScanSIdeal.nD Cert.ScanSIdeal.τ).loc Cert.ScanSIdeal.main_arg2))
      ∧ θ_run (Cert.ScanSReferenceIdeal.defs (F := Ideal)) (onTc (τ := Cert.ScanSReferenceIdeal.τ) (Cert.ScanSReferenceIdeal.main (F := Ideal))) ⟨m', fun _ => 0, g'⟩ (fun r => ∀ c : Dev Cert.ScanSReferenceIdeal.nD,
          r.2.mem ((c.tc : Thread Cert.ScanSReferenceIdeal.nD Cert.ScanSReferenceIdeal.τ).loc Cert.ScanSReferenceIdeal.main_v7) = v0 c
          ∧ r.2.mem ((c.tc : Thread Cert.ScanSReferenceIdeal.nD Cert.ScanSReferenceIdeal.τ).loc Cert.ScanSReferenceIdeal.main_arg0) = m' ((c.tc : Thread Cert.ScanSReferenceIdeal.nD Cert.ScanSReferenceIdeal.τ).loc Cert.ScanSReferenceIdeal.main_arg0)
          ∧ r.2.mem ((c.tc : Thread Cert.ScanSReferenceIdeal.nD Cert.ScanSReferenceIdeal.τ).loc Cert.ScanSReferenceIdeal.main_arg1) = m' ((c.tc : Thread Cert.ScanSReferenceIdeal.nD Cert.ScanSReferenceIdeal.τ).loc Cert.ScanSReferenceIdeal.main_arg1)
          ∧ r.2.mem ((c.tc : Thread Cert.ScanSReferenceIdeal.nD Cert.ScanSReferenceIdeal.τ).loc Cert.ScanSReferenceIdeal.main_arg2) = m' ((c.tc : Thread Cert.ScanSReferenceIdeal.nD Cert.ScanSReferenceIdeal.τ).loc Cert.ScanSReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)
      ∧ m' ((c.tc : Thread Cert.MixReferenceIdeal.nD Cert.MixReferenceIdeal.τ).loc Cert.MixReferenceIdeal.main_arg15) = m ((c.tc : Thread Cert.MixIdeal.nD Cert.MixIdeal.τ).loc Cert.MixIdeal.main_arg15)
      ∧ m' ((c.tc : Thread Cert.MixReferenceIdeal.nD Cert.MixReferenceIdeal.τ).loc Cert.MixReferenceIdeal.main_arg16) = m ((c.tc : Thread Cert.MixIdeal.nD Cert.MixIdeal.τ).loc Cert.MixIdeal.main_arg16)
      ∧ m' ((c.tc : Thread Cert.MixReferenceIdeal.nD Cert.MixReferenceIdeal.τ).loc Cert.MixReferenceIdeal.main_arg17) = m ((c.tc : Thread Cert.MixIdeal.nD Cert.MixIdeal.τ).loc Cert.MixIdeal.main_arg17)
      ∧ m' ((c.tc : Thread Cert.MixReferenceIdeal.nD Cert.MixReferenceIdeal.τ).loc Cert.MixReferenceIdeal.main_arg18) = m ((c.tc : Thread Cert.MixIdeal.nD Cert.MixIdeal.τ).loc Cert.MixIdeal.main_arg18)) →
    ∃ (v0 : (c : Dev Cert.MixIdeal.nD) → Buf (Elt Ideal) ((c.tc : Thread Cert.MixIdeal.nD Cert.MixIdeal.τ).loc Cert.MixIdeal.main_v22_0)) (v1 : (c : Dev Cert.MixIdeal.nD) → Buf (Elt Ideal) ((c.tc : Thread Cert.MixIdeal.nD Cert.MixIdeal.τ).loc Cert.MixIdeal.main_v22_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v22_0) = v0 c
          ∧ r.2.mem ((c.tc : Thread Cert.MixIdeal.nD Cert.MixIdeal.τ).loc Cert.MixIdeal.main_v22_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
          ∧ r.2.mem ((c.tc : Thread Cert.MixIdeal.nD Cert.MixIdeal.τ).loc Cert.MixIdeal.main_arg18) = m ((c.tc : Thread Cert.MixIdeal.nD Cert.MixIdeal.τ).loc Cert.MixIdeal.main_arg18))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v60) = v0 c
          ∧ r.2.mem ((c.tc : Thread Cert.MixReferenceIdeal.nD Cert.MixReferenceIdeal.τ).loc Cert.MixReferenceIdeal.main_v80) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15)
          ∧ r.2.mem ((c.tc : Thread Cert.MixReferenceIdeal.nD Cert.MixReferenceIdeal.τ).loc Cert.MixReferenceIdeal.main_arg16) = m' ((c.tc : Thread Cert.MixReferenceIdeal.nD Cert.MixReferenceIdeal.τ).loc Cert.MixReferenceIdeal.main_arg16)
          ∧ r.2.mem ((c.tc : Thread Cert.MixReferenceIdeal.nD Cert.MixReferenceIdeal.τ).loc Cert.MixReferenceIdeal.main_arg17) = m' ((c.tc : Thread Cert.MixReferenceIdeal.nD Cert.MixReferenceIdeal.τ).loc Cert.MixReferenceIdeal.main_arg17)
          ∧ r.2.mem ((c.tc : Thread Cert.MixReferenceIdeal.nD Cert.MixReferenceIdeal.τ).loc Cert.MixReferenceIdeal.main_arg18) = m' ((c.tc : Thread Cert.MixReferenceIdeal.nD Cert.MixReferenceIdeal.τ).loc Cert.MixReferenceIdeal.main_arg18))

def Claim : Prop :=
  ∃ (hMoe : Cert.Moe.Facts) (hMoeIdeal : Cert.MoeIdeal.Facts) (hMoeReferenceIdeal : Cert.MoeReferenceIdeal.Facts) (hProj : Cert.Proj.Facts) (hProjIdeal : Cert.ProjIdeal.Facts) (hProjReferenceIdeal : Cert.ProjReferenceIdeal.Facts) (hMoeS : Cert.MoeS.Facts) (hMoeSIdeal : Cert.MoeSIdeal.Facts) (hMoeSReferenceIdeal : Cert.MoeSReferenceIdeal.Facts) (hScan : Cert.Scan.Facts) (hScanIdeal : Cert.ScanIdeal.Facts) (hScanReferenceIdeal : Cert.ScanReferenceIdeal.Facts) (hScanS : Cert.ScanS.Facts) (hScanSIdeal : Cert.ScanSIdeal.Facts) (hScanSReferenceIdeal : Cert.ScanSReferenceIdeal.Facts) (hMix : Cert.Mix.Facts) (hMixIdeal : Cert.MixIdeal.Facts) (hMixReferenceIdeal : Cert.MixReferenceIdeal.Facts),
    quiescent_Moe (hMoe := hMoe)
    ∧ quiescent_MoeIdeal (hMoeIdeal := hMoeIdeal)
    ∧ quiescent_MoeReferenceIdeal (hMoeReferenceIdeal := hMoeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_MoeS (hMoeS := hMoeS)
    ∧ quiescent_MoeSIdeal (hMoeSIdeal := hMoeSIdeal)
    ∧ quiescent_MoeSReferenceIdeal (hMoeSReferenceIdeal := hMoeSReferenceIdeal)
    ∧ quiescent_Scan (hScan := hScan)
    ∧ quiescent_ScanIdeal (hScanIdeal := hScanIdeal)
    ∧ quiescent_ScanReferenceIdeal (hScanReferenceIdeal := hScanReferenceIdeal)
    ∧ quiescent_ScanS (hScanS := hScanS)
    ∧ quiescent_ScanSIdeal (hScanSIdeal := hScanSIdeal)
    ∧ quiescent_ScanSReferenceIdeal (hScanSReferenceIdeal := hScanSReferenceIdeal)
    ∧ quiescent_Mix (hMix := hMix)
    ∧ quiescent_MixIdeal (hMixIdeal := hMixIdeal)
    ∧ quiescent_MixReferenceIdeal (hMixReferenceIdeal := hMixReferenceIdeal)
    ∧ preserves_Moe_MoeIdeal
    ∧ algebraic_MoeIdeal_MoeReferenceIdeal (hMoeIdeal := hMoeIdeal) (hMoeReferenceIdeal := hMoeReferenceIdeal)
    ∧ preserves_Proj_ProjIdeal
    ∧ algebraic_ProjIdeal_ProjReferenceIdeal (hProjIdeal := hProjIdeal) (hProjReferenceIdeal := hProjReferenceIdeal)
    ∧ preserves_MoeS_MoeSIdeal
    ∧ algebraic_MoeSIdeal_MoeSReferenceIdeal (hMoeSIdeal := hMoeSIdeal) (hMoeSReferenceIdeal := hMoeSReferenceIdeal)
    ∧ preserves_Scan_ScanIdeal
    ∧ algebraic_ScanIdeal_ScanReferenceIdeal (hScanIdeal := hScanIdeal) (hScanReferenceIdeal := hScanReferenceIdeal)
    ∧ preserves_ScanS_ScanSIdeal
    ∧ algebraic_ScanSIdeal_ScanSReferenceIdeal (hScanSIdeal := hScanSIdeal) (hScanSReferenceIdeal := hScanSReferenceIdeal)
    ∧ preserves_Mix_MixIdeal
    ∧ algebraic_MixIdeal_MixReferenceIdeal (hMixIdeal := hMixIdeal) (hMixReferenceIdeal := hMixReferenceIdeal)
-- ==== Moe.lean ====
abbrev S16384x1024 : Shape := ⟨2, ![16384, 1024]⟩
abbrev S16384x32 : Shape := ⟨2, ![16384, 32]⟩
abbrev S2x1x1024 : Shape := ⟨3, ![2, 1, 1024]⟩
abbrev S1024 : Shape := ⟨1, ![1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1x1024 : Shape := ⟨2, ![1, 1024]⟩
abbrev S32x1x2048 : Shape := ⟨3, ![32, 1, 2048]⟩
abbrev S32x1x1024 : Shape := ⟨3, ![32, 1, 1024]⟩
abbrev S1024x1024 : Shape := ⟨2, ![1024, 1024]⟩
abbrev S1024x32 : Shape := ⟨2, ![1024, 32]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1024x2048 : Shape := ⟨2, ![1024, 2048]⟩
abbrev S1x2048 : Shape := ⟨2, ![1, 2048]⟩
abbrev S1024x1 : Shape := ⟨2, ![1024, 1]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x32, .f32⟩
  | .hbm, ⟨2, _⟩ => ⟨S16384x1024, .f32⟩
  | .hbm, ⟨3, _⟩ => ⟨S2x1x1024, .f32⟩
  | .hbm, ⟨4, _⟩ => ⟨S1024, .f32⟩
  | .hbm, ⟨5, _⟩ => ⟨S32x1024x2048, .f32⟩
  | .hbm, ⟨6, _⟩ => ⟨S32x2048, .f32⟩
  | .hbm, ⟨7, _⟩ => ⟨S32x1024x1024, .f32⟩
  | .hbm, ⟨8, _⟩ => ⟨S32x1024, .f32⟩
  | .hbm, ⟨9, _⟩ => ⟨S16384x1024, .bf16⟩
  | .hbm, ⟨10, _⟩ => ⟨S1x1024, .f32⟩
  | .hbm, ⟨11, _⟩ => ⟨S32x1024x2048, .bf16⟩
  | .hbm, ⟨12, _⟩ => ⟨S32x1x2048, .f32⟩
  | .hbm, ⟨13, _⟩ => ⟨S32x1024x1024, .bf16⟩
  | .hbm, ⟨14, _⟩ => ⟨S32x1x1024, .f32⟩
  | .hbm, ⟨15, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x32, .f32⟩
  | .local _ .vmem, ⟨3, _⟩ => ⟨S1024x32, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024x2048, .bf16⟩
  | .local _ .vmem, ⟨10, _⟩ => ⟨S1x1024x2048, .bf16⟩
  | .local _ .vmem, ⟨11, _⟩ => ⟨S1x1x2048, .f32⟩
  | .local _ .vmem, ⟨12, _⟩ => ⟨S1x1x2048, .f32⟩
  | .local _ .vmem, ⟨13, _⟩ => ⟨S1x1024x1024, .bf16⟩
  | .local _ .vmem, ⟨14, _⟩ => ⟨S1x1024x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v54 : BitVec 1 := Scalar.cmpi .eq arg1 c31_i32
  let v55 : BitVec 32 := Scalar.extui v54
  let c0_i32_30 : BitVec 32 := 0#32
  let v56 : BitVec 1 := Scalar.cmpi .ne v55 c0_i32_30
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MoeReferenceIdeal.lean ====
abbrev S16384x1024 : Shape := ⟨2, ![16384, 1024]⟩
abbrev S16384x32 : Shape := ⟨2, ![16384, 32]⟩
abbrev S2x1x1024 : Shape := ⟨3, ![2, 1, 1024]⟩
abbrev S1024 : Shape := ⟨1, ![1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x2048x16384 : Shape := ⟨3, ![32, 2048, 16384]⟩
abbrev S32x16384x2048 : Shape := ⟨3, ![32, 16384, 2048]⟩
abbrev S32x1x2048 : Shape := ⟨3, ![32, 1, 2048]⟩
abbrev S32x16384x1024 : Shape := ⟨3, ![32, 16384, 1024]⟩
abbrev S_ : Shape := ⟨0, ![]⟩
abbrev S32x1x1024 : Shape := ⟨3, ![32, 1, 1024]⟩
abbrev S16384 : Shape := ⟨1, ![16384]⟩
abbrev S16384x1 : Shape := ⟨2, ![16384, 1]⟩
abbrev S1x1024 : Shape := ⟨2, ![1, 1024]⟩
abbrev S2x8192x1024 : Shape := ⟨3, ![2, 8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x32, .f32⟩
  | .hbm, ⟨2, _⟩ => ⟨S16384x1024, .f32⟩
  | .hbm, ⟨3, _⟩ => ⟨S2x1x1024, .f32⟩
  | .hbm, ⟨4, _⟩ => ⟨S1024, .f32⟩
  | .hbm, ⟨5, _⟩ => ⟨S32x1024x2048, .f32⟩
  | .hbm, ⟨6, _⟩ => ⟨S32x2048, .f32⟩
  | .hbm, ⟨7, _⟩ => ⟨S32x1024x1024, .f32⟩
  | .hbm, ⟨8, _⟩ => ⟨S32x1024, .f32⟩
  | .hbm, ⟨9, _⟩ => ⟨S32x2048x16384, .f32⟩
  | .hbm, ⟨10, _⟩ => ⟨S32x16384x2048, .f32⟩
  | .hbm, ⟨11, _⟩ => ⟨S32x1x2048, .f32⟩
  | .hbm, ⟨12, _⟩ => ⟨S32x16384x2048, .f32⟩
  | .hbm, ⟨13, _⟩ => ⟨S32x16384x2048, .f32⟩
  | .hbm, ⟨14, _⟩ => ⟨S32x16384x1024, .f32⟩
  | .hbm, ⟨15, _⟩ => ⟨S_, .f32⟩
  | .hbm, ⟨16, _⟩ => ⟨S32x16384x1024, .f32⟩
  | .hbm, ⟨17, _⟩ => ⟨S32x16384x1024, .f32⟩
  | .hbm, ⟨18, _⟩ => ⟨S32x16384x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32x16384x1024, .f32⟩
  | .hbm, ⟨23, _⟩ => ⟨S32x16384x1024, .f32⟩
  | .hbm, ⟨24, _⟩ => ⟨S_, .f32⟩
  | .hbm, ⟨25, _⟩ => ⟨S32x16384x1024, .f32⟩
  | .hbm, ⟨26, _⟩ => ⟨S32x16384x1024, .f32⟩
  | .hbm, ⟨27, _⟩ => ⟨S_, .f32⟩
  | .hbm, ⟨28, _⟩ => ⟨S32x16384x1024, .f32⟩
  | .hbm, ⟨29, _⟩ => ⟨S32x16384x1024, .f32⟩
  | .hbm, ⟨30, _⟩ => ⟨S32x16384x1024, .f32⟩
  | .hbm, ⟨31, _⟩ => ⟨S32x16384x1024, .f32⟩
  | .hbm, ⟨32, _⟩ => ⟨S_, .f32⟩
  | .hbm, ⟨33, _⟩ => ⟨S32x16384x1024, .f32⟩
  | .hbm, ⟨34, _⟩ => ⟨S32x16384x1024, .f32⟩
  | .hbm, ⟨35, _⟩ => ⟨S_, .f32⟩
  | .hbm, ⟨36, _⟩ => ⟨S32x16384x1024, .f32⟩
  | .hbm, ⟨37, _⟩ => ⟨S32x16384x1024, .f32⟩
  | .hbm, ⟨38, _⟩ => ⟨S32x16384x1024, .f32⟩
  | .hbm, ⟨39, _⟩ => ⟨S_, .f32⟩
  | .hbm, ⟨40, _⟩ => ⟨S32x16384x1024, .f32⟩
  | .hbm, ⟨41, _⟩ => ⟨S32x16384x1024, .f32⟩
  | .hbm, ⟨42, _⟩ => ⟨S32x16384x1024, .f32⟩
  | .hbm, ⟨43, _⟩ => ⟨S32x16384x1024, .f32⟩
  | .hbm, ⟨44, _⟩ => ⟨S32x1x1024, .f32⟩
  | .hbm, ⟨45, _⟩ => ⟨S32x16384x1024, .f32⟩
  | .hbm, ⟨46, _⟩ => ⟨S32x16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proj.lean ====
abbrev S2x8192x1024 : Shape := ⟨3, ![2, 8192, 1024]⟩
abbrev S16x32x1024 : Shape := ⟨3, ![16, 32, 1024]⟩
abbrev S2x1024 : Shape := ⟨2, ![2, 1024]⟩
abbrev S16x1024 : Shape := ⟨2, ![16, 1024]⟩
abbrev S1024x6144 : Shape := ⟨2, ![1024, 6144]⟩
abbrev S6144 : Shape := ⟨1, ![6144]⟩
abbrev S1024 : Shape := ⟨1, ![1024]⟩
abbrev S1024x5192 : Shape := ⟨2, ![1024, 5192]⟩
abbrev S64 : Shape := ⟨1, ![64]⟩
abbrev S2560 : Shape := ⟨1, ![2560]⟩
abbrev S5376 : Shape := ⟨1, ![5376]⟩
abbrev S1792 : Shape := ⟨1, ![1792]⟩
abbrev S1x2560 : Shape := ⟨2, ![1, 2560]⟩
abbrev S_ : Shape := ⟨0, ![]⟩
abbrev S2560x1 : Shape := ⟨2, ![2560, 1]⟩
abbrev S1 : Shape := ⟨1, ![1]⟩
abbrev S1x1 : Shape := ⟨2, ![1, 1]⟩
abbrev S1024x2560 : Shape := ⟨2, ![1024, 2560]⟩
abbrev S1x5376 : Shape := ⟨2, ![1, 5376]⟩
abbrev S5376x1 : Shape := ⟨2, ![5376, 1]⟩
abbrev S1024x5376 : Shape := ⟨2, ![1024, 5376]⟩
abbrev S1x64 : Shape := ⟨2, ![1, 64]⟩
abbrev S1x128 : Shape := ⟨2, ![1, 128]⟩
abbrev S1x1024 : Shape := ⟨2, ![1, 1024]⟩
abbrev S18x1024 : Shape := ⟨2, ![18, 1024]⟩
abbrev S24x1024 : Shape := ⟨2, ![24, 1024]⟩
abbrev S1x6144 : Shape := ⟨2, ![1, 6144]⟩
abbrev S24x6144 : Shape := ⟨2, ![24, 6144]⟩
abbrev S1024x768 : Shape := ⟨2, ![1024, 768]⟩
abbrev S1x768 : Shape := ⟨2, ![1, 768]⟩
abbrev S24x768 : Shape := ⟨2, ![24, 768]⟩
abbrev S2x1x1024 : Shape := ⟨3, ![2, 1, 1024]⟩
abbrev S16x1x1024 : Shape := ⟨3, ![16, 1, 1024]⟩
abbrev S2x8x8192x128 : Shape := ⟨4, ![2, 8, 8192, 128]⟩
abbrev S2x8192x128 : Shape := ⟨3, ![2, 8192, 128]⟩
abbrev S2x8192x64 : Shape := ⟨3, ![2, 8192, 64]⟩
abbrev S2x8192x8 : Shape := ⟨3, ![2, 8192, 8]⟩
abbrev S1x256x1024 : Shape := ⟨3, ![1, 256, 1024]⟩
abbrev S1x1x1024 : Shape := ⟨3, ![1, 1, 1024]⟩
abbrev S1x8x256x128 : Shape := ⟨4, ![1, 8, 256, 128]⟩
abbrev S1x256x128 : Shape := ⟨3, ![1, 256, 128]⟩
abbrev S1x256x64 : Shape := ⟨3, ![1, 256, 64]⟩
abbrev S1x256x8 : Shape := ⟨3, ![1, 256, 8]⟩
abbrev S256x1024 : Shape := ⟨2, ![256, 1024]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩
abbrev S1x1x256x128 : Shape := ⟨4, ![1, 1, 256, 128]⟩
abbrev S1024x256 : Shape := ⟨2, ![1024, 256]⟩
abbrev S256x256 : Shape := ⟨2, ![256, 256]⟩
abbrev S256x64 : Shape := ⟨2, ![256, 64]⟩
abbrev S256x8 : Shape := ⟨2, ![256, 8]⟩
abbrev S2x8192x3328 : Shape := ⟨3, ![2, 8192, 3328]⟩
abbrev S1x256x3328 : Shape := ⟨3, ![1, 256, 3328]⟩
abbrev S1x256x256 : Shape := ⟨3, ![1, 256, 256]⟩
abbrev S2x1x3328 : Shape := ⟨3, ![2, 1, 3328]⟩
abbrev S2x3328 : Shape := ⟨2, ![2, 3328]⟩
abbrev S1792x1 : Shape := ⟨2, ![1792, 1]⟩
abbrev S2x1792 : Shape := ⟨2, ![2, 1792]⟩
abbrev S2x1x1792 : Shape := ⟨3, ![2, 1, 1792]⟩
abbrev S2x8192x2x64 : Shape := ⟨4, ![2, 8192, 2, 64]⟩
abbrev S16x8x32x128 : Shape := ⟨4, ![16, 8, 32, 128]⟩
abbrev S16x32x128 : Shape := ⟨3, ![16, 32, 128]⟩
abbrev S16x32x64 : Shape := ⟨3, ![16, 32, 64]⟩
abbrev S16x32x8 : Shape := ⟨3, ![16, 32, 8]⟩
abbrev S1x32x1024 : Shape := ⟨3, ![1, 32, 1024]⟩
abbrev S1x8x32x128 : Shape := ⟨4, ![1, 8, 32, 128]⟩
abbrev S1x32x128 : Shape := ⟨3, ![1, 32, 128]⟩
abbrev S1x32x64 : Shape := ⟨3, ![1, 32, 64]⟩
abbrev S1x32x8 : Shape := ⟨3, ![1, 32, 8]⟩
abbrev S32x1024 : Shape := ⟨2, ![32, 1024]⟩
abbrev S32 : Shape := ⟨1, ![32]⟩
abbrev S32x1 : Shape := ⟨2, ![32, 1]⟩
abbrev S32x128 : Shape := ⟨2, ![32, 128]⟩
abbrev S1x1x32x128 : Shape := ⟨4, ![1, 1, 32, 128]⟩
abbrev S32x256 : Shape := ⟨2, ![32, 256]⟩
abbrev S32x64 : Shape := ⟨2, ![32, 64]⟩
abbrev S32x8 : Shape := ⟨2, ![32, 8]⟩
abbrev S16x32x3328 : Shape := ⟨3, ![16, 32, 3328]⟩
abbrev S1x32x3328 : Shape := ⟨3, ![1, 32, 3328]⟩
abbrev S1x32x256 : Shape := ⟨3, ![1, 32, 256]⟩
abbrev S16x1x3328 : Shape := ⟨3, ![16, 1, 3328]⟩
abbrev S16x3328 : Shape := ⟨2, ![16, 3328]⟩
abbrev S16x1792 : Shape := ⟨2, ![16, 1792]⟩
abbrev S16x1x1792 : Shape := ⟨3, ![16, 1, 1792]⟩
abbrev S16x32x2x64 : Shape := ⟨4, ![16, 32, 2, 64]⟩

abbrev nBuf : Space → Nat
  | .hbm => 207
  | .vmem => 91
  | .smem => 0
  | _ => 0

abbrev hbmTy0_0 (i : Nat) : BufTy := match i % 128 with
  | 0 => ⟨S2x8192x1024, .f32⟩
  | 1 => ⟨S16x32x1024, .f32⟩
  | 2 => ⟨S2x1024, .f32⟩
  | 3 => ⟨S16x1024, .f32⟩
  | 4 => ⟨S1024x6144, .f32⟩
  | 5 => ⟨S6144, .f32⟩
  | 6 => ⟨S1024, .f32⟩
  | 7 => ⟨S1024x5192, .f32⟩
  | 8 => ⟨S64, .f32⟩
  | 9 => ⟨S64, .f32⟩
  | 10 => ⟨S2560, .i1⟩
  | 11 => ⟨S2560, .i32⟩
  | 12 => ⟨S5376, .i1⟩
  | 13 => ⟨S5376, .i32⟩
  | 14 => ⟨S1792, .i32⟩
  | 15 => ⟨S1792, .i32⟩
  | 16 => ⟨S1x2560, .i1⟩
  | 17 => ⟨S_, .i32⟩
  | 18 => ⟨S2560, .i32⟩
  | 19 => ⟨S2560, .i1⟩
  | 20 => ⟨S_, .i32⟩
  | 21 => ⟨S2560, .i32⟩
  | 22 => ⟨S2560, .i32⟩
  | 23 => ⟨S2560, .i32⟩
  | 24 => ⟨S2560x1, .i32⟩
  | 25 => ⟨S1, .i32⟩
  | 26 => ⟨S_, .i32⟩
  | 27 => ⟨S2560x1, .i32⟩
  | 28 => ⟨S2560x1, .i1⟩
  | 29 => ⟨S1x1, .i32⟩
  | 30 => ⟨S2560x1, .i32⟩
  | 31 => ⟨S2560x1, .i1⟩
  | 32 => ⟨S2560x1, .i1⟩
  | 33 => ⟨S_, .i1⟩
  | 34 => ⟨S2560, .i1⟩
  | 35 => ⟨S1024x2560, .f32⟩
  | 36 => ⟨S1024x2560, .i1⟩
  | 37 => ⟨S_, .f32⟩
  | 38 => ⟨S1024x2560, .f32⟩
  | 39 => ⟨S1024x2560, .f32⟩
  | 40 => ⟨S_, .f32⟩
  | 41 => ⟨S_, .f32⟩
  | 42 => ⟨S1024x2560, .i1⟩
  | 43 => ⟨S1024x2560, .f32⟩
  | 44 => ⟨S1024x2560, .f32⟩
  | 45 => ⟨S1024x2560, .bf16⟩
  | 46 => ⟨S1x5376, .i1⟩
  | 47 => ⟨S_, .i32⟩
  | 48 => ⟨S5376, .i32⟩
  | 49 => ⟨S5376, .i1⟩
  | 50 => ⟨S_, .i32⟩
  | 51 => ⟨S5376, .i32⟩
  | 52 => ⟨S5376, .i32⟩
  | 53 => ⟨S5376, .i32⟩
  | 54 => ⟨S5376x1, .i32⟩
  | 55 => ⟨S1, .i32⟩
  | 56 => ⟨S_, .i32⟩
  | 57 => ⟨S5376x1, .i32⟩
  | 58 => ⟨S5376x1, .i1⟩
  | 59 => ⟨S1x1, .i32⟩
  | 60 => ⟨S5376x1, .i32⟩
  | 61 => ⟨S5376x1, .i1⟩
  | 62 => ⟨S5376x1, .i1⟩
  | 63 => ⟨S_, .i1⟩
  | 64 => ⟨S5376, .i1⟩
  | 65 => ⟨S1024x5376, .f32⟩
  | 66 => ⟨S1024x5376, .i1⟩
  | 67 => ⟨S_, .f32⟩
  | 68 => ⟨S1024x5376, .f32⟩
  | 69 => ⟨S1024x5376, .f32⟩
  | 70 => ⟨S_, .f32⟩
  | 71 => ⟨S_, .f32⟩
  | 72 => ⟨S1024x5376, .i1⟩
  | 73 => ⟨S1024x5376, .f32⟩
  | 74 => ⟨S1024x5376, .f32⟩
  | 75 => ⟨S1024x5376, .bf16⟩
  | 76 => ⟨S1x64, .f32⟩
  | 77 => ⟨S_, .i32⟩
  | 78 => ⟨S_, .f32⟩
  | 79 => ⟨S1x128, .f32⟩
  | 80 => ⟨S1x64, .f32⟩
  | 81 => ⟨S_, .i32⟩
  | 82 => ⟨S_, .f32⟩
  | 83 => ⟨S1x128, .f32⟩
  | 84 => ⟨S1x1024, .f32⟩
  | 85 => ⟨S18x1024, .f32⟩
  | 86 => ⟨S_, .i32⟩
  | 87 => ⟨S_, .f32⟩
  | 88 => ⟨S24x1024, .f32⟩
  | 89 => ⟨S1x6144, .f32⟩
  | 90 => ⟨S24x6144, .f32⟩
  | 91 => ⟨S24x1024, .f32⟩
  | 92 => ⟨S24x1024, .f32⟩
  | 93 => ⟨S24x1024, .f32⟩
  | 94 => ⟨S24x1024, .f32⟩
  | 95 => ⟨S24x1024, .f32⟩
  | 96 => ⟨S24x1024, .f32⟩
  | 97 => ⟨S2x1024, .f32⟩
  | 98 => ⟨S2x1x1024, .f32⟩
  | 99 => ⟨S2x1024, .f32⟩
  | 100 => ⟨S2x1x1024, .f32⟩
  | 101 => ⟨S2x1024, .f32⟩
  | 102 => ⟨S2x1x1024, .f32⟩
  | 103 => ⟨S2x1024, .f32⟩
  | 104 => ⟨S2x1x1024, .f32⟩
  | 105 => ⟨S2x1024, .f32⟩
  | 106 => ⟨S2x1x1024, .f32⟩
  | 107 => ⟨S2x1024, .f32⟩
  | 108 => ⟨S2x1x1024, .f32⟩
  | 109 => ⟨S24x1024, .f32⟩
  | 110 => ⟨S24x1024, .f32⟩
  | 111 => ⟨S24x1024, .f32⟩
  | 112 => ⟨S24x1024, .f32⟩
  | 113 => ⟨S24x1024, .f32⟩
  | 114 => ⟨S24x1024, .f32⟩
  | 115 => ⟨S16x1024, .f32⟩
  | 116 => ⟨S16x1x1024, .f32⟩
  | 117 => ⟨S16x1024, .f32⟩
  | 118 => ⟨S16x1x1024, .f32⟩
  | 119 => ⟨S16x1024, .f32⟩
  | 120 => ⟨S16x1x1024, .f32⟩
  | 121 => ⟨S16x1024, .f32⟩
  | 122 => ⟨S16x1x1024, .f32⟩
  | 123 => ⟨S16x1024, .f32⟩
  | 124 => ⟨S16x1x1024, .f32⟩
  | 125 => ⟨S16x1024, .f32⟩
  | 126 => ⟨S16x1x1024, .f32⟩
  | 127 => ⟨S2x8x8192x128, .bf16⟩
  | _ => ⟨S2x8192x1024, .f32⟩

abbrev hbmTy0_1 (i : Nat) : BufTy := match i % 128 with
  | 0 => ⟨S2x8192x128, .f32⟩
  | 1 => ⟨S2x8192x128, .f32⟩
  | 2 => ⟨S2x8192x128, .bf16⟩
  | 3 => ⟨S2x8192x128, .bf16⟩
  | 4 => ⟨S2x8x8192x128, .bf16⟩
  | 5 => ⟨S2x8192x64, .f32⟩
  | 6 => ⟨S2x8192x128, .bf16⟩
  | 7 => ⟨S2x8192x8, .f32⟩
  | 8 => ⟨S2x8192x3328, .f32⟩
  | 9 => ⟨S2x8192x1024, .f32⟩
  | 10 => ⟨S2x8192x1024, .f32⟩
  | 11 => ⟨S2x1x3328, .f32⟩
  | 12 => ⟨S2x3328, .f32⟩
  | 13 => ⟨S_, .i32⟩
  | 14 => ⟨S1792, .i32⟩
  | 15 => ⟨S1792, .i1⟩
  | 16 => ⟨S_, .i32⟩
  | 17 => ⟨S1792, .i32⟩
  | 18 => ⟨S1792, .i32⟩
  | 19 => ⟨S1792, .i32⟩
  | 20 => ⟨S1792x1, .i32⟩
  | 21 => ⟨S1, .i32⟩
  | 22 => ⟨S_, .i32⟩
  | 23 => ⟨S1792x1, .i32⟩
  | 24 => ⟨S1792x1, .i1⟩
  | 25 => ⟨S1x1, .i32⟩
  | 26 => ⟨S1792x1, .i32⟩
  | 27 => ⟨S1792x1, .i1⟩
  | 28 => ⟨S1792x1, .i1⟩
  | 29 => ⟨S_, .i1⟩
  | 30 => ⟨S1792, .i1⟩
  | 31 => ⟨S2x1792, .f32⟩
  | 32 => ⟨S2x1792, .i1⟩
  | 33 => ⟨S_, .f32⟩
  | 34 => ⟨S2x1792, .f32⟩
  | 35 => ⟨S2x1792, .f32⟩
  | 36 => ⟨S2x1x1792, .f32⟩
  | 37 => ⟨S2x8192x2x64, .f32⟩
  | 38 => ⟨S2x8192x2x64, .f32⟩
  | 39 => ⟨S16x8x32x128, .bf16⟩
  | 40 => ⟨S16x32x128, .f32⟩
  | 41 => ⟨S16x32x128, .f32⟩
  | 42 => ⟨S16x32x128, .bf16⟩
  | 43 => ⟨S16x32x128, .bf16⟩
  | 44 => ⟨S16x8x32x128, .bf16⟩
  | 45 => ⟨S16x32x64, .f32⟩
  | 46 => ⟨S16x32x128, .bf16⟩
  | 47 => ⟨S16x32x8, .f32⟩
  | 48 => ⟨S16x32x3328, .f32⟩
  | 49 => ⟨S16x32x1024, .f32⟩
  | 50 => ⟨S16x32x1024, .f32⟩
  | 51 => ⟨S16x1x3328, .f32⟩
  | 52 => ⟨S16x3328, .f32⟩
  | 53 => ⟨S_, .i32⟩
  | 54 => ⟨S1792, .i32⟩
  | 55 => ⟨S1792, .i1⟩
  | 56 => ⟨S_, .i32⟩
  | 57 => ⟨S1792, .i32⟩
  | 58 => ⟨S1792, .i32⟩
  | 59 => ⟨S1792, .i32⟩
  | 60 => ⟨S1792x1, .i32⟩
  | 61 => ⟨S1, .i32⟩
  | 62 => ⟨S_, .i32⟩
  | 63 => ⟨S1792x1, .i32⟩
  | 64 => ⟨S1792x1, .i1⟩
  | 65 => ⟨S1x1, .i32⟩
  | 66 => ⟨S1792x1, .i32⟩
  | 67 => ⟨S1792x1, .i1⟩
  | 68 => ⟨S1792x1, .i1⟩
  | 69 => ⟨S_, .i1⟩
  | 70 => ⟨S1792, .i1⟩
  | 71 => ⟨S16x1792, .f32⟩
  | 72 => ⟨S16x1792, .i1⟩
  | 73 => ⟨S_, .f32⟩
  | 74 => ⟨S16x1792, .f32⟩
  | 75 => ⟨S16x1792, .f32⟩
  | 76 => ⟨S16x1x1792, .f32⟩
  | 77 => ⟨S16x32x2x64, .f32⟩
  | 78 => ⟨S16x32x2x64, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S24x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S24x768, .f32⟩
  | .local _ .vmem, ⟨6, _⟩ => ⟨S24x768, .f32⟩
  | .local _ .vmem, ⟨7, _⟩ => ⟨S1x256x1024, .f32⟩
  | .local _ .vmem, ⟨8, _⟩ => ⟨S1x256x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1024x2560, .bf16⟩
  | .local _ .vmem, ⟨15, _⟩ => ⟨S1x128, .f32⟩
  | .local _ .vmem, ⟨16, _⟩ => ⟨S1x128, .f32⟩
  | .local _ .vmem, ⟨17, _⟩ => ⟨S1x8x256x128, .bf16⟩
  | .local _ .vmem, ⟨18, _⟩ => ⟨S1x8x256x128, .bf16⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .bf16⟩
  | .local _ .vmem, ⟨24, _⟩ => ⟨S1x256x128, .bf16⟩
  | .local _ .vmem, ⟨25, _⟩ => ⟨S1x256x128, .bf16⟩
  | .local _ .vmem, ⟨26, _⟩ => ⟨S1x256x128, .bf16⟩
  | .local _ .vmem, ⟨27, _⟩ => ⟨S1x8x256x128, .bf16⟩
  | .local _ .vmem, ⟨28, _⟩ => ⟨S1x8x256x128, .bf16⟩
  | .local _ .vmem, ⟨29, _⟩ => ⟨S1x256x64, .f32⟩
  | .local _ .vmem, ⟨30, _⟩ => ⟨S1x256x64, .f32⟩
  | .local _ .vmem, ⟨31, _⟩ => ⟨S1x256x128, .bf16⟩
  | .local _ .vmem, ⟨32, _⟩ => ⟨S1x256x128, .bf16⟩
  | .local _ .vmem, ⟨33, _⟩ => ⟨S1x256x8, .f32⟩
  | .local _ .vmem, ⟨34, _⟩ => ⟨S1x256x8, .f32⟩
  | .local _ .vmem, ⟨35, _⟩ => ⟨S1x256x1024, .f32⟩
  | .local _ .vmem, ⟨36, _⟩ => ⟨S1x256x1024, .f32⟩
  | .local _ .vmem, ⟨37, _⟩ => ⟨S1x1x1024, .f32⟩
  | .local _ .vmem, ⟨38, _⟩ => ⟨S1x1x1024, .f32⟩
  | .local _ .vmem, ⟨39, _⟩ => ⟨S1x1x1024, .f32⟩
  | .local _ .vmem, ⟨40, _⟩ => ⟨S1x1x1024, .f32⟩
  | .local _ .vmem, ⟨41, _⟩ => ⟨S1x1024, .f32⟩
  | .local _ .vmem, ⟨42, _⟩ => ⟨S1024x5376, .bf16⟩
  | .local _ .vmem, ⟨43, _⟩ => ⟨S1x256x3328, .f32⟩
  | .local _ .vmem, ⟨44, _⟩ => ⟨S1x256x3328, .f32⟩
  | .local _ .vmem, ⟨45, _⟩ => ⟨S1x256x1024, .f32⟩
  | .local _ .vmem, ⟨46, _⟩ => ⟨S1x256x1024, .f32⟩
  | .local _ .vmem, ⟨47, _⟩ => ⟨S1x256x1024, .f32⟩
  | .local _ .vmem, ⟨48, _⟩ => ⟨S1x256x1024, .f32⟩
  | .local _ .vmem, ⟨49, _⟩ => ⟨S1x32x1024, .f32⟩
  | .local _ .vmem, ⟨50, _⟩ => ⟨S1x32x1024, .f32⟩
  | .local _ .vmem, ⟨51, _⟩ => ⟨S1x1x1024, .f32⟩
  | .local _ .vmem, ⟨52, _⟩ => ⟨S1x1x1024, .f32⟩
  | .local _ .vmem, ⟨53, _⟩ => ⟨S1x1x1024, .f32⟩
  | .local _ .vmem, ⟨54, _⟩ => ⟨S1x1x1024, .f32⟩
  | .local _ .vmem, ⟨55, _⟩ => ⟨S1x1024, .f32⟩
  | .local _ .vmem, ⟨56, _⟩ => ⟨S1024x2560, .bf16⟩
  | .local _ .vmem, ⟨57, _⟩ => ⟨S1x128, .f32⟩
  | .local _ .vmem, ⟨58, _⟩ => ⟨S1x128, .f32⟩
  | .local _ .vmem, ⟨59, _⟩ => ⟨S1x8x32x128, .bf16⟩
  | .local _ .vmem, ⟨60, _⟩ => ⟨S1x8x32x128, .bf16⟩
  | .local _ .vmem, ⟨61, _⟩ => ⟨S1x32x128, .f32⟩
  | .local _ .vmem, ⟨62, _⟩ => ⟨S1x32x128, .f32⟩
  | .local _ .vmem, ⟨63, _⟩ => ⟨S1x32x128, .f32⟩
  | .local _ .vmem, ⟨64, _⟩ => ⟨S1x32x128, .f32⟩
  | .local _ .vmem, ⟨65, _⟩ => ⟨S1x32x128, .bf16⟩
  | .local _ .vmem, ⟨66, _⟩ => ⟨S1x32x128, .bf16⟩
  | .local _ .vmem, ⟨67, _⟩ => ⟨S1x32x128, .bf16⟩
  | .local _ .vmem, ⟨68, _⟩ => ⟨S1x32x128, .bf16⟩
  | .local _ .vmem, ⟨69, _⟩ => ⟨S1x8x32x128, .bf16⟩
  | .local _ .vmem, ⟨70, _⟩ => ⟨S1x8x32x128, .bf16⟩
  | .local _ .vmem, ⟨71, _⟩ => ⟨S1x32x64, .f32⟩
  | .local _ .vmem, ⟨72, _⟩ => ⟨S1x32x64, .f32⟩
  | .local _ .vmem, ⟨73, _⟩ => ⟨S1x32x128, .bf16⟩
  | .local _ .vmem, ⟨74, _⟩ => ⟨S1x32x128, .bf16⟩
  | .local _ .vmem, ⟨75, _⟩ => ⟨S1x32x8, .f32⟩
  | .local _ .vmem, ⟨76, _⟩ => ⟨S1x32x8, .f32⟩
  | .local _ .vmem, ⟨77, _⟩ => ⟨S1x32x1024, .f32⟩
  | .local _ .vmem, ⟨78, _⟩ => ⟨S1x32x1024, .f32⟩
  | .local _ .vmem, ⟨79, _⟩ => ⟨S1x1x1024, .f32⟩
  | .local _ .vmem, ⟨80, _⟩ => ⟨S1x1x1024, .f32⟩
  | .local _ .vmem, ⟨81, _⟩ => ⟨S1x1x1024, .f32⟩
  | .local _ .vmem, ⟨82, _⟩ => ⟨S1x1x1024, .f32⟩
  | .local _ .vmem, ⟨83, _⟩ => ⟨S1x1024, .f32⟩
  | .local _ .vmem, ⟨84, _⟩ => ⟨S1024x5376, .bf16⟩
  | .local _ .vmem, ⟨85, _⟩ => ⟨S1x32x3328, .f32⟩
  | .local _ .vmem, ⟨86, _⟩ => ⟨S1x32x3328, .f32⟩
  | .local _ .vmem, ⟨87, _⟩ => ⟨S1x32x1024, .f32⟩
  | .local _ .vmem, ⟨88, _⟩ => ⟨S1x32x1024, .f32⟩
  | .local _ .vmem, ⟨89, _⟩ => ⟨S1x32x1024, .f32⟩
  | .local _ .vmem, ⟨90, _⟩ => ⟨S1x32x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_c_4 : Ref sig .tc := ⟨.hbm, 15, rfl⟩
abbrev main_v0 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v1 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v5 : Ref sig .tc := ⟨.hbm, 69, rfl⟩
abbrev main_cst_5 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_c_6 : Ref sig .tc := ⟨.hbm, 77, rfl⟩
abbrev main_call4_v0 : Ref sig .tc := ⟨.hbm, 78, rfl⟩
abbrev main_v9 : Ref sig .tc := ⟨.hbm, 79, rfl⟩
abbrev main_v10 : Ref sig .tc := ⟨.hbm, 80, rfl⟩
abbrev main_c_7 : Ref sig .tc := ⟨.hbm, 81, rfl⟩
abbrev main_call5_v0 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_c_8 : Ref sig .tc := ⟨.hbm, 86, rfl⟩
abbrev main_call6_v0 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53_0 : Ref sig .tc := ⟨.hbm, 127, rfl⟩
abbrev main_v53_1 : Ref sig .tc := ⟨.hbm, 128, rfl⟩
abbrev main_v53_2 : Ref sig .tc := ⟨.hbm, 129, rfl⟩
abbrev main_v53_3 : Ref sig .tc := ⟨.hbm, 130, rfl⟩
abbrev main_v53_4 : Ref sig .tc := ⟨.hbm, 131, rfl⟩
abbrev main_v53_5 : Ref sig .tc := ⟨.hbm, 132, rfl⟩
abbrev main_v53_6 : Ref sig .tc := ⟨.hbm, 133, rfl⟩
abbrev main_v53_7 : Ref sig .tc := ⟨.hbm, 134, rfl⟩
abbrev main_v53_8 : Ref sig .tc := ⟨.hbm, 135, rfl⟩
abbrev main_v54_0 : Ref sig .tc := ⟨.hbm, 136, rfl⟩
abbrev main_v54_1 : Ref sig .tc := ⟨.hbm, 137, rfl⟩
abbrev main_v54_2 : Ref sig .tc := ⟨.hbm, 138, rfl⟩
abbrev main_v55 : Ref sig .tc := ⟨.hbm, 139, rfl⟩
abbrev main_v56 : Ref sig .tc := ⟨.hbm, 140, rfl⟩
abbrev main_call7_c : Ref sig .tc := ⟨.hbm, 141, rfl⟩
abbrev main_call7_v0 : Ref sig .tc := ⟨.hbm, 142, rfl⟩
abbrev main_call7_v1 : Ref sig .tc := ⟨.hbm, 143, rfl⟩
abbrev main_call7_c_0 : Ref sig .tc := ⟨.hbm, 144, rfl⟩
abbrev main_call7_v2 : Ref sig .tc := ⟨.hbm, 145, rfl⟩
abbrev main_call7_v3 : Ref sig .tc := ⟨.hbm, 146, rfl⟩
abbrev main_call7_v4 : Ref sig .tc := ⟨.hbm, 147, rfl⟩
abbrev main_call7_v5 : Ref sig .tc := ⟨.hbm, 148, rfl⟩
abbrev main_call7_c_1 : Ref sig .tc := ⟨.hbm, 149, rfl⟩
abbrev main_call7_c_2 : Ref sig .tc := ⟨.hbm, 150, rfl⟩
abbrev main_call7_v6 : Ref sig .tc := ⟨.hbm, 151, rfl⟩
abbrev main_call7_v7 : Ref sig .tc := ⟨.hbm, 152, rfl⟩
abbrev main_call7_v8 : Ref sig .tc := ⟨.hbm, 153, rfl⟩
abbrev main_call7_v9 : Ref sig .tc := ⟨.hbm, 154, rfl⟩
abbrev main_call7_v10 : Ref sig .tc := ⟨.hbm, 155, rfl⟩
abbrev main_call7_v11 : Ref sig .tc := ⟨.hbm, 156, rfl⟩
abbrev main_call7_c_3 : Ref sig .tc := ⟨.hbm, 157, rfl⟩
abbrev main_call7_v12 : Ref sig .tc := ⟨.hbm, 158, rfl⟩
abbrev main_call7_v13 : Ref sig .tc := ⟨.hbm, 159, rfl⟩
abbrev main_call7_v14 : Ref sig .tc := ⟨.hbm, 160, rfl⟩
abbrev main_call7_cst : Ref sig .tc := ⟨.hbm, 161, rfl⟩
abbrev main_call7_v15 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_v61_0 : Ref sig .tc := ⟨.hbm, 167, rfl⟩
abbrev main_v61_1 : Ref sig .tc := ⟨.hbm, 168, rfl⟩
abbrev main_v61_2 : Ref sig .tc := ⟨.hbm, 169, rfl⟩
abbrev main_v61_3 : Ref sig .tc := ⟨.hbm, 170, rfl⟩
abbrev main_v61_4 : Ref sig .tc := ⟨.hbm, 171, rfl⟩
abbrev main_v61_5 : Ref sig .tc := ⟨.hbm, 172, rfl⟩
abbrev main_v61_6 : Ref sig .tc := ⟨.hbm, 173, rfl⟩
abbrev main_v61_7 : Ref sig .tc := ⟨.hbm, 174, rfl⟩
abbrev main_v61_8 : Ref sig .tc := ⟨.hbm, 175, rfl⟩
abbrev main_v62_0 : Ref sig .tc := ⟨.hbm, 176, rfl⟩
abbrev main_v62_1 : Ref sig .tc := ⟨.hbm, 177, rfl⟩
abbrev main_v62_2 : Ref sig .tc := ⟨.hbm, 178, rfl⟩
abbrev main_v63 : Ref sig .tc := ⟨.hbm, 179, rfl⟩
abbrev main_v64 : Ref sig .tc := ⟨.hbm, 180, rfl⟩
abbrev main_call8_c : Ref sig .tc := ⟨.hbm, 181, rfl⟩
abbrev main_call8_v0 : Ref sig .tc := ⟨.hbm, 182, rfl⟩
abbrev main_call8_v1 : Ref sig .tc := ⟨.hbm, 183, rfl⟩
abbrev main_call8_c_0 : Ref sig .tc := ⟨.hbm, 184, rfl⟩
abbrev main_call8_v2 : Ref sig .tc := ⟨.hbm, 185, rfl⟩
abbrev main_call8_v3 : Ref sig .tc := ⟨.hbm, 186, rfl⟩
abbrev main_call8_v4 : Ref sig .tc := ⟨.hbm, 187, rfl⟩
abbrev main_call8_v5 : Ref sig .tc := ⟨.hbm, 188, rfl⟩
abbrev main_call8_c_1 : Ref sig .tc := ⟨.hbm, 189, rfl⟩
abbrev main_call8_c_2 : Ref sig .tc := ⟨.hbm, 190, rfl⟩
abbrev main_call8_v6 : Ref sig .tc := ⟨.hbm, 191, rfl⟩
abbrev main_call8_v7 : Ref sig .tc := ⟨.hbm, 192, rfl⟩
abbrev main_call8_v8 : Ref sig .tc := ⟨.hbm, 193, rfl⟩
abbrev main_call8_v9 : Ref sig .tc := ⟨.hbm, 194, rfl⟩
abbrev main_call8_v10 : Ref sig .tc := ⟨.hbm, 195, rfl⟩
abbrev main_call8_v11 : Ref sig .tc := ⟨.hbm, 196, rfl⟩
abbrev main_call8_c_3 : Ref sig .tc := ⟨.hbm, 197, rfl⟩
abbrev main_call8_v12 : Ref sig .tc := ⟨.hbm, 198, rfl⟩
abbrev main_call8_v13 : Ref sig .tc := ⟨.hbm, 199, rfl⟩
abbrev main_call8_v14 : Ref sig .tc := ⟨.hbm, 200, rfl⟩
abbrev main_call8_cst : Ref sig .tc := ⟨.hbm, 201, rfl⟩
abbrev main_call8_v15 : Ref sig .tc := ⟨.hbm, 202, rfl⟩
abbrev main_v65 : Ref sig .tc := ⟨.hbm, 203, rfl⟩
abbrev main_v66 : Ref sig .tc := ⟨.hbm, 204, rfl⟩
abbrev main_v67 : Ref sig .tc := ⟨.hbm, 205, rfl⟩
abbrev main_v68 : Ref sig .tc := ⟨.hbm, 206, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc1_stg11_1 : Ref sig .tc := ⟨.vmem, 26, rfl⟩
abbrev cc1_stg12_0 : Ref sig .tc := ⟨.vmem, 27, rfl⟩
abbrev cc1_stg12_1 : Ref sig .tc := ⟨.vmem, 28, rfl⟩
abbrev cc1_stg13_0 : Ref sig .tc := ⟨.vmem, 29, rfl⟩
abbrev cc1_stg13_1 : Ref sig .tc := ⟨.vmem, 30, rfl⟩
abbrev cc1_stg14_0 : Ref sig .tc := ⟨.vmem, 31, rfl⟩
abbrev cc1_stg14_1 : Ref sig .tc := ⟨.vmem, 32, rfl⟩
abbrev cc1_stg15_0 : Ref sig .tc := ⟨.vmem, 33, rfl⟩
abbrev cc1_stg15_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg5_1 : Ref sig .tc := ⟨.vmem, 44, rfl⟩
abbrev cc2_stg6_0 : Ref sig .tc := ⟨.vmem, 45, rfl⟩
abbrev cc2_stg6_1 : Ref sig .tc := ⟨.vmem, 46, rfl⟩
abbrev cc2_stg7_0 : Ref sig .tc := ⟨.vmem, 47, rfl⟩
abbrev cc2_stg7_1 : Ref sig .tc := ⟨.vmem, 48, rfl⟩
abbrev cc3_stg0_0 : Ref sig .tc := ⟨.vmem, 49, rfl⟩
abbrev cc3_stg0_1 : Ref sig .tc := ⟨.vmem, 50, rfl⟩
abbrev cc3_stg1_0 : Ref sig .tc := ⟨.vmem, 51, rfl⟩
abbrev cc3_stg1_1 : Ref sig .tc := ⟨.vmem, 52, rfl⟩
abbrev cc3_stg2_0 : Ref sig .tc := ⟨.vmem, 53, rfl⟩
abbrev cc3_stg2_1 : Ref sig .tc := ⟨.vmem, 54, rfl⟩
abbrev cc3_stg3_0 : Ref sig .tc := ⟨.vmem, 55, rfl⟩
abbrev cc3_stg4_0 : Ref sig .tc := ⟨.vmem, 56, rfl⟩
abbrev cc3_stg5_0 : Ref sig .tc := ⟨.vmem, 57, rfl⟩
abbrev cc3_stg6_0 : Ref sig .tc := ⟨.vmem, 58, rfl⟩
abbrev cc3_stg7_0 : Ref sig .tc := ⟨.vmem, 59, rfl⟩
abbrev cc3_stg7_1 : Ref sig .tc := ⟨.vmem, 60, rfl⟩
abbrev cc3_stg8_0 : Ref sig .tc := ⟨.vmem, 61, rfl⟩
abbrev cc3_stg8_1 : Ref sig .tc := ⟨.vmem, 62, rfl⟩
abbrev cc3_stg9_0 : Ref sig .tc := ⟨.vmem, 63, rfl⟩
abbrev cc3_stg9_1 : Ref sig .tc := ⟨.vmem, 64, rfl⟩
abbrev cc3_stg10_0 : Ref sig .tc := ⟨.vmem, 65, rfl⟩
abbrev cc3_stg10_1 : Ref sig .tc := ⟨.vmem, 66, rfl⟩
abbrev cc3_stg11_0 : Ref sig .tc := ⟨.vmem, 67, rfl⟩
abbrev cc3_stg11_1 : Ref sig .tc := ⟨.vmem, 68, rfl⟩
abbrev cc3_stg12_0 : Ref sig .tc := ⟨.vmem, 69, rfl⟩
abbrev cc3_stg12_1 : Ref sig .tc := ⟨.vmem, 70, rfl⟩
abbrev cc3_stg13_0 : Ref sig .tc := ⟨.vmem, 71, rfl⟩
abbrev cc3_stg13_1 : Ref sig .tc := ⟨.vmem, 72, rfl⟩
abbrev cc3_stg14_0 : Ref sig .tc := ⟨.vmem, 73, rfl⟩
abbrev cc3_stg14_1 : Ref sig .tc := ⟨.vmem, 74, rfl⟩
abbrev cc3_stg15_0 : Ref sig .tc := ⟨.vmem, 75, rfl⟩
abbrev cc3_stg15_1 : Ref sig .tc := ⟨.vmem, 76, rfl⟩
abbrev cc4_stg0_0 : Ref sig .tc := ⟨.vmem, 77, rfl⟩
abbrev cc4_stg0_1 : Ref sig .tc := ⟨.vmem, 78, rfl⟩
abbrev cc4_stg1_0 : Ref sig .tc := ⟨.vmem, 79, rfl⟩
abbrev cc4_stg1_1 : Ref sig .tc := ⟨.vmem, 80, rfl⟩
abbrev cc4_stg2_0 : Ref sig .tc := ⟨.vmem, 81, rfl⟩
abbrev cc4_stg2_1 : Ref sig .tc := ⟨.vmem, 82, rfl⟩
abbrev cc4_stg3_0 : Ref sig .tc := ⟨.vmem, 83, rfl⟩
abbrev cc4_stg4_0 : Ref sig .tc := ⟨.vmem, 84, rfl⟩
abbrev cc4_stg5_0 : Ref sig .tc := ⟨.vmem, 85, rfl⟩
abbrev cc4_stg5_1 : Ref sig .tc := ⟨.vmem, 86, rfl⟩
abbrev cc4_stg6_0 : Ref sig .tc := ⟨.vmem, 87, rfl⟩
abbrev cc4_stg6_1 : Ref sig .tc := ⟨.vmem, 88, rfl⟩
abbrev cc4_stg7_0 : Ref sig .tc := ⟨.vmem, 89, rfl⟩
abbrev cc4_stg7_1 : Ref sig .tc := ⟨.vmem, 90, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem10_1 : DmaSem sig := 24
abbrev cc1_sem11_0 : DmaSem sig := 25
abbrev cc1_sem11_1 : DmaSem sig := 26
abbrev cc1_sem12_0 : DmaSem sig := 27
abbrev cc1_sem12_1 : DmaSem sig := 28
abbrev cc1_sem13_0 : DmaSem sig := 29
abbrev cc1_sem13_1 : DmaSem sig := 30
abbrev cc1_sem14_0 : DmaSem sig := 31
abbrev cc1_sem14_1 : DmaSem sig := 32
abbrev cc1_sem15_0 : DmaSem sig := 33
abbrev cc1_sem15_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem4_0 : DmaSem sig := 42
abbrev cc2_sem5_0 : DmaSem sig := 43
abbrev cc2_sem5_1 : DmaSem sig := 44
abbrev cc2_sem6_0 : DmaSem sig := 45
abbrev cc2_sem6_1 : DmaSem sig := 46
abbrev cc2_sem7_0 : DmaSem sig := 47
abbrev cc2_sem7_1 : DmaSem sig := 48
abbrev cc3_sem0_0 : DmaSem sig := 49
abbrev cc3_sem0_1 : DmaSem sig := 50
abbrev cc3_sem1_0 : DmaSem sig := 51
abbrev cc3_sem1_1 : DmaSem sig := 52
abbrev cc3_sem2_0 : DmaSem sig := 53
abbrev cc3_sem2_1 : DmaSem sig := 54
abbrev cc3_sem3_0 : DmaSem sig := 55
abbrev cc3_sem4_0 : DmaSem sig := 56
abbrev cc3_sem5_0 : DmaSem sig := 57
abbrev cc3_sem6_0 : DmaSem sig := 58
abbrev cc3_sem7_0 : DmaSem sig := 59
abbrev cc3_sem7_1 : DmaSem sig := 60
abbrev cc3_sem8_0 : DmaSem sig := 61
abbrev cc3_sem8_1 : DmaSem sig := 62
abbrev cc3_sem9_0 : DmaSem sig := 63
abbrev cc3_sem9_1 : DmaSem sig := 64
abbrev cc3_sem10_0 : DmaSem sig := 65
abbrev cc3_sem10_1 : DmaSem sig := 66
abbrev cc3_sem11_0 : DmaSem sig := 67
abbrev cc3_sem11_1 : DmaSem sig := 68
abbrev cc3_sem12_0 : DmaSem sig := 69
abbrev cc3_sem12_1 : DmaSem sig := 70
abbrev cc3_sem13_0 : DmaSem sig := 71
abbrev cc3_sem13_1 : DmaSem sig := 72
abbrev cc3_sem14_0 : DmaSem sig := 73
abbrev cc3_sem14_1 : DmaSem sig := 74
abbrev cc3_sem15_0 : DmaSem sig := 75
abbrev cc3_sem15_1 : DmaSem sig := 76
abbrev cc4_sem0_0 : DmaSem sig := 77
abbrev cc4_sem0_1 : DmaSem sig := 78
abbrev cc4_sem1_0 : DmaSem sig := 79
abbrev cc4_sem1_1 : DmaSem sig := 80
abbrev cc4_sem2_0 : DmaSem sig := 81
abbrev cc4_sem2_1 : DmaSem sig := 82
abbrev cc4_sem3_0 : DmaSem sig := 83
abbrev cc4_sem4_0 : DmaSem sig := 84
abbrev cc4_sem5_0 : DmaSem sig := 85
abbrev cc4_sem5_1 : DmaSem sig := 86
abbrev cc4_sem6_0 : DmaSem sig := 87
abbrev cc4_sem6_1 : DmaSem sig := 88
abbrev cc4_sem7_0 : DmaSem sig := 89
abbrev cc4_sem7_1 : DmaSem sig := 90

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x2560 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x8x256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x256x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x256x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x8x256x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x256x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x256x128 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x256x8 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev grid2 : Pipeline.Grid := ⟨2, ![2, 32], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024x5376 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x256x3328 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![16, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_10 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_11 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_12 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_13 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_14 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_15 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x32x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1024x2560 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x8x32x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x32x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S1x32x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S1x32x128 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S1x32x128 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S1x8x32x128 .bf16 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 2 → Memref sig .tc .vmem S1x32x64 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, true]

abbrev stage3_14 : Fin 2 → Memref sig .tc .vmem S1x32x128 .bf16 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]

abbrev stage3_15 : Fin 2 → Memref sig .tc .vmem S1x32x8 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true, true]

abbrev grid4 : Pipeline.Grid := ⟨2, ![16, 1], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x32x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1024x5376 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x32x3328 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1x32x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S1x32x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]
-- ==== ProjReferenceIdeal.lean ====
abbrev S2x8192x1024 : Shape := ⟨3, ![2, 8192, 1024]⟩
abbrev S16x32x1024 : Shape := ⟨3, ![16, 32, 1024]⟩
abbrev S2x1024 : Shape := ⟨2, ![2, 1024]⟩
abbrev S16x1024 : Shape := ⟨2, ![16, 1024]⟩
abbrev S1024x6144 : Shape := ⟨2, ![1024, 6144]⟩
abbrev S6144 : Shape := ⟨1, ![6144]⟩
abbrev S1024 : Shape := ⟨1, ![1024]⟩
abbrev S1024x5192 : Shape := ⟨2, ![1024, 5192]⟩
abbrev S64 : Shape := ⟨1, ![64]⟩
abbrev S_ : Shape := ⟨0, ![]⟩
abbrev S2x6144 : Shape := ⟨2, ![2, 6144]⟩
abbrev S1x6144 : Shape := ⟨2, ![1, 6144]⟩
abbrev S2x1x6144 : Shape := ⟨3, ![2, 1, 6144]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5192 : Shape := ⟨3, ![2, 8192, 5192]⟩
abbrev S2x8192x512 : Shape := ⟨3, ![2, 8192, 512]⟩
abbrev S2x8192x128 : Shape := ⟨3, ![2, 8192, 128]⟩
abbrev S2x8192x64 : Shape := ⟨3, ![2, 8192, 64]⟩
abbrev S2x8192x8 : Shape := ⟨3, ![2, 8192, 8]⟩
abbrev S2x8192x1792 : Shape := ⟨3, ![2, 8192, 1792]⟩
abbrev S2x8192x2x64 : Shape := ⟨4, ![2, 8192, 2, 64]⟩
abbrev S1x1x64 : Shape := ⟨3, ![1, 1, 64]⟩
abbrev S2x1x1792 : Shape := ⟨3, ![2, 1, 1792]⟩
abbrev S2x8192x8x64 : Shape := ⟨4, ![2, 8192, 8, 64]⟩
abbrev S2x8x8192x64 : Shape := ⟨4, ![2, 8, 8192, 64]⟩
abbrev S2x4x8192x64 : Shape := ⟨4, ![2, 4, 8192, 64]⟩
abbrev S2x4x8192x128 : Shape := ⟨4, ![2, 4, 8192, 128]⟩
abbrev S2x8x8192x128 : Shape := ⟨4, ![2, 8, 8192, 128]⟩
abbrev S2x8192x1536 : Shape := ⟨3, ![2, 8192, 1536]⟩
abbrev S2x8192x24x64 : Shape := ⟨4, ![2, 8192, 24, 64]⟩
abbrev S2x8192x24x128 : Shape := ⟨4, ![2, 8192, 24, 128]⟩
abbrev S2x8192x3072 : Shape := ⟨3, ![2, 8192, 3072]⟩
abbrev S2x8192x256 : Shape := ⟨3, ![2, 8192, 256]⟩
abbrev S2x8192x3328 : Shape := ⟨3, ![2, 8192, 3328]⟩
abbrev S16x6144 : Shape := ⟨2, ![16, 6144]⟩
abbrev S16x1x6144 : Shape := ⟨3, ![16, 1, 6144]⟩
abbrev S16x1x1024 : Shape := ⟨3, ![16, 1, 1024]⟩
abbrev S16x32 : Shape := ⟨2, ![16, 32]⟩
abbrev S16x32x1 : Shape := ⟨3, ![16, 32, 1]⟩
abbrev S16x32x5192 : Shape := ⟨3, ![16, 32, 5192]⟩
abbrev S16x32x512 : Shape := ⟨3, ![16, 32, 512]⟩
abbrev S16x32x128 : Shape := ⟨3, ![16, 32, 128]⟩
abbrev S16x32x64 : Shape := ⟨3, ![16, 32, 64]⟩
abbrev S16x32x8 : Shape := ⟨3, ![16, 32, 8]⟩
abbrev S16x32x1792 : Shape := ⟨3, ![16, 32, 1792]⟩
abbrev S16x32x2x64 : Shape := ⟨4, ![16, 32, 2, 64]⟩
abbrev S16x1x1792 : Shape := ⟨3, ![16, 1, 1792]⟩
abbrev S16x32x8x64 : Shape := ⟨4, ![16, 32, 8, 64]⟩
abbrev S16x8x32x64 : Shape := ⟨4, ![16, 8, 32, 64]⟩
abbrev S16x4x32x64 : Shape := ⟨4, ![16, 4, 32, 64]⟩
abbrev S16x4x32x128 : Shape := ⟨4, ![16, 4, 32, 128]⟩
abbrev S16x8x32x128 : Shape := ⟨4, ![16, 8, 32, 128]⟩
abbrev S16x32x1536 : Shape := ⟨3, ![16, 32, 1536]⟩
abbrev S16x32x24x64 : Shape := ⟨4, ![16, 32, 24, 64]⟩
abbrev S16x32x24x128 : Shape := ⟨4, ![16, 32, 24, 128]⟩
abbrev S16x32x3072 : Shape := ⟨3, ![16, 32, 3072]⟩
abbrev S16x32x256 : Shape := ⟨3, ![16, 32, 256]⟩
abbrev S16x32x3328 : Shape := ⟨3, ![16, 32, 3328]⟩

abbrev nBuf : Space → Nat
  | .hbm => 288
  | .vmem => 0
  | .smem => 0
  | _ => 0

abbrev hbmTy0_0 (i : Nat) : BufTy := match i % 128 with
  | 0 => ⟨S2x8192x1024, .f32⟩
  | 1 => ⟨S16x32x1024, .f32⟩
  | 2 => ⟨S2x1024, .f32⟩
  | 3 => ⟨S16x1024, .f32⟩
  | 4 => ⟨S1024x6144, .f32⟩
  | 5 => ⟨S6144, .f32⟩
  | 6 => ⟨S1024, .f32⟩
  | 7 => ⟨S1024x5192, .f32⟩
  | 8 => ⟨S64, .f32⟩
  | 9 => ⟨S64, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S_, .f32⟩
  | 16 => ⟨S2x1024, .f32⟩
  | 17 => ⟨S2x1024, .f32⟩
  | 18 => ⟨S2x1024, .f32⟩
  | 19 => ⟨S2x6144, .f32⟩
  | 20 => ⟨S1x6144, .f32⟩
  | 21 => ⟨S2x6144, .f32⟩
  | 22 => ⟨S2x6144, .f32⟩
  | 23 => ⟨S2x1x6144, .f32⟩
  | 24 => ⟨S2x1x1024, .f32⟩
  | 25 => ⟨S2x1x1024, .f32⟩
  | 26 => ⟨S2x1x1024, .f32⟩
  | 27 => ⟨S2x1x1024, .f32⟩
  | 28 => ⟨S2x1x1024, .f32⟩
  | 29 => ⟨S2x1x1024, .f32⟩
  | 30 => ⟨S2x8192x1024, .f32⟩
  | 31 => ⟨S_, .f32⟩
  | 32 => ⟨S2x8192, .f32⟩
  | 33 => ⟨S2x8192x1, .f32⟩
  | 34 => ⟨S_, .f32⟩
  | 35 => ⟨S2x8192x1, .f32⟩
  | 36 => ⟨S2x8192x1, .f32⟩
  | 37 => ⟨S_, .f32⟩
  | 38 => ⟨S2x8192x1, .f32⟩
  | 39 => ⟨S2x8192x1, .f32⟩
  | 40 => ⟨S2x8192x1, .f32⟩
  | 41 => ⟨S2x8192x1024, .f32⟩
  | 42 => ⟨S2x8192x1024, .f32⟩
  | 43 => ⟨S1x1x1024, .f32⟩
  | 44 => ⟨S2x8192x1024, .f32⟩
  | 45 => ⟨S2x8192x1024, .f32⟩
  | 46 => ⟨S_, .f32⟩
  | 47 => ⟨S2x1x1024, .f32⟩
  | 48 => ⟨S2x1x1024, .f32⟩
  | 49 => ⟨S2x8192x1024, .f32⟩
  | 50 => ⟨S2x8192x1024, .f32⟩
  | 51 => ⟨S2x8192x1024, .f32⟩
  | 52 => ⟨S2x8192x1024, .f32⟩
  | 53 => ⟨S2x8192x5192, .f32⟩
  | 54 => ⟨S2x8192x512, .f32⟩
  | 55 => ⟨S2x8192x128, .f32⟩
  | 56 => ⟨S2x8192x128, .f32⟩
  | 57 => ⟨S2x8192x512, .f32⟩
  | 58 => ⟨S2x8192x64, .f32⟩
  | 59 => ⟨S2x8192x8, .f32⟩
  | 60 => ⟨S2x8192x1792, .f32⟩
  | 61 => ⟨S2x8192x1024, .f32⟩
  | 62 => ⟨S2x8192x1024, .f32⟩
  | 63 => ⟨S2x8192x2x64, .f32⟩
  | 64 => ⟨S2x8192x2x64, .f32⟩
  | 65 => ⟨S_, .f32⟩
  | 66 => ⟨S2x8192, .f32⟩
  | 67 => ⟨S2x8192x1, .f32⟩
  | 68 => ⟨S_, .f32⟩
  | 69 => ⟨S2x8192x1, .f32⟩
  | 70 => ⟨S2x8192x1, .f32⟩
  | 71 => ⟨S2x8192x64, .f32⟩
  | 72 => ⟨S2x8192x64, .f32⟩
  | 73 => ⟨S2x8192x64, .f32⟩
  | 74 => ⟨S_, .f32⟩
  | 75 => ⟨S2x8192, .f32⟩
  | 76 => ⟨S2x8192x1, .f32⟩
  | 77 => ⟨S_, .f32⟩
  | 78 => ⟨S2x8192x1, .f32⟩
  | 79 => ⟨S2x8192x1, .f32⟩
  | 80 => ⟨S2x8192x64, .f32⟩
  | 81 => ⟨S2x8192x64, .f32⟩
  | 82 => ⟨S_, .f32⟩
  | 83 => ⟨S2x8192x1, .f32⟩
  | 84 => ⟨S2x8192x1, .f32⟩
  | 85 => ⟨S2x8192x1, .f32⟩
  | 86 => ⟨S2x8192x64, .f32⟩
  | 87 => ⟨S2x8192x64, .f32⟩
  | 88 => ⟨S1x1x64, .f32⟩
  | 89 => ⟨S2x8192x64, .f32⟩
  | 90 => ⟨S2x8192x64, .f32⟩
  | 91 => ⟨S1x1x64, .f32⟩
  | 92 => ⟨S2x8192x64, .f32⟩
  | 93 => ⟨S2x8192x64, .f32⟩
  | 94 => ⟨S2x1x1792, .f32⟩
  | 95 => ⟨S_, .f32⟩
  | 96 => ⟨S2x8192x8, .f32⟩
  | 97 => ⟨S2x8192x8, .f32⟩
  | 98 => ⟨S2x8192x1024, .f32⟩
  | 99 => ⟨S2x8192x1024, .f32⟩
  | 100 => ⟨S_, .f32⟩
  | 101 => ⟨S2x8192x1024, .f32⟩
  | 102 => ⟨S2x8192x1024, .f32⟩
  | 103 => ⟨S_, .f32⟩
  | 104 => ⟨S2x8192x1024, .f32⟩
  | 105 => ⟨S2x8192x1024, .f32⟩
  | 106 => ⟨S2x8192x1024, .f32⟩
  | 107 => ⟨S2x8192x1024, .f32⟩
  | 108 => ⟨S_, .f32⟩
  | 109 => ⟨S2x8192x1024, .f32⟩
  | 110 => ⟨S2x8192x1024, .f32⟩
  | 111 => ⟨S_, .f32⟩
  | 112 => ⟨S2x8192x1024, .f32⟩
  | 113 => ⟨S2x8192x1024, .f32⟩
  | 114 => ⟨S_, .f32⟩
  | 115 => ⟨S2x8192x512, .f32⟩
  | 116 => ⟨S2x8192x512, .f32⟩
  | 117 => ⟨S2x8192x8x64, .f32⟩
  | 118 => ⟨S2x8x8192x64, .f32⟩
  | 119 => ⟨S2x4x8192x64, .f32⟩
  | 120 => ⟨S_, .i32⟩
  | 121 => ⟨S_, .f32⟩
  | 122 => ⟨S2x4x8192x128, .f32⟩
  | 123 => ⟨S2x4x8192x64, .f32⟩
  | 124 => ⟨S_, .i32⟩
  | 125 => ⟨S_, .f32⟩
  | 126 => ⟨S2x4x8192x128, .f32⟩
  | 127 => ⟨S2x8x8192x128, .f32⟩
  | _ => ⟨S2x8192x1024, .f32⟩

abbrev hbmTy0_1 (i : Nat) : BufTy := match i % 128 with
  | 0 => ⟨S2x8x8192x128, .bf16⟩
  | 1 => ⟨S2x8192x128, .bf16⟩
  | 2 => ⟨S2x8192x128, .bf16⟩
  | 3 => ⟨S2x8192x8x64, .f32⟩
  | 4 => ⟨S2x8x8192x64, .f32⟩
  | 5 => ⟨S_, .i32⟩
  | 6 => ⟨S_, .f32⟩
  | 7 => ⟨S2x8x8192x128, .f32⟩
  | 8 => ⟨S2x8x8192x128, .bf16⟩
  | 9 => ⟨S_, .i32⟩
  | 10 => ⟨S_, .f32⟩
  | 11 => ⟨S2x8192x128, .f32⟩
  | 12 => ⟨S2x8192x128, .bf16⟩
  | 13 => ⟨S2x8192x1536, .f32⟩
  | 14 => ⟨S2x8192x24x64, .f32⟩
  | 15 => ⟨S_, .i32⟩
  | 16 => ⟨S_, .f32⟩
  | 17 => ⟨S2x8192x24x128, .f32⟩
  | 18 => ⟨S2x8192x3072, .f32⟩
  | 19 => ⟨S2x8192x256, .f32⟩
  | 20 => ⟨S2x8192x3328, .f32⟩
  | 21 => ⟨S16x1024, .f32⟩
  | 22 => ⟨S16x1024, .f32⟩
  | 23 => ⟨S_, .f32⟩
  | 24 => ⟨S16x1024, .f32⟩
  | 25 => ⟨S16x1024, .f32⟩
  | 26 => ⟨S_, .f32⟩
  | 27 => ⟨S16x1024, .f32⟩
  | 28 => ⟨S16x1024, .f32⟩
  | 29 => ⟨S16x1024, .f32⟩
  | 30 => ⟨S16x6144, .f32⟩
  | 31 => ⟨S1x6144, .f32⟩
  | 32 => ⟨S16x6144, .f32⟩
  | 33 => ⟨S16x6144, .f32⟩
  | 34 => ⟨S16x1x6144, .f32⟩
  | 35 => ⟨S16x1x1024, .f32⟩
  | 36 => ⟨S16x1x1024, .f32⟩
  | 37 => ⟨S16x1x1024, .f32⟩
  | 38 => ⟨S16x1x1024, .f32⟩
  | 39 => ⟨S16x1x1024, .f32⟩
  | 40 => ⟨S16x1x1024, .f32⟩
  | 41 => ⟨S16x32x1024, .f32⟩
  | 42 => ⟨S_, .f32⟩
  | 43 => ⟨S16x32, .f32⟩
  | 44 => ⟨S16x32x1, .f32⟩
  | 45 => ⟨S_, .f32⟩
  | 46 => ⟨S16x32x1, .f32⟩
  | 47 => ⟨S16x32x1, .f32⟩
  | 48 => ⟨S_, .f32⟩
  | 49 => ⟨S16x32x1, .f32⟩
  | 50 => ⟨S16x32x1, .f32⟩
  | 51 => ⟨S16x32x1, .f32⟩
  | 52 => ⟨S16x32x1024, .f32⟩
  | 53 => ⟨S16x32x1024, .f32⟩
  | 54 => ⟨S1x1x1024, .f32⟩
  | 55 => ⟨S16x32x1024, .f32⟩
  | 56 => ⟨S16x32x1024, .f32⟩
  | 57 => ⟨S_, .f32⟩
  | 58 => ⟨S16x1x1024, .f32⟩
  | 59 => ⟨S16x1x1024, .f32⟩
  | 60 => ⟨S16x32x1024, .f32⟩
  | 61 => ⟨S16x32x1024, .f32⟩
  | 62 => ⟨S16x32x1024, .f32⟩
  | 63 => ⟨S16x32x1024, .f32⟩
  | 64 => ⟨S16x32x5192, .f32⟩
  | 65 => ⟨S16x32x512, .f32⟩
  | 66 => ⟨S16x32x128, .f32⟩
  | 67 => ⟨S16x32x128, .f32⟩
  | 68 => ⟨S16x32x512, .f32⟩
  | 69 => ⟨S16x32x64, .f32⟩
  | 70 => ⟨S16x32x8, .f32⟩
  | 71 => ⟨S16x32x1792, .f32⟩
  | 72 => ⟨S16x32x1024, .f32⟩
  | 73 => ⟨S16x32x1024, .f32⟩
  | 74 => ⟨S16x32x2x64, .f32⟩
  | 75 => ⟨S16x32x2x64, .f32⟩
  | 76 => ⟨S_, .f32⟩
  | 77 => ⟨S16x32, .f32⟩
  | 78 => ⟨S16x32x1, .f32⟩
  | 79 => ⟨S_, .f32⟩
  | 80 => ⟨S16x32x1, .f32⟩
  | 81 => ⟨S16x32x1, .f32⟩
  | 82 => ⟨S16x32x64, .f32⟩
  | 83 => ⟨S16x32x64, .f32⟩
  | 84 => ⟨S16x32x64, .f32⟩
  | 85 => ⟨S_, .f32⟩
  | 86 => ⟨S16x32, .f32⟩
  | 87 => ⟨S16x32x1, .f32⟩
  | 88 => ⟨S_, .f32⟩
  | 89 => ⟨S16x32x1, .f32⟩
  | 90 => ⟨S16x32x1, .f32⟩
  | 91 => ⟨S16x32x64, .f32⟩
  | 92 => ⟨S16x32x64, .f32⟩
  | 93 => ⟨S_, .f32⟩
  | 94 => ⟨S16x32x1, .f32⟩
  | 95 => ⟨S16x32x1, .f32⟩
  | 96 => ⟨S16x32x1, .f32⟩
  | 97 => ⟨S16x32x64, .f32⟩
  | 98 => ⟨S16x32x64, .f32⟩
  | 99 => ⟨S1x1x64, .f32⟩
  | 100 => ⟨S16x32x64, .f32⟩
  | 101 => ⟨S16x32x64, .f32⟩
  | 102 => ⟨S1x1x64, .f32⟩
  | 103 => ⟨S16x32x64, .f32⟩
  | 104 => ⟨S16x32x64, .f32⟩
  | 105 => ⟨S16x1x1792, .f32⟩
  | 106 => ⟨S_, .f32⟩
  | 107 => ⟨S16x32x8, .f32⟩
  | 108 => ⟨S16x32x8, .f32⟩
  | 109 => ⟨S16x32x1024, .f32⟩
  | 110 => ⟨S16x32x1024, .f32⟩
  | 111 => ⟨S_, .f32⟩
  | 112 => ⟨S16x32x1024, .f32⟩
  | 113 => ⟨S16x32x1024, .f32⟩
  | 114 => ⟨S_, .f32⟩
  | 115 => ⟨S16x32x1024, .f32⟩
  | 116 => ⟨S16x32x1024, .f32⟩
  | 117 => ⟨S16x32x1024, .f32⟩
  | 118 => ⟨S16x32x1024, .f32⟩
  | 119 => ⟨S_, .f32⟩
  | 120 => ⟨S16x32x1024, .f32⟩
  | 121 => ⟨S16x32x1024, .f32⟩
  | 122 => ⟨S_, .f32⟩
  | 123 => ⟨S16x32x1024, .f32⟩
  | 124 => ⟨S16x32x1024, .f32⟩
  | 125 => ⟨S_, .f32⟩
  | 126 => ⟨S16x32x512, .f32⟩
  | 127 => ⟨S16x32x512, .f32⟩
  | _ => ⟨S2x8192x1024, .f32⟩

abbrev hbmTy0_2 (i : Nat) : BufTy := match i % 128 with
  | 0 => ⟨S16x32x8x64, .f32⟩
  | 1 => ⟨S16x8x32x64, .f32⟩
  | 2 => ⟨S16x4x32x64, .f32⟩
  | 3 => ⟨S_, .i32⟩
  | 4 => ⟨S_, .f32⟩
  | 5 => ⟨S16x4x32x128, .f32⟩
  | 6 => ⟨S16x4x32x64, .f32⟩
  | 7 => ⟨S_, .i32⟩
  | 8 => ⟨S_, .f32⟩
  | 9 => ⟨S16x4x32x128, .f32⟩
  | 10 => ⟨S16x8x32x128, .f32⟩
  | 11 => ⟨S16x8x32x128, .bf16⟩
  | 12 => ⟨S16x32x128, .bf16⟩
  | 13 => ⟨S16x32x128, .bf16⟩
  | 14 => ⟨S16x32x8x64, .f32⟩
  | 15 => ⟨S16x8x32x64, .f32⟩
  | 16 => ⟨S_, .i32⟩
  | 17 => ⟨S_, .f32⟩
  | 18 => ⟨S16x8x32x128, .f32⟩
  | 19 => ⟨S16x8x32x128, .bf16⟩
  | 20 => ⟨S_, .i32⟩
  | 21 => ⟨S_, .f32⟩
  | 22 => ⟨S16x32x128, .f32⟩
  | 23 => ⟨S16x32x128, .bf16⟩
  | 24 => ⟨S16x32x1536, .f32⟩
  | 25 => ⟨S16x32x24x64, .f32⟩
  | 26 => ⟨S_, .i32⟩
  | 27 => ⟨S_, .f32⟩
  | 28 => ⟨S16x32x24x128, .f32⟩
  | 29 => ⟨S16x32x3072, .f32⟩
  | 30 => ⟨S16x32x256, .f32⟩
  | 31 => ⟨S16x32x3328, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_5 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_8 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_9 : Ref sig .tc := ⟨.hbm, 100, rfl⟩
abbrev main_v72 : Ref sig .tc := ⟨.hbm, 101, rfl⟩
abbrev main_v73 : Ref sig .tc := ⟨.hbm, 102, rfl⟩
abbrev main_cst_10 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_11 : Ref sig .tc := ⟨.hbm, 108, rfl⟩
abbrev main_v78 : Ref sig .tc := ⟨.hbm, 109, rfl⟩
abbrev main_v79 : Ref sig .tc := ⟨.hbm, 110, rfl⟩
abbrev main_cst_12 : Ref sig .tc := ⟨.hbm, 111, rfl⟩
abbrev main_v80 : Ref sig .tc := ⟨.hbm, 112, rfl⟩
abbrev main_v81 : Ref sig .tc := ⟨.hbm, 113, rfl⟩
abbrev main_cst_13 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c : Ref sig .tc := ⟨.hbm, 120, rfl⟩
abbrev main_call1_v0 : Ref sig .tc := ⟨.hbm, 121, rfl⟩
abbrev main_v87 : Ref sig .tc := ⟨.hbm, 122, rfl⟩
abbrev main_v88 : Ref sig .tc := ⟨.hbm, 123, rfl⟩
abbrev main_c_14 : Ref sig .tc := ⟨.hbm, 124, rfl⟩
abbrev main_call2_v0 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_15 : Ref sig .tc := ⟨.hbm, 133, rfl⟩
abbrev main_call3_v0 : Ref sig .tc := ⟨.hbm, 134, rfl⟩
abbrev main_v96 : Ref sig .tc := ⟨.hbm, 135, rfl⟩
abbrev main_v97 : Ref sig .tc := ⟨.hbm, 136, rfl⟩
abbrev main_c_16 : Ref sig .tc := ⟨.hbm, 137, rfl⟩
abbrev main_call4_v0 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_17 : Ref sig .tc := ⟨.hbm, 143, rfl⟩
abbrev main_call5_v0 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_call6_v0 : Ref sig .tc := ⟨.hbm, 149, rfl⟩
abbrev main_call6_v1 : Ref sig .tc := ⟨.hbm, 150, rfl⟩
abbrev main_call6_cst : Ref sig .tc := ⟨.hbm, 151, rfl⟩
abbrev main_call6_v2 : Ref sig .tc := ⟨.hbm, 152, rfl⟩
abbrev main_call6_v3 : Ref sig .tc := ⟨.hbm, 153, rfl⟩
abbrev main_call6_cst_0 : Ref sig .tc := ⟨.hbm, 154, rfl⟩
abbrev main_call6_v4 : Ref sig .tc := ⟨.hbm, 155, rfl⟩
abbrev main_call6_v5 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_18 : Ref sig .tc := ⟨.hbm, 170, rfl⟩
abbrev main_v119 : Ref sig .tc := ⟨.hbm, 171, rfl⟩
abbrev main_v120 : Ref sig .tc := ⟨.hbm, 172, rfl⟩
abbrev main_cst_19 : Ref sig .tc := ⟨.hbm, 173, rfl⟩
abbrev main_v121 : Ref sig .tc := ⟨.hbm, 174, rfl⟩
abbrev main_v122 : Ref sig .tc := ⟨.hbm, 175, rfl⟩
abbrev main_cst_20 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_21 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_22 : Ref sig .tc := ⟨.hbm, 204, rfl⟩
abbrev main_v149 : Ref sig .tc := ⟨.hbm, 205, rfl⟩
abbrev main_v150 : Ref sig .tc := ⟨.hbm, 206, rfl⟩
abbrev main_cst_23 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_24 : Ref sig .tc := ⟨.hbm, 213, rfl⟩
abbrev main_v156 : Ref sig .tc := ⟨.hbm, 214, rfl⟩
abbrev main_v157 : Ref sig .tc := ⟨.hbm, 215, rfl⟩
abbrev main_cst_25 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_26 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_cst_27 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_cst_28 : Ref sig .tc := ⟨.hbm, 239, rfl⟩
abbrev main_v178 : Ref sig .tc := ⟨.hbm, 240, rfl⟩
abbrev main_v179 : Ref sig .tc := ⟨.hbm, 241, rfl⟩
abbrev main_cst_29 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_cst_30 : Ref sig .tc := ⟨.hbm, 247, rfl⟩
abbrev main_v184 : Ref sig .tc := ⟨.hbm, 248, rfl⟩
abbrev main_v185 : Ref sig .tc := ⟨.hbm, 249, rfl⟩
abbrev main_cst_31 : Ref sig .tc := ⟨.hbm, 250, rfl⟩
abbrev main_v186 : Ref sig .tc := ⟨.hbm, 251, rfl⟩
abbrev main_v187 : Ref sig .tc := ⟨.hbm, 252, rfl⟩
abbrev main_cst_32 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_c_33 : Ref sig .tc := ⟨.hbm, 259, rfl⟩
abbrev main_call7_v0 : Ref sig .tc := ⟨.hbm, 260, rfl⟩
abbrev main_v193 : Ref sig .tc := ⟨.hbm, 261, rfl⟩
abbrev main_v194 : Ref sig .tc := ⟨.hbm, 262, rfl⟩
abbrev main_c_34 : Ref sig .tc := ⟨.hbm, 263, rfl⟩
abbrev main_call8_v0 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_c_35 : Ref sig .tc := ⟨.hbm, 272, rfl⟩
abbrev main_call9_v0 : Ref sig .tc := ⟨.hbm, 273, rfl⟩
abbrev main_v202 : Ref sig .tc := ⟨.hbm, 274, rfl⟩
abbrev main_v203 : Ref sig .tc := ⟨.hbm, 275, rfl⟩
abbrev main_c_36 : Ref sig .tc := ⟨.hbm, 276, rfl⟩
abbrev main_call10_v0 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_c_37 : Ref sig .tc := ⟨.hbm, 282, rfl⟩
abbrev main_call11_v0 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩

abbrev nD : Nat := 1
abbrev τ : Topo := Topo.v7x

variable {F : FTy → Type} [FloatOps F]
-- ==== MoeS.lean ====
abbrev S512x1024 : Shape := ⟨2, ![512, 1024]⟩
abbrev S512x32 : Shape := ⟨2, ![512, 32]⟩
abbrev S16x1x1024 : Shape := ⟨3, ![16, 1, 1024]⟩
abbrev S1024 : Shape := ⟨1, ![1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S16x32x1024 : Shape := ⟨3, ![16, 32, 1024]⟩
abbrev S1x512x1024 : Shape := ⟨3, ![1, 512, 1024]⟩
abbrev S1x1024 : Shape := ⟨2, ![1, 1024]⟩
abbrev S32x1x2048 : Shape := ⟨3, ![32, 1, 2048]⟩
abbrev S32x1x1024 : Shape := ⟨3, ![32, 1, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S512x32, .f32⟩
  | .hbm, ⟨2, _⟩ => ⟨S512x1024, .f32⟩
  | .hbm, ⟨3, _⟩ => ⟨S16x1x1024, .f32⟩
  | .hbm, ⟨4, _⟩ => ⟨S1024, .f32⟩
  | .hbm, ⟨5, _⟩ => ⟨S32x1024x2048, .f32⟩
  | .hbm, ⟨6, _⟩ => ⟨S32x2048, .f32⟩
  | .hbm, ⟨7, _⟩ => ⟨S32x1024x1024, .f32⟩
  | .hbm, ⟨8, _⟩ => ⟨S32x1024, .f32⟩
  | .hbm, ⟨9, _⟩ => ⟨S16x32x1024, .f32⟩
  | .hbm, ⟨10, _⟩ => ⟨S1x512x1024, .f32⟩
  | .hbm, ⟨11, _⟩ => ⟨S512x1024, .bf16⟩
  | .hbm, ⟨12, _⟩ => ⟨S1x1024, .f32⟩
  | .hbm, ⟨13, _⟩ => ⟨S32x1024x2048, .bf16⟩
  | .hbm, ⟨14, _⟩ => ⟨S32x1x2048, .f32⟩
  | .hbm, ⟨15, _⟩ => ⟨S32x1024x1024, .bf16⟩
  | .hbm, ⟨16, _⟩ => ⟨S32x1x1024, .f32⟩
  | .hbm, ⟨17, _⟩ => ⟨S512x1024, .f32⟩
  | .local _ .vmem, ⟨0, _⟩ => ⟨S512x1024, .bf16⟩
  | .local _ .vmem, ⟨1, _⟩ => ⟨S512x32, .f32⟩
  | .local _ .vmem, ⟨2, _⟩ => ⟨S512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024x2048, .bf16⟩
  | .local _ .vmem, ⟨6, _⟩ => ⟨S1x1024x2048, .bf16⟩
  | .local _ .vmem, ⟨7, _⟩ => ⟨S1x1x2048, .f32⟩
  | .local _ .vmem, ⟨8, _⟩ => ⟨S1x1x2048, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S512x1024, .f32⟩
  | .local _ .vmem, ⟨14, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v54 : BitVec 1 := Scalar.cmpi .eq arg1 c31_i32
  let v55 : BitVec 32 := Scalar.extui v54
  let c0_i32_30 : BitVec 32 := 0#32
  let v56 : BitVec 1 := Scalar.cmpi .ne v55 c0_i32_30
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== MoeSReferenceIdeal.lean ====
abbrev S512x1024 : Shape := ⟨2, ![512, 1024]⟩
abbrev S512x32 : Shape := ⟨2, ![512, 32]⟩
abbrev S16x1x1024 : Shape := ⟨3, ![16, 1, 1024]⟩
abbrev S1024 : Shape := ⟨1, ![1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x2048x512 : Shape := ⟨3, ![32, 2048, 512]⟩
abbrev S32x512x2048 : Shape := ⟨3, ![32, 512, 2048]⟩
abbrev S32x1x2048 : Shape := ⟨3, ![32, 1, 2048]⟩
abbrev S32x512x1024 : Shape := ⟨3, ![32, 512, 1024]⟩
abbrev S_ : Shape := ⟨0, ![]⟩
abbrev S32x1x1024 : Shape := ⟨3, ![32, 1, 1024]⟩
abbrev S512 : Shape := ⟨1, ![512]⟩
abbrev S512x1 : Shape := ⟨2, ![512, 1]⟩
abbrev S1x1024 : Shape := ⟨2, ![1, 1024]⟩
abbrev S16x32x1024 : Shape := ⟨3, ![16, 32, 1024]⟩

abbrev nBuf : Space → Nat
  | .hbm => 70
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x32, .f32⟩
  | .hbm, ⟨2, _⟩ => ⟨S512x1024, .f32⟩
  | .hbm, ⟨3, _⟩ => ⟨S16x1x1024, .f32⟩
  | .hbm, ⟨4, _⟩ => ⟨S1024, .f32⟩
  | .hbm, ⟨5, _⟩ => ⟨S32x1024x2048, .f32⟩
  | .hbm, ⟨6, _⟩ => ⟨S32x2048, .f32⟩
  | .hbm, ⟨7, _⟩ => ⟨S32x1024x1024, .f32⟩
  | .hbm, ⟨8, _⟩ => ⟨S32x1024, .f32⟩
  | .hbm, ⟨9, _⟩ => ⟨S32x2048x512, .f32⟩
  | .hbm, ⟨10, _⟩ => ⟨S32x512x2048, .f32⟩
  | .hbm, ⟨11, _⟩ => ⟨S32x1x2048, .f32⟩
  | .hbm, ⟨12, _⟩ => ⟨S32x512x2048, .f32⟩
  | .hbm, ⟨13, _⟩ => ⟨S32x512x2048, .f32⟩
  | .hbm, ⟨14, _⟩ => ⟨S32x512x1024, .f32⟩
  | .hbm, ⟨15, _⟩ => ⟨S_, .f32⟩
  | .hbm, ⟨16, _⟩ => ⟨S32x512x1024, .f32⟩
  | .hbm, ⟨17, _⟩ => ⟨S32x512x1024, .f32⟩
  | .hbm, ⟨18, _⟩ => ⟨S32x512x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32x512x1024, .f32⟩
  | .hbm, ⟨23, _⟩ => ⟨S32x512x1024, .f32⟩
  | .hbm, ⟨24, _⟩ => ⟨S_, .f32⟩
  | .hbm, ⟨25, _⟩ => ⟨S32x512x1024, .f32⟩
  | .hbm, ⟨26, _⟩ => ⟨S32x512x1024, .f32⟩
  | .hbm, ⟨27, _⟩ => ⟨S_, .f32⟩
  | .hbm, ⟨28, _⟩ => ⟨S32x512x1024, .f32⟩
  | .hbm, ⟨29, _⟩ => ⟨S32x512x1024, .f32⟩
  | .hbm, ⟨30, _⟩ => ⟨S32x512x1024, .f32⟩
  | .hbm, ⟨31, _⟩ => ⟨S32x512x1024, .f32⟩
  | .hbm, ⟨32, _⟩ => ⟨S_, .f32⟩
  | .hbm, ⟨33, _⟩ => ⟨S32x512x1024, .f32⟩
  | .hbm, ⟨34, _⟩ => ⟨S32x512x1024, .f32⟩
  | .hbm, ⟨35, _⟩ => ⟨S_, .f32⟩
  | .hbm, ⟨36, _⟩ => ⟨S32x512x1024, .f32⟩
  | .hbm, ⟨37, _⟩ => ⟨S32x512x1024, .f32⟩
  | .hbm, ⟨38, _⟩ => ⟨S32x512x1024, .f32⟩
  | .hbm, ⟨39, _⟩ => ⟨S_, .f32⟩
  | .hbm, ⟨40, _⟩ => ⟨S32x512x1024, .f32⟩
  | .hbm, ⟨41, _⟩ => ⟨S32x512x1024, .f32⟩
  | .hbm, ⟨42, _⟩ => ⟨S32x512x1024, .f32⟩
  | .hbm, ⟨43, _⟩ => ⟨S32x512x1024, .f32⟩
  | .hbm, ⟨44, _⟩ => ⟨S32x1x1024, .f32⟩
  | .hbm, ⟨45, _⟩ => ⟨S32x512x1024, .f32⟩
  | .hbm, ⟨46, _⟩ => ⟨S32x512x1024, .f32⟩
  | .hbm, ⟨47, _⟩ => ⟨S512x1024, .f32⟩
  | .hbm, ⟨48, _⟩ => ⟨S512x1024, .f32⟩
  | .hbm, ⟨49, _⟩ => ⟨S_, .f32⟩
  | .hbm, ⟨50, _⟩ => ⟨S512, .f32⟩
  | .hbm, ⟨51, _⟩ => ⟨S512x1, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S_, .f32⟩
  | .hbm, ⟨56, _⟩ => ⟨S512x1, .f32⟩
  | .hbm, ⟨57, _⟩ => ⟨S512x1, .f32⟩
  | .hbm, ⟨58, _⟩ => ⟨S512x1, .f32⟩
  | .hbm, ⟨59, _⟩ => ⟨S512x1024, .f32⟩
  | .hbm, ⟨60, _⟩ => ⟨S512x1024, .f32⟩
  | .hbm, ⟨61, _⟩ => ⟨S1x1024, .f32⟩
  | .hbm, ⟨62, _⟩ => ⟨S512x1024, .f32⟩
  | .hbm, ⟨63, _⟩ => ⟨S512x1024, .f32⟩
  | .hbm, ⟨64, _⟩ => ⟨S16x32x1024, .f32⟩
  | .hbm, ⟨65, _⟩ => ⟨S16x32x1024, .f32⟩
  | .hbm, ⟨66, _⟩ => ⟨S16x32x1024, .f32⟩
  | .hbm, ⟨67, _⟩ => ⟨S16x32x1024, .f32⟩
  | .hbm, ⟨68, _⟩ => ⟨S16x32x1024, .f32⟩
  | .hbm, ⟨69, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Scan.lean ====
abbrev S2x8x64x192x64 : Shape := ⟨5, ![2, 8, 64, 192, 64]⟩
abbrev S2x8x64x192x128 : Shape := ⟨5, ![2, 8, 64, 192, 128]⟩
abbrev S_ : Shape := ⟨0, ![]⟩
abbrev S2x8x64x64 : Shape := ⟨4, ![2, 8, 64, 64]⟩
abbrev S2x8x64x128 : Shape := ⟨4, ![2, 8, 64, 128]⟩
abbrev S2x8192x1024 : Shape := ⟨3, ![2, 8192, 1024]⟩
abbrev S1x8x2x192x64 : Shape := ⟨5, ![1, 8, 2, 192, 64]⟩
abbrev S1x8x2x192x128 : Shape := ⟨5, ![1, 8, 2, 192, 128]⟩
abbrev S1x8x64x128 : Shape := ⟨4, ![1, 8, 64, 128]⟩
abbrev S1x256x1024 : Shape := ⟨3, ![1, 256, 1024]⟩
abbrev S8x64x128 : Shape := ⟨3, ![8, 64, 128]⟩
abbrev S1x1x1x192x64 : Shape := ⟨5, ![1, 1, 1, 192, 64]⟩
abbrev S192x64 : Shape := ⟨2, ![192, 64]⟩
abbrev S1x64x128 : Shape := ⟨3, ![1, 64, 128]⟩
abbrev S64x128 : Shape := ⟨2, ![64, 128]⟩
abbrev S192x128 : Shape := ⟨2, ![192, 128]⟩
abbrev S1x1x1x192x128 : Shape := ⟨5, ![1, 1, 1, 192, 128]⟩
abbrev S128x128 : Shape := ⟨2, ![128, 128]⟩
abbrev S1x128x128 : Shape := ⟨3, ![1, 128, 128]⟩

abbrev nBuf : Space → Nat
  | .hbm => 12
  | .vmem => 11
  | .smem => 0
  | _ => 0

abbrev bufTy : (tb : Table) → Fin (tcTables nBuf tb) → BufTy
  | .hbm, ⟨0, _⟩ => ⟨S2x8x64x192x64, .f32⟩
  | .hbm, ⟨1, _⟩ => ⟨S2x8x64x192x128, .f32⟩
  | .hbm, ⟨2, _⟩ => ⟨S_, .f32⟩
  | .hbm, ⟨3, _⟩ => ⟨S2x8x64x64, .f32⟩
  | .hbm, ⟨4, _⟩ => ⟨S2x8x64x64, .f32⟩
  | .hbm, ⟨5, _⟩ => ⟨S_, .i32⟩
  | .hbm, ⟨6, _⟩ => ⟨S_, .f32⟩
  | .hbm, ⟨7, _⟩ => ⟨S2x8x64x128, .f32⟩
  | .hbm, ⟨8, _⟩ => ⟨S2x8192x1024, .f32⟩
  | .hbm, ⟨9, _⟩ => ⟨S2x8x64x128, .f32⟩
  | .hbm, ⟨10, _⟩ => ⟨S2x8x64x64, .f32⟩
  | .hbm, ⟨11, _⟩ => ⟨S2x8x64x64, .f32⟩
  | .local _ .vmem, ⟨0, _⟩ => ⟨S1x8x2x192x64, .f32⟩
  | .local _ .vmem, ⟨1, _⟩ => ⟨S1x8x2x192x64, .f32⟩
  | .local _ .vmem, ⟨2, _⟩ => ⟨S1x8x2x192x128, .f32⟩
  | .local _ .vmem, ⟨3, _⟩ => ⟨S1x8x2x192x128, .f32⟩
  | .local _ .vmem, ⟨4, _⟩ => ⟨S1x8x64x128, .f32⟩
  | .local _ .vmem, ⟨5, _⟩ => ⟨S1x8x64x128, .f32⟩
  | .local _ .vmem, ⟨6, _⟩ => ⟨S1x256x1024, .f32⟩
  | .local _ .vmem, ⟨7, _⟩ => ⟨S1x256x1024, .f32⟩
  | .local _ .vmem, ⟨8, _⟩ => ⟨S1x8x64x128, .f32⟩
  | .local _ .vmem, ⟨9, _⟩ => ⟨S1x8x64x128, .f32⟩
  | .local _ .vmem, ⟨10, _⟩ => ⟨S8x64x128, .f32⟩
  | _, _ => ⟨S2x8x64x192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v259 : BitVec 1 := Scalar.cmpi .eq arg1 c31_i32
  let v260 : BitVec 32 := Scalar.extui v259
  let c0_i32_305 : BitVec 32 := 0#32
  let v261 : BitVec 1 := Scalar.cmpi .ne v260 c0_i32_305
  v261

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x2x192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2x192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ScanReferenceIdeal.lean ====
abbrev S2x8x64x192x64 : Shape := ⟨5, ![2, 8, 64, 192, 64]⟩
abbrev S2x8x64x192x128 : Shape := ⟨5, ![2, 8, 64, 192, 128]⟩
abbrev S_ : Shape := ⟨0, ![]⟩
abbrev S2x8x64x64 : Shape := ⟨4, ![2, 8, 64, 64]⟩
abbrev S64x2x8x192x64 : Shape := ⟨5, ![64, 2, 8, 192, 64]⟩
abbrev S64x2x8x192x128 : Shape := ⟨5, ![64, 2, 8, 192, 128]⟩
abbrev S1x2x8x192x64 : Shape := ⟨5, ![1, 2, 8, 192, 64]⟩
abbrev S2x8x192x64 : Shape := ⟨4, ![2, 8, 192, 64]⟩
abbrev S1x2x8x192x128 : Shape := ⟨5, ![1, 2, 8, 192, 128]⟩
abbrev S2x8x192x128 : Shape := ⟨4, ![2, 8, 192, 128]⟩

abbrev nBuf : Space → Nat
  | .hbm => 32
  | .vmem => 0
  | .smem => 0
  | _ => 0

abbrev bufTy : (tb : Table) → Fin (tcTables nBuf tb) → BufTy
  | .hbm, ⟨0, _⟩ => ⟨S2x8x64x192x64, .f32⟩
  | .hbm, ⟨1, _⟩ => ⟨S2x8x64x192x128, .f32⟩
  | .hbm, ⟨2, _⟩ => ⟨S_, .f32⟩
  | .hbm, ⟨3, _⟩ => ⟨S2x8x64x64, .f32⟩
  | .hbm, ⟨4, _⟩ => ⟨S64x2x8x192x64, .f32⟩
  | .hbm, ⟨5, _⟩ => ⟨S64x2x8x192x128, .f32⟩
  | .hbm, ⟨6, _⟩ => ⟨S_, .i32⟩
  | .hbm, ⟨7, _⟩ => ⟨S64x2x8x192x64, .f32⟩
  | .hbm, ⟨8, _⟩ => ⟨S64x2x8x192x128, .f32⟩
  | .hbm, ⟨9, _⟩ => ⟨S_, .i32⟩
  | .hbm, ⟨10, _⟩ => ⟨S2x8x64x64, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1x2x8x192x64, .f32⟩
  | .hbm, ⟨18, _⟩ => ⟨S2x8x192x64, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x2x8x192x128, .f32⟩
  | .hbm, ⟨24, _⟩ => ⟨S2x8x192x128, .f32⟩
  | .hbm, ⟨25, _⟩ => ⟨S2x8x64x64, .f32⟩
  | .hbm, ⟨26, _⟩ => ⟨S2x8x64x64, .f32⟩
  | .hbm, ⟨27, _⟩ => ⟨S2x8x64x64, .f32⟩
  | .hbm, ⟨28, _⟩ => ⟨S2x8x64x64, .f32⟩
  | .hbm, ⟨29, _⟩ => ⟨S_, .i32⟩
  | .hbm, ⟨30, _⟩ => ⟨S_, .i32⟩
  | .hbm, ⟨31, _⟩ => ⟨S2x8x64x64, .f32⟩
  | _, _ => ⟨S2x8x64x192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_3 : Ref sig .tc := ⟨.hbm, 11, rfl⟩
abbrev main_while0c_v5 : Ref sig .tc := ⟨.hbm, 12, rfl⟩
abbrev main_while0b_call0_c : Ref sig .tc := ⟨.hbm, 13, rfl⟩
abbrev main_while0b_call0_c_0 : Ref sig .tc := ⟨.hbm, 14, rfl⟩
abbrev main_while0b_call0_c_1 : Ref sig .tc := ⟨.hbm, 15, rfl⟩
abbrev main_while0b_call0_c_2 : Ref sig .tc := ⟨.hbm, 16, rfl⟩
abbrev main_while0b_call0_v0 : Ref sig .tc := ⟨.hbm, 17, rfl⟩
abbrev main_while0b_v5 : Ref sig .tc := ⟨.hbm, 18, rfl⟩
abbrev main_while0b_call1_c : Ref sig .tc := ⟨.hbm, 19, rfl⟩
abbrev main_while0b_call1_c_0 : Ref sig .tc := ⟨.hbm, 20, rfl⟩
abbrev main_while0b_call1_c_1 : Ref sig .tc := ⟨.hbm, 21, rfl⟩
abbrev main_while0b_call1_c_2 : Ref sig .tc := ⟨.hbm, 22, rfl⟩
abbrev main_while0b_call1_v0 : Ref sig .tc := ⟨.hbm, 23, rfl⟩
abbrev main_while0b_v6 : Ref sig .tc := ⟨.hbm, 24, rfl⟩
abbrev main_while0b_v7 : Ref sig .tc := ⟨.hbm, 25, rfl⟩
abbrev main_while0b_v8 : Ref sig .tc := ⟨.hbm, 26, rfl⟩
abbrev main_while0b_v9 : Ref sig .tc := ⟨.hbm, 27, rfl⟩
abbrev main_while0b_v10 : Ref sig .tc := ⟨.hbm, 28, rfl⟩
abbrev main_while0b_c_3 : Ref sig .tc := ⟨.hbm, 29, rfl⟩
abbrev main_while0b_v11 : Ref sig .tc := ⟨.hbm, 30, rfl⟩
abbrev main_v4 : Ref sig .tc := ⟨.hbm, 31, rfl⟩

abbrev nD : Nat := 1
abbrev τ : Topo := Topo.v7x

variable {F : FTy → Type} [FloatOps F]

abbrev main_while0_count : Scf.Loop 32 := ⟨0#32, 64#32, 1#32⟩
-- ==== ScanS.lean ====
abbrev S16x8x1x192x64 : Shape := ⟨5, ![16, 8, 1, 192, 64]⟩
abbrev S16x8x1x192x128 : Shape := ⟨5, ![16, 8, 1, 192, 128]⟩
abbrev S16x8x64x64 : Shape := ⟨4, ![16, 8, 64, 64]⟩
abbrev S_ : Shape := ⟨0, ![]⟩
abbrev S16x8x64x128 : Shape := ⟨4, ![16, 8, 64, 128]⟩
abbrev S16x128x1024 : Shape := ⟨3, ![16, 128, 1024]⟩
abbrev S1x8x1x192x64 : Shape := ⟨5, ![1, 8, 1, 192, 64]⟩
abbrev S1x8x1x192x128 : Shape := ⟨5, ![1, 8, 1, 192, 128]⟩
abbrev S1x8x64x128 : Shape := ⟨4, ![1, 8, 64, 128]⟩
abbrev S1x128x1024 : Shape := ⟨3, ![1, 128, 1024]⟩
abbrev S8x64x128 : Shape := ⟨3, ![8, 64, 128]⟩
abbrev S1x1x1x192x64 : Shape := ⟨5, ![1, 1, 1, 192, 64]⟩
abbrev S192x64 : Shape := ⟨2, ![192, 64]⟩
abbrev S1x64x128 : Shape := ⟨3, ![1, 64, 128]⟩
abbrev S64x128 : Shape := ⟨2, ![64, 128]⟩
abbrev S192x128 : Shape := ⟨2, ![192, 128]⟩
abbrev S1x1x1x192x128 : Shape := ⟨5, ![1, 1, 1, 192, 128]⟩
abbrev S128x128 : Shape := ⟨2, ![128, 128]⟩
abbrev S1x128x128 : Shape := ⟨3, ![1, 128, 128]⟩

abbrev nBuf : Space → Nat
  | .hbm => 11
  | .vmem => 11
  | .smem => 0
  | _ => 0

abbrev bufTy : (tb : Table) → Fin (tcTables nBuf tb) → BufTy
  | .hbm, ⟨0, _⟩ => ⟨S16x8x1x192x64, .f32⟩
  | .hbm, ⟨1, _⟩ => ⟨S16x8x1x192x128, .f32⟩
  | .hbm, ⟨2, _⟩ => ⟨S16x8x64x64, .f32⟩
  | .hbm, ⟨3, _⟩ => ⟨S16x8x64x64, .f32⟩
  | .hbm, ⟨4, _⟩ => ⟨S_, .i32⟩
  | .hbm, ⟨5, _⟩ => ⟨S_, .f32⟩
  | .hbm, ⟨6, _⟩ => ⟨S16x8x64x128, .f32⟩
  | .hbm, ⟨7, _⟩ => ⟨S16x128x1024, .f32⟩
  | .hbm, ⟨8, _⟩ => ⟨S16x8x64x128, .f32⟩
  | .hbm, ⟨9, _⟩ => ⟨S16x8x64x64, .f32⟩
  | .hbm, ⟨10, _⟩ => ⟨S16x8x64x64, .f32⟩
  | .local _ .vmem, ⟨0, _⟩ => ⟨S1x8x1x192x64, .f32⟩
  | .local _ .vmem, ⟨1, _⟩ => ⟨S1x8x1x192x64, .f32⟩
  | .local _ .vmem, ⟨2, _⟩ => ⟨S1x8x1x192x128, .f32⟩
  | .local _ .vmem, ⟨3, _⟩ => ⟨S1x8x1x192x128, .f32⟩
  | .local _ .vmem, ⟨4, _⟩ => ⟨S1x8x64x128, .f32⟩
  | .local _ .vmem, ⟨5, _⟩ => ⟨S1x8x64x128, .f32⟩
  | .local _ .vmem, ⟨6, _⟩ => ⟨S1x128x1024, .f32⟩
  | .local _ .vmem, ⟨7, _⟩ => ⟨S1x128x1024, .f32⟩
  | .local _ .vmem, ⟨8, _⟩ => ⟨S1x8x64x128, .f32⟩
  | .local _ .vmem, ⟨9, _⟩ => ⟨S1x8x64x128, .f32⟩
  | .local _ .vmem, ⟨10, _⟩ => ⟨S8x64x128, .f32⟩
  | _, _ => ⟨S16x8x1x192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_145 : BitVec 32 := 0#32
  let v131 : BitVec 1 := Scalar.cmpi .eq arg1 c0_i32_145
  let v132 : BitVec 32 := Scalar.extui v131
  let c0_i32_146 : BitVec 32 := 0#32
  let v133 : BitVec 1 := Scalar.cmpi .ne v132 c0_i32_146
  v133

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1x192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1x192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ScanSReferenceIdeal.lean ====
abbrev S16x8x1x192x64 : Shape := ⟨5, ![16, 8, 1, 192, 64]⟩
abbrev S16x8x1x192x128 : Shape := ⟨5, ![16, 8, 1, 192, 128]⟩
abbrev S16x8x64x64 : Shape := ⟨4, ![16, 8, 64, 64]⟩
abbrev S16x8x192x64 : Shape := ⟨4, ![16, 8, 192, 64]⟩
abbrev S16x8x192x128 : Shape := ⟨4, ![16, 8, 192, 128]⟩

abbrev nBuf : Space → Nat
  | .hbm => 11
  | .vmem => 0
  | .smem => 0
  | _ => 0

abbrev bufTy : (tb : Table) → Fin (tcTables nBuf tb) → BufTy
  | .hbm, ⟨0, _⟩ => ⟨S16x8x1x192x64, .f32⟩
  | .hbm, ⟨1, _⟩ => ⟨S16x8x1x192x128, .f32⟩
  | .hbm, ⟨2, _⟩ => ⟨S16x8x64x64, .f32⟩
  | .hbm, ⟨3, _⟩ => ⟨S16x8x64x64, .f32⟩
  | .hbm, ⟨4, _⟩ => ⟨S16x8x192x64, .f32⟩
  | .hbm, ⟨5, _⟩ => ⟨S16x8x192x128, .f32⟩
  | .hbm, ⟨6, _⟩ => ⟨S16x8x64x64, .f32⟩
  | .hbm, ⟨7, _⟩ => ⟨S16x8x64x64, .f32⟩
  | .hbm, ⟨8, _⟩ => ⟨S16x8x64x64, .f32⟩
  | .hbm, ⟨9, _⟩ => ⟨S16x8x64x64, .f32⟩
  | .hbm, ⟨10, _⟩ => ⟨S16x8x64x64, .f32⟩
  | _, _ => ⟨S16x8x1x192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Mix.lean ====
abbrev S2x8x8192x128 : Shape := ⟨4, ![2, 8, 8192, 128]⟩
abbrev S2x8192x8x64 : Shape := ⟨4, ![2, 8192, 8, 64]⟩
abbrev S2x8192x1024 : Shape := ⟨3, ![2, 8192, 1024]⟩
abbrev S2x1x1024 : Shape := ⟨3, ![2, 1, 1024]⟩
abbrev S512x1024 : Shape := ⟨2, ![512, 1024]⟩
abbrev S1024x1024 : Shape := ⟨2, ![1024, 1024]⟩
abbrev S512 : Shape := ⟨1, ![512]⟩
abbrev S1024 : Shape := ⟨1, ![1024]⟩
abbrev S1024x32 : Shape := ⟨2, ![1024, 32]⟩
abbrev S32 : Shape := ⟨1, ![32]⟩
abbrev S1024x1 : Shape := ⟨2, ![1024, 1]⟩
abbrev S_ : Shape := ⟨0, ![]⟩
abbrev S1 : Shape := ⟨1, ![1]⟩
abbrev S1x1 : Shape := ⟨2, ![1, 1]⟩
abbrev S1x512 : Shape := ⟨2, ![1, 512]⟩
abbrev S1x1024 : Shape := ⟨2, ![1, 1024]⟩
abbrev S1x32 : Shape := ⟨2, ![1, 32]⟩
abbrev S2x8192x8x128 : Shape := ⟨4, ![2, 8192, 8, 128]⟩
abbrev S2x8192x32 : Shape := ⟨3, ![2, 8192, 32]⟩
abbrev S1x8x256x128 : Shape := ⟨4, ![1, 8, 256, 128]⟩
abbrev S1x256x1024 : Shape := ⟨3, ![1, 256, 1024]⟩
abbrev S1x1x1024 : Shape := ⟨3, ![1, 1, 1024]⟩
abbrev S1x256x32 : Shape := ⟨3, ![1, 256, 32]⟩
abbrev S1x1x256x128 : Shape := ⟨4, ![1, 1, 256, 128]⟩
abbrev S256x128 : Shape := ⟨2, ![256, 128]⟩
abbrev S256x1024 : Shape := ⟨2, ![256, 1024]⟩
abbrev S1x256x128 : Shape := ⟨3, ![1, 256, 128]⟩
abbrev S256 : Shape := ⟨1, ![256]⟩
abbrev S256x1 : Shape := ⟨2, ![256, 1]⟩
abbrev S256x32 : Shape := ⟨2, ![256, 32]⟩

abbrev nBuf : Space → Nat
  | .hbm => 152
  | .vmem => 35
  | .smem => 0
  | _ => 0

abbrev hbmTy0_0 (i : Nat) : BufTy := match i % 128 with
  | 0 => ⟨S2x8x8192x128, .bf16⟩
  | 1 => ⟨S2x8192x8x64, .f32⟩
  | 2 => ⟨S2x8192x1024, .f32⟩
  | 3 => ⟨S2x8192x1024, .f32⟩
  | 4 => ⟨S2x8192x1024, .f32⟩
  | 5 => ⟨S2x8192x1024, .f32⟩
  | 6 => ⟨S2x8192x1024, .f32⟩
  | 7 => ⟨S2x1x1024, .f32⟩
  | 8 => ⟨S2x1x1024, .f32⟩
  | 9 => ⟨S2x1x1024, .f32⟩
  | 10 => ⟨S512x1024, .f32⟩
  | 11 => ⟨S512x1024, .f32⟩
  | 12 => ⟨S1024x1024, .f32⟩
  | 13 => ⟨S512, .f32⟩
  | 14 => ⟨S512, .f32⟩
  | 15 => ⟨S1024, .f32⟩
  | 16 => ⟨S1024, .f32⟩
  | 17 => ⟨S1024x32, .f32⟩
  | 18 => ⟨S32, .f32⟩
  | 19 => ⟨S1024, .i1⟩
  | 20 => ⟨S1024, .i32⟩
  | 21 => ⟨S1024, .i1⟩
  | 22 => ⟨S1024, .i32⟩
  | 23 => ⟨S1024x1, .i1⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S1, .i32⟩
  | 33 => ⟨S_, .i32⟩
  | 34 => ⟨S1024x1, .i32⟩
  | 35 => ⟨S1024x1, .i1⟩
  | 36 => ⟨S1x1, .i32⟩
  | 37 => ⟨S1024x1, .i32⟩
  | 38 => ⟨S1024x1, .i1⟩
  | 39 => ⟨S1024x1, .i1⟩
  | 40 => ⟨S_, .i1⟩
  | 41 => ⟨S1024, .i1⟩
  | 42 => ⟨S1024x1024, .f32⟩
  | 43 => ⟨S1024x1024, .i1⟩
  | 44 => ⟨S_, .f32⟩
  | 45 => ⟨S1024x1024, .f32⟩
  | 46 => ⟨S1024x1024, .f32⟩
  | 47 => ⟨S_, .f32⟩
  | 48 => ⟨S_, .f32⟩
  | 49 => ⟨S1024x1024, .i1⟩
  | 50 => ⟨S1024x1024, .f32⟩
  | 51 => ⟨S1024x1024, .f32⟩
  | 52 => ⟨S1024x1024, .bf16⟩
  | 53 => ⟨S1024x1, .i1⟩
  | 54 => ⟨S_, .i32⟩
  | 55 => ⟨S1024, .i32⟩
  | 56 => ⟨S1024, .i1⟩
  | 57 => ⟨S_, .i32⟩
  | 58 => ⟨S1024, .i32⟩
  | 59 => ⟨S1024, .i32⟩
  | 60 => ⟨S1024, .i32⟩
  | 61 => ⟨S1024x1, .i32⟩
  | 62 => ⟨S1, .i32⟩
  | 63 => ⟨S_, .i32⟩
  | 64 => ⟨S1024x1, .i32⟩
  | 65 => ⟨S1024x1, .i1⟩
  | 66 => ⟨S1x1, .i32⟩
  | 67 => ⟨S1024x1, .i32⟩
  | 68 => ⟨S1024x1, .i1⟩
  | 69 => ⟨S1024x1, .i1⟩
  | 70 => ⟨S_, .i1⟩
  | 71 => ⟨S1024, .i1⟩
  | 72 => ⟨S1024x1024, .f32⟩
  | 73 => ⟨S1024x1024, .i1⟩
  | 74 => ⟨S_, .f32⟩
  | 75 => ⟨S1024x1024, .f32⟩
  | 76 => ⟨S1024x1024, .f32⟩
  | 77 => ⟨S_, .f32⟩
  | 78 => ⟨S_, .f32⟩
  | 79 => ⟨S1024x1024, .i1⟩
  | 80 => ⟨S1024x1024, .f32⟩
  | 81 => ⟨S1024x1024, .f32⟩
  | 82 => ⟨S1024x1024, .bf16⟩
  | 83 => ⟨S1024x1024, .bf16⟩
  | 84 => ⟨S1x512, .f32⟩
  | 85 => ⟨S1x1024, .i1⟩
  | 86 => ⟨S_, .i32⟩
  | 87 => ⟨S1024, .i32⟩
  | 88 => ⟨S1024, .i1⟩
  | 89 => ⟨S_, .i32⟩
  | 90 => ⟨S1024, .i32⟩
  | 91 => ⟨S1024, .i32⟩
  | 92 => ⟨S1024, .i32⟩
  | 93 => ⟨S1024x1, .i32⟩
  | 94 => ⟨S1, .i32⟩
  | 95 => ⟨S_, .i32⟩
  | 96 => ⟨S1024x1, .i32⟩
  | 97 => ⟨S1024x1, .i1⟩
  | 98 => ⟨S1x1, .i32⟩
  | 99 => ⟨S1024x1, .i32⟩
  | 100 => ⟨S1024x1, .i1⟩
  | 101 => ⟨S1024x1, .i1⟩
  | 102 => ⟨S_, .i1⟩
  | 103 => ⟨S1024, .i1⟩
  | 104 => ⟨S1x1024, .f32⟩
  | 105 => ⟨S1x1024, .i1⟩
  | 106 => ⟨S_, .f32⟩
  | 107 => ⟨S1x1024, .f32⟩
  | 108 => ⟨S1x1024, .f32⟩
  | 109 => ⟨S_, .f32⟩
  | 110 => ⟨S_, .f32⟩
  | 111 => ⟨S1x1024, .f32⟩
  | 112 => ⟨S1x1024, .f32⟩
  | 113 => ⟨S1x512, .f32⟩
  | 114 => ⟨S1x1024, .i1⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S1, .i32⟩
  | 124 => ⟨S_, .i32⟩
  | 125 => ⟨S1024x1, .i32⟩
  | 126 => ⟨S1024x1, .i1⟩
  | 127 => ⟨S1x1, .i32⟩
  | _ => ⟨S2x8x8192x128, .bf16⟩

abbrev hbmTy0_1 (i : Nat) : BufTy := match i % 128 with
  | 0 => ⟨S1024x1, .i32⟩
  | 1 => ⟨S1024x1, .i1⟩
  | 2 => ⟨S1024x1, .i1⟩
  | 3 => ⟨S_, .i1⟩
  | 4 => ⟨S1024, .i1⟩
  | 5 => ⟨S1x1024, .f32⟩
  | 6 => ⟨S1x1024, .i1⟩
  | 7 => ⟨S_, .f32⟩
  | 8 => ⟨S1x1024, .f32⟩
  | 9 => ⟨S1x1024, .f32⟩
  | 10 => ⟨S_, .f32⟩
  | 11 => ⟨S_, .f32⟩
  | 12 => ⟨S1x1024, .f32⟩
  | 13 => ⟨S1x1024, .f32⟩
  | 14 => ⟨S1x1024, .f32⟩
  | 15 => ⟨S1x1024, .f32⟩
  | 16 => ⟨S1x32, .f32⟩
  | 17 => ⟨S_, .i32⟩
  | 18 => ⟨S_, .f32⟩
  | 19 => ⟨S2x8192x8x128, .f32⟩
  | 20 => ⟨S2x8192x1024, .f32⟩
  | 21 => ⟨S2x8192x1024, .f32⟩
  | 22 => ⟨S2x8192x1024, .bf16⟩
  | 23 => ⟨S2x8192x32, .f32⟩
  | _ => ⟨S2x8x8192x128, .bf16⟩

abbrev hbmTy (i : Nat) : BufTy := match i / 128 with
  | 0 => hbmTy0_0 i
  | 1 => hbmTy0_1 i
  | _ => ⟨S2x8x8192x128, .bf16⟩

abbrev bufTy : (tb : Table) → Fin (tcTables nBuf tb) → BufTy
  | .hbm, ⟨i, _⟩ => hbmTy i
  | .local _ .vmem, ⟨0, _⟩ => ⟨S1x8x256x128, .bf16⟩
  | .local _ .vmem, ⟨1, _⟩ => ⟨S1x8x256x128, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1024x32, .f32⟩
  | .local _ .vmem, ⟨28, _⟩ => ⟨S1x32, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .bf16⟩
  | .local _ .vmem, ⟨32, _⟩ => ⟨S1x256x1024, .bf16⟩
  | .local _ .vmem, ⟨33, _⟩ => ⟨S1x256x32, .f32⟩
  | .local _ .vmem, ⟨34, _⟩ => ⟨S1x256x32, .f32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_c_0 : Ref sig .tc := ⟨.hbm, 20, rfl⟩
abbrev main_c_1 : Ref sig .tc := ⟨.hbm, 21, rfl⟩
abbrev main_c_2 : Ref sig .tc := ⟨.hbm, 22, rfl⟩
abbrev main_v0 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v1 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v5 : Ref sig .tc := ⟨.hbm, 76, rfl⟩
abbrev main_cst_3 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v6 : Ref sig .tc := ⟨.hbm, 81, rfl⟩
abbrev main_v7 : Ref sig .tc := ⟨.hbm, 82, rfl⟩
abbrev main_v8 : Ref sig .tc := ⟨.hbm, 83, rfl⟩
abbrev main_v9 : Ref sig .tc := ⟨.hbm, 84, rfl⟩
abbrev main_v10 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_call4_cst : Ref sig .tc := ⟨.hbm, 106, rfl⟩
abbrev main_call4_v15 : Ref sig .tc := ⟨.hbm, 107, rfl⟩
abbrev main_v11 : Ref sig .tc := ⟨.hbm, 108, rfl⟩
abbrev main_cst_4 : Ref sig .tc := ⟨.hbm, 109, rfl⟩
abbrev main_call5_v0 : Ref sig .tc := ⟨.hbm, 110, rfl⟩
abbrev main_call5_v1 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_call6_c : Ref sig .tc := ⟨.hbm, 115, rfl⟩
abbrev main_call6_v0 : Ref sig .tc := ⟨.hbm, 116, rfl⟩
abbrev main_call6_v1 : Ref sig .tc := ⟨.hbm, 117, rfl⟩
abbrev main_call6_c_0 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_call6_v5 : Ref sig .tc := ⟨.hbm, 122, rfl⟩
abbrev main_call6_c_1 : Ref sig .tc := ⟨.hbm, 123, rfl⟩
abbrev main_call6_c_2 : Ref sig .tc := ⟨.hbm, 124, rfl⟩
abbrev main_call6_v6 : Ref sig .tc := ⟨.hbm, 125, rfl⟩
abbrev main_call6_v7 : Ref sig .tc := ⟨.hbm, 126, rfl⟩
abbrev main_call6_v8 : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_call6_c_3 : Ref sig .tc := ⟨.hbm, 131, rfl⟩
abbrev main_call6_v12 : Ref sig .tc := ⟨.hbm, 132, rfl⟩
abbrev main_call6_v13 : Ref sig .tc := ⟨.hbm, 133, rfl⟩
abbrev main_call6_v14 : Ref sig .tc := ⟨.hbm, 134, rfl⟩
abbrev main_call6_cst : Ref sig .tc := ⟨.hbm, 135, rfl⟩
abbrev main_call6_v15 : Ref sig .tc := ⟨.hbm, 136, rfl⟩
abbrev main_v15 : Ref sig .tc := ⟨.hbm, 137, rfl⟩
abbrev main_cst_5 : Ref sig .tc := ⟨.hbm, 138, rfl⟩
abbrev main_call7_v0 : Ref sig .tc := ⟨.hbm, 139, rfl⟩
abbrev main_call7_v1 : Ref sig .tc := ⟨.hbm, 140, rfl⟩
abbrev main_v16 : Ref sig .tc := ⟨.hbm, 141, rfl⟩
abbrev main_v17 : Ref sig .tc := ⟨.hbm, 142, rfl⟩
abbrev main_v18 : Ref sig .tc := ⟨.hbm, 143, rfl⟩
abbrev main_v19 : Ref sig .tc := ⟨.hbm, 144, rfl⟩
abbrev main_c_6 : Ref sig .tc := ⟨.hbm, 145, rfl⟩
abbrev main_call8_v0 : Ref sig .tc := ⟨.hbm, 146, rfl⟩
abbrev main_v20 : Ref sig .tc := ⟨.hbm, 147, rfl⟩
abbrev main_v21 : Ref sig .tc := ⟨.hbm, 148, rfl⟩
abbrev main_v22_0 : Ref sig .tc := ⟨.hbm, 149, rfl⟩
abbrev main_v22_1 : Ref sig .tc := ⟨.hbm, 150, rfl⟩
abbrev main_v22_2 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== MixReferenceIdeal.lean ====
abbrev S2x8x8192x128 : Shape := ⟨4, ![2, 8, 8192, 128]⟩
abbrev S2x8192x8x64 : Shape := ⟨4, ![2, 8192, 8, 64]⟩
abbrev S2x8192x1024 : Shape := ⟨3, ![2, 8192, 1024]⟩
abbrev S2x1x1024 : Shape := ⟨3, ![2, 1, 1024]⟩
abbrev S512x1024 : Shape := ⟨2, ![512, 1024]⟩
abbrev S1024x1024 : Shape := ⟨2, ![1024, 1024]⟩
abbrev S512 : Shape := ⟨1, ![512]⟩
abbrev S1024 : Shape := ⟨1, ![1024]⟩
abbrev S1024x32 : Shape := ⟨2, ![1024, 32]⟩
abbrev S32 : Shape := ⟨1, ![32]⟩
abbrev S2x4x8192x64 : Shape := ⟨4, ![2, 4, 8192, 64]⟩
abbrev S2x8x8192x64 : Shape := ⟨4, ![2, 8, 8192, 64]⟩
abbrev S2x8192x512 : Shape := ⟨3, ![2, 8192, 512]⟩
abbrev S_ : Shape := ⟨0, ![]⟩
abbrev S2x8192x8 : Shape := ⟨3, ![2, 8192, 8]⟩
abbrev S2x8192x8x1 : Shape := ⟨4, ![2, 8192, 8, 1]⟩
abbrev S1x1x512 : Shape := ⟨3, ![1, 1, 512]⟩
abbrev S2x8192x8x128 : Shape := ⟨4, ![2, 8192, 8, 128]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S2x8x8192x128, .bf16⟩
  | .hbm, ⟨1, _⟩ => ⟨S2x8192x8x64, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S2x8192x1024, .f32⟩
  | .hbm, ⟨6, _⟩ => ⟨S2x8192x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S512, .f32⟩
  | .hbm, ⟨14, _⟩ => ⟨S512, .f32⟩
  | .hbm, ⟨15, _⟩ => ⟨S1024, .f32⟩
  | .hbm, ⟨16, _⟩ => ⟨S1024, .f32⟩
  | .hbm, ⟨17, _⟩ => ⟨S1024x32, .f32⟩
  | .hbm, ⟨18, _⟩ => ⟨S32, .f32⟩
  | .hbm, ⟨19, _⟩ => ⟨S2x4x8192x64, .bf16⟩
  | .hbm, ⟨20, _⟩ => ⟨S2x4x8192x64, .bf16⟩
  | .hbm, ⟨21, _⟩ => ⟨S2x8x8192x64, .bf16⟩
  | .hbm, ⟨22, _⟩ => ⟨S2x8x8192x64, .f32⟩
  | .hbm, ⟨23, _⟩ => ⟨S2x8192x8x64, .f32⟩
  | .hbm, ⟨24, _⟩ => ⟨S2x8192x512, .f32⟩
  | .hbm, ⟨25, _⟩ => ⟨S_, .f32⟩
  | .hbm, ⟨26, _⟩ => ⟨S2x8192x8, .f32⟩
  | .hbm, ⟨27, _⟩ => ⟨S2x8192x8x1, .f32⟩
  | .hbm, ⟨28, _⟩ => ⟨S_, .f32⟩
  | .hbm, ⟨29, _⟩ => ⟨S2x8192x8x1, .f32⟩
  | .hbm, ⟨30, _⟩ => ⟨S2x8192x8x1, .f32⟩
  | .hbm, ⟨31, _⟩ => ⟨S2x8192x8x64, .f32⟩
  | .hbm, ⟨32, _⟩ => ⟨S2x8192x8x64, .f32⟩
  | .hbm, ⟨33, _⟩ => ⟨S2x8192x8x64, .f32⟩
  | .hbm, ⟨34, _⟩ => ⟨S_, .f32⟩
  | .hbm, ⟨35, _⟩ => ⟨S2x8192x8, .f32⟩
  | .hbm, ⟨36, _⟩ => ⟨S2x8192x8x1, .f32⟩
  | .hbm, ⟨37, _⟩ => ⟨S_, .f32⟩
  | .hbm, ⟨38, _⟩ => ⟨S2x8192x8x1, .f32⟩
  | .hbm, ⟨39, _⟩ => ⟨S2x8192x8x1, .f32⟩
  | .hbm, ⟨40, _⟩ => ⟨S2x8192x8x64, .f32⟩
  | .hbm, ⟨41, _⟩ => ⟨S2x8192x8x64, .f32⟩
  | .hbm, ⟨42, _⟩ => ⟨S_, .f32⟩
  | .hbm, ⟨43, _⟩ => ⟨S2x8192x8x1, .f32⟩
  | .hbm, ⟨44, _⟩ => ⟨S2x8192x8x1, .f32⟩
  | .hbm, ⟨45, _⟩ => ⟨S2x8192x8x1, .f32⟩
  | .hbm, ⟨46, _⟩ => ⟨S2x8192x8x64, .f32⟩
  | .hbm, ⟨47, _⟩ => ⟨S2x8192x8x64, .f32⟩
  | .hbm, ⟨48, _⟩ => ⟨S2x8192x512, .f32⟩
  | .hbm, ⟨49, _⟩ => ⟨S1x1x512, .f32⟩
  | .hbm, ⟨50, _⟩ => ⟨S2x8192x512, .f32⟩
  | .hbm, ⟨51, _⟩ => ⟨S2x8192x512, .f32⟩
  | .hbm, ⟨52, _⟩ => ⟨S1x1x512, .f32⟩
  | .hbm, ⟨53, _⟩ => ⟨S2x8192x512, .f32⟩
  | .hbm, ⟨54, _⟩ => ⟨S2x8192x512, .f32⟩
  | .hbm, ⟨55, _⟩ => ⟨S2x8192x8x128, .f32⟩
  | .hbm, ⟨56, _⟩ => ⟨S2x8192x8x64, .f32⟩
  | .hbm, ⟨57, _⟩ => ⟨S2x8192x512, .f32⟩
  | .hbm, ⟨58, _⟩ => ⟨S2x8192x512, .f32⟩
  | .hbm, ⟨59, _⟩ => ⟨S2x8192x8x128, .f32⟩
  | .hbm, ⟨60, _⟩ => ⟨S2x8192x8x64, .f32⟩
  | .hbm, ⟨61, _⟩ => ⟨S2x8192x512, .f32⟩
  | .hbm, ⟨62, _⟩ => ⟨S2x8192x512, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S_, .f32⟩
  | .hbm, ⟨71, _⟩ => ⟨S2x8192, .f32⟩
  | .hbm, ⟨72, _⟩ => ⟨S2x8192x1, .f32⟩
  | .hbm, ⟨73, _⟩ => ⟨S_, .f32⟩
  | .hbm, ⟨74, _⟩ => ⟨S2x8192x1, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S2x8192x1, .f32⟩
  | .hbm, ⟨80, _⟩ => ⟨S2x8192x1024, .f32⟩
  | .hbm, ⟨81, _⟩ => ⟨S2x8192x1024, .f32⟩
  | .hbm, ⟨82, _⟩ => ⟨S1x1x1024, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | .hbm, ⟨89, _⟩ => ⟨S_, .f32⟩
  | .hbm, ⟨90, _⟩ => ⟨S2x8192, .f32⟩
  | .hbm, ⟨91, _⟩ => ⟨S2x8192x1, .f32⟩
  | .hbm, ⟨92, _⟩ => ⟨S_, .f32⟩
  | .hbm, ⟨93, _⟩ => ⟨S2x8192x1, .f32⟩
  | .hbm, ⟨94, _⟩ => ⟨S2x8192x1, .f32⟩
  | .hbm, ⟨95, _⟩ => ⟨S_, .f32⟩
  | .hbm, ⟨96, _⟩ => ⟨S2x8192x1, .f32⟩
  | .hbm, ⟨97, _⟩ => ⟨S2x8192x1, .f32⟩
  | .hbm, ⟨98, _⟩ => ⟨S2x8192x1, .f32⟩
  | .hbm, ⟨99, _⟩ => ⟨S2x8192x1024, .f32⟩
  | .hbm, ⟨100, _⟩ => ⟨S2x8192x1024, .f32⟩
  | .hbm, ⟨101, _⟩ => ⟨S1x1x1024, .f32⟩
  | .hbm, ⟨102, _⟩ => ⟨S2x8192x1024, .f32⟩
  | .hbm, ⟨103, _⟩ => ⟨S2x8192x1024, .f32⟩
  | .hbm, ⟨104, _⟩ => ⟨S_, .f32⟩
  | .hbm, ⟨105, _⟩ => ⟨S2x1x1024, .f32⟩
  | .hbm, ⟨106, _⟩ => ⟨S2x1x1024, .f32⟩
  | .hbm, ⟨107, _⟩ => ⟨S2x8192x1024, .f32⟩
  | .hbm, ⟨108, _⟩ => ⟨S2x8192x1024, .f32⟩
  | .hbm, ⟨109, _⟩ => ⟨S2x8192x1024, .f32⟩
  | .hbm, ⟨110, _⟩ => ⟨S2x8192x1024, .f32⟩
  | .hbm, ⟨111, _⟩ => ⟨S2x8192x1024, .bf16⟩
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_v63 : Ref sig .tc := ⟨.hbm, 91, rfl⟩
abbrev main_cst_8 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_10 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== Proof.Moe.lean ====
module

public import proofs.«01_k».proof.Proof.Gen.MoeIdeal.Value
public import proofs.«01_k».proof.Proof.Gen.MoeReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The experts on the prompt: what the kernel writes is what the reference computes. -/

namespace Cert.Proof.Moe

open Idealize.ShloMosaic Idealize.SL.Sem
open Cert.MoeIdeal Cert.MoeIdeal.Gen

/-- The clamped gated unit of an expert: `a` is the gate half, `b` the linear half of the hidden row. -/
def unit (a b : EReal) : EReal :=
  min a (Ideal.ofBits FTy.f32 1088421888#32) *
      Ideal.div 1 (1 + Ideal.exp (Ideal.ofBits FTy.f32 3218725667#32 * min a (Ideal.ofBits FTy.f32 1088421888#32))) *
    (min (Ideal.ofBits FTy.f32 1088421888#32) (max (Ideal.ofBits FTy.f32 3235905536#32) b) + 1)

/-- The kernel's gate slope is the negated slope of the reference's logistic. -/
theorem gate_slope : Ideal.ofBits FTy.f32 3218725667#32 = -Ideal.ofBits FTy.f32 1071242019#32 := by
  have h₁ : Ideal.ofBits FTy.f32 3218725667#32 = ((-(14277411 / 8388608) : ℝ) : EReal) := by
    simp [Ideal.ofBits, Ideal.ieee, -EReal.coe_mul, -EReal.coe_neg]; norm_num
  have h₂ : Ideal.ofBits FTy.f32 1071242019#32 = ((14277411 / 8388608 : ℝ) : EReal) := by
    simp [Ideal.ofBits, Ideal.ieee, -EReal.coe_mul, -EReal.coe_neg]; norm_num
  rw [h₁, h₂, EReal.coe_neg]

/-- What one expert adds to the accumulator, read off its blocks. -/
def blockTerm (e : Fin 32) (x : Vec Ideal S1024x1024 .bf16) (g : Vec Ideal S1024x32 .f32)
    (wgu : Vec Ideal S1x1024x2048 .bf16) (bgu : Vec Ideal S1x1x2048 .f32) (wd : Vec Ideal S1x1024x1024 .bf16)
    (bd : Vec Ideal S1x1x1024 .f32) (r : Fin 1024) (l : Fin 1024) : EReal :=
  g (ix2 r e) * (∑ f : Fin 1024,
    unit (∑ k : Fin 1024, x (ix2 r k) * wgu (ix3 0 k ⟨f.val, by omega⟩) + bgu (ix3 0 0 ⟨f.val, by omega⟩))
        (∑ k : Fin 1024, x (ix2 r k) * wgu (ix3 0 k ⟨1024 + f.val, by omega⟩) + bgu (ix3 0 0 ⟨1024 + f.val, by omega⟩))
      * wd (ix3 0 f l) + bd (ix3 0 0 l))

/-- The product of an expert's activations with its second matrix. -/
theorem pay_mm (x : Vec Ideal S1024x1024 .bf16) (wgu : Vec Ideal S1x1024x2048 .bf16) (bgu : Vec Ideal S1x1x2048 .f32)
    (wd : Vec Ideal S1x1024x1024 .bf16) (r : Fin 1024) (l : Fin 1024) :
    k0_pay4 (F := Ideal) x wgu bgu wd (ix2 r l) = ∑ f : Fin 1024,
    unit (∑ k : Fin 1024, x (ix2 r k) * wgu (ix3 0 k ⟨f.val, by omega⟩) + bgu (ix3 0 0 ⟨f.val, by omega⟩))
        (∑ k : Fin 1024, x (ix2 r k) * wgu (ix3 0 k ⟨1024 + f.val, by omega⟩) + bgu (ix3 0 0 ⟨1024 + f.val, by omega⟩))
      * wd (ix3 0 f l) := by
  pointwise [k0_pay4]
  rfl

/-- What a grid point stores into the accumulator. -/
theorem pay_step (e : ℕ) (he : e < 32) (x : Vec Ideal S1024x1024 .bf16) (g : Vec Ideal S1024x32 .f32)
    (wgu : Vec Ideal S1x1024x2048 .bf16) (bgu : Vec Ideal S1x1x2048 .f32) (wd : Vec Ideal S1x1024x1024 .bf16)
    (bd : Vec Ideal S1x1x1024 .f32) (acc : Vec Ideal S1024x1024 .f32) (r : Fin 1024) (l : Fin 1024) :
    k0_pay1 (F := Ideal) (BitVec.ofNat 32 e) (k0_pay4 x wgu bgu wd) bd g acc (ix2 r l)
      = acc (ix2 r l) + blockTerm ⟨e, he⟩ x g wgu bgu wd bd r l := by
  unfold blockTerm
  rw [← pay_mm]
  generalize k0_pay4 (F := Ideal) x wgu bgu wd = p
  pointwise [k0_pay1]
  congr 2
  rw [Finset.sum_eq_single (⟨e, he⟩ : Fin 32)]
  · simp [IntOp.cmpi, Scalar.select]
  · intro b _ hb
    have : ¬ BitVec.ofNat 32 b.val = BitVec.ofNat 32 e := by
      intro h
      have h2 := congrArg BitVec.toNat h
      simp only [BitVec.toNat_ofNat] at h2
      have := b.isLt
      exact hb (Fin.ext (by simp only; omega))
    simp [IntOp.cmpi, Scalar.select, beq_eq_false_iff_ne.mpr this]
  · simp

/-- What the last point of a row block stores into the output block. -/
theorem pay_last (x1 : Vec Ideal S1024x1024 .f32) (g : Vec Ideal S1x1x1024 .f32)
    (acc : Vec Ideal S1024x1024 .f32) (gp : Vec Ideal S1x1024 .f32) (r : Fin 1024) (l : Fin 1024) :
    k0_pay2 (F := Ideal) x1 g acc gp (ix2 r l)
      = x1 (ix2 r l) + g (ix3 0 0 l) * (acc (ix2 r l) *
            Ideal.rsqrt (Ideal.div (∑ k : Fin 1024, acc (ix2 r k) * acc (ix2 r k)) (Ideal.ofBits FTy.f32 1149239296#32)
              + Ideal.ofBits FTy.f32 897988541#32) * gp (ix2 0 l)) := by
  pointwise [k0_pay2]

variable (m : (ℓ : Loc nD τ sig) → Buf (Elt Ideal) ℓ) (c : Dev nD)

theorem tile_lt (t : Fin cfg0.N) : t.val / 32 < 16 := by
  have := lt_of_lt_of_eq t.isLt (show cfg0.N = 512 from N_0)
  omega

/-- What grid point `t` (row block `t / 32`, expert `t % 32`) adds to the accumulator. -/
def term (t : Fin cfg0.N) (j : S1024x1024.Idx) : EReal :=
  blockTerm ⟨t.val % 32, Nat.mod_lt _ (by decide)⟩ (iblk m c 0 t) (iblk m c 1 t) (iblk m c 5 t) (iblk m c 6 t) (iblk m c 7 t)
    (iblk m c 8 t) (j 0) (j 1)

theorem coord (t : Fin cfg0.N) : (grid0.coords t 1).val = t.val % 32 := by
  revert t; decide +kernel

theorem pay_term (t : Fin cfg0.N) (acc : Vec Ideal S1024x1024 .f32) (j : S1024x1024.Idx) :
    k0_pay1 (F := Ideal) (BitVec.ofNat 32 ↑(grid0.coords t 1)) (k0_pay4 (iblk m c 0 t) (iblk m c 5 t) (iblk m c 6 t) (iblk m c 7 t))
        (iblk m c 8 t) (iblk m c 1 t) acc j = acc j + term m c t j := by
  rw [coord t]
  obtain ⟨a, b, rfl⟩ : ∃ (a : Fin 1024) (b : Fin 1024), j = ix2 a b := ⟨j 0, j 1, eq_ix2 j⟩
  exact pay_step (t.val % 32) (Nat.mod_lt _ (by decide)) _ _ _ _ _ _ acc a b

/-- The accumulator after the last point of a row block is the sum of the experts' addends. -/
theorem acc_last (t : Fin cfg0.N) (ht : t.val % 32 = 32 - 1) (j : S1024x1024.Idx) :
    (outsAt0 m c t.val t.isLt).2 j = ∑ s : Fin 32, term m c ⟨32 * (t.val / 32) + s.val, Pipeline.run_point_lt_of_flush t ht s⟩ j := by
  have h := Pipeline.eq_sum_fin_of_reset_step_apply_of_flush (fun n h => (outsAt0 m c n h).2) 32 (fun _ => (0 : EReal))
    (fun t j => term m c t j)
    (fun t h0 j => by
      show (outsAt0 m c t.val t.isLt).2 j = _
      rw [outsAt0_A m c t h0 (by omega)]
      frame_out
      rw [pay_term]
      congr 1
      pointwise [k0_pay3])
    (fun t h0 j => by
      show (outsAt0 m c t.val t.isLt).2 j = _
      by_cases h1 : t.val % 32 = 31
      · rw [outsAt0_C m c t h0 h1]
        frame_out
        rw [pay_term]
        simp only [read_unread_whole]
      · rw [outsAt0_B m c t h0 h1]
        frame_out
        rw [pay_term]
        simp only [read_unread_whole])
    t ht j
  simpa using h

theorem out_last (t : Fin cfg0.N) (h1 : t.val % 32 = 31) (y : S1024x1024.Idx) :
    (outsAt0 m c t.val t.isLt).1 y
      = k0_pay2 (F := Ideal) (iblk m c 2 t) (iblk m c 3 t) (outsAt0 m c t.val t.isLt).2 (iblk m c 4 t) y := by
  rw [outsAt0_C m c t (by omega) h1]
  frame_out

open Cert.MoeReferenceIdeal.Read in
/-- The reference's gated sum of the experts' outputs, at an index. -/
theorem ref (x0 x1 x5 x6 x7 x8) (r : Fin 16384) (l : Fin 1024) :
  val_main_v26 (F := Ideal) x0 x1 x5 x6 x7 x8 (ix2 r l) = ∑ e : Fin 32, x1 (ix2 r e) * (∑ f : Fin 1024,
          unit (∑ k : Fin 1024, x0 (ix2 r k) * x5 (ix3 e k ⟨f.val, by omega⟩) + x6 (ix2 e ⟨f.val, by omega⟩))
              (∑ k : Fin 1024, x0 (ix2 r k) * x5 (ix3 e k ⟨1024 + f.val, by omega⟩) + x6 (ix2 e ⟨1024 + f.val, by omega⟩))
            * x7 (ix3 e f l) + x8 (ix2 e l)) := by
  simp only [val_main_v26]
  pointwise
  refine Finset.sum_congr rfl fun e _ => ?_
  simp only [val_main_v25, val_main_v24, val_main_v23, val_main_v22, val_main_v21]
  pointwise
  simp only [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2,  val_main_cst_3, val_main_cst_4, val_main_cst_5, val_main_call0_v0, val_main_call0_v1, val_main_call0_v2, val_main_call0_v3, val_main_call0_v4]
  pointwise
  simp only [id, constant_apply]
  unfold unit
  rw [gate_slope]
  simp only [EReal.neg_mul, mul_comm (x0 _)]
  rfl

open Cert.MoeReferenceIdeal.Read in
/-- The reference's result, at an index, from its gated sum. -/
theorem ref_out (x0 x1 x2 x3 x4 x5 x6 x7 x8) (r : Fin 16384) (l : Fin 1024) :
    val_main_v45 (F := Ideal) x0 x1 x2 x3 x4 x5 x6 x7 x8 (ix2 r l)
      = x2 (ix2 r l) + x3 (ix3 ⟨r.val / 8192, by omega⟩ 0 l) * (val_main_v26 (F := Ideal) x0 x1 x5 x6 x7 x8 (ix2 r l) *
            Ideal.rsqrt (Ideal.div (∑ k : Fin 1024, val_main_v26 (F := Ideal) x0 x1 x5 x6 x7 x8 (ix2 r k) * val_main_v26 (F := Ideal) x0 x1 x5 x6 x7 x8 (ix2 r k)) (Ideal.ofBits FTy.f32 1149239296#32)
              + Ideal.ofBits FTy.f32 897988541#32) * x4 (ix1 l)) := by
  have e40 : idx_main_v40 (idx_main_v45 (ix2 r l)) = ix2 r l := by
    refine (eq_ix2 _).trans (congrArg₂ ix2 (Fin.ext ?_) (Fin.ext ?_))
    · show ((((r.val * 1024 + l.val) / 8388608) * 8192 + (r.val * 1024 + l.val) / 1024 % 8192) * 1024 + (r.val * 1024 + l.val) % 1024) / 1024 = r.val
      omega
    · show ((((r.val * 1024 + l.val) / 8388608) * 8192 + (r.val * 1024 + l.val) / 1024 % 8192) * 1024 + (r.val * 1024 + l.val) % 1024) % 1024 = l.val
      omega
  have e42 : idx_main_v42 (idx_main_v45 (ix2 r l)) = ix3 ⟨r.val / 8192, by omega⟩ 0 l := by
    refine (eq_ix3 _).trans ?_
    congr 1 <;> refine Fin.ext ?_
    · show (r.val * 1024 + l.val) / 8388608 = r.val / 8192
      omega
    · show (r.val * 1024 + l.val) % 1024 = l.val
      omega
  rw [val_main_v45_apply, val_main_v44_apply, val_main_v40_apply, val_main_v43_apply, val_main_v42_apply, val_main_v41_apply,
    show idx_main_v41 (idx_main_v45 (ix2 r l)) = ix2 r l from e40, e40, e42]
  simp only [val_main_v39, val_main_v38, val_main_v37, val_main_v36, val_main_v35, val_main_v34, val_main_v33, val_main_v32,
    val_main_v31, val_main_v30, val_main_v29, val_main_v28, val_main_v27, val_main_cst_6, val_main_cst_7, val_main_cst_8]
  generalize val_main_v26 (F := Ideal) x0 x1 x5 x6 x7 x8 = y
  pointwise

theorem idx (t : Fin cfg0.N) : win0_0.index t = ![t.val / 32, 0] ∧ win0_1.index t = ![t.val / 32, 0] ∧ win0_2.index t = ![t.val / 32, 0]
    ∧ win0_3.index t = ![t.val / 256, 0, 0] ∧ win0_4.index t = ![0, 0] ∧ win0_5.index t = ![t.val % 32, 0, 0]
    ∧ win0_6.index t = ![t.val % 32, 0, 0] ∧ win0_7.index t = ![t.val % 32, 0, 0] ∧ win0_8.index t = ![t.val % 32, 0, 0]
    ∧ win0_9.index t = ![t.val / 32, 0] := by
  revert t; decide +kernel

/-- The array row of row `a` of the block of point `t`. -/
def row (t : Fin cfg0.N) (a : Fin 1024) : Fin 16384 := ⟨t.val / 32 * 1024 + a.val, by have := tile_lt t; omega⟩

theorem blk0 (t : Fin cfg0.N) (a : Fin 1024) (b : Fin 1024) :
    (iblk m c 0 t : Vec Ideal S1024x1024 .bf16) (ix2 a b) = m ((c.tc : Thread nD τ).loc main_arg0) (ix2 (row t a) b) := by
  blk_ext! [iblk, V, idx t, row]
theorem blk1 (t : Fin cfg0.N) (a : Fin 1024) (b : Fin 32) :
    (iblk m c 1 t : Vec Ideal S1024x32 .f32) (ix2 a b) = m ((c.tc : Thread nD τ).loc main_arg1) (ix2 (row t a) b) := by
  blk_ext [iblk, V, idx t, row]
theorem blk2 (t : Fin cfg0.N) (a : Fin 1024) (b : Fin 1024) :
    (iblk m c 2 t : Vec Ideal S1024x1024 .f32) (ix2 a b) = m ((c.tc : Thread nD τ).loc main_arg2) (ix2 (row t a) b) := by
  blk_ext [iblk, V, idx t, row]
theorem blk3 (t : Fin cfg0.N) (b : Fin 1024) :
    (iblk m c 3 t : Vec Ideal S1x1x1024 .f32) (ix3 0 0 b)
      = m ((c.tc : Thread nD τ).loc main_arg3) (ix3 ⟨t.val / 256, by have := tile_lt t; omega⟩ 0 b) := by
  blk_ext [iblk, V, idx t]
theorem blk4 (t : Fin cfg0.N) (b : Fin 1024) :
    (iblk m c 4 t : Vec Ideal S1x1024 .f32) (ix2 0 b) = m ((c.tc : Thread nD τ).loc main_arg4) (ix1 b) := by
  blk_ext! [iblk, V, idx t]
theorem blk5 (t : Fin cfg0.N) (a : Fin 1024) (b : Fin 2048) :
    (iblk m c 5 t : Vec Ideal S1x1024x2048 .bf16) (ix3 0 a b)
      = m ((c.tc : Thread nD τ).loc main_arg5) (ix3 ⟨t.val % 32, Nat.mod_lt _ (by decide)⟩ a b) := by
  blk_ext! [iblk, V, idx t]
theorem blk6 (t : Fin cfg0.N) (b : Fin 2048) :
    (iblk m c 6 t : Vec Ideal S1x1x2048 .f32) (ix3 0 0 b)
      = m ((c.tc : Thread nD τ).loc main_arg6) (ix2 ⟨t.val % 32, Nat.mod_lt _ (by decide)⟩ b) := by
  blk_ext! [iblk, V, idx t]
theorem blk7 (t : Fin cfg0.N) (a : Fin 1024) (b : Fin 1024) :
    (iblk m c 7 t : Vec Ideal S1x1024x1024 .bf16) (ix3 0 a b)
      = m ((c.tc : Thread nD τ).loc main_arg7) (ix3 ⟨t.val % 32, Nat.mod_lt _ (by decide)⟩ a b) := by
  blk_ext! [iblk, V, idx t]
theorem blk8 (t : Fin cfg0.N) (b : Fin 1024) :
    (iblk m c 8 t : Vec Ideal S1x1x1024 .f32) (ix3 0 0 b)
      = m ((c.tc : Thread nD τ).loc main_arg8) (ix2 ⟨t.val % 32, Nat.mod_lt _ (by decide)⟩ b) := by
  blk_ext! [iblk, V, idx t]

open Cert.MoeReferenceIdeal.Read in
/-- The accumulator after the last point of a row block is the reference's gated sum of the experts' outputs. -/
theorem acc_ref (t : Fin cfg0.N) (ht : t.val % 32 = 31) (r : Fin 1024) (l : Fin 1024) :
    (outsAt0 m c t.val t.isLt).2 (ix2 r l)
      = val_main_v26 (F := Ideal) (m ((c.tc : Thread nD τ).loc main_arg0)) (m ((c.tc : Thread nD τ).loc main_arg1))
        (m ((c.tc : Thread nD τ).loc main_arg5)) (m ((c.tc : Thread nD τ).loc main_arg6))
        (m ((c.tc : Thread nD τ).loc main_arg7)) (m ((c.tc : Thread nD τ).loc main_arg8)) (ix2 (row t r) l) := by
  rw [acc_last m c t ht, ref]
  refine Finset.sum_congr rfl fun s _ => ?_
  show blockTerm ⟨(32 * (t.val / 32) + s.val) % 32, _⟩ (iblk m c 0 _) (iblk m c 1 _) (iblk m c 5 _) (iblk m c 6 _)
    (iblk m c 7 _) (iblk m c 8 _) r l = _
  unfold blockTerm
  simp only [blk0, blk1, blk5, blk6, blk7, blk8]
  have hs : (⟨(32 * (t.val / 32) + s.val) % 32, Nat.mod_lt _ (by decide)⟩ : Fin 32) = s :=
    Fin.ext (by show (32 * (t.val / 32) + s.val) % 32 = s.val; omega)
  have hr : row ⟨32 * (t.val / 32) + s.val, Pipeline.run_point_lt_of_flush t ht s⟩ r = row t r :=
    Fin.ext (by show (32 * (t.val / 32) + s.val) / 32 * 1024 + r.val = t.val / 32 * 1024 + r.val; omega)
  rw [hr]
  simp only [hs]

open Cert.MoeReferenceIdeal.Read in
/-- The kernel's result array is the reference's result. -/
theorem value : val_main_v45 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) = (dats m 0 c).arrAt 9 cfg0.N := by
  refine ((dats m 0 c).arrAt_eq_of_covers 9 _ (by decide +kernel) fun t hf y => ?_).symm
  have ht : t.val % 32 = 31 := (flush0_9 t).mp hf
  obtain ⟨r, l, rfl⟩ : ∃ (a : Fin 1024) (b : Fin 1024), y = ix2 a b := ⟨y 0, y 1, eq_ix2 y⟩
  have he : ((win0_9.blk t).view.emb (ix2 r l) : S16384x1024.Idx) = ix2 (row t r) l := by
    blk_ext [idx t, row]
  show (win0_9.cut (grid0.coords t) ((dats m 0 c).after 9 t)) (ix2 r l) = val_main_v45 (F := Ideal) _ _ _ _ _ _ _ _ _ ((win0_9.blk t).view.emb (ix2 r l))
  rw [he, ref_out, after0_9]
  refine (out_last m c t ht (ix2 r l)).trans ?_
  rw [pay_last]
  simp only [blk2, blk3, blk4, acc_ref m c t ht]
  congr 2
  exact congrArg _ (congrArg (fun k => ix3 k 0 l) (Fin.ext (by show t.val / 256 = (t.val / 32 * 1024 + r.val) / 8192; omega)))

end Cert.Proof.Moe
-- ==== Proof.MoeS.lean ====
module

public import proofs.«01_k».proof.Proof.Gen.MoeSIdeal.Value
public import proofs.«01_k».proof.Proof.Gen.MoeSReferenceIdeal.Read
public import proofs.«01_k».proof.Proof.Moe
public import Idealize.ShloMosaic.Lib.Pointwise
public import Idealize.ShloMosaic.Lib.Pipeline.ValueKit
public import Idealize.ShloMosaic.Lib.Pipeline.ReadBack

@[expose] public section

set_option maxRecDepth 16384

noncomputable section

/-! The experts on the sample: what the kernel writes is what the reference computes. -/

namespace Cert.Proof.MoeS

open Idealize.ShloMosaic Idealize.SL.Sem
open Cert.MoeSIdeal Cert.MoeSIdeal.Gen

open Cert.Proof.Moe (unit gate_slope)

/-- What one expert adds to the accumulator, read off its blocks. -/
def blockTerm (e : Fin 32) (x : Vec Ideal S512x1024 .bf16) (g : Vec Ideal S512x32 .f32)
    (wgu : Vec Ideal S1x1024x2048 .bf16) (bgu : Vec Ideal S1x1x2048 .f32) (wd : Vec Ideal S1x1024x1024 .bf16)
    (bd : Vec Ideal S1x1x1024 .f32) (r : Fin 512) (l : Fin 1024) : EReal :=
  g (ix2 r e) * (∑ f : Fin 1024,
    unit (∑ k : Fin 1024, x (ix2 r k) * wgu (ix3 0 k ⟨f.val, by omega⟩) + bgu (ix3 0 0 ⟨f.val, by omega⟩))
        (∑ k : Fin 1024, x (ix2 r k) * wgu (ix3 0 k ⟨1024 + f.val, by omega⟩) + bgu (ix3 0 0 ⟨1024 + f.val, by omega⟩))
      * wd (ix3 0 f l) + bd (ix3 0 0 l))

/-- The product of an expert's activations with its second matrix. -/
theorem pay_mm (x : Vec Ideal S512x1024 .bf16) (wgu : Vec Ideal S1x1024x2048 .bf16) (bgu : Vec Ideal S1x1x2048 .f32)
    (wd : Vec Ideal S1x1024x1024 .bf16) (r : Fin 512) (l : Fin 1024) :
    k0_pay4 (F := Ideal) x wgu bgu wd (ix2 r l) = ∑ f : Fin 1024,
    unit (∑ k : Fin 1024, x (ix2 r k) * wgu (ix3 0 k ⟨f.val, by omega⟩) + bgu (ix3 0 0 ⟨f.val, by omega⟩))
        (∑ k : Fin 1024, x (ix2 r k) * wgu (ix3 0 k ⟨1024 + f.val, by omega⟩) + bgu (ix3 0 0 ⟨1024 + f.val, by omega⟩))
      * wd (ix3 0 f l) := by
  pointwise [k0_pay4]
  rfl

/-- What a grid point stores into the accumulator. -/
theorem pay_step (e : ℕ) (he : e < 32) (x : Vec Ideal S512x1024 .bf16) (g : Vec Ideal S512x32 .f32)
    (wgu : Vec Ideal S1x1024x2048 .bf16) (bgu : Vec Ideal S1x1x2048 .f32) (wd : Vec Ideal S1x1024x1024 .bf16)
    (bd : Vec Ideal S1x1x1024 .f32) (acc : Vec Ideal S512x1024 .f32) (r : Fin 512) (l : Fin 1024) :
    k0_pay1 (F := Ideal) (BitVec.ofNat 32 e) (k0_pay4 x wgu bgu wd) bd g acc (ix2 r l)
      = acc (ix2 r l) + blockTerm ⟨e, he⟩ x g wgu bgu wd bd r l := by
  unfold blockTerm
  rw [← pay_mm]
  generalize k0_pay4 (F := Ideal) x wgu bgu wd = p
  pointwise [k0_pay1]
  congr 2
  rw [Finset.sum_eq_single (⟨e, he⟩ : Fin 32)]
  · simp [IntOp.cmpi, Scalar.select]
  · intro b _ hb
    have : ¬ BitVec.ofNat 32 b.val = BitVec.ofNat 32 e := by
      intro h
      have h2 := congrArg BitVec.toNat h
      simp only [BitVec.toNat_ofNat] at h2
      have := b.isLt
      exact hb (Fin.ext (by simp only; omega))
    simp [IntOp.cmpi, Scalar.select, beq_eq_false_iff_ne.mpr this]
  · simp

/-- What the last point of a row block stores into the output block. -/
theorem pay_last (x1 : Vec Ideal S512x1024 .f32) (g : Vec Ideal S1x512x1024 .f32)
    (acc : Vec Ideal S512x1024 .f32) (gp : Vec Ideal S1x1024 .f32) (r : Fin 512) (l : Fin 1024) :
    k0_pay2 (F := Ideal) x1 g acc gp (ix2 r l)
      = x1 (ix2 r l) + g (ix3 0 r l) * (acc (ix2 r l) *
            Ideal.rsqrt (Ideal.div (∑ k : Fin 1024, acc (ix2 r k) * acc (ix2 r k)) (Ideal.ofBits FTy.f32 1149239296#32)
              + Ideal.ofBits FTy.f32 897988541#32) * gp (ix2 0 l)) := by
  pointwise [k0_pay2]

variable (m : (ℓ : Loc nD τ sig) → Buf (Elt Ideal) ℓ) (c : Dev nD)

theorem tile_lt (t : Fin cfg0.N) : t.val / 32 < 1 := by
  have := lt_of_lt_of_eq t.isLt (show cfg0.N = 32 from N_0)
  omega

/-- What grid point `t` (row block `t / 32`, expert `t % 32`) adds to the accumulator. -/
def term (t : Fin cfg0.N) (j : S512x1024.Idx) : EReal :=
  blockTerm ⟨t.val % 32, Nat.mod_lt _ (by decide)⟩ (iblk m c 0 t) (iblk m c 1 t) (iblk m c 5 t) (iblk m c 6 t) (iblk m c 7 t)
    (iblk m c 8 t) (j 0) (j 1)

theorem coord (t : Fin cfg0.N) : (grid0.coords t 1).val = t.val % 32 := by
  revert t; decide +kernel

theorem pay_term (t : Fin cfg0.N) (acc : Vec Ideal S512x1024 .f32) (j : S512x1024.Idx) :
    k0_pay1 (F := Ideal) (BitVec.ofNat 32 ↑(grid0.coords t 1)) (k0_pay4 (iblk m c 0 t) (iblk m c 5 t) (iblk m c 6 t) (iblk m c 7 t))
        (iblk m c 8 t) (iblk m c 1 t) acc j = acc j + term m c t j := by
  rw [coord t]
  obtain ⟨a, b, rfl⟩ : ∃ (a : Fin 512) (b : Fin 1024), j = ix2 a b := ⟨j 0, j 1, eq_ix2 j⟩
  exact pay_step (t.val % 32) (Nat.mod_lt _ (by decide)) _ _ _ _ _ _ acc a b

/-- The accumulator after the last point of a row block is the sum of the experts' addends. -/
theorem acc_last (t : Fin cfg0.N) (ht : t.val % 32 = 32 - 1) (j : S512x1024.Idx) :
    (outsAt0 m c t.val t.isLt).2 j = ∑ s : Fin 32, term m c ⟨32 * (t.val / 32) + s.val, Pipeline.run_point_lt_of_flush t ht s⟩ j := by
  have h := Pipeline.eq_sum_fin_of_reset_step_apply_of_flush (fun n h => (outsAt0 m c n h).2) 32 (fun _ => (0 : EReal))
    (fun t j => term m c t j)
    (fun t h0 j => by
      show (outsAt0 m c t.val t.isLt).2 j = _
      rw [outsAt0_A m c t h0 (by omega)]
      frame_out
      rw [pay_term]
      congr 1
      pointwise [k0_pay3])
    (fun t h0 j => by
      show (outsAt0 m c t.val t.isLt).2 j = _
      by_cases h1 : t.val % 32 = 31
      · rw [outsAt0_C m c t h0 h1]
        frame_out
        rw [pay_term]
        simp only [read_unread_whole]
      · rw [outsAt0_B m c t h0 h1]
        frame_out
        rw [pay_term]
        simp only [read_unread_whole])
    t ht j
  simpa using h

theorem out_last (t : Fin cfg0.N) (h1 : t.val % 32 = 31) (y : S512x1024.Idx) :
    (outsAt0 m c t.val t.isLt).1 y
      = k0_pay2 (F := Ideal) (iblk m c 2 t) (iblk m c 3 t) (outsAt0 m c t.val t.isLt).2 (iblk m c 4 t) y := by
  rw [outsAt0_C m c t (by omega) h1]
  frame_out

open Cert.MoeSReferenceIdeal.Read in
/-- The reference's gated sum of the experts' outputs, at an index. -/
theorem ref (x0 x1 x5 x6 x7 x8) (r : Fin 512) (l : Fin 1024) :
  val_main_v26 (F := Ideal) x0 x1 x5 x6 x7 x8 (ix2 r l) = ∑ e : Fin 32, x1 (ix2 r e) * (∑ f : Fin 1024,
          unit (∑ k : Fin 1024, x0 (ix2 r k) * x5 (ix3 e k ⟨f.val, by omega⟩) + x6 (ix2 e ⟨f.val, by omega⟩))
              (∑ k : Fin 1024, x0 (ix2 r k) * x5 (ix3 e k ⟨1024 + f.val, by omega⟩) + x6 (ix2 e ⟨1024 + f.val, by omega⟩))
            * x7 (ix3 e f l) + x8 (ix2 e l)) := by
  simp only [val_main_v26]
  pointwise
  refine Finset.sum_congr rfl fun e _ => ?_
  simp only [val_main_v25, val_main_v24, val_main_v23, val_main_v22, val_main_v21]
  pointwise
  simp only [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2,  val_main_cst_3, val_main_cst_4, val_main_cst_5, val_main_call0_v0, val_main_call0_v1, val_main_call0_v2, val_main_call0_v3, val_main_call0_v4]
  pointwise
  simp only [id, constant_apply]
  unfold unit
  rw [gate_slope]
  simp only [EReal.neg_mul, mul_comm (x0 _)]
  rfl

open Cert.MoeSReferenceIdeal.Read in
/-- The reference's result, at an index, from its gated sum. -/
theorem ref_out (x0 x1 x2 x3 x4 x5 x6 x7 x8) (r : Fin 512) (l : Fin 1024) :
    val_main_v45 (F := Ideal) x0 x1 x2 x3 x4 x5 x6 x7 x8 (ix2 r l)
      = x2 (ix2 r l) + x3 (ix3 ⟨r.val / 32, by omega⟩ 0 l) * (val_main_v26 (F := Ideal) x0 x1 x5 x6 x7 x8 (ix2 r l) *
            Ideal.rsqrt (Ideal.div (∑ k : Fin 1024, val_main_v26 (F := Ideal) x0 x1 x5 x6 x7 x8 (ix2 r k) * val_main_v26 (F := Ideal) x0 x1 x5 x6 x7 x8 (ix2 r k)) (Ideal.ofBits FTy.f32 1149239296#32)
              + Ideal.ofBits FTy.f32 897988541#32) * x4 (ix1 l)) := by
  have e40 : idx_main_v40 (idx_main_v45 (ix2 r l)) = ix2 r l := by
    refine (eq_ix2 _).trans (congrArg₂ ix2 (Fin.ext ?_) (Fin.ext ?_))
    · show ((((r.val * 1024 + l.val) / 32768) * 32 + (r.val * 1024 + l.val) / 1024 % 32) * 1024 + (r.val * 1024 + l.val) % 1024) / 1024 = r.val
      omega
    · show ((((r.val * 1024 + l.val) / 32768) * 32 + (r.val * 1024 + l.val) / 1024 % 32) * 1024 + (r.val * 1024 + l.val) % 1024) % 1024 = l.val
      omega
  have e42 : idx_main_v42 (idx_main_v45 (ix2 r l)) = ix3 ⟨r.val / 32, by omega⟩ 0 l := by
    refine (eq_ix3 _).trans ?_
    congr 1 <;> refine Fin.ext ?_
    · show (r.val * 1024 + l.val) / 32768 = r.val / 32
      omega
    · show (r.val * 1024 + l.val) % 1024 = l.val
      omega
  rw [val_main_v45_apply, val_main_v44_apply, val_main_v40_apply, val_main_v43_apply, val_main_v42_apply, val_main_v41_apply,
    show idx_main_v41 (idx_main_v45 (ix2 r l)) = ix2 r l from e40, e40, e42]
  simp only [val_main_v39, val_main_v38, val_main_v37, val_main_v36, val_main_v35, val_main_v34, val_main_v33, val_main_v32,
    val_main_v31, val_main_v30, val_main_v29, val_main_v28, val_main_v27, val_main_cst_6, val_main_cst_7, val_main_cst_8]
  generalize val_main_v26 (F := Ideal) x0 x1 x5 x6 x7 x8 = y
  pointwise

theorem idx (t : Fin cfg0.N) : win0_0.index t = ![t.val / 32, 0] ∧ win0_1.index t = ![t.val / 32, 0] ∧ win0_2.index t = ![t.val / 32, 0]
    ∧ win0_3.index t = ![t.val / 32, 0, 0] ∧ win0_4.index t = ![0, 0] ∧ win0_5.index t = ![t.val % 32, 0, 0]
    ∧ win0_6.index t = ![t.val % 32, 0, 0] ∧ win0_7.index t = ![t.val % 32, 0, 0] ∧ win0_8.index t = ![t.val % 32, 0, 0]
    ∧ win0_9.index t = ![t.val / 32, 0] := by
  revert t; decide +kernel

/-- The array row of row `a` of the block of point `t`. -/
def row (t : Fin cfg0.N) (a : Fin 512) : Fin 512 := ⟨t.val / 32 * 512 + a.val, by have := tile_lt t; omega⟩

theorem blk0 (t : Fin cfg0.N) (a : Fin 512) (b : Fin 1024) :
    (iblk m c 0 t : Vec Ideal S512x1024 .bf16) (ix2 a b) = m ((c.tc : Thread nD τ).loc main_arg0) (ix2 (row t a) b) := by
  blk_ext! [iblk, V, idx t, row]
theorem blk1 (t : Fin cfg0.N) (a : Fin 512) (b : Fin 32) :
    (iblk m c 1 t : Vec Ideal S512x32 .f32) (ix2 a b) = m ((c.tc : Thread nD τ).loc main_arg1) (ix2 (row t a) b) := by
  blk_ext [iblk, V, idx t, row]
theorem blk2 (t : Fin cfg0.N) (a : Fin 512) (b : Fin 1024) :
    (iblk m c 2 t : Vec Ideal S512x1024 .f32) (ix2 a b) = m ((c.tc : Thread nD τ).loc main_arg2) (ix2 (row t a) b) := by
  blk_ext [iblk, V, idx t, row]
theorem blk3 (t : Fin cfg0.N) (a : Fin 512) (b : Fin 1024) :
    (iblk m c 3 t : Vec Ideal S1x512x1024 .f32) (ix3 0 a b)
      = m ((c.tc : Thread nD τ).loc main_arg3) (ix3 ⟨(row t a).val / 32, by omega⟩ 0 b) := by
  blk_ext! [iblk, V, idx t, row]
theorem blk4 (t : Fin cfg0.N) (b : Fin 1024) :
    (iblk m c 4 t : Vec Ideal S1x1024 .f32) (ix2 0 b) = m ((c.tc : Thread nD τ).loc main_arg4) (ix1 b) := by
  blk_ext! [iblk, V, idx t]
theorem blk5 (t : Fin cfg0.N) (a : Fin 1024) (b : Fin 2048) :
    (iblk m c 5 t : Vec Ideal S1x1024x2048 .bf16) (ix3 0 a b)
      = m ((c.tc : Thread nD τ).loc main_arg5) (ix3 ⟨t.val % 32, Nat.mod_lt _ (by decide)⟩ a b) := by
  blk_ext! [iblk, V, idx t]
theorem blk6 (t : Fin cfg0.N) (b : Fin 2048) :
    (iblk m c 6 t : Vec Ideal S1x1x2048 .f32) (ix3 0 0 b)
      = m ((c.tc : Thread nD τ).loc main_arg6) (ix2 ⟨t.val % 32, Nat.mod_lt _ (by decide)⟩ b) := by
  blk_ext! [iblk, V, idx t]
theorem blk7 (t : Fin cfg0.N) (a : Fin 1024) (b : Fin 1024) :
    (iblk m c 7 t : Vec Ideal S1x1024x1024 .bf16) (ix3 0 a b)
      = m ((c.tc : Thread nD τ).loc main_arg7) (ix3 ⟨t.val % 32, Nat.mod_lt _ (by decide)⟩ a b) := by
  blk_ext! [iblk, V, idx t]
theorem blk8 (t : Fin cfg0.N) (b : Fin 1024) :
    (iblk m c 8 t : Vec Ideal S1x1x1024 .f32) (ix3 0 0 b)
      = m ((c.tc : Thread nD τ).loc main_arg8) (ix2 ⟨t.val % 32, Nat.mod_lt _ (by decide)⟩ b) := by
  blk_ext! [iblk, V, idx t]

open Cert.MoeSReferenceIdeal.Read in
/-- The accumulator after the last point of a row block is the reference's gated sum of the experts' outputs. -/
theorem acc_ref (t : Fin cfg0.N) (ht : t.val % 32 = 31) (r : Fin 512) (l : Fin 1024) :
    (outsAt0 m c t.val t.isLt).2 (ix2 r l)
      = val_main_v26 (F := Ideal) (m ((c.tc : Thread nD τ).loc main_arg0)) (m ((c.tc : Thread nD τ).loc main_arg1))
        (m ((c.tc : Thread nD τ).loc main_arg5)) (m ((c.tc : Thread nD τ).loc main_arg6))
        (m ((c.tc : Thread nD τ).loc main_arg7)) (m ((c.tc : Thread nD τ).loc main_arg8)) (ix2 (row t r) l) := by
  rw [acc_last m c t ht, ref]
  refine Finset.sum_congr rfl fun s _ => ?_
  show blockTerm ⟨(32 * (t.val / 32) + s.val) % 32, _⟩ (iblk m c 0 _) (iblk m c 1 _) (iblk m c 5 _) (iblk m c 6 _)
    (iblk m c 7 _) (iblk m c 8 _) r l = _
  unfold blockTerm
  simp only [blk0, blk1, blk5, blk6, blk7, blk8]
  have hs : (⟨(32 * (t.val / 32) + s.val) % 32, Nat.mod_lt _ (by decide)⟩ : Fin 32) = s :=
    Fin.ext (by show (32 * (t.val / 32) + s.val) % 32 = s.val; omega)
  have hr : row ⟨32 * (t.val / 32) + s.val, Pipeline.run_point_lt_of_flush t ht s⟩ r = row t r :=
    Fin.ext (by show (32 * (t.val / 32) + s.val) / 32 * 512 + r.val = t.val / 32 * 512 + r.val; omega)
  rw [hr]
  simp only [hs]

open Cert.MoeSReferenceIdeal.Read in
/-- The kernel's result array is the reference's result. -/
theorem value : val_main_v45 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) = (dats m 0 c).arrAt 9 cfg0.N := by
  refine ((dats m 0 c).arrAt_eq_of_covers 9 _ (by decide +kernel) fun t hf y => ?_).symm
  have ht : t.val % 32 = 31 := (flush0_9 t).mp hf
  obtain ⟨r, l, rfl⟩ : ∃ (a : Fin 512) (b : Fin 1024), y = ix2 a b := ⟨y 0, y 1, eq_ix2 y⟩
  have he : ((win0_9.blk t).view.emb (ix2 r l) : S512x1024.Idx) = ix2 (row t r) l := by
    blk_ext [idx t, row]
  show (win0_9.cut (grid0.coords t) ((dats m 0 c).after 9 t)) (ix2 r l) = val_main_v45 (F := Ideal) _ _ _ _ _ _ _ _ _ ((win0_9.blk t).view.emb (ix2 r l))
  rw [he, ref_out, after0_9]
  refine (out_last m c t ht (ix2 r l)).trans ?_
  rw [pay_last]
  simp only [blk2, blk3, blk4, acc_ref m c t ht]

end Cert.Proof.MoeS
-- ==== Proof.Proj.Run.lean ====
module

public import proofs.«01_k».proof.Proof.Gen.ProjIdeal.Frame

@[expose] public section

set_option maxRecDepth 16384

noncomputable section

/-! The run of the projections: where every buffer ends. -/

namespace Cert.Proof.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the program runs, and every buffer it holds throughout ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W27 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h _ c => h c)

end Cert.Proof.Proj

end
-- ==== Proof.Columns.lean ====
module

public import Idealize.ShloMosaic.Lib.Pointwise
public import Idealize.ShloMosaic.Lib.ReduceAll
public import Idealize.ShloMosaic.Lib.StableHlo.Predicate

@[expose] public section

noncomputable section

/-! Columns of a matrix picked by a literal list of column numbers. -/

namespace Cert.Proof

open Idealize.ShloMosaic

/-- A gather of columns: where the list names column `b`, the result's column is column `b` of the matrix. -/
theorem gather_col {α : Type} {D n k : ℕ} (g : GatherDims ⟨2, ![D, n]⟩ ⟨2, ![k, 1]⟩ ⟨2, ![D, k]⟩)
    (hoff : g.offsetDims = [0]) (hcoll : g.collapsedSliceDims = [1]) (hob : g.operandBatchingDims = [])
    (hsim : g.startIndexMap = [1]) (hivd : g.indexVectorDim = 1) (x : (⟨2, ![D, n]⟩ : Shape).Idx → α)
    (I : IVec ⟨2, ![k, 1]⟩ 32) (d : Fin D) (p : Fin k) (b : Fin n) (hb : I (ix2 p 0) = BitVec.ofNat 32 b.val)
    (hn : n < 2 ^ 31) : Host.gather g x I (ix2 d p) = x (ix2 d b) := by
  obtain ⟨off, coll, ob, sb, sim, ivd, ss, wf⟩ := g
  simp only at hoff hcoll hob hsim hivd
  subst hoff hcoll hob hsim hivd
  have hsb : sb = [] := by
    have := wf
    simpa using (GatherDims.ob_length ⟨[0], [1], [], sb, [1], 1, ss, wf⟩).symm
  subst hsb
  generalize hg : (⟨[0], [1], [], [], [1], 1, ss, wf⟩ : GatherDims ⟨2, ![D, n]⟩ ⟨2, ![k, 1]⟩ ⟨2, ![D, k]⟩) = g
  have hs1 : g.sliceSizes 1 = 1 := g.slice_collapsed 1 (by subst hg; exact List.mem_singleton.2 rfl)
  unfold Host.gather
  refine congrArg x (funext fun a => Fin.ext ?_)
  match a with
  | ⟨0, _⟩ =>
    show g.start _ I 0 + g.batchCoord _ 0 + g.offCoord _ 0 = d.val
    have h0 : g.batchCoord (ix2 d p) 0 = 0 := by subst hg; rfl
    have h1 : g.offCoord (ix2 d p) 0 = d.val := by subst hg; rfl
    have h2 : g.start (ix2 d p) I 0 = 0 := by subst hg; rfl
    rw [h0, h1, h2]; omega
  | ⟨1, _⟩ =>
    show g.start _ I 1 + g.batchCoord _ 1 + g.offCoord _ 1 = b.val
    have h0 : g.batchCoord (ix2 d p) 1 = 0 := by subst hg; rfl
    have h1 : g.offCoord (ix2 d p) 1 = 0 := by subst hg; rfl
    have h2 : g.start (ix2 d p) I 1 = min (I (ix2 p 0)).toInt.toNat (n - g.sliceSizes 1) := by
      subst hg
      show min (I _).toInt.toNat _ = _
      congr 4
      funext q
      match q with
      | ⟨0, _⟩ => rfl
      | ⟨1, _⟩ => rfl
    have := b.isLt
    rw [h0, h1, h2, hb, hs1, StableHlo.Predicate.toInt_ofNat_small _ (by omega)]
    show min ((b.val : Int)).toNat (n - 1) + 0 + 0 = b.val
    omega

/-- The list as the gather reads it: a negative number counts from the end. -/
def listed {k : ℕ} (I : IVec ⟨1, ![k]⟩ 32) (nn : BitVec 32) (b0 : (⟨0, ![]⟩ : Shape).BroadcastsInDim ⟨1, ![k]⟩ ![])
    (b1 : (⟨1, ![k]⟩ : Shape).BroadcastsInDim ⟨2, ![k, 1]⟩ ![0]) : IVec ⟨2, ![k, 1]⟩ 32 :=
  broadcastInDim ⟨2, ![k, 1]⟩ ![0] b1 (select (cmpi .slt I (broadcastInDim ⟨1, ![k]⟩ ![] b0 (constantI ⟨0, ![]⟩ 32 0#32)))
    (addi I (broadcastInDim ⟨1, ![k]⟩ ![] b0 (constantI ⟨0, ![]⟩ 32 nn))) I)

/-- Columns taken with the default treatment of numbers out of range: negative ones count from the end, others give the
    fill value. -/
def taken {α : Type} {D n k : ℕ} (g : GatherDims ⟨2, ![D, n]⟩ ⟨2, ![k, 1]⟩ ⟨2, ![D, k]⟩)
    (b0 : (⟨0, ![]⟩ : Shape).BroadcastsInDim ⟨1, ![k]⟩ ![]) (b1 : (⟨1, ![k]⟩ : Shape).BroadcastsInDim ⟨2, ![k, 1]⟩ ![0])
    (b2 : (⟨0, ![]⟩ : Shape).BroadcastsInDim ⟨2, ![k, 1]⟩ ![])
    (b3 : (⟨1, ![1]⟩ : Shape).BroadcastsInDim ⟨2, ![1, 1]⟩ ![1])
    (b4 : (⟨2, ![1, 1]⟩ : Shape).BroadcastsInDim ⟨2, ![k, 1]⟩ ![0, 1])
    (b5 : (⟨1, ![k]⟩ : Shape).BroadcastsInDim ⟨2, ![D, k]⟩ ![1])
    (hr : (⟨2, ![k, 1]⟩ : Shape).ReducesTo [1] ⟨1, ![k]⟩) (hu : 0 < (⟨0, ![]⟩ : Shape).numel) (nn hi : BitVec 32)
    (x : (⟨2, ![D, n]⟩ : Shape).Idx → α) (fill : (⟨2, ![D, k]⟩ : Shape).Idx → α) (I : IVec ⟨1, ![k]⟩ 32) :
    (⟨2, ![D, k]⟩ : Shape).Idx → α :=
  select (broadcastInDim ⟨2, ![D, k]⟩ ![1] b5 (Host.reduce IntOp.andi
      (andi (cmpi .sge (listed I nn b0 b1) (broadcastInDim ⟨2, ![k, 1]⟩ ![] b2 (constantI ⟨0, ![]⟩ 32 0#32)))
        (cmpi .sle (listed I nn b0 b1)
          (broadcastInDim ⟨2, ![k, 1]⟩ ![0, 1] b4 (broadcastInDim ⟨2, ![1, 1]⟩ ![1] b3 (constantI ⟨1, ![1]⟩ 32 hi)))))
      (constantI ⟨0, ![]⟩ 1 1#1) hr hu))
    (Host.gather g x (listed I nn b0 b1)) fill

theorem listed_apply {k n : ℕ} (I : IVec ⟨1, ![k]⟩ 32) (nn : BitVec 32) (b0) (b1) (J : Fin k → Fin n) (hn : n < 2 ^ 31)
    (hI : ∀ p, I (ix1 p) = BitVec.ofNat 32 (J p).val) (p : Fin k) (z : Fin 1) :
    listed I nn b0 b1 (ix2 p z) = BitVec.ofNat 32 (J p).val := by
  have hb : ∀ f : IVec ⟨1, ![k]⟩ 32, broadcastInDim ⟨2, ![k, 1]⟩ ![0] b1 f (ix2 p z) = f (ix1 p) := by
    intro f
    unfold broadcastInDim
    congr 1
    funext a
    match a with
    | ⟨0, _⟩ =>
      by_cases h : k = 1
      · subst h; apply Fin.ext; have := p.isLt; simp
      · simp [h]; rfl
  unfold listed
  rw [hb]
  have hlt := (J p).isLt
  show Scalar.select (IntOp.cmpi .slt (I (ix1 p)) 0#32) _ (I (ix1 p)) = _
  rw [hI p]
  have : IntOp.cmpi .slt (BitVec.ofNat 32 (J p).val) 0#32 = 0#1 := by
    simp only [IntOp.cmpi, BitVec.slt, StableHlo.Predicate.toInt_ofNat_small _ (show (J p).val < 2 ^ 31 by omega)]
    rw [show decide (((J p).val : Int) < (0#32).toInt) = false from decide_eq_false (by simp)]; rfl
  rw [this]; rfl

/-- At a list whose numbers are all in range: the columns themselves. -/
theorem taken_apply {α : Type} {D n k : ℕ} (g : GatherDims ⟨2, ![D, n]⟩ ⟨2, ![k, 1]⟩ ⟨2, ![D, k]⟩)
    (hoff : g.offsetDims = [0]) (hcoll : g.collapsedSliceDims = [1]) (hob : g.operandBatchingDims = [])
    (hsim : g.startIndexMap = [1]) (hivd : g.indexVectorDim = 1) (b0) (b1) (b2) (b3) (b4) (b5) (hr) (hu)
    (nn hi : BitVec 32) (x : (⟨2, ![D, n]⟩ : Shape).Idx → α) (fill : (⟨2, ![D, k]⟩ : Shape).Idx → α)
    (I : IVec ⟨1, ![k]⟩ 32) (J : Fin k → Fin n) (hI : ∀ p, I (ix1 p) = BitVec.ofNat 32 (J p).val) (hn : n < 2 ^ 31)
    (hhi : hi = BitVec.ofNat 32 (n - 1)) (d : Fin D) (p : Fin k) :
    taken g b0 b1 b2 b3 b4 b5 hr hu nn hi x fill I (ix2 d p) = x (ix2 d (J p)) := by
  have hL := listed_apply I nn b0 b1 J hn hI
  unfold taken
  generalize listed I nn b0 b1 = Lx at hL ⊢
  have hred : ∀ j, Host.reduce IntOp.andi
      (andi (cmpi .sge Lx (broadcastInDim ⟨2, ![k, 1]⟩ ![] b2 (constantI ⟨0, ![]⟩ 32 0#32)))
        (cmpi .sle Lx (broadcastInDim ⟨2, ![k, 1]⟩ ![0, 1] b4
          (broadcastInDim ⟨2, ![1, 1]⟩ ![1] b3 (constantI ⟨1, ![1]⟩ 32 hi)))))
      (constantI ⟨0, ![]⟩ 1 1#1) hr hu j = 1#1 := by
    intro j
    refine Host.reduce_andi_one _ _ hr hu j rfl fun i => ?_
    obtain ⟨q, z, rfl⟩ : ∃ (a : Fin _) (b : Fin _), i = ix2 a b := ⟨i 0, i 1, eq_ix2 i⟩
    have hlt := (J q).isLt
    show IntOp.andi (IntOp.cmpi .sge (Lx (ix2 q z)) 0#32) (IntOp.cmpi .sle (Lx (ix2 q z)) hi) = 1#1
    rw [hL, hhi]
    have h1 : IntOp.cmpi .sge (BitVec.ofNat 32 (J q).val) 0#32 = 1#1 := by
      simp [IntOp.cmpi, BitVec.sle, StableHlo.Predicate.toInt_ofNat_small _ (show (J q).val < 2 ^ 31 by omega)]
    have h2 : IntOp.cmpi .sle (BitVec.ofNat 32 (J q).val) (BitVec.ofNat 32 (n - 1)) = 1#1 :=
      (StableHlo.Predicate.sle_ofNat_iff _ _ (by omega) (by omega)).2 (by omega)
    rw [h1, h2]; rfl
  show Scalar.select (Host.reduce IntOp.andi _ _ hr hu _) (Host.gather g x Lx (ix2 d p)) _ = _
  rw [hred]
  exact gather_col g hoff hcoll hob hsim hivd x Lx d p (J p) (hL p 0) hn

end Cert.Proof
-- ==== Proof.Proj.Spec.lean ====
module

public import Idealize.ShloMosaic.Lib.Pointwise
public import Idealize.ShloMosaic.Lib.StableHlo.Predicate

@[expose] public section

noncomputable section

/-! The scalar mathematics of the projections: the modulated norm of a token, the scale and shift of a group, the layer
    norm of the index keys. -/

namespace Cert.Proof.Proj

open Idealize.ShloMosaic

/-- A token after the modulated root-mean-square norm. -/
def hid (x sc sh g : Fin 1024 → EReal) (d : Fin 1024) : EReal :=
  x d * Ideal.rsqrt (Ideal.div (∑ k : Fin 1024, x k * x k) (Ideal.ofBits .f32 0x44800000#32)
    + Ideal.ofBits .f32 0x358637BD#32) * g d * (1 + sc d) + sh d

/-- The scale and shift rows: the gated condition against a column of the weights. -/
def modul (c : Fin 1024 → EReal) (w : Fin 1024 → EReal) (b : EReal) : EReal :=
  (∑ k : Fin 1024, c k * Ideal.div 1 (1 + Ideal.exp (-c k)) * w k) + b

/-- The layer norm of 64 numbers. -/
def lnorm (z w b : Fin 64 → EReal) (l : Fin 64) : EReal :=
  (z l - Ideal.div (∑ k : Fin 64, z k) (Ideal.ofBits .f32 0x42800000#32))
    * Ideal.rsqrt (Ideal.div (∑ k : Fin 64, (z k - Ideal.div (∑ k : Fin 64, z k) (Ideal.ofBits .f32 0x42800000#32))
        * (z k - Ideal.div (∑ k : Fin 64, z k) (Ideal.ofBits .f32 0x42800000#32))) (Ideal.ofBits .f32 0x42800000#32)
      + Ideal.ofBits .f32 0x358637BD#32) * w l + b l

theorem modul_congr {c c' w w' : Fin 1024 → EReal} {b b' : EReal} (hc : ∀ k, c k = c' k) (hw : ∀ k, w k = w' k) (hb : b = b') :
    modul c w b = modul c' w' b' := by
  rw [funext hc, funext hw, hb]

theorem lnorm_congr {z z' w w' b b' : Fin 64 → EReal} {l l' : Fin 64} (hz : ∀ k, z k = z' k) (hw : ∀ k, w k = w' k)
    (hb : ∀ k, b k = b' k) (hl : l = l') : lnorm z w b l = lnorm z' w' b' l' := by
  rw [funext hz, funext hw, funext hb, hl]

/-- Dividing by 64 is multiplying by a sixty-fourth. -/
theorem div64 (x : EReal) : Ideal.div x (Ideal.ofBits .f32 0x42800000#32) = x * Ideal.ofBits .f32 0x3C800000#32 := by
  have h1 : Ideal.ofBits .f32 0x42800000#32 = ((64 : ℝ) : EReal) := by
    simp [Ideal.ofBits, Ideal.ieee, -EReal.coe_mul, -EReal.coe_neg]; norm_num
  have h2 : Ideal.ofBits .f32 0x3C800000#32 = ((1 / 64 : ℝ) : EReal) := by
    simp [Ideal.ofBits, Ideal.ieee, -EReal.coe_mul, -EReal.coe_neg]; norm_num
  rw [h1, h2, Ideal.div_coe (by norm_num)]

/-- A sum over 128 lanes whose upper half is zero. -/
theorem sum_low (f : Fin 128 → EReal) (h : ∀ k : Fin 64, f ⟨64 + k.val, by omega⟩ = 0) :
    ∑ k : Fin 128, f k = ∑ k : Fin 64, f ⟨k.val, by omega⟩ := by
  rw [show (∑ k : Fin 128, f k) = ∑ k : Fin (64 + 64), f k from rfl, Fin.sum_univ_add]
  rw [show (∑ k : Fin 64, f (Fin.natAdd 64 k)) = 0 from Finset.sum_eq_zero fun k _ => h k, add_zero]
  rfl

/-- The lane test of the padded norm. -/
theorem lane_lt (n : ℕ) (hn : n < 128) (a b : EReal) :
    Scalar.select (IntOp.cmpi CmpIPredicate.slt (BitVec.ofNat 32 n) 64#32) a b = if n < 64 then a else b := by
  have h := StableHlo.Predicate.slt_ofNat_iff n 64 (by omega) (by omega)
  unfold Scalar.select
  by_cases hc : n < 64
  · rw [if_pos hc]
    exact if_pos (h.2 hc)
  · rw [if_neg hc]
    exact if_neg fun h' => hc (h.1 h')

/-- The layer norm computed over 128 lanes, the upper 64 zero, is the layer norm of the lower 64. -/
theorem lnorm_pad (p : Fin 128 → EReal) (hp : ∀ k : Fin 64, p ⟨64 + k.val, by omega⟩ = 0) (w b : EReal) (wl bl : Fin 64 → EReal)
    (l : Fin 64) (hw : w = wl l) (hb : b = bl l) :
    Scalar.select (IntOp.cmpi CmpIPredicate.slt (BitVec.ofNat 32 l.val) 64#32)
        ((p ⟨l.val, by omega⟩ - (∑ k, p k) * Ideal.ofBits .f32 0x3C800000#32) * Ideal.rsqrt
          ((∑ x : Fin 128, Scalar.select (IntOp.cmpi CmpIPredicate.slt (BitVec.ofNat 32 x.val) 64#32)
              (Scalar.select (IntOp.cmpi CmpIPredicate.slt (BitVec.ofNat 32 x.val) 64#32)
                ((p x - (∑ k, p k) * Ideal.ofBits .f32 0x3C800000#32) * (p x - (∑ k, p k) * Ideal.ofBits .f32 0x3C800000#32)) 0) 0)
            * Ideal.ofBits .f32 0x3C800000#32 + Ideal.ofBits .f32 0x358637BD#32) * w) 0 + b
      = lnorm (fun k => p ⟨k.val, by omega⟩) wl bl l := by
  subst hw hb
  unfold lnorm
  simp only [div64]
  rw [sum_low p hp, lane_lt _ (by omega), if_pos l.isLt, sum_low _ (fun k => by rw [lane_lt _ (by omega)]; exact if_neg (by simp))]
  have hk (k : Fin 64) (a b c : EReal) :
      Scalar.select (IntOp.cmpi CmpIPredicate.slt (BitVec.ofNat 32 k.val) 64#32)
        (Scalar.select (IntOp.cmpi CmpIPredicate.slt (BitVec.ofNat 32 k.val) 64#32) a b) c = a := by
    rw [lane_lt _ (by omega), if_pos k.isLt, lane_lt _ (by omega), if_pos k.isLt]
  simp only [hk]

end Cert.Proof.Proj
-- ==== Proof.Proj.Args.lean ====
module

public import proofs.«01_k».proof.Proof.Proj.Spec

@[expose] public section

noncomputable section

/-! The projections of a group of sequences as functions of the program's arguments. -/

namespace Cert.Proof.Proj

open Idealize.ShloMosaic

variable {n T : ℕ} (x : (⟨3, ![n, T, 1024]⟩ : Shape).Idx → EReal) (cnd : (⟨2, ![n, 1024]⟩ : Shape).Idx → EReal)
  (wa : (⟨2, ![1024, 6144]⟩ : Shape).Idx → EReal) (ba : (⟨1, ![6144]⟩ : Shape).Idx → EReal)
  (g : (⟨1, ![1024]⟩ : Shape).Idx → EReal) (w : (⟨2, ![1024, 5192]⟩ : Shape).Idx → EReal)
  (lw lb : (⟨1, ![64]⟩ : Shape).Idx → EReal)

/-- A group's scale, shift and gate row. -/
def modRow (b : Fin n) (j : Fin 6144) : EReal := modul (fun k => cnd (ix2 b k)) (fun k => wa (ix2 k j)) (ba (ix1 j))

/-- A token after the modulated norm. -/
def hidden (b : Fin n) (t : Fin T) (d : Fin 1024) : EReal :=
  hid (fun k => x (ix3 b t k)) (fun k => modRow cnd wa ba b ⟨1024 + k.val, by omega⟩)
    (fun k => modRow cnd wa ba b ⟨k.val, by omega⟩) (fun k => g (ix1 k)) d

/-- A token's projection onto a column of the weights. -/
def proj (b : Fin n) (t : Fin T) (j : Fin 5192) : EReal := ∑ d : Fin 1024, hidden x cnd wa ba g b t d * w (ix2 d j)

end Cert.Proof.Proj
-- ==== Proof.Proj.Ada.lean ====
module

public import proofs.«01_k».proof.Proof.Gen.ProjIdeal.Frame.Region0
public import proofs.«01_k».proof.Proof.Proj.Spec
public import Idealize.ShloMosaic.Lib.Pipeline.ValueKit
public import Idealize.ShloMosaic.Lib.Pipeline.ReadBack

@[expose] public section

set_option maxRecDepth 16384

noncomputable section

/-! The first kernel of the projections: the scale, shift and gate rows of every group. -/

namespace Cert.Proof.Proj

open Idealize.ShloMosaic Idealize.ShloMosaic.TcCoe Idealize.SL.Sem
open Cert.ProjIdeal Cert.ProjIdeal.Gen

theorem ada0 (x0 : Vec Ideal S24x1024 .f32) (x1 : Vec Ideal S1024x768 .f32) (x2 : Vec Ideal S1x768 .f32) (r : Fin 24) (l : Fin 768) :
    out0_3 (F := Ideal) x0 x1 x2 (ix2 r l)
      = modul (fun k => x0 (ix2 r k)) (fun k => x1 (ix2 k l)) (x2 (ix2 0 l)) := by
  unfold out0_3
  rw [View.canon_unit_zero (by decide)]
  pointwise [k0_pay1, modul, zero_sub]

variable (V : (c : Dev nD) → (b : Ref sig .tc) → Buf (Elt Ideal) ((c : Thread nD τ).loc b))

theorem index0 : ∀ t, win0_0.index t = ![0, 0] ∧ win0_1.index t = ![0, t.val] ∧ win0_2.index t = ![0, t.val] ∧ win0_3.index t = ![0, t.val] := by
  decide +kernel

set_option maxHeartbeats 1000000 in
theorem arr0 (c : Dev nD) : (dat0 (F := Ideal) V c).arrAt 3 cfg0.N = fun i : S24x6144.Idx =>
    modul (fun k => V c main_v14 (ix2 (i 0) k)) (fun k => V c main_arg4 (ix2 k (i 1))) (V c main_v15 (ix2 0 (i 1))) := by
  refine (dat0 V c).arrAt_eq_of_covers 3 _ (by decide +kernel) fun t hf y => ?_
  obtain ⟨r, l, rfl⟩ : ∃ (r : Fin 24) (l : Fin 768), y = ix2 r l := ⟨y 0, y 1, eq_ix2 y⟩
  blk_simp
  rw [after0_3]
  refine (ada0 _ _ _ r l).trans ?_
  refine modul_congr (fun k => ?_) (fun k => ?_) ?_
  · blk_ext [iblk0, index0 t]
  · blk_ext [iblk0, index0 t]
  · blk_ext [iblk0, index0 t]

end Cert.Proof.Proj
-- ==== Proof.Proj.HostW.lean ====
module

public import proofs.«01_k».proof.Proof.Gen.ProjIdeal.Frame
public import proofs.«01_k».proof.Proof.Columns
public import Idealize.ShloMosaic.Lib.Pipeline.ValueKit
public import Idealize.ShloMosaic.Lib.Pipeline.ReadBack

@[expose] public section

set_option maxRecDepth 16384

noncomputable section

/-! The weights as the kernels read them: the columns of the input projection in the kernels' order. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

/-- Position `p` of a list is its entry `p`. -/
theorem place1 {k : ℕ} (p : Fin k) : (⟨1, ![k]⟩ : Shape).rowMajor (ix1 p) = p.cast (by simp [Shape.numel]) :=
  Fin.ext (Shape.rowMajor_val_one _)

/-- The weights of the attention part: a zero column where the mask is off, else the listed column. -/
theorem colsA_eq : (W5 m ρ c main_v3 : FVec Ideal S1024x2560 .bf16) = truncf (F := Ideal) .bf16
    (select (broadcastInDim S1024x2560 ![0, 1] bcast_S1x2560_S1024x2560_0_1
        (broadcastInDim S1x2560 ![1] bcast_S2560_S1x2560_1 (fun i => lit0 (S2560.rowMajor i))))
      (taken gather_S1024x5192_S2560x1_S1024x2560_0_1_n_n_1_1_10241 bcast_S_S2560 bcast_S2560_S2560x1_0 bcast_S_S2560x1 bcast_S1_S1x1_1
        bcast_S1x1_S2560x1_0_1 bcast_S2560_S1024x2560_1 reducesTo_S2560x1_S2560_d1 h_S_ 5192#32 5191#32
        (m ((c : Thread nD τ).loc main_arg7) : FVec Ideal S1024x5192 .f32)
        (broadcastInDim S1024x2560 ![] bcast_S_S1024x2560 (constant S_ .f32 2143289344#32)) (fun i => lit1 (S2560.rowMajor i)))
      (broadcastInDim S1024x2560 ![] bcast_S_S1024x2560 (constant S_ .f32 0#32))) bitsLt_bf16_f32 := by
  show StableHlo.after hostOps0_4 (W4 m ρ c) _ = _
  after_results
  rfl

theorem colsA_bound : ∀ p : Fin 2560, (lit1 p).toNat < 5192 := by decide +kernel

theorem colsA_apply (d : Fin 1024) (p : Fin 2560) : (W5 m ρ c main_v3 : FVec Ideal S1024x2560 .bf16) (ix2 d p)
    = Scalar.select (lit0 p) ((m ((c : Thread nD τ).loc main_arg7) : FVec Ideal S1024x5192 .f32) (ix2 d ⟨(lit1 p).toNat, colsA_bound p⟩))
        (Ideal.ofBits .f32 0#32) := by
  rw [colsA_eq]
  have h := taken_apply gather_S1024x5192_S2560x1_S1024x2560_0_1_n_n_1_1_10241 rfl rfl rfl rfl rfl bcast_S_S2560 bcast_S2560_S2560x1_0
    bcast_S_S2560x1 bcast_S1_S1x1_1 bcast_S1x1_S2560x1_0_1 bcast_S2560_S1024x2560_1 reducesTo_S2560x1_S2560_d1 h_S_ 5192#32 5191#32
    (m ((c : Thread nD τ).loc main_arg7) : FVec Ideal S1024x5192 .f32)
    (broadcastInDim S1024x2560 ![] bcast_S_S1024x2560 (constant (F := Ideal) S_ .f32 2143289344#32)) (fun i => lit1 (S2560.rowMajor i))
    (fun p => ⟨(lit1 p).toNat, colsA_bound p⟩) (fun p => (by
      show _ = _
      rw [place1]
      show lit1 p = BitVec.ofNat 32 (lit1 p).toNat
      simp)) (by norm_num) rfl d p
  generalize taken (α := Ideal .f32) _ _ _ _ _ _ _ _ _ _ _ _ _ _ = T at h ⊢
  pointwise
  rw [h]
  all_goals rw [place1]
  all_goals rfl

set_option maxHeartbeats 1000000 in
/-- The weights of the recurrent part: a zero column where the mask is off, else the listed column. -/
theorem colsB_eq : (W9 m ρ c main_v7 : FVec Ideal S1024x5376 .bf16) = truncf (F := Ideal) .bf16
    (select (broadcastInDim S1024x5376 ![0, 1] bcast_S1x5376_S1024x5376_0_1
        (broadcastInDim S1x5376 ![1] bcast_S5376_S1x5376_1 (fun i => lit2 (S5376.rowMajor i))))
      (taken gather_S1024x5192_S5376x1_S1024x5376_0_1_n_n_1_1_10241 bcast_S_S5376 bcast_S5376_S5376x1_0 bcast_S_S5376x1 bcast_S1_S1x1_1
        bcast_S1x1_S5376x1_0_1 bcast_S5376_S1024x5376_1 reducesTo_S5376x1_S5376_d1 h_S_ 5192#32 5191#32
        (m ((c : Thread nD τ).loc main_arg7) : FVec Ideal S1024x5192 .f32)
        (broadcastInDim S1024x5376 ![] bcast_S_S1024x5376 (constant S_ .f32 2143289344#32)) (fun i => lit3 (S5376.rowMajor i)))
      (broadcastInDim S1024x5376 ![] bcast_S_S1024x5376 (constant S_ .f32 0#32))) bitsLt_bf16_f32 := by
  show StableHlo.after hostOps0_8 (W8 m ρ c) _ = _
  after_results
  rfl

theorem colsB_bound : ∀ p : Fin 5376, (lit3 p).toNat < 5192 := by decide +kernel

theorem colsB_apply (d : Fin 1024) (p : Fin 5376) : (W9 m ρ c main_v7 : FVec Ideal S1024x5376 .bf16) (ix2 d p)
    = Scalar.select (lit2 p) ((m ((c : Thread nD τ).loc main_arg7) : FVec Ideal S1024x5192 .f32) (ix2 d ⟨(lit3 p).toNat, colsB_bound p⟩))
        (Ideal.ofBits .f32 0#32) := by
  rw [colsB_eq]
  have h := taken_apply gather_S1024x5192_S5376x1_S1024x5376_0_1_n_n_1_1_10241 rfl rfl rfl rfl rfl bcast_S_S5376 bcast_S5376_S5376x1_0
    bcast_S_S5376x1 bcast_S1_S1x1_1 bcast_S1x1_S5376x1_0_1 bcast_S5376_S1024x5376_1 reducesTo_S5376x1_S5376_d1 h_S_ 5192#32 5191#32
    (m ((c : Thread nD τ).loc main_arg7) : FVec Ideal S1024x5192 .f32)
    (broadcastInDim S1024x5376 ![] bcast_S_S1024x5376 (constant (F := Ideal) S_ .f32 2143289344#32)) (fun i => lit3 (S5376.rowMajor i))
    (fun p => ⟨(lit3 p).toNat, colsB_bound p⟩) (fun p => (by
      show _ = _
      rw [place1]
      show lit3 p = BitVec.ofNat 32 (lit3 p).toNat
      simp)) (by norm_num) rfl d p
  generalize taken (α := Ideal .f32) _ _ _ _ _ _ _ _ _ _ _ _ _ _ = T at h ⊢
  pointwise
  rw [h]
  all_goals rw [place1]
  all_goals rfl

/-- The key columns. -/
theorem w_key (d : Fin 1024) (l : Fin 128) : (W5 m ρ c main_v3 : FVec Ideal S1024x2560 .bf16) (ix2 d ⟨1024 + l.val, by omega⟩)
    = (m ((c : Thread nD τ).loc main_arg7) : FVec Ideal S1024x5192 .f32) (ix2 d ⟨512 + l.val, by omega⟩) := by
  have h : ∀ l : Fin 128, lit0 ⟨1024 + l.val, by omega⟩ = 1#1 ∧ (lit1 ⟨1024 + l.val, by omega⟩).toNat = 512 + l.val := by decide +kernel
  rw [colsA_apply, (h l).1]
  refine (if_pos rfl).trans (congrArg (fun q => (m ((c : Thread nD τ).loc main_arg7) : FVec Ideal S1024x5192 .f32) (ix2 d q)) (Fin.ext (h l).2))

/-- The value columns. -/
theorem w_val (d : Fin 1024) (l : Fin 128) : (W5 m ρ c main_v3 : FVec Ideal S1024x2560 .bf16) (ix2 d ⟨1024 + (128 + l.val), by omega⟩)
    = (m ((c : Thread nD τ).loc main_arg7) : FVec Ideal S1024x5192 .f32) (ix2 d ⟨640 + l.val, by omega⟩) := by
  have h : ∀ l : Fin 128, lit0 ⟨1024 + (128 + l.val), by omega⟩ = 1#1 ∧ (lit1 ⟨1024 + (128 + l.val), by omega⟩).toNat = 640 + l.val := by decide +kernel
  rw [colsA_apply, (h l).1]
  refine (if_pos rfl).trans (congrArg (fun q => (m ((c : Thread nD τ).loc main_arg7) : FVec Ideal S1024x5192 .f32) (ix2 d q)) (Fin.ext (h l).2))

/-- The index-key columns. -/
theorem w_ik (d : Fin 1024) (l : Fin 64) : (W5 m ρ c main_v3 : FVec Ideal S1024x2560 .bf16) (ix2 d ⟨2304 + l.val, by omega⟩)
    = (m ((c : Thread nD τ).loc main_arg7) : FVec Ideal S1024x5192 .f32) (ix2 d ⟨1280 + l.val, by omega⟩) := by
  have h : ∀ l : Fin 64, lit0 ⟨2304 + l.val, by omega⟩ = 1#1 ∧ (lit1 ⟨2304 + l.val, by omega⟩).toNat = 1280 + l.val := by decide +kernel
  rw [colsA_apply, (h l).1]
  refine (if_pos rfl).trans (congrArg (fun q => (m ((c : Thread nD τ).loc main_arg7) : FVec Ideal S1024x5192 .f32) (ix2 d q)) (Fin.ext (h l).2))

/-- The index-weight columns. -/
theorem w_iw (d : Fin 1024) (l : Fin 8) : (W5 m ρ c main_v3 : FVec Ideal S1024x2560 .bf16) (ix2 d ⟨2304 + (128 + l.val), by omega⟩)
    = (m ((c : Thread nD τ).loc main_arg7) : FVec Ideal S1024x5192 .f32) (ix2 d ⟨1344 + l.val, by omega⟩) := by
  have h : ∀ l : Fin 8, lit0 ⟨2304 + (128 + l.val), by omega⟩ = 1#1 ∧ (lit1 ⟨2304 + (128 + l.val), by omega⟩).toNat = 1344 + l.val := by decide +kernel
  rw [colsA_apply, (h l).1]
  refine (if_pos rfl).trans (congrArg (fun q => (m ((c : Thread nD τ).loc main_arg7) : FVec Ideal S1024x5192 .f32) (ix2 d q)) (Fin.ext (h l).2))

/-- The first gate's columns. -/
theorem w_ga (d : Fin 1024) (l : Fin 1024) : (W9 m ρ c main_v7 : FVec Ideal S1024x5376 .bf16) (ix2 d ⟨3328 + l.val, by omega⟩)
    = (m ((c : Thread nD τ).loc main_arg7) : FVec Ideal S1024x5192 .f32) (ix2 d ⟨3144 + l.val, by omega⟩) := by
  have h : ∀ l : Fin 1024, lit2 ⟨3328 + l.val, by omega⟩ = 1#1 ∧ (lit3 ⟨3328 + l.val, by omega⟩).toNat = 3144 + l.val := by decide +kernel
  rw [colsB_apply, (h l).1]
  refine (if_pos rfl).trans (congrArg (fun q => (m ((c : Thread nD τ).loc main_arg7) : FVec Ideal S1024x5192 .f32) (ix2 d q)) (Fin.ext (h l).2))

/-- The second gate's columns. -/
theorem w_gb (d : Fin 1024) (l : Fin 1024) : (W9 m ρ c main_v7 : FVec Ideal S1024x5376 .bf16) (ix2 d ⟨4352 + l.val, by omega⟩)
    = (m ((c : Thread nD τ).loc main_arg7) : FVec Ideal S1024x5192 .f32) (ix2 d ⟨4168 + l.val, by omega⟩) := by
  have h : ∀ l : Fin 1024, lit2 ⟨4352 + l.val, by omega⟩ = 1#1 ∧ (lit3 ⟨4352 + l.val, by omega⟩).toNat = 4168 + l.val := by decide +kernel
  rw [colsB_apply, (h l).1]
  refine (if_pos rfl).trans (congrArg (fun q => (m ((c : Thread nD τ).loc main_arg7) : FVec Ideal S1024x5192 .f32) (ix2 d q)) (Fin.ext (h l).2))

/-- The lanes after the index-key columns are zero. -/
theorem w_ik_zero (d : Fin 1024) (l : Fin 64) : (W5 m ρ c main_v3 : FVec Ideal S1024x2560 .bf16) (ix2 d ⟨2304 + (64 + l.val), by omega⟩)
    = (0 : EReal) := by
  have h : ∀ l : Fin 64, lit0 ⟨2304 + (64 + l.val), by omega⟩ = 0#1 := by decide +kernel
  rw [colsA_apply, h l]
  exact (if_neg (by decide)).trans (by simp [Ideal.ofBits, Ideal.ieee])

theorem back_bound : ∀ p : Fin 1792, (lit4 p).toNat < 3328 := by decide +kernel

/-- The recurrence's columns, read back through the list of where each went. -/
theorem w_zr (d : Fin 1024) (p : Fin 1792) : (W9 m ρ c main_v7 : FVec Ideal S1024x5376 .bf16)
      (ix2 d ⟨(lit4 p).toNat, by have := back_bound p; omega⟩)
    = (m ((c : Thread nD τ).loc main_arg7) : FVec Ideal S1024x5192 .f32) (ix2 d ⟨1352 + p.val, by omega⟩) := by
  have h : ∀ p : Fin 1792, lit2 ⟨(lit4 p).toNat, by have := back_bound p; omega⟩ = 1#1
      ∧ (lit3 ⟨(lit4 p).toNat, by have := back_bound p; omega⟩).toNat = 1352 + p.val := by decide +kernel
  rw [colsB_apply, (h p).1]
  refine (if_pos rfl).trans (congrArg (fun q => (m ((c : Thread nD τ).loc main_arg7) : FVec Ideal S1024x5192 .f32) (ix2 d q)) (Fin.ext (h p).2))

theorem lists_equal : ∀ p : Fin 1792, lit5 p = lit4 p := by decide +kernel

end Cert.Proof.Proj
-- ==== Proof.Proj.HostN.lean ====
module

public import proofs.«01_k».proof.Proof.Gen.ProjIdeal.Frame
public import Idealize.ShloMosaic.Lib.Pipeline.ValueKit
public import Idealize.ShloMosaic.Lib.Pipeline.ReadBack

@[expose] public section

set_option maxRecDepth 16384

noncomputable section

/-! The small operands as the kernels read them. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

theorem W10_v9 (k : Fin 64) : (W10 m ρ c main_v9 : FVec Ideal S1x128 .f32) (ix2 0 ⟨k.val, by omega⟩)
    = (m ((c : Thread nD τ).loc main_arg8) : FVec Ideal S64 .f32) (ix1 k) := by
  have e : (W10 m ρ c main_v9 : FVec Ideal S1x128 .f32) = pad (α := Ideal .f32) S1x128 ![0, 0] ![0, 64] ![0, 0]
      (shapeCast S1x64 (m ((c : Thread nD τ).loc main_arg8) : FVec Ideal S64 .f32) shapeCasts_S64_S1x64) (sitofp .f32 (constantI S_ 32 0#32)) pads_S1x64_S1x128_000_0640 h_S_ := by
    show StableHlo.after hostOps0_9 (W9 m ρ c) _ = _
    after_results
    rfl
  rw [e]
  pointwise

theorem W12_v11 (k : Fin 64) : (W12 m ρ c main_v11 : FVec Ideal S1x128 .f32) (ix2 0 ⟨k.val, by omega⟩)
    = (m ((c : Thread nD τ).loc main_arg9) : FVec Ideal S64 .f32) (ix1 k) := by
  have e : (W12 m ρ c main_v11 : FVec Ideal S1x128 .f32) = pad (α := Ideal .f32) S1x128 ![0, 0] ![0, 64] ![0, 0]
      (shapeCast S1x64 (m ((c : Thread nD τ).loc main_arg9) : FVec Ideal S64 .f32) shapeCasts_S64_S1x64) (sitofp .f32 (constantI S_ 32 0#32)) pads_S1x64_S1x128_000_0640 h_S_ := by
    show StableHlo.after hostOps0_11 (W11 m ρ c) _ = _
    after_results
    rfl
  rw [e]
  pointwise

theorem W13_v12 (k : Fin 1024) : (W13 m ρ c main_v12 : FVec Ideal S1x1024 .f32) (ix2 0 k) = (m ((c : Thread nD τ).loc main_arg6) : FVec Ideal S1024 .f32) (ix1 k) := by
  show StableHlo.after hostOps0_12 (W12 m ρ c) _ _ = _
  after_results
  pointwise

theorem W14_v14 : (W14 m ρ c main_v14 : FVec Ideal S24x1024 .f32) = pad (α := Ideal .f32) S24x1024 ![0, 0] ![6, 0] ![0, 0]
    (concatenate S18x1024 0 [⟨S2x1024, (m ((c : Thread nD τ).loc main_arg2) : FVec Ideal S2x1024 .f32)⟩, ⟨S16x1024, (m ((c : Thread nD τ).loc main_arg3) : FVec Ideal S16x1024 .f32)⟩]
      concatenates_S2x1024_S16x1024_S18x1024_d0) (sitofp .f32 (constantI S_ 32 0#32)) pads_S18x1024_S24x1024_060_000 h_S_ := by
  show StableHlo.after hostOps0_13 (W13 m ρ c) _ = _
  after_results
  rfl

/-- The first two condition rows are the prompt's. -/
theorem W14_prompt (b : Fin 2) (k : Fin 1024) : (W14 m ρ c main_v14 : FVec Ideal S24x1024 .f32) (ix2 ⟨b.val, by omega⟩ k)
    = (m ((c : Thread nD τ).loc main_arg2) : FVec Ideal S2x1024 .f32) (ix2 b k) := by
  rw [W14_v14]
  pointwise
  all_goals rw [dif_pos (by omega)]

/-- The next sixteen are the samples'. -/
theorem W14_sample (b : Fin 16) (k : Fin 1024) : (W14 m ρ c main_v14 : FVec Ideal S24x1024 .f32) (ix2 ⟨2 + b.val, by omega⟩ k)
    = (m ((c : Thread nD τ).loc main_arg3) : FVec Ideal S16x1024 .f32) (ix2 b k) := by
  rw [W14_v14]
  pointwise
  all_goals rw [dif_pos (by omega)]

theorem W15_v15 (k : Fin 6144) : (W15 m ρ c main_v15 : FVec Ideal S1x6144 .f32) (ix2 0 k) = (m ((c : Thread nD τ).loc main_arg5) : FVec Ideal S6144 .f32) (ix1 k) := by
  show StableHlo.after hostOps0_14 (W14 m ρ c) _ _ = _
  after_results
  pointwise

theorem W17_v24 (b : Fin 2) (k : Fin 1024) : (W17 m ρ c main_v24 : FVec Ideal S2x1x1024 .f32) (ix3 b 0 k)
    = (W16 m ρ c main_v16 : FVec Ideal S24x6144 .f32) (ix2 ⟨b.val, by omega⟩ ⟨k.val, by omega⟩) := by
  show StableHlo.after hostOps1 (W16 m ρ c) _ _ = _
  after_results
  pointwise

theorem W17_v26 (b : Fin 2) (k : Fin 1024) : (W17 m ρ c main_v26 : FVec Ideal S2x1x1024 .f32) (ix3 b 0 k)
    = (W16 m ρ c main_v16 : FVec Ideal S24x6144 .f32) (ix2 ⟨b.val, by omega⟩ ⟨1024 + k.val, by omega⟩) := by
  show StableHlo.after hostOps1 (W16 m ρ c) _ _ = _
  after_results
  pointwise

theorem W17_v42 (b : Fin 16) (k : Fin 1024) : (W17 m ρ c main_v42 : FVec Ideal S16x1x1024 .f32) (ix3 b 0 k)
    = (W16 m ρ c main_v16 : FVec Ideal S24x6144 .f32) (ix2 ⟨2 + b.val, by omega⟩ ⟨k.val, by omega⟩) := by
  show StableHlo.after hostOps1 (W16 m ρ c) _ _ = _
  after_results
  pointwise

theorem W17_v44 (b : Fin 16) (k : Fin 1024) : (W17 m ρ c main_v44 : FVec Ideal S16x1x1024 .f32) (ix3 b 0 k)
    = (W16 m ρ c main_v16 : FVec Ideal S24x6144 .f32) (ix2 ⟨2 + b.val, by omega⟩ ⟨1024 + k.val, by omega⟩) := by
  show StableHlo.after hostOps1 (W16 m ρ c) _ _ = _
  after_results
  pointwise

end Cert.Proof.Proj
-- ==== Proof.Proj.Keep.lean ====
module

public import proofs.«01_k».proof.Proof.Gen.ProjIdeal.Frame
public import Idealize.ShloMosaic.Lib.Pipeline.ValueKit

@[expose] public section

set_option maxRecDepth 16384

noncomputable section

/-! What each kernel finds in its operands: a buffer keeps its contents from where it is written to where it is read. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

theorem keep17_v3 : W17 m ρ c main_v3 = W5 m ρ c main_v3 :=
  ((((((((((((W17_of m ρ c main_v3 (by decide)).trans
    (W16_of m ρ c main_v3 (by decide))).trans
    (W15_of m ρ c main_v3 (by decide))).trans
    (W14_of m ρ c main_v3 (by decide))).trans
    (W13_of m ρ c main_v3 (by decide))).trans
    (W12_of m ρ c main_v3 (by decide))).trans
    (W11_of m ρ c main_v3 (by decide))).trans
    (W10_of m ρ c main_v3 (by decide))).trans
    (W9_of m ρ c main_v3 (by decide))).trans
    (W8_of m ρ c main_v3 (by decide))).trans
    (W7_of m ρ c main_v3 (by decide))).trans
    (W6_of m ρ c main_v3 (by decide)))

theorem keep17_v9 : W17 m ρ c main_v9 = W10 m ρ c main_v9 :=
  (((((((W17_of m ρ c main_v9 (by decide)).trans
    (W16_of m ρ c main_v9 (by decide))).trans
    (W15_of m ρ c main_v9 (by decide))).trans
    (W14_of m ρ c main_v9 (by decide))).trans
    (W13_of m ρ c main_v9 (by decide))).trans
    (W12_of m ρ c main_v9 (by decide))).trans
    (W11_of m ρ c main_v9 (by decide)))

theorem keep17_v11 : W17 m ρ c main_v11 = W12 m ρ c main_v11 :=
  (((((W17_of m ρ c main_v11 (by decide)).trans
    (W16_of m ρ c main_v11 (by decide))).trans
    (W15_of m ρ c main_v11 (by decide))).trans
    (W14_of m ρ c main_v11 (by decide))).trans
    (W13_of m ρ c main_v11 (by decide)))

theorem keep17_v12 : W17 m ρ c main_v12 = W13 m ρ c main_v12 :=
  ((((W17_of m ρ c main_v12 (by decide)).trans
    (W16_of m ρ c main_v12 (by decide))).trans
    (W15_of m ρ c main_v12 (by decide))).trans
    (W14_of m ρ c main_v12 (by decide)))

theorem keep18_v7 : W18 m ρ c main_v7 = W9 m ρ c main_v7 :=
  (((((((((W18_of m ρ c main_v7 (by decide)).trans
    (W17_of m ρ c main_v7 (by decide))).trans
    (W16_of m ρ c main_v7 (by decide))).trans
    (W15_of m ρ c main_v7 (by decide))).trans
    (W14_of m ρ c main_v7 (by decide))).trans
    (W13_of m ρ c main_v7 (by decide))).trans
    (W12_of m ρ c main_v7 (by decide))).trans
    (W11_of m ρ c main_v7 (by decide))).trans
    (W10_of m ρ c main_v7 (by decide)))

theorem keep18_v12 : W18 m ρ c main_v12 = W13 m ρ c main_v12 :=
  (((((W18_of m ρ c main_v12 (by decide)).trans
    (W17_of m ρ c main_v12 (by decide))).trans
    (W16_of m ρ c main_v12 (by decide))).trans
    (W15_of m ρ c main_v12 (by decide))).trans
    (W14_of m ρ c main_v12 (by decide)))

theorem keep18_v24 : W18 m ρ c main_v24 = W17 m ρ c main_v24 :=
  (W18_of m ρ c main_v24 (by decide))

theorem keep18_v26 : W18 m ρ c main_v26 = W17 m ρ c main_v26 :=
  (W18_of m ρ c main_v26 (by decide))

theorem keep22_v3 : W22 m ρ c main_v3 = W5 m ρ c main_v3 :=
  (((((((((((((((((W22_of m ρ c main_v3 (by decide)).trans
    (W21_of m ρ c main_v3 (by decide))).trans
    (W20_of m ρ c main_v3 (by decide))).trans
    (W19_of m ρ c main_v3 (by decide))).trans
    (W18_of m ρ c main_v3 (by decide))).trans
    (W17_of m ρ c main_v3 (by decide))).trans
    (W16_of m ρ c main_v3 (by decide))).trans
    (W15_of m ρ c main_v3 (by decide))).trans
    (W14_of m ρ c main_v3 (by decide))).trans
    (W13_of m ρ c main_v3 (by decide))).trans
    (W12_of m ρ c main_v3 (by decide))).trans
    (W11_of m ρ c main_v3 (by decide))).trans
    (W10_of m ρ c main_v3 (by decide))).trans
    (W9_of m ρ c main_v3 (by decide))).trans
    (W8_of m ρ c main_v3 (by decide))).trans
    (W7_of m ρ c main_v3 (by decide))).trans
    (W6_of m ρ c main_v3 (by decide)))

theorem keep22_v9 : W22 m ρ c main_v9 = W10 m ρ c main_v9 :=
  ((((((((((((W22_of m ρ c main_v9 (by decide)).trans
    (W21_of m ρ c main_v9 (by decide))).trans
    (W20_of m ρ c main_v9 (by decide))).trans
    (W19_of m ρ c main_v9 (by decide))).trans
    (W18_of m ρ c main_v9 (by decide))).trans
    (W17_of m ρ c main_v9 (by decide))).trans
    (W16_of m ρ c main_v9 (by decide))).trans
    (W15_of m ρ c main_v9 (by decide))).trans
    (W14_of m ρ c main_v9 (by decide))).trans
    (W13_of m ρ c main_v9 (by decide))).trans
    (W12_of m ρ c main_v9 (by decide))).trans
    (W11_of m ρ c main_v9 (by decide)))

theorem keep22_v11 : W22 m ρ c main_v11 = W12 m ρ c main_v11 :=
  ((((((((((W22_of m ρ c main_v11 (by decide)).trans
    (W21_of m ρ c main_v11 (by decide))).trans
    (W20_of m ρ c main_v11 (by decide))).trans
    (W19_of m ρ c main_v11 (by decide))).trans
    (W18_of m ρ c main_v11 (by decide))).trans
    (W17_of m ρ c main_v11 (by decide))).trans
    (W16_of m ρ c main_v11 (by decide))).trans
    (W15_of m ρ c main_v11 (by decide))).trans
    (W14_of m ρ c main_v11 (by decide))).trans
    (W13_of m ρ c main_v11 (by decide)))

theorem keep22_v12 : W22 m ρ c main_v12 = W13 m ρ c main_v12 :=
  (((((((((W22_of m ρ c main_v12 (by decide)).trans
    (W21_of m ρ c main_v12 (by decide))).trans
    (W20_of m ρ c main_v12 (by decide))).trans
    (W19_of m ρ c main_v12 (by decide))).trans
    (W18_of m ρ c main_v12 (by decide))).trans
    (W17_of m ρ c main_v12 (by decide))).trans
    (W16_of m ρ c main_v12 (by decide))).trans
    (W15_of m ρ c main_v12 (by decide))).trans
    (W14_of m ρ c main_v12 (by decide)))

theorem keep22_v42 : W22 m ρ c main_v42 = W17 m ρ c main_v42 :=
  (((((W22_of m ρ c main_v42 (by decide)).trans
    (W21_of m ρ c main_v42 (by decide))).trans
    (W20_of m ρ c main_v42 (by decide))).trans
    (W19_of m ρ c main_v42 (by decide))).trans
    (W18_of m ρ c main_v42 (by decide)))

theorem keep22_v44 : W22 m ρ c main_v44 = W17 m ρ c main_v44 :=
  (((((W22_of m ρ c main_v44 (by decide)).trans
    (W21_of m ρ c main_v44 (by decide))).trans
    (W20_of m ρ c main_v44 (by decide))).trans
    (W19_of m ρ c main_v44 (by decide))).trans
    (W18_of m ρ c main_v44 (by decide)))

theorem keep23_v7 : W23 m ρ c main_v7 = W9 m ρ c main_v7 :=
  ((((((((((((((W23_of m ρ c main_v7 (by decide)).trans
    (W22_of m ρ c main_v7 (by decide))).trans
    (W21_of m ρ c main_v7 (by decide))).trans
    (W20_of m ρ c main_v7 (by decide))).trans
    (W19_of m ρ c main_v7 (by decide))).trans
    (W18_of m ρ c main_v7 (by decide))).trans
    (W17_of m ρ c main_v7 (by decide))).trans
    (W16_of m ρ c main_v7 (by decide))).trans
    (W15_of m ρ c main_v7 (by decide))).trans
    (W14_of m ρ c main_v7 (by decide))).trans
    (W13_of m ρ c main_v7 (by decide))).trans
    (W12_of m ρ c main_v7 (by decide))).trans
    (W11_of m ρ c main_v7 (by decide))).trans
    (W10_of m ρ c main_v7 (by decide)))

theorem keep23_v12 : W23 m ρ c main_v12 = W13 m ρ c main_v12 :=
  ((((((((((W23_of m ρ c main_v12 (by decide)).trans
    (W22_of m ρ c main_v12 (by decide))).trans
    (W21_of m ρ c main_v12 (by decide))).trans
    (W20_of m ρ c main_v12 (by decide))).trans
    (W19_of m ρ c main_v12 (by decide))).trans
    (W18_of m ρ c main_v12 (by decide))).trans
    (W17_of m ρ c main_v12 (by decide))).trans
    (W16_of m ρ c main_v12 (by decide))).trans
    (W15_of m ρ c main_v12 (by decide))).trans
    (W14_of m ρ c main_v12 (by decide)))

theorem keep23_v42 : W23 m ρ c main_v42 = W17 m ρ c main_v42 :=
  ((((((W23_of m ρ c main_v42 (by decide)).trans
    (W22_of m ρ c main_v42 (by decide))).trans
    (W21_of m ρ c main_v42 (by decide))).trans
    (W20_of m ρ c main_v42 (by decide))).trans
    (W19_of m ρ c main_v42 (by decide))).trans
    (W18_of m ρ c main_v42 (by decide)))

theorem keep23_v44 : W23 m ρ c main_v44 = W17 m ρ c main_v44 :=
  ((((((W23_of m ρ c main_v44 (by decide)).trans
    (W22_of m ρ c main_v44 (by decide))).trans
    (W21_of m ρ c main_v44 (by decide))).trans
    (W20_of m ρ c main_v44 (by decide))).trans
    (W19_of m ρ c main_v44 (by decide))).trans
    (W18_of m ρ c main_v44 (by decide)))

theorem keep15_v14 : W15 m ρ c main_v14 = W14 m ρ c main_v14 :=
  (W15_of m ρ c main_v14 (by decide))

theorem keep21_v53_1 : W21 m ρ c main_v53_1 = W18 m ρ c main_v53_1 :=
  (((W21_of m ρ c main_v53_1 (by decide)).trans
    (W20_of m ρ c main_v53_1 (by decide))).trans
    (W19_of m ρ c main_v53_1 (by decide)))

theorem keep21_v53_2 : W21 m ρ c main_v53_2 = W18 m ρ c main_v53_2 :=
  (((W21_of m ρ c main_v53_2 (by decide)).trans
    (W20_of m ρ c main_v53_2 (by decide))).trans
    (W19_of m ρ c main_v53_2 (by decide)))

theorem keep27_v53_6 : W27 m ρ c main_v53_6 = W18 m ρ c main_v53_6 :=
  (((((((((W27_of m ρ c main_v53_6 (by decide)).trans
    (W26_of m ρ c main_v53_6 (by decide))).trans
    (W25_of m ρ c main_v53_6 (by decide))).trans
    (W24_of m ρ c main_v53_6 (by decide))).trans
    (W23_of m ρ c main_v53_6 (by decide))).trans
    (W22_of m ρ c main_v53_6 (by decide))).trans
    (W21_of m ρ c main_v53_6 (by decide))).trans
    (W20_of m ρ c main_v53_6 (by decide))).trans
    (W19_of m ρ c main_v53_6 (by decide)))

theorem keep27_v53_8 : W27 m ρ c main_v53_8 = W18 m ρ c main_v53_8 :=
  (((((((((W27_of m ρ c main_v53_8 (by decide)).trans
    (W26_of m ρ c main_v53_8 (by decide))).trans
    (W25_of m ρ c main_v53_8 (by decide))).trans
    (W24_of m ρ c main_v53_8 (by decide))).trans
    (W23_of m ρ c main_v53_8 (by decide))).trans
    (W22_of m ρ c main_v53_8 (by decide))).trans
    (W21_of m ρ c main_v53_8 (by decide))).trans
    (W20_of m ρ c main_v53_8 (by decide))).trans
    (W19_of m ρ c main_v53_8 (by decide)))

theorem keep27_v54_1 : W27 m ρ c main_v54_1 = W19 m ρ c main_v54_1 :=
  ((((((((W27_of m ρ c main_v54_1 (by decide)).trans
    (W26_of m ρ c main_v54_1 (by decide))).trans
    (W25_of m ρ c main_v54_1 (by decide))).trans
    (W24_of m ρ c main_v54_1 (by decide))).trans
    (W23_of m ρ c main_v54_1 (by decide))).trans
    (W22_of m ρ c main_v54_1 (by decide))).trans
    (W21_of m ρ c main_v54_1 (by decide))).trans
    (W20_of m ρ c main_v54_1 (by decide)))

theorem keep27_v54_2 : W27 m ρ c main_v54_2 = W19 m ρ c main_v54_2 :=
  ((((((((W27_of m ρ c main_v54_2 (by decide)).trans
    (W26_of m ρ c main_v54_2 (by decide))).trans
    (W25_of m ρ c main_v54_2 (by decide))).trans
    (W24_of m ρ c main_v54_2 (by decide))).trans
    (W23_of m ρ c main_v54_2 (by decide))).trans
    (W22_of m ρ c main_v54_2 (by decide))).trans
    (W21_of m ρ c main_v54_2 (by decide))).trans
    (W20_of m ρ c main_v54_2 (by decide)))

theorem keep27_v59 : W27 m ρ c main_v59 = W22 m ρ c main_v59 :=
  (((((W27_of m ρ c main_v59 (by decide)).trans
    (W26_of m ρ c main_v59 (by decide))).trans
    (W25_of m ρ c main_v59 (by decide))).trans
    (W24_of m ρ c main_v59 (by decide))).trans
    (W23_of m ρ c main_v59 (by decide)))

theorem keep27_v60 : W27 m ρ c main_v60 = W22 m ρ c main_v60 :=
  (((((W27_of m ρ c main_v60 (by decide)).trans
    (W26_of m ρ c main_v60 (by decide))).trans
    (W25_of m ρ c main_v60 (by decide))).trans
    (W24_of m ρ c main_v60 (by decide))).trans
    (W23_of m ρ c main_v60 (by decide)))

theorem keep27_v58 : W27 m ρ c main_v58 = W22 m ρ c main_v58 :=
  (((((W27_of m ρ c main_v58 (by decide)).trans
    (W26_of m ρ c main_v58 (by decide))).trans
    (W25_of m ρ c main_v58 (by decide))).trans
    (W24_of m ρ c main_v58 (by decide))).trans
    (W23_of m ρ c main_v58 (by decide)))

theorem keep26_v61_1 : W26 m ρ c main_v61_1 = W23 m ρ c main_v61_1 :=
  (((W26_of m ρ c main_v61_1 (by decide)).trans
    (W25_of m ρ c main_v61_1 (by decide))).trans
    (W24_of m ρ c main_v61_1 (by decide)))

theorem keep26_v61_2 : W26 m ρ c main_v61_2 = W23 m ρ c main_v61_2 :=
  (((W26_of m ρ c main_v61_2 (by decide)).trans
    (W25_of m ρ c main_v61_2 (by decide))).trans
    (W24_of m ρ c main_v61_2 (by decide)))

theorem keep27_v61_6 : W27 m ρ c main_v61_6 = W23 m ρ c main_v61_6 :=
  ((((W27_of m ρ c main_v61_6 (by decide)).trans
    (W26_of m ρ c main_v61_6 (by decide))).trans
    (W25_of m ρ c main_v61_6 (by decide))).trans
    (W24_of m ρ c main_v61_6 (by decide)))

theorem keep27_v61_8 : W27 m ρ c main_v61_8 = W23 m ρ c main_v61_8 :=
  ((((W27_of m ρ c main_v61_8 (by decide)).trans
    (W26_of m ρ c main_v61_8 (by decide))).trans
    (W25_of m ρ c main_v61_8 (by decide))).trans
    (W24_of m ρ c main_v61_8 (by decide)))

theorem keep27_v62_1 : W27 m ρ c main_v62_1 = W24 m ρ c main_v62_1 :=
  (((W27_of m ρ c main_v62_1 (by decide)).trans
    (W26_of m ρ c main_v62_1 (by decide))).trans
    (W25_of m ρ c main_v62_1 (by decide)))

theorem keep27_v62_2 : W27 m ρ c main_v62_2 = W24 m ρ c main_v62_2 :=
  (((W27_of m ρ c main_v62_2 (by decide)).trans
    (W26_of m ρ c main_v62_2 (by decide))).trans
    (W25_of m ρ c main_v62_2 (by decide)))

theorem keep20_c_3 : W20 m ρ c main_c_3 = W1 m ρ c main_c_3 :=
  (((((((((((((((((((W20_of m ρ c main_c_3 (by decide)).trans
    (W19_of m ρ c main_c_3 (by decide))).trans
    (W18_of m ρ c main_c_3 (by decide))).trans
    (W17_of m ρ c main_c_3 (by decide))).trans
    (W16_of m ρ c main_c_3 (by decide))).trans
    (W15_of m ρ c main_c_3 (by decide))).trans
    (W14_of m ρ c main_c_3 (by decide))).trans
    (W13_of m ρ c main_c_3 (by decide))).trans
    (W12_of m ρ c main_c_3 (by decide))).trans
    (W11_of m ρ c main_c_3 (by decide))).trans
    (W10_of m ρ c main_c_3 (by decide))).trans
    (W9_of m ρ c main_c_3 (by decide))).trans
    (W8_of m ρ c main_c_3 (by decide))).trans
    (W7_of m ρ c main_c_3 (by decide))).trans
    (W6_of m ρ c main_c_3 (by decide))).trans
    (W5_of m ρ c main_c_3 (by decide))).trans
    (W4_of m ρ c main_c_3 (by decide))).trans
    (W3_of m ρ c main_c_3 (by decide))).trans
    (W2_of m ρ c main_c_3 (by decide)))

theorem keep25_c_4 : W25 m ρ c main_c_4 = W1 m ρ c main_c_4 :=
  ((((((((((((((((((((((((W25_of m ρ c main_c_4 (by decide)).trans
    (W24_of m ρ c main_c_4 (by decide))).trans
    (W23_of m ρ c main_c_4 (by decide))).trans
    (W22_of m ρ c main_c_4 (by decide))).trans
    (W21_of m ρ c main_c_4 (by decide))).trans
    (W20_of m ρ c main_c_4 (by decide))).trans
    (W19_of m ρ c main_c_4 (by decide))).trans
    (W18_of m ρ c main_c_4 (by decide))).trans
    (W17_of m ρ c main_c_4 (by decide))).trans
    (W16_of m ρ c main_c_4 (by decide))).trans
    (W15_of m ρ c main_c_4 (by decide))).trans
    (W14_of m ρ c main_c_4 (by decide))).trans
    (W13_of m ρ c main_c_4 (by decide))).trans
    (W12_of m ρ c main_c_4 (by decide))).trans
    (W11_of m ρ c main_c_4 (by decide))).trans
    (W10_of m ρ c main_c_4 (by decide))).trans
    (W9_of m ρ c main_c_4 (by decide))).trans
    (W8_of m ρ c main_c_4 (by decide))).trans
    (W7_of m ρ c main_c_4 (by decide))).trans
    (W6_of m ρ c main_c_4 (by decide))).trans
    (W5_of m ρ c main_c_4 (by decide))).trans
    (W4_of m ρ c main_c_4 (by decide))).trans
    (W3_of m ρ c main_c_4 (by decide))).trans
    (W2_of m ρ c main_c_4 (by decide)))

end Cert.Proof.Proj
-- ==== Proof.Proj.Out0.lean ====
module

public import proofs.«01_k».proof.Proof.Proj.Args
public import proofs.«01_k».proof.Proof.Proj.Ada
public import proofs.«01_k».proof.Proof.Proj.HostW
public import proofs.«01_k».proof.Proof.Proj.HostN
public import proofs.«01_k».proof.Proof.Proj.Keep

@[expose] public section

set_option maxRecDepth 16384

noncomputable section

/-! The arguments of the program and the modulation rows the first kernel leaves. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

/-- Two projections agree when their hidden rows and columns do. -/
theorem sum_hid {x x' sc sc' sh sh' g g' v v' : Fin 1024 → EReal} (hx : ∀ k, x k = x' k) (hsc : ∀ k, sc k = sc' k) (hsh : ∀ k, sh k = sh' k)
    (hg : ∀ k, g k = g' k) (hv : ∀ d, v d = v' d) : ∑ d, hid x sc sh g d * v d = ∑ d, hid x' sc' sh' g' d * v' d := by
  rw [funext hx, funext hsc, funext hsh, funext hg, funext hv]

/-- The arguments of the program. -/
abbrev A0 : FVec Ideal S2x8192x1024 .f32 := m ((c : Thread nD τ).loc main_arg0)
abbrev A1 : FVec Ideal S16x32x1024 .f32 := m ((c : Thread nD τ).loc main_arg1)
abbrev A2 : FVec Ideal S2x1024 .f32 := m ((c : Thread nD τ).loc main_arg2)
abbrev A3 : FVec Ideal S16x1024 .f32 := m ((c : Thread nD τ).loc main_arg3)
abbrev A4 : FVec Ideal S1024x6144 .f32 := m ((c : Thread nD τ).loc main_arg4)
abbrev A5 : FVec Ideal S6144 .f32 := m ((c : Thread nD τ).loc main_arg5)
abbrev A6 : FVec Ideal S1024 .f32 := m ((c : Thread nD τ).loc main_arg6)
abbrev A7 : FVec Ideal S1024x5192 .f32 := m ((c : Thread nD τ).loc main_arg7)
abbrev A8 : FVec Ideal S64 .f32 := m ((c : Thread nD τ).loc main_arg8)
abbrev A9 : FVec Ideal S64 .f32 := m ((c : Thread nD τ).loc main_arg9)

/-- The prompt's modulation row as the first kernel leaves it. -/
theorem ada_prompt (b : Fin 2) (j : Fin 6144) :
    (W16 m ρ c main_v16 : FVec Ideal S24x6144 .f32) (ix2 ⟨b.val, by omega⟩ j) = modRow (A2 m c) (A4 m c) (A5 m c) b j := by
  refine (congrFun ((W16_arr m ρ c 3).trans (arr0 (V15 m ρ) c)) _).trans ?_
  refine modul_congr (fun k => ?_) (fun k => ?_) ?_
  · show W15 m ρ c main_v14 _ = _
    rw [keep15_v14]; exact W14_prompt m ρ c b k
  · show W15 m ρ c main_arg4 _ = _
    rw [W15_args m ρ c main_arg4 (by decide)]; rfl
  · exact W15_v15 m ρ c j

/-- The sample's modulation row as the first kernel leaves it. -/
theorem ada_sample (b : Fin 16) (j : Fin 6144) :
    (W16 m ρ c main_v16 : FVec Ideal S24x6144 .f32) (ix2 ⟨2 + b.val, by omega⟩ j) = modRow (A3 m c) (A4 m c) (A5 m c) b j := by
  refine (congrFun ((W16_arr m ρ c 3).trans (arr0 (V15 m ρ) c)) _).trans ?_
  refine modul_congr (fun k => ?_) (fun k => ?_) ?_
  · show W15 m ρ c main_v14 _ = _
    rw [keep15_v14]; exact W14_sample m ρ c b k
  · show W15 m ρ c main_arg4 _ = _
    rw [W15_args m ρ c main_arg4 (by decide)]; rfl
  · exact W15_v15 m ρ c j

theorem norm_g (k : Fin 1024) : (W13 m ρ c main_v12 : FVec Ideal S1x1024 .f32) (ix2 0 k) = A6 m c (ix1 k) := W13_v12 m ρ c k

end Cert.Proof.Proj
-- ==== Proof.Proj.PayA.lean ====
module

public import proofs.«01_k».proof.Proof.Gen.ProjIdeal.Frame.Region1
public import proofs.«01_k».proof.Proof.Proj.Spec
public import Idealize.ShloMosaic.Lib.Pipeline.ValueKit

@[expose] public section

set_option maxRecDepth 16384

noncomputable section

namespace Cert.Proof.Proj

open Idealize.ShloMosaic Idealize.ShloMosaic.TcCoe Idealize.SL.Sem
open Cert.ProjIdeal Cert.ProjIdeal.Gen

variable (x0 : Vec Ideal S1x256x1024 .f32) (x1 x2 : Vec Ideal S1x1x1024 .f32) (x3 : Vec Ideal S1x1024 .f32)
  (x4 : Vec Ideal S1024x2560 .bf16) (x5 x6 : Vec Ideal S1x128 .f32)

theorem hid1 (r : Fin 256) (d : Fin 1024) : k1_pay36 (F := Ideal) x0 x1 x2 x3 x4 x5 x6 (ix2 r d)
    = hid (fun k => x0 (ix3 0 r k)) (fun k => x1 (ix3 0 0 k)) (fun k => x2 (ix3 0 0 k)) (fun k => x3 (ix2 0 k)) d := by
  pointwise [k1_pay36, k1_pay1, hid]

theorem key1 (r : Fin 256) (l : Fin 128) : out1_8 (F := Ideal) x0 x1 x2 x3 x4 x5 x6 (ix3 0 r l)
    = ∑ d : Fin 1024, hid (fun k => x0 (ix3 0 r k)) (fun k => x1 (ix3 0 0 k)) (fun k => x2 (ix3 0 0 k)) (fun k => x3 (ix2 0 k)) d * x4 (ix2 d ⟨1024 + l.val, by omega⟩) := by
  unfold out1_8
  rw [View.canon_unit_zero (by decide)]
  pointwise [k1_pay16, k1_pay14, k1_pay13, hid1]

theorem val1 (r : Fin 256) (l : Fin 128) : out1_9 (F := Ideal) x0 x1 x2 x3 x4 x5 x6 (ix3 0 r l)
    = ∑ d : Fin 1024, hid (fun k => x0 (ix3 0 r k)) (fun k => x1 (ix3 0 0 k)) (fun k => x2 (ix3 0 0 k)) (fun k => x3 (ix2 0 k)) d * x4 (ix2 d ⟨1024 + (128 + l.val), by omega⟩) := by
  unfold out1_9
  rw [View.canon_unit_zero (by decide)]
  pointwise [k1_pay17, k1_pay15, k1_pay13, hid1]

theorem iw1 (r : Fin 256) (l : Fin 8) : out1_15 (F := Ideal) x0 x1 x2 x3 x4 x5 x6 (ix3 0 r l)
    = (∑ d : Fin 1024, hid (fun k => x0 (ix3 0 r k)) (fun k => x1 (ix3 0 0 k)) (fun k => x2 (ix3 0 0 k)) (fun k => x3 (ix2 0 k)) d * x4 (ix2 d ⟨2304 + (128 + l.val), by omega⟩)) * Ideal.ofBits .f32 0x3D3504F3#32 := by
  unfold out1_15
  rw [View.canon_unit_zero (by decide)]
  pointwise [k1_pay35, k1_pay28, hid1]

theorem t1 (r : Fin 256) (l : Fin 128) : k1_pay37 (F := Ideal) x0 x1 x2 x3 x4 x5 x6 (ix2 r l)
   = ∑ d : Fin 1024, hid (fun k => x0 (ix3 0 r k)) (fun k => x1 (ix3 0 0 k)) (fun k => x2 (ix3 0 0 k)) (fun k => x3 (ix2 0 k)) d * x4 (ix2 d ⟨2304 + l.val, by omega⟩) := by
  pointwise [k1_pay37, k1_pay29, k1_pay28, hid1]

theorem s1 (r : Fin 256) : k1_pay39 (F := Ideal) x0 x1 x2 x3 x4 x5 x6 (ix2 r 0)
   = ∑ l, k1_pay37 (F := Ideal) x0 x1 x2 x3 x4 x5 x6 (ix2 r l) := by
  pointwise [k1_pay39, k1_pay31]
  rfl

theorem ik1 (hz : ∀ (d : Fin 1024) (k : Fin 64), x4 (ix2 d ⟨2304 + (64 + k.val), by omega⟩) = 0) (r : Fin 256) (l : Fin 64) :
    out1_13 (F := Ideal) x0 x1 x2 x3 x4 x5 x6 (ix3 0 r l)
      = lnorm (fun l : Fin 64 => ∑ d : Fin 1024, hid (fun k => x0 (ix3 0 r k)) (fun k => x1 (ix3 0 0 k)) (fun k => x2 (ix3 0 0 k)) (fun k => x3 (ix2 0 k)) d * x4 (ix2 d ⟨2304 + l.val, by omega⟩))
        (fun l => x5 (ix2 0 ⟨l.val, by omega⟩)) (fun l => x6 (ix2 0 ⟨l.val, by omega⟩)) l := by
  unfold out1_13
  rw [View.canon_unit_zero (by decide)]
  have hp := t1 x0 x1 x2 x3 x4 x5 x6 r
  have hq := s1 x0 x1 x2 x3 x4 x5 x6 r
  generalize k1_pay37 (F := Ideal) x0 x1 x2 x3 x4 x5 x6 = p at hp hq ⊢
  generalize k1_pay39 (F := Ideal) x0 x1 x2 x3 x4 x5 x6 = q at hq ⊢
  pointwise [k1_pay33, k1_pay32, k1_pay38, k1_pay30]
  rw [hq]
  refine (lnorm_pad (fun k => p (ix2 r k)) (fun k => ?_) _ _ (fun l => x5 (ix2 0 ⟨l.val, by omega⟩))
    (fun l => x6 (ix2 0 ⟨l.val, by omega⟩)) l rfl rfl).trans ?_
  · rw [hp]
    exact Finset.sum_eq_zero fun d _ => by rw [hz, mul_zero]
  · simp only [hp]

end Cert.Proof.Proj
-- ==== Proof.Proj.ArrA.lean ====
module

public import proofs.«01_k».proof.Proof.Proj.PayA
public import Idealize.ShloMosaic.Lib.Pipeline.ReadBack

@[expose] public section

set_option maxRecDepth 16384

noncomputable section

/-! The arrays the first projection kernel leaves on the prompt. -/

namespace Cert.Proof.Proj

open Idealize.ShloMosaic Idealize.ShloMosaic.TcCoe Idealize.SL.Sem
open Cert.ProjIdeal Cert.ProjIdeal.Gen

variable (V : (c : Dev nD) → (b : Ref sig .tc) → Buf (Elt Ideal) ((c : Thread nD τ).loc b))

theorem index1 : ∀ t, win1_0.index t = ![t.val / 32, t.val % 32, 0] ∧ win1_1.index t = ![t.val / 32, 0, 0] ∧ win1_2.index t = ![t.val / 32, 0, 0]
    ∧ win1_3.index t = ![0, 0] ∧ win1_4.index t = ![0, 0] ∧ win1_5.index t = ![0, 0] ∧ win1_6.index t = ![0, 0]
    ∧ win1_8.index t = ![t.val / 32, t.val % 32, 0]
    ∧ win1_9.index t = ![t.val / 32, t.val % 32, 0]
    ∧ win1_13.index t = ![t.val / 32, t.val % 32, 0]
    ∧ win1_15.index t = ![t.val / 32, t.val % 32, 0] := by
  decide +kernel

theorem arr1_key (c : Dev nD) : (dat1 (F := Ideal) V c).arrAt 8 cfg1.N = fun i : S2x8192x128.Idx =>
    ∑ d : Fin 1024, hid (fun k => V c main_arg0 (ix3 (i 0) (i 1) k)) (fun k => V c main_v26 (ix3 (i 0) 0 k)) (fun k => V c main_v24 (ix3 (i 0) 0 k)) (fun k => V c main_v12 (ix2 0 k)) d * V c main_v3 (ix2 d ⟨1024 + (i 2).val, by have h : (i 2).val < 128 := (i 2).isLt; omega⟩) := by
  refine (dat1 V c).arrAt_eq_of_covers 8 _ (by decide +kernel) fun t hf y => ?_
  obtain ⟨u, r, l, rfl⟩ : ∃ (u : Fin 1) (r : Fin 256) (l : Fin 128), y = ix3 u r l := ⟨y 0, y 1, y 2, eq_ix3 y⟩
  obtain rfl : u = 0 := Subsingleton.elim _ _
  blk_simp
  rw [after1_8]
  refine (key1 _ _ _ _ _ _ _ r l).trans ?_
  blk_point [iblk1, index1 t]

theorem arr1_val (c : Dev nD) : (dat1 (F := Ideal) V c).arrAt 9 cfg1.N = fun i : S2x8192x128.Idx =>
    ∑ d : Fin 1024, hid (fun k => V c main_arg0 (ix3 (i 0) (i 1) k)) (fun k => V c main_v26 (ix3 (i 0) 0 k)) (fun k => V c main_v24 (ix3 (i 0) 0 k)) (fun k => V c main_v12 (ix2 0 k)) d * V c main_v3 (ix2 d ⟨1024 + (128 + (i 2).val), by have h : (i 2).val < 128 := (i 2).isLt; omega⟩) := by
  refine (dat1 V c).arrAt_eq_of_covers 9 _ (by decide +kernel) fun t hf y => ?_
  obtain ⟨u, r, l, rfl⟩ : ∃ (u : Fin 1) (r : Fin 256) (l : Fin 128), y = ix3 u r l := ⟨y 0, y 1, y 2, eq_ix3 y⟩
  obtain rfl : u = 0 := Subsingleton.elim _ _
  blk_simp
  rw [after1_9]
  refine (val1 _ _ _ _ _ _ _ r l).trans ?_
  blk_point [iblk1, index1 t]

theorem arr1_ik (c : Dev nD) (hz : ∀ (d : Fin 1024) (k : Fin 64), V c main_v3 (ix2 d ⟨2304 + (64 + k.val), by omega⟩) = (0 : EReal)) : (dat1 (F := Ideal) V c).arrAt 13 cfg1.N = fun i : S2x8192x64.Idx =>
    lnorm (fun l : Fin 64 => ∑ d : Fin 1024, hid (fun k => V c main_arg0 (ix3 (i 0) (i 1) k)) (fun k => V c main_v26 (ix3 (i 0) 0 k)) (fun k => V c main_v24 (ix3 (i 0) 0 k)) (fun k => V c main_v12 (ix2 0 k)) d * V c main_v3 (ix2 d ⟨2304 + l.val, by omega⟩)) (fun l => V c main_v9 (ix2 0 ⟨l.val, by omega⟩))
      (fun l => V c main_v11 (ix2 0 ⟨l.val, by omega⟩)) (i 2) := by
  refine (dat1 V c).arrAt_eq_of_covers 13 _ (by decide +kernel) fun t hf y => ?_
  obtain ⟨u, r, l, rfl⟩ : ∃ (u : Fin 1) (r : Fin 256) (l : Fin 64), y = ix3 u r l := ⟨y 0, y 1, y 2, eq_ix3 y⟩
  obtain rfl : u = 0 := Subsingleton.elim _ _
  blk_simp
  rw [after1_13]
  refine (ik1 _ _ _ _ _ _ _ (fun d k => (?_ : _ = _).trans (hz d k)) r l).trans ?_
  · blk_ext [iblk1, index1 t]
  · refine lnorm_congr (fun k => ?_) (fun k => ?_) (fun k => ?_) ?_
    · blk_point [iblk1, index1 t]
    · blk_ext [iblk1, index1 t]
    · blk_ext [iblk1, index1 t]
    · refine Fin.ext ?_
      change l.val = (((win1_13.blk t).view.emb (ix3 0 r l)) 2 : ℕ)
      blk_simp [index1 t]

theorem arr1_iw (c : Dev nD) : (dat1 (F := Ideal) V c).arrAt 15 cfg1.N = fun i : S2x8192x8.Idx =>
    (∑ d : Fin 1024, hid (fun k => V c main_arg0 (ix3 (i 0) (i 1) k)) (fun k => V c main_v26 (ix3 (i 0) 0 k)) (fun k => V c main_v24 (ix3 (i 0) 0 k)) (fun k => V c main_v12 (ix2 0 k)) d * V c main_v3 (ix2 d ⟨2304 + (128 + (i 2).val), by have h : (i 2).val < 8 := (i 2).isLt; omega⟩)) * Ideal.ofBits .f32 0x3D3504F3#32 := by
  refine (dat1 V c).arrAt_eq_of_covers 15 _ (by decide +kernel) fun t hf y => ?_
  obtain ⟨u, r, l, rfl⟩ : ∃ (u : Fin 1) (r : Fin 256) (l : Fin 8), y = ix3 u r l := ⟨y 0, y 1, y 2, eq_ix3 y⟩
  obtain rfl : u = 0 := Subsingleton.elim _ _
  blk_simp
  rw [after1_15]
  refine (iw1 _ _ _ _ _ _ _ r l).trans ?_
  blk_point [iblk1, index1 t]

end Cert.Proof.Proj
-- ==== Proof.Proj.PayB.lean ====
module

public import proofs.«01_k».proof.Proof.Gen.ProjIdeal.Frame.Region2
public import proofs.«01_k».proof.Proof.Proj.Spec
public import Idealize.ShloMosaic.Lib.Pipeline.ValueKit

@[expose] public section

set_option maxRecDepth 16384

noncomputable section

/-! What the second projection kernel stores on the prompt: the recurrence's columns and the two gates. -/

namespace Cert.Proof.Proj

open Idealize.ShloMosaic Idealize.ShloMosaic.TcCoe Idealize.SL.Sem
open Cert.ProjIdeal Cert.ProjIdeal.Gen

variable (x0 : Vec Ideal S1x256x1024 .f32) (x1 x2 : Vec Ideal S1x1x1024 .f32) (x3 : Vec Ideal S1x1024 .f32)
  (x4 : Vec Ideal S1024x5376 .bf16)

theorem hid2 (r : Fin 256) (d : Fin 1024) : k2_pay28 (F := Ideal) x0 x1 x2 x3 x4 (ix2 r d)
    = hid (fun k => x0 (ix3 0 r k)) (fun k => x1 (ix3 0 0 k)) (fun k => x2 (ix3 0 0 k)) (fun k => x3 (ix2 0 k)) d := by
  pointwise [k2_pay28, k2_pay3, hid]

theorem zr2 (r : Fin 256) (l : Fin 3328) : out2_5 (F := Ideal) x0 x1 x2 x3 x4 (ix3 0 r l)
    = ∑ d : Fin 1024, hid (fun k => x0 (ix3 0 r k)) (fun k => x1 (ix3 0 0 k)) (fun k => x2 (ix3 0 0 k)) (fun k => x3 (ix2 0 k)) d * x4 (ix2 d ⟨l.val, by omega⟩) := by
  unfold out2_5
  canon_tiles x h
  all_goals
    obtain ⟨u, a, b, rfl⟩ : ∃ (u : Fin _) (a : Fin _) (b : Fin _), x = ix3 u a b := ⟨x 0, x 1, x 2, eq_ix3 x⟩
    pointwise [k2_pay18, k2_pay17, k2_pay16, k2_pay15, k2_pay14, k2_pay13, k2_pay12, k2_pay11, k2_pay10, k2_pay9, k2_pay8, k2_pay7,
      k2_pay6, k2_pay5, k2_pay4, k2_pay3, hid, hid2] at *
    obtain rfl : r = a := Fin.ext h1
    simp only [h2]

/-- The first gate's tile at a column of the weights. -/
theorem ga2 (r : Fin 256) (l : Fin 1024) : out2_6 (F := Ideal) x0 x1 x2 x3 x4 (ix3 0 r l)
    = Ideal.logistic (∑ d : Fin 1024, hid (fun k => x0 (ix3 0 r k)) (fun k => x1 (ix3 0 0 k)) (fun k => x2 (ix3 0 0 k)) (fun k => x3 (ix2 0 k)) d * x4 (ix2 d ⟨3328 + l.val, by omega⟩)) := by
  unfold out2_6
  canon_tiles x h
  all_goals
    obtain ⟨u, a, b, rfl⟩ : ∃ (u : Fin _) (a : Fin _) (b : Fin _), x = ix3 u a b := ⟨x 0, x 1, x 2, eq_ix3 x⟩
    pointwise [k2_pay1, k2_pay27, k2_pay25, k2_pay22, k2_pay19, hid2] at *
    obtain rfl : r = a := Fin.ext h1
    rw [zero_sub]
    refine congrArg (fun q : Fin 5376 => Ideal.logistic (∑ d : Fin 1024, hid (fun k => x0 (ix3 0 r k)) (fun k => x1 (ix3 0 0 k)) (fun k => x2 (ix3 0 0 k)) (fun k => x3 (ix2 0 k)) d * x4 (ix2 d q))) (Fin.ext ?_)
    simp only [h2] <;> omega

theorem gb2 (r : Fin 256) (l : Fin 1024) : out2_7 (F := Ideal) x0 x1 x2 x3 x4 (ix3 0 r l)
    = Ideal.logistic (∑ d : Fin 1024, hid (fun k => x0 (ix3 0 r k)) (fun k => x1 (ix3 0 0 k)) (fun k => x2 (ix3 0 0 k)) (fun k => x3 (ix2 0 k)) d * x4 (ix2 d ⟨4352 + l.val, by omega⟩)) := by
  unfold out2_7
  canon_tiles x h
  all_goals
    obtain ⟨u, a, b, rfl⟩ : ∃ (u : Fin _) (a : Fin _) (b : Fin _), x = ix3 u a b := ⟨x 0, x 1, x 2, eq_ix3 x⟩
    pointwise [k2_pay2, k2_pay26, k2_pay24, k2_pay23, k2_pay21, k2_pay20, hid2] at *
    obtain rfl : r = a := Fin.ext h1
    rw [zero_sub]
    refine congrArg (fun q : Fin 5376 => Ideal.logistic (∑ d : Fin 1024, hid (fun k => x0 (ix3 0 r k)) (fun k => x1 (ix3 0 0 k)) (fun k => x2 (ix3 0 0 k)) (fun k => x3 (ix2 0 k)) d * x4 (ix2 d q))) (Fin.ext ?_)
    simp only [h2] <;> omega

end Cert.Proof.Proj
-- ==== Proof.Proj.ArrB.lean ====
module

public import proofs.«01_k».proof.Proof.Proj.PayB
public import Idealize.ShloMosaic.Lib.Pipeline.ReadBack

@[expose] public section

set_option maxRecDepth 16384

noncomputable section

/-! The arrays the second projection kernel leaves on the prompt. -/

namespace Cert.Proof.Proj

open Idealize.ShloMosaic Idealize.ShloMosaic.TcCoe Idealize.SL.Sem
open Cert.ProjIdeal Cert.ProjIdeal.Gen

variable (V : (c : Dev nD) → (b : Ref sig .tc) → Buf (Elt Ideal) ((c : Thread nD τ).loc b))

theorem index2 : ∀ t, win2_0.index t = ![t.val / 32, t.val % 32, 0] ∧ win2_1.index t = ![t.val / 32, 0, 0] ∧ win2_2.index t = ![t.val / 32, 0, 0]
    ∧ win2_3.index t = ![0, 0] ∧ win2_4.index t = ![0, 0]
    ∧ win2_5.index t = ![t.val / 32, t.val % 32, 0]
    ∧ win2_6.index t = ![t.val / 32, t.val % 32, 0]
    ∧ win2_7.index t = ![t.val / 32, t.val % 32, 0] := by
  decide +kernel

theorem arr2_zr (c : Dev nD) : (dat2 (F := Ideal) V c).arrAt 5 cfg2.N = fun i : S2x8192x3328.Idx =>
    ∑ d : Fin 1024, hid (fun k => V c main_arg0 (ix3 (i 0) (i 1) k)) (fun k => V c main_v26 (ix3 (i 0) 0 k)) (fun k => V c main_v24 (ix3 (i 0) 0 k)) (fun k => V c main_v12 (ix2 0 k)) d * V c main_v7 (ix2 d ⟨(i 2).val, by have h : (i 2).val < 3328 := (i 2).isLt; omega⟩) := by
  refine (dat2 V c).arrAt_eq_of_covers 5 _ (by decide +kernel) fun t hf y => ?_
  obtain ⟨u, r, l, rfl⟩ : ∃ (u : Fin 1) (r : Fin 256) (l : Fin 3328), y = ix3 u r l := ⟨y 0, y 1, y 2, eq_ix3 y⟩
  obtain rfl : u = 0 := Subsingleton.elim _ _
  blk_simp
  rw [after2_5]
  refine (zr2 _ _ _ _ _ r l).trans ?_
  blk_point [iblk2, index2 t]

theorem arr2_ga (c : Dev nD) : (dat2 (F := Ideal) V c).arrAt 6 cfg2.N = fun i : S2x8192x1024.Idx =>
    Ideal.logistic (∑ d : Fin 1024, hid (fun k => V c main_arg0 (ix3 (i 0) (i 1) k)) (fun k => V c main_v26 (ix3 (i 0) 0 k)) (fun k => V c main_v24 (ix3 (i 0) 0 k)) (fun k => V c main_v12 (ix2 0 k)) d * V c main_v7 (ix2 d ⟨3328 + (i 2).val, by have h : (i 2).val < 1024 := (i 2).isLt; omega⟩)) := by
  refine (dat2 V c).arrAt_eq_of_covers 6 _ (by decide +kernel) fun t hf y => ?_
  obtain ⟨u, r, l, rfl⟩ : ∃ (u : Fin 1) (r : Fin 256) (l : Fin 1024), y = ix3 u r l := ⟨y 0, y 1, y 2, eq_ix3 y⟩
  obtain rfl : u = 0 := Subsingleton.elim _ _
  blk_simp
  rw [after2_6]
  refine (ga2 _ _ _ _ _ r l).trans (congrArg Ideal.logistic ?_)
  blk_point [iblk2, index2 t]

theorem arr2_gb (c : Dev nD) : (dat2 (F := Ideal) V c).arrAt 7 cfg2.N = fun i : S2x8192x1024.Idx =>
    Ideal.logistic (∑ d : Fin 1024, hid (fun k => V c main_arg0 (ix3 (i 0) (i 1) k)) (fun k => V c main_v26 (ix3 (i 0) 0 k)) (fun k => V c main_v24 (ix3 (i 0) 0 k)) (fun k => V c main_v12 (ix2 0 k)) d * V c main_v7 (ix2 d ⟨4352 + (i 2).val, by have h : (i 2).val < 1024 := (i 2).isLt; omega⟩)) := by
  refine (dat2 V c).arrAt_eq_of_covers 7 _ (by decide +kernel) fun t hf y => ?_
  obtain ⟨u, r, l, rfl⟩ : ∃ (u : Fin 1) (r : Fin 256) (l : Fin 1024), y = ix3 u r l := ⟨y 0, y 1, y 2, eq_ix3 y⟩
  obtain rfl : u = 0 := Subsingleton.elim _ _
  blk_simp
  rw [after2_7]
  refine (gb2 _ _ _ _ _ r l).trans (congrArg Ideal.logistic ?_)
  blk_point [iblk2, index2 t]

end Cert.Proof.Proj
-- ==== Proof.Proj.Out.lean ====
module

public import proofs.«01_k».proof.Proof.Columns
public import proofs.«01_k».proof.Proof.Proj.Out0
public import proofs.«01_k».proof.Proof.Proj.ArrA
public import proofs.«01_k».proof.Proof.Proj.ArrB

@[expose] public section

set_option maxRecDepth 16384

noncomputable section

/-! The kernels' projections of the prompt, in terms of the program's arguments. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

theorem rowsA (b : Fin 2) (t : Fin 8192) (J : Fin 2560) (j : Fin 5192)
    (h : ∀ d, (W5 m ρ c main_v3 : FVec Ideal S1024x2560 .bf16) (ix2 d J) = A7 m c (ix2 d j)) :
    ∑ d : Fin 1024, hid (fun k => V17 m ρ c main_arg0 (ix3 b t k)) (fun k => V17 m ρ c main_v26 (ix3 b 0 k)) (fun k => V17 m ρ c main_v24 (ix3 b 0 k))
      (fun k => V17 m ρ c main_v12 (ix2 0 k)) d * V17 m ρ c main_v3 (ix2 d J) = proj (A0 m c) (A2 m c) (A4 m c) (A5 m c) (A6 m c) (A7 m c) b t j := by
  refine sum_hid (fun k => ?_) (fun k => ?_) (fun k => ?_) (fun k => ?_) (fun d => ?_)
  · show W17 m ρ c main_arg0 _ = _
    rw [W17_args m ρ c main_arg0 (by decide)]
  · show W17 m ρ c main_v26 _ = _
    exact (W17_v26 m ρ c b k).trans (ada_prompt m ρ c b ⟨1024 + k.val, by omega⟩)
  · show W17 m ρ c main_v24 _ = _
    exact (W17_v24 m ρ c b k).trans (ada_prompt m ρ c b ⟨k.val, by omega⟩)
  · show W17 m ρ c main_v12 _ = _
    rw [keep17_v12]; exact norm_g m ρ c k
  · show W17 m ρ c main_v3 _ = _
    rw [keep17_v3]; exact h d

theorem rowsB (b : Fin 2) (t : Fin 8192) (J : Fin 5376) (j : Fin 5192)
    (h : ∀ d, (W9 m ρ c main_v7 : FVec Ideal S1024x5376 .bf16) (ix2 d J) = A7 m c (ix2 d j)) :
    ∑ d : Fin 1024, hid (fun k => V18 m ρ c main_arg0 (ix3 b t k)) (fun k => V18 m ρ c main_v26 (ix3 b 0 k)) (fun k => V18 m ρ c main_v24 (ix3 b 0 k))
      (fun k => V18 m ρ c main_v12 (ix2 0 k)) d * V18 m ρ c main_v7 (ix2 d J) = proj (A0 m c) (A2 m c) (A4 m c) (A5 m c) (A6 m c) (A7 m c) b t j := by
  refine sum_hid (fun k => ?_) (fun k => ?_) (fun k => ?_) (fun k => ?_) (fun d => ?_)
  · show W18 m ρ c main_arg0 _ = _
    rw [W18_args m ρ c main_arg0 (by decide)]
  · show W18 m ρ c main_v26 _ = _
    rw [keep18_v26]; exact (W17_v26 m ρ c b k).trans (ada_prompt m ρ c b ⟨1024 + k.val, by omega⟩)
  · show W18 m ρ c main_v24 _ = _
    rw [keep18_v24]; exact (W17_v24 m ρ c b k).trans (ada_prompt m ρ c b ⟨k.val, by omega⟩)
  · show W18 m ρ c main_v12 _ = _
    rw [keep18_v12]; exact norm_g m ρ c k
  · show W18 m ρ c main_v7 _ = _
    rw [keep18_v7]; exact h d

set_option maxHeartbeats 2000000 in
theorem okey (b : Fin 2) (t : Fin 8192) (h : Fin 2) (l : Fin 64) :
    (W27 m ρ c main_v59 : FVec Ideal S2x8192x2x64 .f32) (ix4 b t h l) = proj (A0 m c) (A2 m c) (A4 m c) (A5 m c) (A6 m c) (A7 m c) b t ⟨512 + (h.val * 64 + l.val), by omega⟩ := by
  rw [keep27_v59]
  have e : W22 m ρ c main_v59 = shapeCast S2x8192x2x64 (W21 m ρ c main_v53_1 : FVec Ideal S2x8192x128 .f32) shapeCasts_S2x8192x128_S2x8192x2x64 := by
    show StableHlo.after hostOps3_2 (W21 m ρ c) _ = _
    generalize W21 m ρ c = U
    after_results
    rfl
  rw [e, keep21_v53_1]
  have r := fun L : Fin 128 => rowsA m ρ c b t _ _ fun d => w_key m ρ c d L
  refine Eq.trans ?_ (r ⟨h.val * 64 + l.val, by omega⟩)
  refine Eq.trans ?_ (congrFun ((W18_arr m ρ c 8).trans (arr1_key (V17 m ρ) c)) (ix3 b t ⟨h.val * 64 + l.val, by omega⟩))
  pointwise

set_option maxHeartbeats 2000000 in
theorem oval (b : Fin 2) (t : Fin 8192) (h : Fin 2) (l : Fin 64) :
    (W27 m ρ c main_v60 : FVec Ideal S2x8192x2x64 .f32) (ix4 b t h l) = proj (A0 m c) (A2 m c) (A4 m c) (A5 m c) (A6 m c) (A7 m c) b t ⟨640 + (h.val * 64 + l.val), by omega⟩ := by
  rw [keep27_v60]
  have e : W22 m ρ c main_v60 = shapeCast S2x8192x2x64 (W21 m ρ c main_v53_2 : FVec Ideal S2x8192x128 .f32) shapeCasts_S2x8192x128_S2x8192x2x64 := by
    show StableHlo.after hostOps3_2 (W21 m ρ c) _ = _
    generalize W21 m ρ c = U
    after_results
    rfl
  rw [e, keep21_v53_2]
  have r := fun L : Fin 128 => rowsA m ρ c b t _ _ fun d => w_val m ρ c d L
  refine Eq.trans ?_ (r ⟨h.val * 64 + l.val, by omega⟩)
  refine Eq.trans ?_ (congrFun ((W18_arr m ρ c 9).trans (arr1_val (V17 m ρ) c)) (ix3 b t ⟨h.val * 64 + l.val, by omega⟩))
  pointwise

theorem oik (b : Fin 2) (t : Fin 8192) (l : Fin 64) :
    (W27 m ρ c main_v53_6 : FVec Ideal S2x8192x64 .f32) (ix3 b t l)
      = lnorm (fun l => proj (A0 m c) (A2 m c) (A4 m c) (A5 m c) (A6 m c) (A7 m c) b t ⟨1280 + l.val, by omega⟩) (fun l => A8 m c (ix1 l)) (fun l => A9 m c (ix1 l)) l := by
  rw [keep27_v53_6]
  refine (congrFun ((W18_arr m ρ c 13).trans (arr1_ik (V17 m ρ) c fun d k => ?_)) (ix3 b t l)).trans ?_
  · show (W17 m ρ c main_v3 : FVec Ideal S1024x2560 .bf16) _ = _
    rw [keep17_v3]; exact w_ik_zero m ρ c d k
  · refine lnorm_congr (fun k => rowsA m ρ c b t _ _ fun d => w_ik m ρ c d k) (fun k => ?_) (fun k => ?_) rfl
    · show (W17 m ρ c main_v9 : FVec Ideal S1x128 .f32) _ = _
      rw [keep17_v9]; exact W10_v9 m ρ c k
    · show (W17 m ρ c main_v11 : FVec Ideal S1x128 .f32) _ = _
      rw [keep17_v11]; exact W12_v11 m ρ c k

theorem oiw (b : Fin 2) (t : Fin 8192) (l : Fin 8) :
    (W27 m ρ c main_v53_8 : FVec Ideal S2x8192x8 .f32) (ix3 b t l)
      = proj (A0 m c) (A2 m c) (A4 m c) (A5 m c) (A6 m c) (A7 m c) b t ⟨1344 + l.val, by omega⟩ * Ideal.ofBits .f32 0x3D3504F3#32 := by
  rw [keep27_v53_8]
  refine (congrFun ((W18_arr m ρ c 15).trans (arr1_iw (V17 m ρ) c)) (ix3 b t l)).trans ?_
  exact congrArg (· * Ideal.ofBits .f32 0x3D3504F3#32) (rowsA m ρ c b t _ _ fun d => w_iw m ρ c d l)

theorem oga (b : Fin 2) (t : Fin 8192) (l : Fin 1024) :
    (W27 m ρ c main_v54_1 : FVec Ideal S2x8192x1024 .f32) (ix3 b t l) = Ideal.logistic (proj (A0 m c) (A2 m c) (A4 m c) (A5 m c) (A6 m c) (A7 m c) b t ⟨3144 + l.val, by omega⟩) := by
  rw [keep27_v54_1]
  refine (congrFun ((W19_arr m ρ c 6).trans (arr2_ga (V18 m ρ) c)) (ix3 b t l)).trans ?_
  exact congrArg Ideal.logistic (rowsB m ρ c b t _ _ fun d => w_ga m ρ c d l)

theorem ogb (b : Fin 2) (t : Fin 8192) (l : Fin 1024) :
    (W27 m ρ c main_v54_2 : FVec Ideal S2x8192x1024 .f32) (ix3 b t l) = Ideal.logistic (proj (A0 m c) (A2 m c) (A4 m c) (A5 m c) (A6 m c) (A7 m c) b t ⟨4168 + l.val, by omega⟩) := by
  rw [keep27_v54_2]
  refine (congrFun ((W19_arr m ρ c 7).trans (arr2_gb (V18 m ρ) c)) (ix3 b t l)).trans ?_
  exact congrArg Ideal.logistic (rowsB m ρ c b t _ _ fun d => w_gb m ρ c d l)

theorem last (b : Fin 2) (j : Fin 3328) : (W20 m ρ c main_v56 : FVec Ideal S2x3328 .f32) (ix2 b j)
    = (W19 m ρ c main_v54_0 : FVec Ideal S2x8192x3328 .f32) (ix3 b ⟨8191, by omega⟩ j) := by
  have e : W20 m ρ c main_v56 = shapeCast S2x3328 (extractStridedSlice S2x1x3328 ![0, 8191, 0] (W19 m ρ c main_v54_0 : FVec Ideal S2x8192x3328 .f32)
      slices_S2x8192x3328_S2x1x3328_0_8191_0) shapeCasts_S2x1x3328_S2x3328 := by
    show StableHlo.after hostOps3 (W19 m ρ c) _ = _
    generalize W19 m ρ c = U
    after_results
    rfl
  rw [e]
  pointwise

theorem list : W20 m ρ c main_c_3 = fun i : S1792.Idx => lit4 (S1792.rowMajor i) := by
  rw [keep20_c_3]
  show StableHlo.after hostOps0 (W0 m ρ c) _ = _
  after_results
  rfl

set_option maxHeartbeats 2000000 in
theorem oshift (b : Fin 2) (z : Fin 1) (p : Fin 1792) :
    (W27 m ρ c main_v58 : FVec Ideal S2x1x1792 .f32) (ix3 b z p) = proj (A0 m c) (A2 m c) (A4 m c) (A5 m c) (A6 m c) (A7 m c) b ⟨8191, by omega⟩ ⟨1352 + p.val, by omega⟩ := by
  rw [keep27_v58]
  obtain rfl : z = 0 := Subsingleton.elim _ _
  have e : W22 m ρ c main_v58 = shapeCast S2x1x1792 (W21 m ρ c main_v57 : FVec Ideal S2x1792 .f32) shapeCasts_S2x1792_S2x1x1792 := by
    show StableHlo.after hostOps3_2 (W21 m ρ c) _ = _
    generalize W21 m ρ c = U
    after_results
    rfl
  have e' : W21 m ρ c main_v57 = taken (α := Ideal .f32) gather_S2x3328_S1792x1_S2x1792_0_1_n_n_1_1_21 bcast_S_S1792 bcast_S1792_S1792x1_0 bcast_S_S1792x1 bcast_S1_S1x1_1 bcast_S1x1_S1792x1_0_1
      bcast_S1792_S2x1792_1 reducesTo_S1792x1_S1792_d1 h_S_ 3328#32 3327#32 (W20 m ρ c main_v56 : FVec Ideal S2x3328 .f32)
      (broadcastInDim S2x1792 ![] bcast_S_S2x1792 (constant S_ .f32 2143289344#32)) (W20 m ρ c main_c_3) := by
    show StableHlo.after hostOps3_1 (W20 m ρ c) _ = _
    generalize W20 m ρ c = U
    after_results
    rfl
  have hl : ∀ p : Fin 1792, lit4 p = BitVec.ofNat 32 (lit4 p).toNat := fun p => by
    simp
  have hp : (shapeCast S2x1x1792 (W21 m ρ c main_v57 : FVec Ideal S2x1792 .f32) shapeCasts_S2x1792_S2x1x1792) (ix3 b 0 p)
      = (W21 m ρ c main_v57 : FVec Ideal S2x1792 .f32) (ix2 b p) := by
    pointwise
  rw [e, hp, e']
  refine (taken_apply gather_S2x3328_S1792x1_S2x1792_0_1_n_n_1_1_21 rfl rfl rfl rfl rfl _ _ _ _ _ _ _ _ _ _ _ _ _
    (fun p => ⟨(lit4 p).toNat, back_bound p⟩) ?_ (by norm_num) rfl b p).trans ?_
  · intro p
    rw [list]
    show lit4 (S1792.rowMajor (ix1 p)) = _
    rw [place1]
    exact hl p
  · refine (last m ρ c b _).trans ?_
    refine (congrFun ((W19_arr m ρ c 5).trans (arr2_zr (V18 m ρ) c)) (ix3 b ⟨8191, by omega⟩ ⟨(lit4 p).toNat, back_bound p⟩)).trans ?_
    exact rowsB m ρ c b ⟨8191, by omega⟩ _ _ fun d => w_zr m ρ c d p

end Cert.Proof.Proj
-- ==== Proof.Proj.PayA3.lean ====
module

public import proofs.«01_k».proof.Proof.Gen.ProjIdeal.Frame.Region3
public import proofs.«01_k».proof.Proof.Proj.Spec
public import Idealize.ShloMosaic.Lib.Pipeline.ValueKit

@[expose] public section

set_option maxRecDepth 16384

noncomputable section

namespace Cert.Proof.Proj

open Idealize.ShloMosaic Idealize.ShloMosaic.TcCoe Idealize.SL.Sem
open Cert.ProjIdeal Cert.ProjIdeal.Gen

variable (x0 : Vec Ideal S1x32x1024 .f32) (x1 x2 : Vec Ideal S1x1x1024 .f32) (x3 : Vec Ideal S1x1024 .f32)
  (x4 : Vec Ideal S1024x2560 .bf16) (x5 x6 : Vec Ideal S1x128 .f32)

theorem hid3 (r : Fin 32) (d : Fin 1024) : k3_pay36 (F := Ideal) x0 x1 x2 x3 x4 x5 x6 (ix2 r d)
    = hid (fun k => x0 (ix3 0 r k)) (fun k => x1 (ix3 0 0 k)) (fun k => x2 (ix3 0 0 k)) (fun k => x3 (ix2 0 k)) d := by
  pointwise [k3_pay36, k3_pay1, hid]

theorem key3 (r : Fin 32) (l : Fin 128) : out3_8 (F := Ideal) x0 x1 x2 x3 x4 x5 x6 (ix3 0 r l)
    = ∑ d : Fin 1024, hid (fun k => x0 (ix3 0 r k)) (fun k => x1 (ix3 0 0 k)) (fun k => x2 (ix3 0 0 k)) (fun k => x3 (ix2 0 k)) d * x4 (ix2 d ⟨1024 + l.val, by omega⟩) := by
  unfold out3_8
  rw [View.canon_unit_zero (by decide)]
  pointwise [k3_pay16, k3_pay14, k3_pay13, hid3]

theorem val3 (r : Fin 32) (l : Fin 128) : out3_9 (F := Ideal) x0 x1 x2 x3 x4 x5 x6 (ix3 0 r l)
    = ∑ d : Fin 1024, hid (fun k => x0 (ix3 0 r k)) (fun k => x1 (ix3 0 0 k)) (fun k => x2 (ix3 0 0 k)) (fun k => x3 (ix2 0 k)) d * x4 (ix2 d ⟨1024 + (128 + l.val), by omega⟩) := by
  unfold out3_9
  rw [View.canon_unit_zero (by decide)]
  pointwise [k3_pay17, k3_pay15, k3_pay13, hid3]

theorem iw3 (r : Fin 32) (l : Fin 8) : out3_15 (F := Ideal) x0 x1 x2 x3 x4 x5 x6 (ix3 0 r l)
    = (∑ d : Fin 1024, hid (fun k => x0 (ix3 0 r k)) (fun k => x1 (ix3 0 0 k)) (fun k => x2 (ix3 0 0 k)) (fun k => x3 (ix2 0 k)) d * x4 (ix2 d ⟨2304 + (128 + l.val), by omega⟩)) * Ideal.ofBits .f32 0x3D3504F3#32 := by
  unfold out3_15
  rw [View.canon_unit_zero (by decide)]
  pointwise [k3_pay35, k3_pay28, hid3]

theorem t3 (r : Fin 32) (l : Fin 128) : k3_pay37 (F := Ideal) x0 x1 x2 x3 x4 x5 x6 (ix2 r l)
   = ∑ d : Fin 1024, hid (fun k => x0 (ix3 0 r k)) (fun k => x1 (ix3 0 0 k)) (fun k => x2 (ix3 0 0 k)) (fun k => x3 (ix2 0 k)) d * x4 (ix2 d ⟨2304 + l.val, by omega⟩) := by
  pointwise [k3_pay37, k3_pay29, k3_pay28, hid3]

theorem s3 (r : Fin 32) : k3_pay39 (F := Ideal) x0 x1 x2 x3 x4 x5 x6 (ix2 r 0)
   = ∑ l, k3_pay37 (F := Ideal) x0 x1 x2 x3 x4 x5 x6 (ix2 r l) := by
  pointwise [k3_pay39, k3_pay31]
  rfl

theorem ik3 (hz : ∀ (d : Fin 1024) (k : Fin 64), x4 (ix2 d ⟨2304 + (64 + k.val), by omega⟩) = 0) (r : Fin 32) (l : Fin 64) :
    out3_13 (F := Ideal) x0 x1 x2 x3 x4 x5 x6 (ix3 0 r l)
      = lnorm (fun l : Fin 64 => ∑ d : Fin 1024, hid (fun k => x0 (ix3 0 r k)) (fun k => x1 (ix3 0 0 k)) (fun k => x2 (ix3 0 0 k)) (fun k => x3 (ix2 0 k)) d * x4 (ix2 d ⟨2304 + l.val, by omega⟩))
        (fun l => x5 (ix2 0 ⟨l.val, by omega⟩)) (fun l => x6 (ix2 0 ⟨l.val, by omega⟩)) l := by
  unfold out3_13
  rw [View.canon_unit_zero (by decide)]
  have hp := t3 x0 x1 x2 x3 x4 x5 x6 r
  have hq := s3 x0 x1 x2 x3 x4 x5 x6 r
  generalize k3_pay37 (F := Ideal) x0 x1 x2 x3 x4 x5 x6 = p at hp hq ⊢
  generalize k3_pay39 (F := Ideal) x0 x1 x2 x3 x4 x5 x6 = q at hq ⊢
  pointwise [k3_pay33, k3_pay32, k3_pay38, k3_pay30]
  rw [hq]
  refine (lnorm_pad (fun k => p (ix2 r k)) (fun k => ?_) _ _ (fun l => x5 (ix2 0 ⟨l.val, by omega⟩))
    (fun l => x6 (ix2 0 ⟨l.val, by omega⟩)) l rfl rfl).trans ?_
  · rw [hp]
    exact Finset.sum_eq_zero fun d _ => by rw [hz, mul_zero]
  · simp only [hp]

end Cert.Proof.Proj
-- ==== Proof.Proj.ArrA3.lean ====
module

public import proofs.«01_k».proof.Proof.Proj.PayA3
public import Idealize.ShloMosaic.Lib.Pipeline.ReadBack

@[expose] public section

set_option maxRecDepth 16384

noncomputable section

/-! The arrays the first projection kernel leaves on the samples. -/

namespace Cert.Proof.Proj

open Idealize.ShloMosaic Idealize.ShloMosaic.TcCoe Idealize.SL.Sem
open Cert.ProjIdeal Cert.ProjIdeal.Gen

variable (V : (c : Dev nD) → (b : Ref sig .tc) → Buf (Elt Ideal) ((c : Thread nD τ).loc b))

theorem index3 : ∀ t, win3_0.index t = ![t.val, 0, 0] ∧ win3_1.index t = ![t.val, 0, 0] ∧ win3_2.index t = ![t.val, 0, 0]
    ∧ win3_3.index t = ![0, 0] ∧ win3_4.index t = ![0, 0] ∧ win3_5.index t = ![0, 0] ∧ win3_6.index t = ![0, 0]
    ∧ win3_8.index t = ![t.val, 0, 0]
    ∧ win3_9.index t = ![t.val, 0, 0]
    ∧ win3_13.index t = ![t.val, 0, 0]
    ∧ win3_15.index t = ![t.val, 0, 0] := by
  decide +kernel

theorem arr3_key (c : Dev nD) : (dat3 (F := Ideal) V c).arrAt 8 cfg3.N = fun i : S16x32x128.Idx =>
    ∑ d : Fin 1024, hid (fun k => V c main_arg1 (ix3 (i 0) (i 1) k)) (fun k => V c main_v44 (ix3 (i 0) 0 k)) (fun k => V c main_v42 (ix3 (i 0) 0 k)) (fun k => V c main_v12 (ix2 0 k)) d * V c main_v3 (ix2 d ⟨1024 + (i 2).val, by have h : (i 2).val < 128 := (i 2).isLt; omega⟩) := by
  refine (dat3 V c).arrAt_eq_of_covers 8 _ (by decide +kernel) fun t hf y => ?_
  obtain ⟨u, r, l, rfl⟩ : ∃ (u : Fin 1) (r : Fin 32) (l : Fin 128), y = ix3 u r l := ⟨y 0, y 1, y 2, eq_ix3 y⟩
  obtain rfl : u = 0 := Subsingleton.elim _ _
  blk_simp
  rw [after3_8]
  refine (key3 _ _ _ _ _ _ _ r l).trans ?_
  blk_point [iblk3, index3 t]

theorem arr3_val (c : Dev nD) : (dat3 (F := Ideal) V c).arrAt 9 cfg3.N = fun i : S16x32x128.Idx =>
    ∑ d : Fin 1024, hid (fun k => V c main_arg1 (ix3 (i 0) (i 1) k)) (fun k => V c main_v44 (ix3 (i 0) 0 k)) (fun k => V c main_v42 (ix3 (i 0) 0 k)) (fun k => V c main_v12 (ix2 0 k)) d * V c main_v3 (ix2 d ⟨1024 + (128 + (i 2).val), by have h : (i 2).val < 128 := (i 2).isLt; omega⟩) := by
  refine (dat3 V c).arrAt_eq_of_covers 9 _ (by decide +kernel) fun t hf y => ?_
  obtain ⟨u, r, l, rfl⟩ : ∃ (u : Fin 1) (r : Fin 32) (l : Fin 128), y = ix3 u r l := ⟨y 0, y 1, y 2, eq_ix3 y⟩
  obtain rfl : u = 0 := Subsingleton.elim _ _
  blk_simp
  rw [after3_9]
  refine (val3 _ _ _ _ _ _ _ r l).trans ?_
  blk_point [iblk3, index3 t]

theorem arr3_ik (c : Dev nD) (hz : ∀ (d : Fin 1024) (k : Fin 64), V c main_v3 (ix2 d ⟨2304 + (64 + k.val), by omega⟩) = (0 : EReal)) : (dat3 (F := Ideal) V c).arrAt 13 cfg3.N = fun i : S16x32x64.Idx =>
    lnorm (fun l : Fin 64 => ∑ d : Fin 1024, hid (fun k => V c main_arg1 (ix3 (i 0) (i 1) k)) (fun k => V c main_v44 (ix3 (i 0) 0 k)) (fun k => V c main_v42 (ix3 (i 0) 0 k)) (fun k => V c main_v12 (ix2 0 k)) d * V c main_v3 (ix2 d ⟨2304 + l.val, by omega⟩)) (fun l => V c main_v9 (ix2 0 ⟨l.val, by omega⟩))
      (fun l => V c main_v11 (ix2 0 ⟨l.val, by omega⟩)) (i 2) := by
  refine (dat3 V c).arrAt_eq_of_covers 13 _ (by decide +kernel) fun t hf y => ?_
  obtain ⟨u, r, l, rfl⟩ : ∃ (u : Fin 1) (r : Fin 32) (l : Fin 64), y = ix3 u r l := ⟨y 0, y 1, y 2, eq_ix3 y⟩
  obtain rfl : u = 0 := Subsingleton.elim _ _
  blk_simp
  rw [after3_13]
  refine (ik3 _ _ _ _ _ _ _ (fun d k => (?_ : _ = _).trans (hz d k)) r l).trans ?_
  · blk_ext [iblk3, index3 t]
  · refine lnorm_congr (fun k => ?_) (fun k => ?_) (fun k => ?_) ?_
    · blk_point [iblk3, index3 t]
    · blk_ext [iblk3, index3 t]
    · blk_ext [iblk3, index3 t]
    · refine Fin.ext ?_
      change l.val = (((win3_13.blk t).view.emb (ix3 0 r l)) 2 : ℕ)
      blk_simp [index3 t]

theorem arr3_iw (c : Dev nD) : (dat3 (F := Ideal) V c).arrAt 15 cfg3.N = fun i : S16x32x8.Idx =>
    (∑ d : Fin 1024, hid (fun k => V c main_arg1 (ix3 (i 0) (i 1) k)) (fun k => V c main_v44 (ix3 (i 0) 0 k)) (fun k => V c main_v42 (ix3 (i 0) 0 k)) (fun k => V c main_v12 (ix2 0 k)) d * V c main_v3 (ix2 d ⟨2304 + (128 + (i 2).val), by have h : (i 2).val < 8 := (i 2).isLt; omega⟩)) * Ideal.ofBits .f32 0x3D3504F3#32 := by
  refine (dat3 V c).arrAt_eq_of_covers 15 _ (by decide +kernel) fun t hf y => ?_
  obtain ⟨u, r, l, rfl⟩ : ∃ (u : Fin 1) (r : Fin 32) (l : Fin 8), y = ix3 u r l := ⟨y 0, y 1, y 2, eq_ix3 y⟩
  obtain rfl : u = 0 := Subsingleton.elim _ _
  blk_simp
  rw [after3_15]
  refine (iw3 _ _ _ _ _ _ _ r l).trans ?_
  blk_point [iblk3, index3 t]

end Cert.Proof.Proj
-- ==== Proof.Proj.PayB4.lean ====
module

public import proofs.«01_k».proof.Proof.Gen.ProjIdeal.Frame.Region4
public import proofs.«01_k».proof.Proof.Proj.Spec
public import Idealize.ShloMosaic.Lib.Pipeline.ValueKit

@[expose] public section

set_option maxRecDepth 16384

noncomputable section

/-! What the second projection kernel stores on the samples: the recurrence's columns and the two gates. -/

namespace Cert.Proof.Proj

open Idealize.ShloMosaic Idealize.ShloMosaic.TcCoe Idealize.SL.Sem
open Cert.ProjIdeal Cert.ProjIdeal.Gen

variable (x0 : Vec Ideal S1x32x1024 .f32) (x1 x2 : Vec Ideal S1x1x1024 .f32) (x3 : Vec Ideal S1x1024 .f32)
  (x4 : Vec Ideal S1024x5376 .bf16)

theorem hid4 (r : Fin 32) (d : Fin 1024) : k4_pay28 (F := Ideal) x0 x1 x2 x3 x4 (ix2 r d)
    = hid (fun k => x0 (ix3 0 r k)) (fun k => x1 (ix3 0 0 k)) (fun k => x2 (ix3 0 0 k)) (fun k => x3 (ix2 0 k)) d := by
  pointwise [k4_pay28, k4_pay3, hid]

theorem zr4 (r : Fin 32) (l : Fin 3328) : out4_5 (F := Ideal) x0 x1 x2 x3 x4 (ix3 0 r l)
    = ∑ d : Fin 1024, hid (fun k => x0 (ix3 0 r k)) (fun k => x1 (ix3 0 0 k)) (fun k => x2 (ix3 0 0 k)) (fun k => x3 (ix2 0 k)) d * x4 (ix2 d ⟨l.val, by omega⟩) := by
  unfold out4_5
  canon_tiles x h
  all_goals
    obtain ⟨u, a, b, rfl⟩ : ∃ (u : Fin _) (a : Fin _) (b : Fin _), x = ix3 u a b := ⟨x 0, x 1, x 2, eq_ix3 x⟩
    pointwise [k4_pay18, k4_pay17, k4_pay16, k4_pay15, k4_pay14, k4_pay13, k4_pay12, k4_pay11, k4_pay10, k4_pay9, k4_pay8, k4_pay7,
      k4_pay6, k4_pay5, k4_pay4, k4_pay3, hid, hid4] at *
    obtain rfl : r = a := Fin.ext h1
    simp only [h2]

/-- The first gate's tile at a column of the weights. -/
theorem ga4 (r : Fin 32) (l : Fin 1024) : out4_6 (F := Ideal) x0 x1 x2 x3 x4 (ix3 0 r l)
    = Ideal.logistic (∑ d : Fin 1024, hid (fun k => x0 (ix3 0 r k)) (fun k => x1 (ix3 0 0 k)) (fun k => x2 (ix3 0 0 k)) (fun k => x3 (ix2 0 k)) d * x4 (ix2 d ⟨3328 + l.val, by omega⟩)) := by
  unfold out4_6
  canon_tiles x h
  all_goals
    obtain ⟨u, a, b, rfl⟩ : ∃ (u : Fin _) (a : Fin _) (b : Fin _), x = ix3 u a b := ⟨x 0, x 1, x 2, eq_ix3 x⟩
    pointwise [k4_pay1, k4_pay27, k4_pay25, k4_pay22, k4_pay19, hid4] at *
    obtain rfl : r = a := Fin.ext h1
    rw [zero_sub]
    refine congrArg (fun q : Fin 5376 => Ideal.logistic (∑ d : Fin 1024, hid (fun k => x0 (ix3 0 r k)) (fun k => x1 (ix3 0 0 k)) (fun k => x2 (ix3 0 0 k)) (fun k => x3 (ix2 0 k)) d * x4 (ix2 d q))) (Fin.ext ?_)
    simp only [h2] <;> omega

theorem gb4 (r : Fin 32) (l : Fin 1024) : out4_7 (F := Ideal) x0 x1 x2 x3 x4 (ix3 0 r l)
    = Ideal.logistic (∑ d : Fin 1024, hid (fun k => x0 (ix3 0 r k)) (fun k => x1 (ix3 0 0 k)) (fun k => x2 (ix3 0 0 k)) (fun k => x3 (ix2 0 k)) d * x4 (ix2 d ⟨4352 + l.val, by omega⟩)) := by
  unfold out4_7
  canon_tiles x h
  all_goals
    obtain ⟨u, a, b, rfl⟩ : ∃ (u : Fin _) (a : Fin _) (b : Fin _), x = ix3 u a b := ⟨x 0, x 1, x 2, eq_ix3 x⟩
    pointwise [k4_pay2, k4_pay26, k4_pay24, k4_pay23, k4_pay21, k4_pay20, hid4] at *
    obtain rfl : r = a := Fin.ext h1
    rw [zero_sub]
    refine congrArg (fun q : Fin 5376 => Ideal.logistic (∑ d : Fin 1024, hid (fun k => x0 (ix3 0 r k)) (fun k => x1 (ix3 0 0 k)) (fun k => x2 (ix3 0 0 k)) (fun k => x3 (ix2 0 k)) d * x4 (ix2 d q))) (Fin.ext ?_)
    simp only [h2] <;> omega

end Cert.Proof.Proj
-- ==== Proof.Proj.ArrB4.lean ====
module

public import proofs.«01_k».proof.Proof.Proj.PayB4
public import Idealize.ShloMosaic.Lib.Pipeline.ReadBack

@[expose] public section

set_option maxRecDepth 16384

noncomputable section

/-! The arrays the second projection kernel leaves on the samples. -/

namespace Cert.Proof.Proj

open Idealize.ShloMosaic Idealize.ShloMosaic.TcCoe Idealize.SL.Sem
open Cert.ProjIdeal Cert.ProjIdeal.Gen

variable (V : (c : Dev nD) → (b : Ref sig .tc) → Buf (Elt Ideal) ((c : Thread nD τ).loc b))

theorem index4 : ∀ t, win4_0.index t = ![t.val, 0, 0] ∧ win4_1.index t = ![t.val, 0, 0] ∧ win4_2.index t = ![t.val, 0, 0]
    ∧ win4_3.index t = ![0, 0] ∧ win4_4.index t = ![0, 0]
    ∧ win4_5.index t = ![t.val, 0, 0]
    ∧ win4_6.index t = ![t.val, 0, 0]
    ∧ win4_7.index t = ![t.val, 0, 0] := by
  decide +kernel

theorem arr4_zr (c : Dev nD) : (dat4 (F := Ideal) V c).arrAt 5 cfg4.N = fun i : S16x32x3328.Idx =>
    ∑ d : Fin 1024, hid (fun k => V c main_arg1 (ix3 (i 0) (i 1) k)) (fun k => V c main_v44 (ix3 (i 0) 0 k)) (fun k => V c main_v42 (ix3 (i 0) 0 k)) (fun k => V c main_v12 (ix2 0 k)) d * V c main_v7 (ix2 d ⟨(i 2).val, by have h : (i 2).val < 3328 := (i 2).isLt; omega⟩) := by
  refine (dat4 V c).arrAt_eq_of_covers 5 _ (by decide +kernel) fun t hf y => ?_
  obtain ⟨u, r, l, rfl⟩ : ∃ (u : Fin 1) (r : Fin 32) (l : Fin 3328), y = ix3 u r l := ⟨y 0, y 1, y 2, eq_ix3 y⟩
  obtain rfl : u = 0 := Subsingleton.elim _ _
  blk_simp
  rw [after4_5]
  refine (zr4 _ _ _ _ _ r l).trans ?_
  blk_point [iblk4, index4 t]

theorem arr4_ga (c : Dev nD) : (dat4 (F := Ideal) V c).arrAt 6 cfg4.N = fun i : S16x32x1024.Idx =>
    Ideal.logistic (∑ d : Fin 1024, hid (fun k => V c main_arg1 (ix3 (i 0) (i 1) k)) (fun k => V c main_v44 (ix3 (i 0) 0 k)) (fun k => V c main_v42 (ix3 (i 0) 0 k)) (fun k => V c main_v12 (ix2 0 k)) d * V c main_v7 (ix2 d ⟨3328 + (i 2).val, by have h : (i 2).val < 1024 := (i 2).isLt; omega⟩)) := by
  refine (dat4 V c).arrAt_eq_of_covers 6 _ (by decide +kernel) fun t hf y => ?_
  obtain ⟨u, r, l, rfl⟩ : ∃ (u : Fin 1) (r : Fin 32) (l : Fin 1024), y = ix3 u r l := ⟨y 0, y 1, y 2, eq_ix3 y⟩
  obtain rfl : u = 0 := Subsingleton.elim _ _
  blk_simp
  rw [after4_6]
  refine (ga4 _ _ _ _ _ r l).trans (congrArg Ideal.logistic ?_)
  blk_point [iblk4, index4 t]

theorem arr4_gb (c : Dev nD) : (dat4 (F := Ideal) V c).arrAt 7 cfg4.N = fun i : S16x32x1024.Idx =>
    Ideal.logistic (∑ d : Fin 1024, hid (fun k => V c main_arg1 (ix3 (i 0) (i 1) k)) (fun k => V c main_v44 (ix3 (i 0) 0 k)) (fun k => V c main_v42 (ix3 (i 0) 0 k)) (fun k => V c main_v12 (ix2 0 k)) d * V c main_v7 (ix2 d ⟨4352 + (i 2).val, by have h : (i 2).val < 1024 := (i 2).isLt; omega⟩)) := by
  refine (dat4 V c).arrAt_eq_of_covers 7 _ (by decide +kernel) fun t hf y => ?_
  obtain ⟨u, r, l, rfl⟩ : ∃ (u : Fin 1) (r : Fin 32) (l : Fin 1024), y = ix3 u r l := ⟨y 0, y 1, y 2, eq_ix3 y⟩
  obtain rfl : u = 0 := Subsingleton.elim _ _
  blk_simp
  rw [after4_7]
  refine (gb4 _ _ _ _ _ r l).trans (congrArg Ideal.logistic ?_)
  blk_point [iblk4, index4 t]

end Cert.Proof.Proj
-- ==== Proof.Proj.OutS.lean ====
module

public import proofs.«01_k».proof.Proof.Columns
public import proofs.«01_k».proof.Proof.Proj.Out0
public import proofs.«01_k».proof.Proof.Proj.ArrA3
public import proofs.«01_k».proof.Proof.Proj.ArrB4

@[expose] public section

set_option maxRecDepth 16384

noncomputable section

/-! The kernels' projections of the sample, in terms of the program's arguments. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

theorem rowsAS (b : Fin 16) (t : Fin 32) (J : Fin 2560) (j : Fin 5192)
    (h : ∀ d, (W5 m ρ c main_v3 : FVec Ideal S1024x2560 .bf16) (ix2 d J) = A7 m c (ix2 d j)) :
    ∑ d : Fin 1024, hid (fun k => V22 m ρ c main_arg1 (ix3 b t k)) (fun k => V22 m ρ c main_v44 (ix3 b 0 k)) (fun k => V22 m ρ c main_v42 (ix3 b 0 k))
      (fun k => V22 m ρ c main_v12 (ix2 0 k)) d * V22 m ρ c main_v3 (ix2 d J) = proj (A1 m c) (A3 m c) (A4 m c) (A5 m c) (A6 m c) (A7 m c) b t j := by
  refine sum_hid (fun k => ?_) (fun k => ?_) (fun k => ?_) (fun k => ?_) (fun d => ?_)
  · show W22 m ρ c main_arg1 _ = _
    rw [W22_args m ρ c main_arg1 (by decide)]
  · show W22 m ρ c main_v44 _ = _
    rw [keep22_v44]; exact (W17_v44 m ρ c b k).trans (ada_sample m ρ c b ⟨1024 + k.val, by omega⟩)
  · show W22 m ρ c main_v42 _ = _
    rw [keep22_v42]; exact (W17_v42 m ρ c b k).trans (ada_sample m ρ c b ⟨k.val, by omega⟩)
  · show W22 m ρ c main_v12 _ = _
    rw [keep22_v12]; exact norm_g m ρ c k
  · show W22 m ρ c main_v3 _ = _
    rw [keep22_v3]; exact h d

theorem rowsBS (b : Fin 16) (t : Fin 32) (J : Fin 5376) (j : Fin 5192)
    (h : ∀ d, (W9 m ρ c main_v7 : FVec Ideal S1024x5376 .bf16) (ix2 d J) = A7 m c (ix2 d j)) :
    ∑ d : Fin 1024, hid (fun k => V23 m ρ c main_arg1 (ix3 b t k)) (fun k => V23 m ρ c main_v44 (ix3 b 0 k)) (fun k => V23 m ρ c main_v42 (ix3 b 0 k))
      (fun k => V23 m ρ c main_v12 (ix2 0 k)) d * V23 m ρ c main_v7 (ix2 d J) = proj (A1 m c) (A3 m c) (A4 m c) (A5 m c) (A6 m c) (A7 m c) b t j := by
  refine sum_hid (fun k => ?_) (fun k => ?_) (fun k => ?_) (fun k => ?_) (fun d => ?_)
  · show W23 m ρ c main_arg1 _ = _
    rw [W23_args m ρ c main_arg1 (by decide)]
  · show W23 m ρ c main_v44 _ = _
    rw [keep23_v44]; exact (W17_v44 m ρ c b k).trans (ada_sample m ρ c b ⟨1024 + k.val, by omega⟩)
  · show W23 m ρ c main_v42 _ = _
    rw [keep23_v42]; exact (W17_v42 m ρ c b k).trans (ada_sample m ρ c b ⟨k.val, by omega⟩)
  · show W23 m ρ c main_v12 _ = _
    rw [keep23_v12]; exact norm_g m ρ c k
  · show W23 m ρ c main_v7 _ = _
    rw [keep23_v7]; exact h d

set_option maxHeartbeats 2000000 in
theorem okeyS (b : Fin 16) (t : Fin 32) (h : Fin 2) (l : Fin 64) :
    (W27 m ρ c main_v67 : FVec Ideal S16x32x2x64 .f32) (ix4 b t h l) = proj (A1 m c) (A3 m c) (A4 m c) (A5 m c) (A6 m c) (A7 m c) b t ⟨512 + (h.val * 64 + l.val), by omega⟩ := by
  have e : W27 m ρ c main_v67 = shapeCast S16x32x2x64 (W26 m ρ c main_v61_1 : FVec Ideal S16x32x128 .f32) shapeCasts_S16x32x128_S16x32x2x64 := by
    show StableHlo.after hostOps5_2 (W26 m ρ c) _ = _
    generalize W26 m ρ c = U
    after_results
    rfl
  rw [e, keep26_v61_1]
  have r := fun L : Fin 128 => rowsAS m ρ c b t _ _ fun d => w_key m ρ c d L
  refine Eq.trans ?_ (r ⟨h.val * 64 + l.val, by omega⟩)
  refine Eq.trans ?_ (congrFun ((W23_arr m ρ c 8).trans (arr3_key (V22 m ρ) c)) (ix3 b t ⟨h.val * 64 + l.val, by omega⟩))
  pointwise

set_option maxHeartbeats 2000000 in
theorem ovalS (b : Fin 16) (t : Fin 32) (h : Fin 2) (l : Fin 64) :
    (W27 m ρ c main_v68 : FVec Ideal S16x32x2x64 .f32) (ix4 b t h l) = proj (A1 m c) (A3 m c) (A4 m c) (A5 m c) (A6 m c) (A7 m c) b t ⟨640 + (h.val * 64 + l.val), by omega⟩ := by
  have e : W27 m ρ c main_v68 = shapeCast S16x32x2x64 (W26 m ρ c main_v61_2 : FVec Ideal S16x32x128 .f32) shapeCasts_S16x32x128_S16x32x2x64 := by
    show StableHlo.after hostOps5_2 (W26 m ρ c) _ = _
    generalize W26 m ρ c = U
    after_results
    rfl
  rw [e, keep26_v61_2]
  have r := fun L : Fin 128 => rowsAS m ρ c b t _ _ fun d => w_val m ρ c d L
  refine Eq.trans ?_ (r ⟨h.val * 64 + l.val, by omega⟩)
  refine Eq.trans ?_ (congrFun ((W23_arr m ρ c 9).trans (arr3_val (V22 m ρ) c)) (ix3 b t ⟨h.val * 64 + l.val, by omega⟩))
  pointwise

theorem oikS (b : Fin 16) (t : Fin 32) (l : Fin 64) :
    (W27 m ρ c main_v61_6 : FVec Ideal S16x32x64 .f32) (ix3 b t l)
      = lnorm (fun l => proj (A1 m c) (A3 m c) (A4 m c) (A5 m c) (A6 m c) (A7 m c) b t ⟨1280 + l.val, by omega⟩) (fun l => A8 m c (ix1 l)) (fun l => A9 m c (ix1 l)) l := by
  rw [keep27_v61_6]
  refine (congrFun ((W23_arr m ρ c 13).trans (arr3_ik (V22 m ρ) c fun d k => ?_)) (ix3 b t l)).trans ?_
  · show (W22 m ρ c main_v3 : FVec Ideal S1024x2560 .bf16) _ = _
    rw [keep22_v3]; exact w_ik_zero m ρ c d k
  · refine lnorm_congr (fun k => rowsAS m ρ c b t _ _ fun d => w_ik m ρ c d k) (fun k => ?_) (fun k => ?_) rfl
    · show (W22 m ρ c main_v9 : FVec Ideal S1x128 .f32) _ = _
      rw [keep22_v9]; exact W10_v9 m ρ c k
    · show (W22 m ρ c main_v11 : FVec Ideal S1x128 .f32) _ = _
      rw [keep22_v11]; exact W12_v11 m ρ c k

theorem oiwS (b : Fin 16) (t : Fin 32) (l : Fin 8) :
    (W27 m ρ c main_v61_8 : FVec Ideal S16x32x8 .f32) (ix3 b t l)
      = proj (A1 m c) (A3 m c) (A4 m c) (A5 m c) (A6 m c) (A7 m c) b t ⟨1344 + l.val, by omega⟩ * Ideal.ofBits .f32 0x3D3504F3#32 := by
  rw [keep27_v61_8]
  refine (congrFun ((W23_arr m ρ c 15).trans (arr3_iw (V22 m ρ) c)) (ix3 b t l)).trans ?_
  exact congrArg (· * Ideal.ofBits .f32 0x3D3504F3#32) (rowsAS m ρ c b t _ _ fun d => w_iw m ρ c d l)

theorem ogaS (b : Fin 16) (t : Fin 32) (l : Fin 1024) :
    (W27 m ρ c main_v62_1 : FVec Ideal S16x32x1024 .f32) (ix3 b t l) = Ideal.logistic (proj (A1 m c) (A3 m c) (A4 m c) (A5 m c) (A6 m c) (A7 m c) b t ⟨3144 + l.val, by omega⟩) := by
  rw [keep27_v62_1]
  refine (congrFun ((W24_arr m ρ c 6).trans (arr4_ga (V23 m ρ) c)) (ix3 b t l)).trans ?_
  exact congrArg Ideal.logistic (rowsBS m ρ c b t _ _ fun d => w_ga m ρ c d l)

theorem ogbS (b : Fin 16) (t : Fin 32) (l : Fin 1024) :
    (W27 m ρ c main_v62_2 : FVec Ideal S16x32x1024 .f32) (ix3 b t l) = Ideal.logistic (proj (A1 m c) (A3 m c) (A4 m c) (A5 m c) (A6 m c) (A7 m c) b t ⟨4168 + l.val, by omega⟩) := by
  rw [keep27_v62_2]
  refine (congrFun ((W24_arr m ρ c 7).trans (arr4_gb (V23 m ρ) c)) (ix3 b t l)).trans ?_
  exact congrArg Ideal.logistic (rowsBS m ρ c b t _ _ fun d => w_gb m ρ c d l)

theorem lastS (b : Fin 16) (j : Fin 3328) : (W25 m ρ c main_v64 : FVec Ideal S16x3328 .f32) (ix2 b j)
    = (W24 m ρ c main_v62_0 : FVec Ideal S16x32x3328 .f32) (ix3 b ⟨31, by omega⟩ j) := by
  have e : W25 m ρ c main_v64 = shapeCast S16x3328 (extractStridedSlice S16x1x3328 ![0, 31, 0] (W24 m ρ c main_v62_0 : FVec Ideal S16x32x3328 .f32)
      slices_S16x32x3328_S16x1x3328_0_31_0) shapeCasts_S16x1x3328_S16x3328 := by
    show StableHlo.after hostOps5 (W24 m ρ c) _ = _
    generalize W24 m ρ c = U
    after_results
    rfl
  rw [e]
  pointwise

theorem listS : W25 m ρ c main_c_4 = fun i : S1792.Idx => lit5 (S1792.rowMajor i) := by
  rw [keep25_c_4]
  show StableHlo.after hostOps0 (W0 m ρ c) _ = _
  after_results
  rfl

set_option maxHeartbeats 2000000 in
theorem oshiftS (b : Fin 16) (z : Fin 1) (p : Fin 1792) :
    (W27 m ρ c main_v66 : FVec Ideal S16x1x1792 .f32) (ix3 b z p) = proj (A1 m c) (A3 m c) (A4 m c) (A5 m c) (A6 m c) (A7 m c) b ⟨31, by omega⟩ ⟨1352 + p.val, by omega⟩ := by
  obtain rfl : z = 0 := Subsingleton.elim _ _
  have e : W27 m ρ c main_v66 = shapeCast S16x1x1792 (W26 m ρ c main_v65 : FVec Ideal S16x1792 .f32) shapeCasts_S16x1792_S16x1x1792 := by
    show StableHlo.after hostOps5_2 (W26 m ρ c) _ = _
    generalize W26 m ρ c = U
    after_results
    rfl
  have e' : W26 m ρ c main_v65 = taken (α := Ideal .f32) gather_S16x3328_S1792x1_S16x1792_0_1_n_n_1_1_161 bcast_S_S1792 bcast_S1792_S1792x1_0 bcast_S_S1792x1 bcast_S1_S1x1_1 bcast_S1x1_S1792x1_0_1
      bcast_S1792_S16x1792_1 reducesTo_S1792x1_S1792_d1 h_S_ 3328#32 3327#32 (W25 m ρ c main_v64 : FVec Ideal S16x3328 .f32)
      (broadcastInDim S16x1792 ![] bcast_S_S16x1792 (constant S_ .f32 2143289344#32)) (W25 m ρ c main_c_4) := by
    show StableHlo.after hostOps5_1 (W25 m ρ c) _ = _
    generalize W25 m ρ c = U
    after_results
    rfl
  have hl : ∀ p : Fin 1792, lit5 p = BitVec.ofNat 32 (lit4 p).toNat := fun p => by
    rw [lists_equal]; simp
  have hp : (shapeCast S16x1x1792 (W26 m ρ c main_v65 : FVec Ideal S16x1792 .f32) shapeCasts_S16x1792_S16x1x1792) (ix3 b 0 p)
      = (W26 m ρ c main_v65 : FVec Ideal S16x1792 .f32) (ix2 b p) := by
    pointwise
  rw [e, hp, e']
  refine (taken_apply gather_S16x3328_S1792x1_S16x1792_0_1_n_n_1_1_161 rfl rfl rfl rfl rfl _ _ _ _ _ _ _ _ _ _ _ _ _
    (fun p => ⟨(lit4 p).toNat, back_bound p⟩) ?_ (by norm_num) rfl b p).trans ?_
  · intro p
    rw [listS]
    show lit5 (S1792.rowMajor (ix1 p)) = _
    rw [place1]
    exact hl p
  · refine (lastS m ρ c b _).trans ?_
    refine (congrFun ((W24_arr m ρ c 5).trans (arr4_zr (V23 m ρ) c)) (ix3 b ⟨31, by omega⟩ ⟨(lit4 p).toNat, back_bound p⟩)).trans ?_
    exact rowsBS m ρ c b ⟨31, by omega⟩ _ _ fun d => w_zr m ρ c d p

end Cert.Proof.Proj
-- ==== Proof.Proj.Ref.lean ====
module

public import proofs.«01_k».proof.Proof.Gen.ProjReferenceIdeal.Read
public import proofs.«01_k».proof.Proof.Proj.Args
public import Idealize.ShloMosaic.Lib.Pipeline.ValueKit

@[expose] public section

set_option maxRecDepth 16384

noncomputable section

/-! The plain projections of the prompt. -/

namespace Cert.Proof.Proj

open Idealize.ShloMosaic Idealize.ShloMosaic.TcCoe Idealize.SL.Sem
open Cert.ProjReferenceIdeal Cert.ProjReferenceIdeal.Read

variable (x0 : FVec Ideal S2x8192x1024 .f32) (x2 : FVec Ideal S2x1024 .f32) (x4 : FVec Ideal S1024x6144 .f32) (x5 : FVec Ideal S6144 .f32)
  (x6 : FVec Ideal S1024 .f32) (x7 : FVec Ideal S1024x5192 .f32) (x8 x9 : FVec Ideal S64 .f32)

theorem rada (b : Fin 2) (j : Fin 6144) : (val_main_v4 (F := Ideal) x2 x4 x5 : FVec Ideal S2x6144 .f32) (ix2 b j)
    = modRow x2 x4 x5 b j := by
  pointwise [val_main_v4, val_main_v3, val_main_v2, val_main_v1, val_main_v0, val_main_call0_v5, val_main_call0_v4, val_main_call0_cst_0,
    val_main_call0_v3, val_main_call0_v2, val_main_call0_cst, val_main_call0_v1, val_main_call0_v0, modRow, modul]

theorem rhid (b : Fin 2) (t : Fin 8192) (d : Fin 1024) :
    (val_main_v30 (F := Ideal) x0 x2 x4 x5 x6 : FVec Ideal S2x8192x1024 .f32) (ix3 b t d) = hidden x0 x2 x4 x5 x6 b t d := by
  pointwise [val_main_v30, val_main_v29, val_main_v28, val_main_v27, val_main_v26, val_main_v25, val_main_cst_2, val_main_v24, val_main_v23,
    val_main_v22, val_main_v21, val_main_v20, val_main_v19, val_main_v18, val_main_v17, val_main_cst_1, val_main_v16, val_main_v15, val_main_cst_0,
    val_main_v14, val_main_v13, val_main_cst, val_main_v12, val_main_v7, val_main_v6, val_main_v5, rada, hidden, hid]

theorem rproj (b : Fin 2) (t : Fin 8192) (j : Fin 5192) :
    (val_main_v31 (F := Ideal) x0 x2 x4 x5 x6 x7 : FVec Ideal S2x8192x5192 .f32) (ix3 b t j) = proj x0 x2 x4 x5 x6 x7 b t j := by
  pointwise [val_main_v31, rhid, proj]

theorem rkey (b : Fin 2) (t : Fin 8192) (h : Fin 2) (l : Fin 64) :
    (val_main_v41 (F := Ideal) x0 x2 x4 x5 x6 x7 : FVec Ideal S2x8192x2x64 .f32) (ix4 b t h l)
      = proj x0 x2 x4 x5 x6 x7 b t ⟨512 + (h.val * 64 + l.val), by omega⟩ := by
  pointwise [val_main_v41, val_main_v33, rproj]

theorem rval (b : Fin 2) (t : Fin 8192) (h : Fin 2) (l : Fin 64) :
    (val_main_v42 (F := Ideal) x0 x2 x4 x5 x6 x7 : FVec Ideal S2x8192x2x64 .f32) (ix4 b t h l)
      = proj x0 x2 x4 x5 x6 x7 b t ⟨640 + (h.val * 64 + l.val), by omega⟩ := by
  pointwise [val_main_v42, val_main_v34, rproj]

theorem rik0 (b : Fin 2) (t : Fin 8192) (l : Fin 64) :
    (val_main_v36 (F := Ideal) x0 x2 x4 x5 x6 x7 : FVec Ideal S2x8192x64 .f32) (ix3 b t l)
      = proj x0 x2 x4 x5 x6 x7 b t ⟨1280 + l.val, by omega⟩ := by
  pointwise [val_main_v36, rproj]

theorem rik (b : Fin 2) (t : Fin 8192) (l : Fin 64) :
    (val_main_v66 (F := Ideal) x0 x2 x4 x5 x6 x7 x8 x9 : FVec Ideal S2x8192x64 .f32) (ix3 b t l)
      = lnorm (fun l => proj x0 x2 x4 x5 x6 x7 b t ⟨1280 + l.val, by omega⟩) (fun l => x8 (ix1 l)) (fun l => x9 (ix1 l)) l := by
  pointwise [val_main_v66, val_main_v65, val_main_v64, val_main_v63, val_main_v62, val_main_v61, val_main_v60, val_main_v59, val_main_v58,
    val_main_v57, val_main_v56, val_main_cst_7, val_main_v55, val_main_v54, val_main_v53, val_main_v52, val_main_cst_6, val_main_v51, val_main_v50,
    val_main_cst_5, val_main_v49, val_main_v48, val_main_v47, val_main_v46, val_main_v45, val_main_cst_4, val_main_v44, val_main_v43,
    val_main_cst_3, rik0, lnorm]

theorem rshift (b : Fin 2) (z : Fin 1) (p : Fin 1792) :
    (val_main_v67 (F := Ideal) x0 x2 x4 x5 x6 x7 : FVec Ideal S2x1x1792 .f32) (ix3 b z p)
      = proj x0 x2 x4 x5 x6 x7 b ⟨8191, by omega⟩ ⟨1352 + p.val, by omega⟩ := by
  obtain rfl : z = 0 := Subsingleton.elim _ _
  pointwise [val_main_v67, val_main_v38, rproj]

theorem riw (b : Fin 2) (t : Fin 8192) (l : Fin 8) :
    (val_main_v69 (F := Ideal) x0 x2 x4 x5 x6 x7 : FVec Ideal S2x8192x8 .f32) (ix3 b t l)
      = proj x0 x2 x4 x5 x6 x7 b t ⟨1344 + l.val, by omega⟩ * Ideal.ofBits .f32 0x3D3504F3#32 := by
  pointwise [val_main_v69, val_main_v68, val_main_cst_8, val_main_v37, rproj]

theorem rga (b : Fin 2) (t : Fin 8192) (l : Fin 1024) :
    (val_main_v75 (F := Ideal) x0 x2 x4 x5 x6 x7 : FVec Ideal S2x8192x1024 .f32) (ix3 b t l)
      = Ideal.logistic (proj x0 x2 x4 x5 x6 x7 b t ⟨3144 + l.val, by omega⟩) := by
  pointwise [val_main_v75, val_main_v74, val_main_cst_10, val_main_v73, val_main_v72, val_main_cst_9, val_main_v71, val_main_v70, val_main_v39, rproj]
  rfl

theorem rgb (b : Fin 2) (t : Fin 8192) (l : Fin 1024) :
    (val_main_v81 (F := Ideal) x0 x2 x4 x5 x6 x7 : FVec Ideal S2x8192x1024 .f32) (ix3 b t l)
      = Ideal.logistic (proj x0 x2 x4 x5 x6 x7 b t ⟨4168 + l.val, by omega⟩) := by
  pointwise [val_main_v81, val_main_v80, val_main_cst_12, val_main_v79, val_main_v78, val_main_cst_11, val_main_v77, val_main_v76, val_main_v40, rproj]
  rfl

end Cert.Proof.Proj
-- ==== Proof.Proj.RefS.lean ====
module

public import proofs.«01_k».proof.Proof.Gen.ProjReferenceIdeal.Read
public import proofs.«01_k».proof.Proof.Proj.Args
public import Idealize.ShloMosaic.Lib.Pipeline.ValueKit

@[expose] public section

set_option maxRecDepth 16384

noncomputable section

/-! The plain projections of the sample. -/

namespace Cert.Proof.Proj

open Idealize.ShloMosaic Idealize.ShloMosaic.TcCoe Idealize.SL.Sem
open Cert.ProjReferenceIdeal Cert.ProjReferenceIdeal.Read

variable (x1 : FVec Ideal S16x32x1024 .f32) (x3 : FVec Ideal S16x1024 .f32) (x4 : FVec Ideal S1024x6144 .f32) (x5 : FVec Ideal S6144 .f32)
  (x6 : FVec Ideal S1024 .f32) (x7 : FVec Ideal S1024x5192 .f32) (x8 x9 : FVec Ideal S64 .f32)

theorem radaS (b : Fin 16) (j : Fin 6144) : (val_main_v110 (F := Ideal) x3 x4 x5 : FVec Ideal S16x6144 .f32) (ix2 b j)
    = modRow x3 x4 x5 b j := by
  pointwise [val_main_v110, val_main_v109, val_main_v108, val_main_v107, val_main_v106, val_main_call6_v5, val_main_call6_v4, val_main_call6_cst_0,
    val_main_call6_v3, val_main_call6_v2, val_main_call6_cst, val_main_call6_v1, val_main_call6_v0, modRow, modul]

theorem rhidS (b : Fin 16) (t : Fin 32) (d : Fin 1024) :
    (val_main_v136 (F := Ideal) x1 x3 x4 x5 x6 : FVec Ideal S16x32x1024 .f32) (ix3 b t d) = hidden x1 x3 x4 x5 x6 b t d := by
  pointwise [val_main_v136, val_main_v135, val_main_v134, val_main_v133, val_main_v132, val_main_v131, val_main_cst_21, val_main_v130, val_main_v129,
    val_main_v128, val_main_v127, val_main_v126, val_main_v125, val_main_v124, val_main_v123, val_main_cst_20, val_main_v122, val_main_v121, val_main_cst_19,
    val_main_v120, val_main_v119, val_main_cst_18, val_main_v118, val_main_v113, val_main_v112, val_main_v111, radaS, hidden, hid]

theorem rprojS (b : Fin 16) (t : Fin 32) (j : Fin 5192) :
    (val_main_v137 (F := Ideal) x1 x3 x4 x5 x6 x7 : FVec Ideal S16x32x5192 .f32) (ix3 b t j) = proj x1 x3 x4 x5 x6 x7 b t j := by
  pointwise [val_main_v137, rhidS, proj]

theorem rkeyS (b : Fin 16) (t : Fin 32) (h : Fin 2) (l : Fin 64) :
    (val_main_v147 (F := Ideal) x1 x3 x4 x5 x6 x7 : FVec Ideal S16x32x2x64 .f32) (ix4 b t h l)
      = proj x1 x3 x4 x5 x6 x7 b t ⟨512 + (h.val * 64 + l.val), by omega⟩ := by
  pointwise [val_main_v147, val_main_v139, rprojS]

theorem rvalS (b : Fin 16) (t : Fin 32) (h : Fin 2) (l : Fin 64) :
    (val_main_v148 (F := Ideal) x1 x3 x4 x5 x6 x7 : FVec Ideal S16x32x2x64 .f32) (ix4 b t h l)
      = proj x1 x3 x4 x5 x6 x7 b t ⟨640 + (h.val * 64 + l.val), by omega⟩ := by
  pointwise [val_main_v148, val_main_v140, rprojS]

theorem rik0S (b : Fin 16) (t : Fin 32) (l : Fin 64) :
    (val_main_v142 (F := Ideal) x1 x3 x4 x5 x6 x7 : FVec Ideal S16x32x64 .f32) (ix3 b t l)
      = proj x1 x3 x4 x5 x6 x7 b t ⟨1280 + l.val, by omega⟩ := by
  pointwise [val_main_v142, rprojS]

theorem rikS (b : Fin 16) (t : Fin 32) (l : Fin 64) :
    (val_main_v172 (F := Ideal) x1 x3 x4 x5 x6 x7 x8 x9 : FVec Ideal S16x32x64 .f32) (ix3 b t l)
      = lnorm (fun l => proj x1 x3 x4 x5 x6 x7 b t ⟨1280 + l.val, by omega⟩) (fun l => x8 (ix1 l)) (fun l => x9 (ix1 l)) l := by
  pointwise [val_main_v172, val_main_v171, val_main_v170, val_main_v169, val_main_v168, val_main_v167, val_main_v166, val_main_v165, val_main_v164,
    val_main_v163, val_main_v162, val_main_cst_26, val_main_v161, val_main_v160, val_main_v159, val_main_v158, val_main_cst_25, val_main_v157, val_main_v156,
    val_main_cst_24, val_main_v155, val_main_v154, val_main_v153, val_main_v152, val_main_v151, val_main_cst_23, val_main_v150, val_main_v149,
    val_main_cst_22, rik0S, lnorm]

theorem rshiftS (b : Fin 16) (z : Fin 1) (p : Fin 1792) :
    (val_main_v173 (F := Ideal) x1 x3 x4 x5 x6 x7 : FVec Ideal S16x1x1792 .f32) (ix3 b z p)
      = proj x1 x3 x4 x5 x6 x7 b ⟨31, by omega⟩ ⟨1352 + p.val, by omega⟩ := by
  obtain rfl : z = 0 := Subsingleton.elim _ _
  pointwise [val_main_v173, val_main_v144, rprojS]

theorem riwS (b : Fin 16) (t : Fin 32) (l : Fin 8) :
    (val_main_v175 (F := Ideal) x1 x3 x4 x5 x6 x7 : FVec Ideal S16x32x8 .f32) (ix3 b t l)
      = proj x1 x3 x4 x5 x6 x7 b t ⟨1344 + l.val, by omega⟩ * Ideal.ofBits .f32 0x3D3504F3#32 := by
  pointwise [val_main_v175, val_main_v174, val_main_cst_27, val_main_v143, rprojS]

theorem rgaS (b : Fin 16) (t : Fin 32) (l : Fin 1024) :
    (val_main_v181 (F := Ideal) x1 x3 x4 x5 x6 x7 : FVec Ideal S16x32x1024 .f32) (ix3 b t l)
      = Ideal.logistic (proj x1 x3 x4 x5 x6 x7 b t ⟨3144 + l.val, by omega⟩) := by
  pointwise [val_main_v181, val_main_v180, val_main_cst_29, val_main_v179, val_main_v178, val_main_cst_28, val_main_v177, val_main_v176, val_main_v145, rprojS]
  rfl

theorem rgbS (b : Fin 16) (t : Fin 32) (l : Fin 1024) :
    (val_main_v187 (F := Ideal) x1 x3 x4 x5 x6 x7 : FVec Ideal S16x32x1024 .f32) (ix3 b t l)
      = Ideal.logistic (proj x1 x3 x4 x5 x6 x7 b t ⟨4168 + l.val, by omega⟩) := by
  pointwise [val_main_v187, val_main_v186, val_main_cst_31, val_main_v185, val_main_v184, val_main_cst_30, val_main_v183, val_main_v182, val_main_v146, rprojS]
  rfl

end Cert.Proof.Proj
-- ==== Proof.Proj.Same.lean ====
module

public import proofs.«01_k».proof.Defs
public import proofs.«01_k».proof.Proof.Proj.Run
public import proofs.«01_k».proof.Proof.Proj.Out
public import proofs.«01_k».proof.Proof.Proj.OutS
public import proofs.«01_k».proof.Proof.Proj.Ref
public import proofs.«01_k».proof.Proof.Proj.RefS

@[expose] public section

set_option maxRecDepth 16384

noncomputable section

/-! The kernels and the plain projections leave the same results. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

theorem same_key : Cert.ProjReferenceIdeal.Read.val_main_v41 (F := Ideal) (A0 m c) (A2 m c) (A4 m c) (A5 m c) (A6 m c) (A7 m c) = W27 m ρ c main_v59 :=
  funext fun i => by
    rw [eq_ix4 i]
    exact (rkey (A0 m c) (A2 m c) (A4 m c) (A5 m c) (A6 m c) (A7 m c) (i 0) (i 1) (i 2) (i 3)).trans (okey m ρ c (i 0) (i 1) (i 2) (i 3)).symm

theorem same_val : Cert.ProjReferenceIdeal.Read.val_main_v42 (F := Ideal) (A0 m c) (A2 m c) (A4 m c) (A5 m c) (A6 m c) (A7 m c) = W27 m ρ c main_v60 :=
  funext fun i => by
    rw [eq_ix4 i]
    exact (rval (A0 m c) (A2 m c) (A4 m c) (A5 m c) (A6 m c) (A7 m c) (i 0) (i 1) (i 2) (i 3)).trans (oval m ρ c (i 0) (i 1) (i 2) (i 3)).symm

theorem same_ik : Cert.ProjReferenceIdeal.Read.val_main_v66 (F := Ideal) (A0 m c) (A2 m c) (A4 m c) (A5 m c) (A6 m c) (A7 m c) (A8 m c) (A9 m c) = W27 m ρ c main_v53_6 :=
  funext fun i => by
    rw [eq_ix3 i]
    exact (rik (A0 m c) (A2 m c) (A4 m c) (A5 m c) (A6 m c) (A7 m c) (A8 m c) (A9 m c) (i 0) (i 1) (i 2)).trans (oik m ρ c (i 0) (i 1) (i 2)).symm

theorem same_shift : Cert.ProjReferenceIdeal.Read.val_main_v67 (F := Ideal) (A0 m c) (A2 m c) (A4 m c) (A5 m c) (A6 m c) (A7 m c) = W27 m ρ c main_v58 :=
  funext fun i => by
    rw [eq_ix3 i]
    exact (rshift (A0 m c) (A2 m c) (A4 m c) (A5 m c) (A6 m c) (A7 m c) (i 0) (i 1) (i 2)).trans (oshift m ρ c (i 0) (i 1) (i 2)).symm

theorem same_iw : Cert.ProjReferenceIdeal.Read.val_main_v69 (F := Ideal) (A0 m c) (A2 m c) (A4 m c) (A5 m c) (A6 m c) (A7 m c) = W27 m ρ c main_v53_8 :=
  funext fun i => by
    rw [eq_ix3 i]
    exact (riw (A0 m c) (A2 m c) (A4 m c) (A5 m c) (A6 m c) (A7 m c) (i 0) (i 1) (i 2)).trans (oiw m ρ c (i 0) (i 1) (i 2)).symm

theorem same_ga : Cert.ProjReferenceIdeal.Read.val_main_v75 (F := Ideal) (A0 m c) (A2 m c) (A4 m c) (A5 m c) (A6 m c) (A7 m c) = W27 m ρ c main_v54_1 :=
  funext fun i => by
    rw [eq_ix3 i]
    exact (rga (A0 m c) (A2 m c) (A4 m c) (A5 m c) (A6 m c) (A7 m c) (i 0) (i 1) (i 2)).trans (oga m ρ c (i 0) (i 1) (i 2)).symm

theorem same_gb : Cert.ProjReferenceIdeal.Read.val_main_v81 (F := Ideal) (A0 m c) (A2 m c) (A4 m c) (A5 m c) (A6 m c) (A7 m c) = W27 m ρ c main_v54_2 :=
  funext fun i => by
    rw [eq_ix3 i]
    exact (rgb (A0 m c) (A2 m c) (A4 m c) (A5 m c) (A6 m c) (A7 m c) (i 0) (i 1) (i 2)).trans (ogb m ρ c (i 0) (i 1) (i 2)).symm

theorem same_keyS : Cert.ProjReferenceIdeal.Read.val_main_v147 (F := Ideal) (A1 m c) (A3 m c) (A4 m c) (A5 m c) (A6 m c) (A7 m c) = W27 m ρ c main_v67 :=
  funext fun i => by
    rw [eq_ix4 i]
    exact (rkeyS (A1 m c) (A3 m c) (A4 m c) (A5 m c) (A6 m c) (A7 m c) (i 0) (i 1) (i 2) (i 3)).trans (okeyS m ρ c (i 0) (i 1) (i 2) (i 3)).symm

theorem same_valS : Cert.ProjReferenceIdeal.Read.val_main_v148 (F := Ideal) (A1 m c) (A3 m c) (A4 m c) (A5 m c) (A6 m c) (A7 m c) = W27 m ρ c main_v68 :=
  funext fun i => by
    rw [eq_ix4 i]
    exact (rvalS (A1 m c) (A3 m c) (A4 m c) (A5 m c) (A6 m c) (A7 m c) (i 0) (i 1) (i 2) (i 3)).trans (ovalS m ρ c (i 0) (i 1) (i 2) (i 3)).symm

theorem same_ikS : Cert.ProjReferenceIdeal.Read.val_main_v172 (F := Ideal) (A1 m c) (A3 m c) (A4 m c) (A5 m c) (A6 m c) (A7 m c) (A8 m c) (A9 m c) = W27 m ρ c main_v61_6 :=
  funext fun i => by
    rw [eq_ix3 i]
    exact (rikS (A1 m c) (A3 m c) (A4 m c) (A5 m c) (A6 m c) (A7 m c) (A8 m c) (A9 m c) (i 0) (i 1) (i 2)).trans (oikS m ρ c (i 0) (i 1) (i 2)).symm

theorem same_shiftS : Cert.ProjReferenceIdeal.Read.val_main_v173 (F := Ideal) (A1 m c) (A3 m c) (A4 m c) (A5 m c) (A6 m c) (A7 m c) = W27 m ρ c main_v66 :=
  funext fun i => by
    rw [eq_ix3 i]
    exact (rshiftS (A1 m c) (A3 m c) (A4 m c) (A5 m c) (A6 m c) (A7 m c) (i 0) (i 1) (i 2)).trans (oshiftS m ρ c (i 0) (i 1) (i 2)).symm

theorem same_iwS : Cert.ProjReferenceIdeal.Read.val_main_v175 (F := Ideal) (A1 m c) (A3 m c) (A4 m c) (A5 m c) (A6 m c) (A7 m c) = W27 m ρ c main_v61_8 :=
  funext fun i => by
    rw [eq_ix3 i]
    exact (riwS (A1 m c) (A3 m c) (A4 m c) (A5 m c) (A6 m c) (A7 m c) (i 0) (i 1) (i 2)).trans (oiwS m ρ c (i 0) (i 1) (i 2)).symm

theorem same_gaS : Cert.ProjReferenceIdeal.Read.val_main_v181 (F := Ideal) (A1 m c) (A3 m c) (A4 m c) (A5 m c) (A6 m c) (A7 m c) = W27 m ρ c main_v62_1 :=
  funext fun i => by
    rw [eq_ix3 i]
    exact (rgaS (A1 m c) (A3 m c) (A4 m c) (A5 m c) (A6 m c) (A7 m c) (i 0) (i 1) (i 2)).trans (ogaS m ρ c (i 0) (i 1) (i 2)).symm

theorem same_gbS : Cert.ProjReferenceIdeal.Read.val_main_v187 (F := Ideal) (A1 m c) (A3 m c) (A4 m c) (A5 m c) (A6 m c) (A7 m c) = W27 m ρ c main_v62_2 :=
  funext fun i => by
    rw [eq_ix3 i]
    exact (rgbS (A1 m c) (A3 m c) (A4 m c) (A5 m c) (A6 m c) (A7 m c) (i 0) (i 1) (i 2)).trans (ogbS m ρ c (i 0) (i 1) (i 2)).symm

end Cert.Proof.Proj
-- ==== Proof.Proj.PayQ.lean ====
module

public import proofs.«01_k».proof.Proof.Proj.PayA

@[expose] public section

set_option maxRecDepth 16384

noncomputable section

/-! What one point of the first projection kernel leaves on the prompt, the results handed to the attention. -/

namespace Cert.Proof.Proj

open Idealize.ShloMosaic Idealize.ShloMosaic.TcCoe Idealize.SL.Sem
open Cert.ProjIdeal Cert.ProjIdeal.Gen

variable (x0 : Vec Ideal S1x256x1024 .f32) (x1 x2 : Vec Ideal S1x1x1024 .f32) (x3 : Vec Ideal S1x1024 .f32)
  (x4 : Vec Ideal S1024x2560 .bf16) (x5 x6 : Vec Ideal S1x128 .f32)

theorem kb1 (r : Fin 256) (l : Fin 128) : out1_10 (F := Ideal) x0 x1 x2 x3 x4 x5 x6 (ix3 0 r l)
    = ∑ d : Fin 1024, hid (fun k => x0 (ix3 0 r k)) (fun k => x1 (ix3 0 0 k)) (fun k => x2 (ix3 0 0 k)) (fun k => x3 (ix2 0 k)) d * x4 (ix2 d ⟨1024 + l.val, by omega⟩) := by
  unfold out1_10
  rw [View.canon_unit_zero (by decide)]
  pointwise [k1_pay18, k1_pay16, k1_pay14, k1_pay13, hid1]

theorem vb1 (r : Fin 256) (l : Fin 128) : out1_11 (F := Ideal) x0 x1 x2 x3 x4 x5 x6 (ix3 0 r l)
    = ∑ d : Fin 1024, hid (fun k => x0 (ix3 0 r k)) (fun k => x1 (ix3 0 0 k)) (fun k => x2 (ix3 0 0 k)) (fun k => x3 (ix2 0 k)) d * x4 (ix2 d ⟨1024 + (128 + l.val), by omega⟩) := by
  unfold out1_11
  rw [View.canon_unit_zero (by decide)]
  pointwise [k1_pay19, k1_pay17, k1_pay15, k1_pay13, hid1]

theorem iq1 (g : Fin 8) (r : Fin 256) (l : Fin 128) : out1_12 (F := Ideal) x0 x1 x2 x3 x4 x5 x6 (ix4 0 g r l)
    = ∑ d : Fin 1024, hid (fun k => x0 (ix3 0 r k)) (fun k => x1 (ix3 0 0 k)) (fun k => x2 (ix3 0 0 k)) (fun k => x3 (ix2 0 k)) d * x4 (ix2 d ⟨1280 + (g.val * 128 + l.val), by omega⟩) := by
  unfold out1_12
  canon_tiles x h
  all_goals
    obtain ⟨u, a, b, e, rfl⟩ : ∃ (u : Fin _) (a : Fin _) (b : Fin _) (e : Fin _), x = ix4 u a b e := ⟨x 0, x 1, x 2, x 3, eq_ix4 x⟩
    pointwise [k1_pay20, k1_pay21, k1_pay22, k1_pay23, k1_pay24, k1_pay25, k1_pay26, k1_pay27, hid1] at *
    obtain rfl : r = b := Fin.ext h2
    obtain rfl : l = e := Fin.ext h3
    refine congrArg (fun q : Fin 2560 => ∑ d : Fin 1024, hid (fun k => x0 (ix3 0 r k)) (fun k => x1 (ix3 0 0 k)) (fun k => x2 (ix3 0 0 k)) (fun k => x3 (ix2 0 k)) d * x4 (ix2 d q)) (Fin.ext ?_)
    simp only [h1] <;> omega

theorem q1 (g : Fin 8) (r : Fin 256) (l : Fin 128) : out1_7 (F := Ideal) x0 x1 x2 x3 x4 x5 x6 (ix4 0 g r l)
    = (∑ d : Fin 1024, hid (fun k => x0 (ix3 0 r k)) (fun k => x1 (ix3 0 0 k)) (fun k => x2 (ix3 0 0 k)) (fun k => x3 (ix2 0 k)) d * x4 (ix2 d ⟨g.val * 128 + l.val, by omega⟩)) * Ideal.ofBits .f32 0x3E000000#32 := by
  unfold out1_7
  canon_tiles x h
  all_goals
    obtain ⟨u, a, b, e, rfl⟩ : ∃ (u : Fin _) (a : Fin _) (b : Fin _) (e : Fin _), x = ix4 u a b e := ⟨x 0, x 1, x 2, x 3, eq_ix4 x⟩
    pointwise [k1_pay12, k1_pay11, k1_pay10, k1_pay9, k1_pay8, k1_pay7, k1_pay6, k1_pay5, k1_pay4, k1_pay3, k1_pay2, k1_pay1, hid, hid1] at *
    obtain rfl : r = b := Fin.ext h2
    obtain rfl : l = e := Fin.ext h3
    refine congrArg (fun q : Fin 2560 => (∑ d : Fin 1024, hid (fun k => x0 (ix3 0 r k)) (fun k => x1 (ix3 0 0 k)) (fun k => x2 (ix3 0 0 k)) (fun k => x3 (ix2 0 k)) d * x4 (ix2 d q)) * Ideal.ofBits .f32 0x3E000000#32) (Fin.ext ?_)
    simp only [h1] <;> omega

theorem ikb1 (hz : ∀ (d : Fin 1024) (k : Fin 64), x4 (ix2 d ⟨2304 + (64 + k.val), by omega⟩) = 0) (r : Fin 256) (l : Fin 64) :
    out1_14 (F := Ideal) x0 x1 x2 x3 x4 x5 x6 (ix3 0 r ⟨l.val, by omega⟩)
      = lnorm (fun l : Fin 64 => ∑ d : Fin 1024, hid (fun k => x0 (ix3 0 r k)) (fun k => x1 (ix3 0 0 k)) (fun k => x2 (ix3 0 0 k)) (fun k => x3 (ix2 0 k)) d * x4 (ix2 d ⟨2304 + l.val, by omega⟩))
        (fun l => x5 (ix2 0 ⟨l.val, by omega⟩)) (fun l => x6 (ix2 0 ⟨l.val, by omega⟩)) l := by
  unfold out1_14
  rw [View.canon_unit_zero (by decide)]
  have hp := t1 x0 x1 x2 x3 x4 x5 x6 r
  have hq := s1 x0 x1 x2 x3 x4 x5 x6 r
  generalize k1_pay37 (F := Ideal) x0 x1 x2 x3 x4 x5 x6 = p at hp hq ⊢
  generalize k1_pay39 (F := Ideal) x0 x1 x2 x3 x4 x5 x6 = q at hq ⊢
  pointwise [k1_pay34, k1_pay32, k1_pay38, k1_pay30]
  rw [hq]
  refine (lnorm_pad (fun k => p (ix2 r k)) (fun k => ?_) _ _ (fun l => x5 (ix2 0 ⟨l.val, by omega⟩))
    (fun l => x6 (ix2 0 ⟨l.val, by omega⟩)) l rfl rfl).trans ?_
  · rw [hp]
    exact Finset.sum_eq_zero fun d _ => by rw [hz, mul_zero]
  · simp only [hp]

/-- Past the index key's 64 lanes the bias is all that is left. -/
theorem ikb1_pad (r : Fin 256) (l : Fin 128) (hl : ¬ l.val < 64) :
    out1_14 (F := Ideal) x0 x1 x2 x3 x4 x5 x6 (ix3 0 r l) = x6 (ix2 0 l) := by
  unfold out1_14
  rw [View.canon_unit_zero (by decide)]
  generalize k1_pay37 (F := Ideal) x0 x1 x2 x3 x4 x5 x6 = p
  generalize k1_pay39 (F := Ideal) x0 x1 x2 x3 x4 x5 x6 = q
  pointwise [k1_pay34, k1_pay32, k1_pay38, k1_pay30]
  rw [lane_lt _ (by omega), if_neg hl]
  exact zero_add _

end Cert.Proof.Proj
-- ==== Proof.Proj.ArrQ.lean ====
module

public import proofs.«01_k».proof.Proof.Proj.PayQ
public import Idealize.ShloMosaic.Lib.Pipeline.ReadBack

@[expose] public section

set_option maxRecDepth 16384

noncomputable section

/-! The arrays the first projection kernel hands to the attention on the prompt. -/

namespace Cert.Proof.Proj

open Idealize.ShloMosaic Idealize.ShloMosaic.TcCoe Idealize.SL.Sem
open Cert.ProjIdeal Cert.ProjIdeal.Gen

variable (V : (c : Dev nD) → (b : Ref sig .tc) → Buf (Elt Ideal) ((c : Thread nD τ).loc b))

theorem index1q : ∀ t, win1_0.index t = ![t.val / 32, t.val % 32, 0] ∧ win1_1.index t = ![t.val / 32, 0, 0] ∧ win1_2.index t = ![t.val / 32, 0, 0]
    ∧ win1_3.index t = ![0, 0] ∧ win1_4.index t = ![0, 0] ∧ win1_5.index t = ![0, 0] ∧ win1_6.index t = ![0, 0]
    ∧ win1_7.index t = ![t.val / 32, 0, t.val % 32, 0]
    ∧ win1_10.index t = ![t.val / 32, t.val % 32, 0]
    ∧ win1_11.index t = ![t.val / 32, t.val % 32, 0]
    ∧ win1_12.index t = ![t.val / 32, 0, t.val % 32, 0]
    ∧ win1_14.index t = ![t.val / 32, t.val % 32, 0] := by
  decide +kernel

theorem arr1_kb (c : Dev nD) : (dat1 (F := Ideal) V c).arrAt 10 cfg1.N = fun i : S2x8192x128.Idx =>
    ∑ d : Fin 1024, hid (fun k => V c main_arg0 (ix3 (i 0) (i 1) k)) (fun k => V c main_v26 (ix3 (i 0) 0 k)) (fun k => V c main_v24 (ix3 (i 0) 0 k)) (fun k => V c main_v12 (ix2 0 k)) d * V c main_v3 (ix2 d ⟨1024 + (i 2).val, by have h : (i 2).val < 128 := (i 2).isLt; omega⟩) := by
  refine (dat1 V c).arrAt_eq_of_covers 10 _ (by decide +kernel) fun t hf y => ?_
  obtain ⟨u, r, l, rfl⟩ : ∃ (u : Fin 1) (r : Fin 256) (l : Fin 128), y = ix3 u r l := ⟨y 0, y 1, y 2, eq_ix3 y⟩
  obtain rfl : u = 0 := Subsingleton.elim _ _
  blk_simp
  rw [after1_10]
  refine (kb1 _ _ _ _ _ _ _ r l).trans ?_
  blk_point [iblk1, index1q t]

theorem arr1_vb (c : Dev nD) : (dat1 (F := Ideal) V c).arrAt 11 cfg1.N = fun i : S2x8192x128.Idx =>
    ∑ d : Fin 1024, hid (fun k => V c main_arg0 (ix3 (i 0) (i 1) k)) (fun k => V c main_v26 (ix3 (i 0) 0 k)) (fun k => V c main_v24 (ix3 (i 0) 0 k)) (fun k => V c main_v12 (ix2 0 k)) d * V c main_v3 (ix2 d ⟨1024 + (128 + (i 2).val), by have h : (i 2).val < 128 := (i 2).isLt; omega⟩) := by
  refine (dat1 V c).arrAt_eq_of_covers 11 _ (by decide +kernel) fun t hf y => ?_
  obtain ⟨u, r, l, rfl⟩ : ∃ (u : Fin 1) (r : Fin 256) (l : Fin 128), y = ix3 u r l := ⟨y 0, y 1, y 2, eq_ix3 y⟩
  obtain rfl : u = 0 := Subsingleton.elim _ _
  blk_simp
  rw [after1_11]
  refine (vb1 _ _ _ _ _ _ _ r l).trans ?_
  blk_point [iblk1, index1q t]

theorem arr1_q (c : Dev nD) : (dat1 (F := Ideal) V c).arrAt 7 cfg1.N = fun i : S2x8x8192x128.Idx =>
    (∑ d : Fin 1024, hid (fun k => V c main_arg0 (ix3 (i 0) (i 2) k)) (fun k => V c main_v26 (ix3 (i 0) 0 k)) (fun k => V c main_v24 (ix3 (i 0) 0 k)) (fun k => V c main_v12 (ix2 0 k)) d * V c main_v3 (ix2 d ⟨(i 1).val * 128 + (i 3).val, by have h1 : (i 1).val < 8 := (i 1).isLt; have h3 : (i 3).val < 128 := (i 3).isLt; omega⟩)) * Ideal.ofBits .f32 0x3E000000#32 := by
  refine (dat1 V c).arrAt_eq_of_covers 7 _ (by decide +kernel) fun t hf y => ?_
  obtain ⟨u, g, r, l, rfl⟩ : ∃ (u : Fin 1) (g : Fin 8) (r : Fin 256) (l : Fin 128), y = ix4 u g r l := ⟨y 0, y 1, y 2, y 3, eq_ix4 y⟩
  obtain rfl : u = 0 := Subsingleton.elim _ _
  blk_simp
  rw [after1_7]
  refine (q1 _ _ _ _ _ _ _ g r l).trans ?_
  blk_point [iblk1, index1q t]

theorem arr1_iq (c : Dev nD) : (dat1 (F := Ideal) V c).arrAt 12 cfg1.N = fun i : S2x8x8192x128.Idx =>
    ∑ d : Fin 1024, hid (fun k => V c main_arg0 (ix3 (i 0) (i 2) k)) (fun k => V c main_v26 (ix3 (i 0) 0 k)) (fun k => V c main_v24 (ix3 (i 0) 0 k)) (fun k => V c main_v12 (ix2 0 k)) d * V c main_v3 (ix2 d ⟨1280 + ((i 1).val * 128 + (i 3).val), by have h1 : (i 1).val < 8 := (i 1).isLt; have h3 : (i 3).val < 128 := (i 3).isLt; omega⟩) := by
  refine (dat1 V c).arrAt_eq_of_covers 12 _ (by decide +kernel) fun t hf y => ?_
  obtain ⟨u, g, r, l, rfl⟩ : ∃ (u : Fin 1) (g : Fin 8) (r : Fin 256) (l : Fin 128), y = ix4 u g r l := ⟨y 0, y 1, y 2, y 3, eq_ix4 y⟩
  obtain rfl : u = 0 := Subsingleton.elim _ _
  blk_simp
  rw [after1_12]
  refine (iq1 _ _ _ _ _ _ _ g r l).trans ?_
  blk_point [iblk1, index1q t]

/-- The index key on its 64 lanes; the bias past them. -/
def ikLanes (c : Dev nD) (b : Fin 2) (r : Fin 8192) (l : Fin 128) : EReal :=
  if h : l.val < 64 then
    lnorm (fun l : Fin 64 => ∑ d : Fin 1024, hid (fun k => V c main_arg0 (ix3 b r k)) (fun k => V c main_v26 (ix3 b 0 k)) (fun k => V c main_v24 (ix3 b 0 k)) (fun k => V c main_v12 (ix2 0 k)) d * V c main_v3 (ix2 d ⟨2304 + l.val, by omega⟩)) (fun l => V c main_v9 (ix2 0 ⟨l.val, by omega⟩))
      (fun l => V c main_v11 (ix2 0 ⟨l.val, by omega⟩)) ⟨l.val, h⟩
  else V c main_v11 (ix2 0 l)

theorem arr1_ikb (c : Dev nD) (hz : ∀ (d : Fin 1024) (k : Fin 64), V c main_v3 (ix2 d ⟨2304 + (64 + k.val), by omega⟩) = (0 : EReal)) :
    (dat1 (F := Ideal) V c).arrAt 14 cfg1.N = fun i : S2x8192x128.Idx => ikLanes V c (i 0) (i 1) (i 2) := by
  refine (dat1 V c).arrAt_eq_of_covers 14 _ (by decide +kernel) fun t hf y => ?_
  obtain ⟨u, r, l, rfl⟩ : ∃ (u : Fin 1) (r : Fin 256) (l : Fin 128), y = ix3 u r l := ⟨y 0, y 1, y 2, eq_ix3 y⟩
  obtain rfl : u = 0 := Subsingleton.elim _ _
  blk_simp
  rw [after1_14]
  have e2 : (((win1_14.blk t).view.emb (ix3 0 r l)) 2 : ℕ) = l.val := by blk_simp [index1q t]
  unfold ikLanes
  by_cases hl : l.val < 64
  · rw [dif_pos (by rw [e2]; exact hl)]
    refine (ikb1 _ _ _ _ _ _ _ (fun d k => (?_ : _ = _).trans (hz d k)) r ⟨l.val, hl⟩).trans ?_
    · blk_ext [iblk1, index1q t]
    · refine lnorm_congr (fun k => ?_) (fun k => ?_) (fun k => ?_) (Fin.ext e2.symm)
      · blk_point [iblk1, index1q t]
      · blk_ext [iblk1, index1q t]
      · blk_ext [iblk1, index1q t]
  · rw [dif_neg (by rw [e2]; exact hl)]
    refine (ikb1_pad _ _ _ _ _ _ _ r l hl).trans ?_
    blk_point [iblk1, index1q t]

end Cert.Proof.Proj
-- ==== Proof.Proj.HostQ.lean ====
module

public import proofs.«01_k».proof.Proof.Proj.HostW
public import proofs.«01_k».proof.Proof.Proj.HostN

@[expose] public section

set_option maxRecDepth 16384

noncomputable section

/-! The prepared weights of the queries and of the recurrence, column by column: each head on half of its lanes,
zeros on the other half. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

/-- The first four heads' query columns fill their lower lanes. -/
theorem w_q_lo (d : Fin 1024) (g : Fin 4) (l : Fin 64) : (W5 m ρ c main_v3 : FVec Ideal S1024x2560 .bf16) (ix2 d ⟨g.val * 128 + l.val, by omega⟩)
    = (m ((c : Thread nD τ).loc main_arg7) : FVec Ideal S1024x5192 .f32) (ix2 d ⟨g.val * 64 + l.val, by omega⟩) := by
  have h : ∀ (g : Fin 4) (l : Fin 64), lit0 ⟨g.val * 128 + l.val, by omega⟩ = 1#1 ∧ (lit1 ⟨g.val * 128 + l.val, by omega⟩).toNat = g.val * 64 + l.val := by decide +kernel
  rw [colsA_apply, (h g l).1]
  refine (if_pos rfl).trans (congrArg (fun q => (m ((c : Thread nD τ).loc main_arg7) : FVec Ideal S1024x5192 .f32) (ix2 d q)) (Fin.ext (h g l).2))

/-- Their upper lanes are zero. -/
theorem w_q_lo_pad (d : Fin 1024) (g : Fin 4) (l : Fin 64) : (W5 m ρ c main_v3 : FVec Ideal S1024x2560 .bf16) (ix2 d ⟨g.val * 128 + (64 + l.val), by omega⟩) = (0 : EReal) := by
  have h : ∀ (g : Fin 4) (l : Fin 64), lit0 ⟨g.val * 128 + (64 + l.val), by omega⟩ = 0#1 := by decide +kernel
  rw [colsA_apply, h g l]
  exact (if_neg (by decide)).trans (by simp [Ideal.ofBits, Ideal.ieee])

/-- The last four heads' query columns fill their upper lanes. -/
theorem w_q_hi (d : Fin 1024) (g : Fin 4) (l : Fin 64) : (W5 m ρ c main_v3 : FVec Ideal S1024x2560 .bf16) (ix2 d ⟨(4 + g.val) * 128 + (64 + l.val), by omega⟩)
    = (m ((c : Thread nD τ).loc main_arg7) : FVec Ideal S1024x5192 .f32) (ix2 d ⟨(4 + g.val) * 64 + l.val, by omega⟩) := by
  have h : ∀ (g : Fin 4) (l : Fin 64), lit0 ⟨(4 + g.val) * 128 + (64 + l.val), by omega⟩ = 1#1 ∧ (lit1 ⟨(4 + g.val) * 128 + (64 + l.val), by omega⟩).toNat = (4 + g.val) * 64 + l.val := by decide +kernel
  rw [colsA_apply, (h g l).1]
  refine (if_pos rfl).trans (congrArg (fun q => (m ((c : Thread nD τ).loc main_arg7) : FVec Ideal S1024x5192 .f32) (ix2 d q)) (Fin.ext (h g l).2))

/-- Their lower lanes are zero. -/
theorem w_q_hi_pad (d : Fin 1024) (g : Fin 4) (l : Fin 64) : (W5 m ρ c main_v3 : FVec Ideal S1024x2560 .bf16) (ix2 d ⟨(4 + g.val) * 128 + l.val, by omega⟩) = (0 : EReal) := by
  have h : ∀ (g : Fin 4) (l : Fin 64), lit0 ⟨(4 + g.val) * 128 + l.val, by omega⟩ = 0#1 := by decide +kernel
  rw [colsA_apply, h g l]
  exact (if_neg (by decide)).trans (by simp [Ideal.ofBits, Ideal.ieee])

/-- The index-query columns. -/
theorem w_iq (d : Fin 1024) (h : Fin 8) (l : Fin 64) : (W5 m ρ c main_v3 : FVec Ideal S1024x2560 .bf16) (ix2 d ⟨1280 + (h.val * 128 + l.val), by omega⟩)
    = (m ((c : Thread nD τ).loc main_arg7) : FVec Ideal S1024x5192 .f32) (ix2 d ⟨768 + (h.val * 64 + l.val), by omega⟩) := by
  have e : ∀ (h : Fin 8) (l : Fin 64), lit0 ⟨1280 + (h.val * 128 + l.val), by omega⟩ = 1#1 ∧ (lit1 ⟨1280 + (h.val * 128 + l.val), by omega⟩).toNat = 768 + (h.val * 64 + l.val) := by decide +kernel
  rw [colsA_apply, (e h l).1]
  refine (if_pos rfl).trans (congrArg (fun q => (m ((c : Thread nD τ).loc main_arg7) : FVec Ideal S1024x5192 .f32) (ix2 d q)) (Fin.ext (e h l).2))

/-- The lanes after them. -/
theorem w_iq_pad (d : Fin 1024) (h : Fin 8) (l : Fin 64) : (W5 m ρ c main_v3 : FVec Ideal S1024x2560 .bf16) (ix2 d ⟨1280 + (h.val * 128 + (64 + l.val)), by omega⟩) = (0 : EReal) := by
  have e : ∀ (h : Fin 8) (l : Fin 64), lit0 ⟨1280 + (h.val * 128 + (64 + l.val)), by omega⟩ = 0#1 := by decide +kernel
  rw [colsA_apply, e h l]
  exact (if_neg (by decide)).trans (by simp [Ideal.ofBits, Ideal.ieee])

/-- The recurrence's columns that are heads. -/
theorem w_zh (d : Fin 1024) (h : Fin 24) (l : Fin 64) : (W9 m ρ c main_v7 : FVec Ideal S1024x5376 .bf16) (ix2 d ⟨h.val * 128 + l.val, by omega⟩)
    = (m ((c : Thread nD τ).loc main_arg7) : FVec Ideal S1024x5192 .f32) (ix2 d ⟨1352 + (h.val * 64 + l.val), by omega⟩) := by
  have e : ∀ (h : Fin 24) (l : Fin 64), lit2 ⟨h.val * 128 + l.val, by omega⟩ = 1#1 ∧ (lit3 ⟨h.val * 128 + l.val, by omega⟩).toNat = 1352 + (h.val * 64 + l.val) := by decide +kernel
  rw [colsB_apply, (e h l).1]
  refine (if_pos rfl).trans (congrArg (fun q => (m ((c : Thread nD τ).loc main_arg7) : FVec Ideal S1024x5192 .f32) (ix2 d q)) (Fin.ext (e h l).2))

/-- The lanes after each head. -/
theorem w_zh_pad (d : Fin 1024) (h : Fin 24) (l : Fin 64) : (W9 m ρ c main_v7 : FVec Ideal S1024x5376 .bf16) (ix2 d ⟨h.val * 128 + (64 + l.val), by omega⟩) = (0 : EReal) := by
  have e : ∀ (h : Fin 24) (l : Fin 64), lit2 ⟨h.val * 128 + (64 + l.val), by omega⟩ = 0#1 := by decide +kernel
  rw [colsB_apply, e h l]
  exact (if_neg (by decide)).trans (by simp [Ideal.ofBits, Ideal.ieee])

/-- The recurrence's remaining columns. -/
theorem w_ze (d : Fin 1024) (p : Fin 256) : (W9 m ρ c main_v7 : FVec Ideal S1024x5376 .bf16) (ix2 d ⟨3072 + p.val, by omega⟩)
    = (m ((c : Thread nD τ).loc main_arg7) : FVec Ideal S1024x5192 .f32) (ix2 d ⟨1352 + (1536 + p.val), by omega⟩) := by
  have h : ∀ (p : Fin 256), lit2 ⟨3072 + p.val, by omega⟩ = 1#1 ∧ (lit3 ⟨3072 + p.val, by omega⟩).toNat = 1352 + (1536 + p.val) := by decide +kernel
  rw [colsB_apply, (h p).1]
  refine (if_pos rfl).trans (congrArg (fun q => (m ((c : Thread nD τ).loc main_arg7) : FVec Ideal S1024x5192 .f32) (ix2 d q)) (Fin.ext (h p).2))

theorem W12_v11_pad (k : Fin 64) : (W12 m ρ c main_v11 : FVec Ideal S1x128 .f32) (ix2 0 ⟨64 + k.val, by omega⟩) = (0 : EReal) := by
  have e : (W12 m ρ c main_v11 : FVec Ideal S1x128 .f32) = pad (α := Ideal .f32) S1x128 ![0, 0] ![0, 64] ![0, 0]
      (shapeCast S1x64 (m ((c : Thread nD τ).loc main_arg9) : FVec Ideal S64 .f32) shapeCasts_S64_S1x64) (sitofp .f32 (constantI S_ 32 0#32)) pads_S1x64_S1x128_000_0640 h_S_ := by
    show StableHlo.after hostOps0_11 (W11 m ρ c) _ = _
    after_results
    rfl
  rw [e]
  pointwise
  show (((0#32 : BitVec 32).toInt : ℝ) : EReal) = 0
  simp

end Cert.Proof.Proj
-- ==== Proof.Proj.KeepQ.lean ====
module

public import proofs.«01_k».proof.Proof.Gen.ProjIdeal.Frame
public import Idealize.ShloMosaic.Lib.Pipeline.ValueKit

@[expose] public section

set_option maxRecDepth 16384

noncomputable section

/-! The buffers handed to the attention and the recurrence, unchanged to the end. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

theorem keep27_v53_0 : W27 m ρ c main_v53_0 = W18 m ρ c main_v53_0 :=
  (((((((((W27_of m ρ c main_v53_0 (by decide)).trans
    (W26_of m ρ c main_v53_0 (by decide))).trans
    (W25_of m ρ c main_v53_0 (by decide))).trans
    (W24_of m ρ c main_v53_0 (by decide))).trans
    (W23_of m ρ c main_v53_0 (by decide))).trans
    (W22_of m ρ c main_v53_0 (by decide))).trans
    (W21_of m ρ c main_v53_0 (by decide))).trans
    (W20_of m ρ c main_v53_0 (by decide))).trans
    (W19_of m ρ c main_v53_0 (by decide)))

theorem keep27_v53_3 : W27 m ρ c main_v53_3 = W18 m ρ c main_v53_3 :=
  (((((((((W27_of m ρ c main_v53_3 (by decide)).trans
    (W26_of m ρ c main_v53_3 (by decide))).trans
    (W25_of m ρ c main_v53_3 (by decide))).trans
    (W24_of m ρ c main_v53_3 (by decide))).trans
    (W23_of m ρ c main_v53_3 (by decide))).trans
    (W22_of m ρ c main_v53_3 (by decide))).trans
    (W21_of m ρ c main_v53_3 (by decide))).trans
    (W20_of m ρ c main_v53_3 (by decide))).trans
    (W19_of m ρ c main_v53_3 (by decide)))

theorem keep27_v53_4 : W27 m ρ c main_v53_4 = W18 m ρ c main_v53_4 :=
  (((((((((W27_of m ρ c main_v53_4 (by decide)).trans
    (W26_of m ρ c main_v53_4 (by decide))).trans
    (W25_of m ρ c main_v53_4 (by decide))).trans
    (W24_of m ρ c main_v53_4 (by decide))).trans
    (W23_of m ρ c main_v53_4 (by decide))).trans
    (W22_of m ρ c main_v53_4 (by decide))).trans
    (W21_of m ρ c main_v53_4 (by decide))).trans
    (W20_of m ρ c main_v53_4 (by decide))).trans
    (W19_of m ρ c main_v53_4 (by decide)))

theorem keep27_v53_5 : W27 m ρ c main_v53_5 = W18 m ρ c main_v53_5 :=
  (((((((((W27_of m ρ c main_v53_5 (by decide)).trans
    (W26_of m ρ c main_v53_5 (by decide))).trans
    (W25_of m ρ c main_v53_5 (by decide))).trans
    (W24_of m ρ c main_v53_5 (by decide))).trans
    (W23_of m ρ c main_v53_5 (by decide))).trans
    (W22_of m ρ c main_v53_5 (by decide))).trans
    (W21_of m ρ c main_v53_5 (by decide))).trans
    (W20_of m ρ c main_v53_5 (by decide))).trans
    (W19_of m ρ c main_v53_5 (by decide)))

theorem keep27_v53_7 : W27 m ρ c main_v53_7 = W18 m ρ c main_v53_7 :=
  (((((((((W27_of m ρ c main_v53_7 (by decide)).trans
    (W26_of m ρ c main_v53_7 (by decide))).trans
    (W25_of m ρ c main_v53_7 (by decide))).trans
    (W24_of m ρ c main_v53_7 (by decide))).trans
    (W23_of m ρ c main_v53_7 (by decide))).trans
    (W22_of m ρ c main_v53_7 (by decide))).trans
    (W21_of m ρ c main_v53_7 (by decide))).trans
    (W20_of m ρ c main_v53_7 (by decide))).trans
    (W19_of m ρ c main_v53_7 (by decide)))

theorem keep27_v54_0 : W27 m ρ c main_v54_0 = W19 m ρ c main_v54_0 :=
  ((((((((W27_of m ρ c main_v54_0 (by decide)).trans
    (W26_of m ρ c main_v54_0 (by decide))).trans
    (W25_of m ρ c main_v54_0 (by decide))).trans
    (W24_of m ρ c main_v54_0 (by decide))).trans
    (W23_of m ρ c main_v54_0 (by decide))).trans
    (W22_of m ρ c main_v54_0 (by decide))).trans
    (W21_of m ρ c main_v54_0 (by decide))).trans
    (W20_of m ρ c main_v54_0 (by decide)))

theorem keep27_v61_0 : W27 m ρ c main_v61_0 = W23 m ρ c main_v61_0 :=
  ((((W27_of m ρ c main_v61_0 (by decide)).trans
    (W26_of m ρ c main_v61_0 (by decide))).trans
    (W25_of m ρ c main_v61_0 (by decide))).trans
    (W24_of m ρ c main_v61_0 (by decide)))

theorem keep27_v61_3 : W27 m ρ c main_v61_3 = W23 m ρ c main_v61_3 :=
  ((((W27_of m ρ c main_v61_3 (by decide)).trans
    (W26_of m ρ c main_v61_3 (by decide))).trans
    (W25_of m ρ c main_v61_3 (by decide))).trans
    (W24_of m ρ c main_v61_3 (by decide)))

theorem keep27_v61_4 : W27 m ρ c main_v61_4 = W23 m ρ c main_v61_4 :=
  ((((W27_of m ρ c main_v61_4 (by decide)).trans
    (W26_of m ρ c main_v61_4 (by decide))).trans
    (W25_of m ρ c main_v61_4 (by decide))).trans
    (W24_of m ρ c main_v61_4 (by decide)))

theorem keep27_v61_5 : W27 m ρ c main_v61_5 = W23 m ρ c main_v61_5 :=
  ((((W27_of m ρ c main_v61_5 (by decide)).trans
    (W26_of m ρ c main_v61_5 (by decide))).trans
    (W25_of m ρ c main_v61_5 (by decide))).trans
    (W24_of m ρ c main_v61_5 (by decide)))

theorem keep27_v61_7 : W27 m ρ c main_v61_7 = W23 m ρ c main_v61_7 :=
  ((((W27_of m ρ c main_v61_7 (by decide)).trans
    (W26_of m ρ c main_v61_7 (by decide))).trans
    (W25_of m ρ c main_v61_7 (by decide))).trans
    (W24_of m ρ c main_v61_7 (by decide)))

theorem keep27_v62_0 : W27 m ρ c main_v62_0 = W24 m ρ c main_v62_0 :=
  (((W27_of m ρ c main_v62_0 (by decide)).trans
    (W26_of m ρ c main_v62_0 (by decide))).trans
    (W25_of m ρ c main_v62_0 (by decide)))

end Cert.Proof.Proj
-- ==== Proof.Proj.OutQ.lean ====
module

public import proofs.«01_k».proof.Proof.Proj.Out
public import proofs.«01_k».proof.Proof.Proj.ArrQ
public import proofs.«01_k».proof.Proof.Proj.HostQ
public import proofs.«01_k».proof.Proof.Proj.KeepQ

@[expose] public section

set_option maxRecDepth 16384

noncomputable section

/-! What the kernels hand on from the prompt, in terms of the program's arguments. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

theorem zerosA (b : Fin 2) (t : Fin 8192) (J : Fin 2560)
    (h : ∀ d, (W5 m ρ c main_v3 : FVec Ideal S1024x2560 .bf16) (ix2 d J) = (0 : EReal)) :
    ∑ d : Fin 1024, hid (fun k => V17 m ρ c main_arg0 (ix3 b t k)) (fun k => V17 m ρ c main_v26 (ix3 b 0 k)) (fun k => V17 m ρ c main_v24 (ix3 b 0 k))
      (fun k => V17 m ρ c main_v12 (ix2 0 k)) d * V17 m ρ c main_v3 (ix2 d J) = 0 := by
  refine Finset.sum_eq_zero fun d _ => ?_
  have e : (V17 m ρ c main_v3 : FVec Ideal S1024x2560 .bf16) (ix2 d J) = (0 : EReal) := by
    show W17 m ρ c main_v3 _ = _
    rw [keep17_v3]; exact h d
  rw [e, mul_zero]

theorem zerosB (b : Fin 2) (t : Fin 8192) (J : Fin 5376)
    (h : ∀ d, (W9 m ρ c main_v7 : FVec Ideal S1024x5376 .bf16) (ix2 d J) = (0 : EReal)) :
    ∑ d : Fin 1024, hid (fun k => V18 m ρ c main_arg0 (ix3 b t k)) (fun k => V18 m ρ c main_v26 (ix3 b 0 k)) (fun k => V18 m ρ c main_v24 (ix3 b 0 k))
      (fun k => V18 m ρ c main_v12 (ix2 0 k)) d * V18 m ρ c main_v7 (ix2 d J) = 0 := by
  refine Finset.sum_eq_zero fun d _ => ?_
  have e : (V18 m ρ c main_v7 : FVec Ideal S1024x5376 .bf16) (ix2 d J) = (0 : EReal) := by
    show W18 m ρ c main_v7 _ = _
    rw [keep18_v7]; exact h d
  rw [e, mul_zero]

theorem okb (b : Fin 2) (t : Fin 8192) (l : Fin 128) :
    (W27 m ρ c main_v53_3 : FVec Ideal S2x8192x128 .bf16) (ix3 b t l) = proj (A0 m c) (A2 m c) (A4 m c) (A5 m c) (A6 m c) (A7 m c) b t ⟨512 + l.val, by omega⟩ := by
  rw [keep27_v53_3]
  refine (congrFun ((W18_arr m ρ c 10).trans (arr1_kb (V17 m ρ) c)) (ix3 b t l)).trans ?_
  exact rowsA m ρ c b t _ _ fun d => w_key m ρ c d l

theorem ovb (b : Fin 2) (t : Fin 8192) (l : Fin 128) :
    (W27 m ρ c main_v53_4 : FVec Ideal S2x8192x128 .bf16) (ix3 b t l) = proj (A0 m c) (A2 m c) (A4 m c) (A5 m c) (A6 m c) (A7 m c) b t ⟨640 + l.val, by omega⟩ := by
  rw [keep27_v53_4]
  refine (congrFun ((W18_arr m ρ c 11).trans (arr1_vb (V17 m ρ) c)) (ix3 b t l)).trans ?_
  exact rowsA m ρ c b t _ _ fun d => w_val m ρ c d l

theorem oq_lo (b : Fin 2) (g : Fin 4) (t : Fin 8192) (l : Fin 64) :
    (W27 m ρ c main_v53_0 : FVec Ideal S2x8x8192x128 .bf16) (ix4 b ⟨g.val, by omega⟩ t ⟨l.val, by omega⟩) = proj (A0 m c) (A2 m c) (A4 m c) (A5 m c) (A6 m c) (A7 m c) b t ⟨g.val * 64 + l.val, by omega⟩ * Ideal.ofBits .f32 0x3E000000#32 := by
  rw [keep27_v53_0]
  refine (congrFun ((W18_arr m ρ c 7).trans (arr1_q (V17 m ρ) c)) (ix4 b ⟨g.val, by omega⟩ t ⟨l.val, by omega⟩)).trans ?_
  exact congrArg (· * Ideal.ofBits .f32 0x3E000000#32) (rowsA m ρ c b t _ _ fun d => w_q_lo m ρ c d g l)

theorem oq_lo_pad (b : Fin 2) (g : Fin 4) (t : Fin 8192) (l : Fin 64) :
    (W27 m ρ c main_v53_0 : FVec Ideal S2x8x8192x128 .bf16) (ix4 b ⟨g.val, by omega⟩ t ⟨64 + l.val, by omega⟩) = (0 : EReal) := by
  rw [keep27_v53_0]
  refine (congrFun ((W18_arr m ρ c 7).trans (arr1_q (V17 m ρ) c)) (ix4 b ⟨g.val, by omega⟩ t ⟨64 + l.val, by omega⟩)).trans ?_
  exact (congrArg (· * Ideal.ofBits .f32 0x3E000000#32) (zerosA m ρ c b t _ fun d => w_q_lo_pad m ρ c d g l)).trans (zero_mul _)

theorem oq_hi (b : Fin 2) (g : Fin 4) (t : Fin 8192) (l : Fin 64) :
    (W27 m ρ c main_v53_0 : FVec Ideal S2x8x8192x128 .bf16) (ix4 b ⟨4 + g.val, by omega⟩ t ⟨64 + l.val, by omega⟩) = proj (A0 m c) (A2 m c) (A4 m c) (A5 m c) (A6 m c) (A7 m c) b t ⟨(4 + g.val) * 64 + l.val, by omega⟩ * Ideal.ofBits .f32 0x3E000000#32 := by
  rw [keep27_v53_0]
  refine (congrFun ((W18_arr m ρ c 7).trans (arr1_q (V17 m ρ) c)) (ix4 b ⟨4 + g.val, by omega⟩ t ⟨64 + l.val, by omega⟩)).trans ?_
  exact congrArg (· * Ideal.ofBits .f32 0x3E000000#32) (rowsA m ρ c b t _ _ fun d => w_q_hi m ρ c d g l)

theorem oq_hi_pad (b : Fin 2) (g : Fin 4) (t : Fin 8192) (l : Fin 64) :
    (W27 m ρ c main_v53_0 : FVec Ideal S2x8x8192x128 .bf16) (ix4 b ⟨4 + g.val, by omega⟩ t ⟨l.val, by omega⟩) = (0 : EReal) := by
  rw [keep27_v53_0]
  refine (congrFun ((W18_arr m ρ c 7).trans (arr1_q (V17 m ρ) c)) (ix4 b ⟨4 + g.val, by omega⟩ t ⟨l.val, by omega⟩)).trans ?_
  exact (congrArg (· * Ideal.ofBits .f32 0x3E000000#32) (zerosA m ρ c b t _ fun d => w_q_hi_pad m ρ c d g l)).trans (zero_mul _)

theorem oiq (b : Fin 2) (h : Fin 8) (t : Fin 8192) (l : Fin 64) :
    (W27 m ρ c main_v53_5 : FVec Ideal S2x8x8192x128 .bf16) (ix4 b h t ⟨l.val, by omega⟩) = proj (A0 m c) (A2 m c) (A4 m c) (A5 m c) (A6 m c) (A7 m c) b t ⟨768 + (h.val * 64 + l.val), by omega⟩ := by
  rw [keep27_v53_5]
  refine (congrFun ((W18_arr m ρ c 12).trans (arr1_iq (V17 m ρ) c)) (ix4 b h t ⟨l.val, by omega⟩)).trans ?_
  exact rowsA m ρ c b t _ _ fun d => w_iq m ρ c d h l

theorem oiq_pad (b : Fin 2) (h : Fin 8) (t : Fin 8192) (l : Fin 64) :
    (W27 m ρ c main_v53_5 : FVec Ideal S2x8x8192x128 .bf16) (ix4 b h t ⟨64 + l.val, by omega⟩) = (0 : EReal) := by
  rw [keep27_v53_5]
  refine (congrFun ((W18_arr m ρ c 12).trans (arr1_iq (V17 m ρ) c)) (ix4 b h t ⟨64 + l.val, by omega⟩)).trans ?_
  exact zerosA m ρ c b t _ fun d => w_iq_pad m ρ c d h l

theorem oikb (b : Fin 2) (t : Fin 8192) (l : Fin 64) :
    (W27 m ρ c main_v53_7 : FVec Ideal S2x8192x128 .bf16) (ix3 b t ⟨l.val, by omega⟩)
      = lnorm (fun l => proj (A0 m c) (A2 m c) (A4 m c) (A5 m c) (A6 m c) (A7 m c) b t ⟨1280 + l.val, by omega⟩) (fun l => A8 m c (ix1 l)) (fun l => A9 m c (ix1 l)) l := by
  rw [keep27_v53_7]
  refine (congrFun ((W18_arr m ρ c 14).trans (arr1_ikb (V17 m ρ) c fun d k => ?_)) (ix3 b t ⟨l.val, by omega⟩)).trans ?_
  · show (W17 m ρ c main_v3 : FVec Ideal S1024x2560 .bf16) _ = _
    rw [keep17_v3]; exact w_ik_zero m ρ c d k
  · refine (dif_pos l.isLt).trans ?_
    refine lnorm_congr (fun k => rowsA m ρ c b t _ _ fun d => w_ik m ρ c d k) (fun k => ?_) (fun k => ?_) rfl
    · show (W17 m ρ c main_v9 : FVec Ideal S1x128 .f32) _ = _
      rw [keep17_v9]; exact W10_v9 m ρ c k
    · show (W17 m ρ c main_v11 : FVec Ideal S1x128 .f32) _ = _
      rw [keep17_v11]; exact W12_v11 m ρ c k

theorem oikb_pad (b : Fin 2) (t : Fin 8192) (l : Fin 64) :
    (W27 m ρ c main_v53_7 : FVec Ideal S2x8192x128 .bf16) (ix3 b t ⟨64 + l.val, by omega⟩) = (0 : EReal) := by
  rw [keep27_v53_7]
  refine (congrFun ((W18_arr m ρ c 14).trans (arr1_ikb (V17 m ρ) c fun d k => ?_)) (ix3 b t ⟨64 + l.val, by omega⟩)).trans ?_
  · show (W17 m ρ c main_v3 : FVec Ideal S1024x2560 .bf16) _ = _
    rw [keep17_v3]; exact w_ik_zero m ρ c d k
  · refine (dif_neg (show ¬ 64 + l.val < 64 by omega)).trans ?_
    show (W17 m ρ c main_v11 : FVec Ideal S1x128 .f32) _ = _
    rw [keep17_v11]; exact W12_v11_pad m ρ c l

theorem ozr (b : Fin 2) (t : Fin 8192) (h : Fin 24) (l : Fin 64) :
    (W27 m ρ c main_v54_0 : FVec Ideal S2x8192x3328 .f32) (ix3 b t ⟨h.val * 128 + l.val, by omega⟩) = proj (A0 m c) (A2 m c) (A4 m c) (A5 m c) (A6 m c) (A7 m c) b t ⟨1352 + (h.val * 64 + l.val), by omega⟩ := by
  rw [keep27_v54_0]
  refine (congrFun ((W19_arr m ρ c 5).trans (arr2_zr (V18 m ρ) c)) (ix3 b t ⟨h.val * 128 + l.val, by omega⟩)).trans ?_
  exact rowsB m ρ c b t _ _ fun d => w_zh m ρ c d h l

theorem ozr_pad (b : Fin 2) (t : Fin 8192) (h : Fin 24) (l : Fin 64) :
    (W27 m ρ c main_v54_0 : FVec Ideal S2x8192x3328 .f32) (ix3 b t ⟨h.val * 128 + (64 + l.val), by omega⟩) = (0 : EReal) := by
  rw [keep27_v54_0]
  refine (congrFun ((W19_arr m ρ c 5).trans (arr2_zr (V18 m ρ) c)) (ix3 b t ⟨h.val * 128 + (64 + l.val), by omega⟩)).trans ?_
  exact zerosB m ρ c b t _ fun d => w_zh_pad m ρ c d h l

theorem ozr_end (b : Fin 2) (t : Fin 8192) (p : Fin 256) :
    (W27 m ρ c main_v54_0 : FVec Ideal S2x8192x3328 .f32) (ix3 b t ⟨3072 + p.val, by omega⟩) = proj (A0 m c) (A2 m c) (A4 m c) (A5 m c) (A6 m c) (A7 m c) b t ⟨1352 + (1536 + p.val), by omega⟩ := by
  rw [keep27_v54_0]
  refine (congrFun ((W19_arr m ρ c 5).trans (arr2_zr (V18 m ρ) c)) (ix3 b t ⟨3072 + p.val, by omega⟩)).trans ?_
  exact rowsB m ρ c b t _ _ fun d => w_ze m ρ c d p

end Cert.Proof.Proj
-- ==== Proof.Proj.PayQ3.lean ====
module

public import proofs.«01_k».proof.Proof.Proj.PayA3

@[expose] public section

set_option maxRecDepth 16384

noncomputable section

/-! What one point of the first projection kernel leaves on the samples, the results handed to the attention. -/

namespace Cert.Proof.Proj

open Idealize.ShloMosaic Idealize.ShloMosaic.TcCoe Idealize.SL.Sem
open Cert.ProjIdeal Cert.ProjIdeal.Gen

variable (x0 : Vec Ideal S1x32x1024 .f32) (x1 x2 : Vec Ideal S1x1x1024 .f32) (x3 : Vec Ideal S1x1024 .f32)
  (x4 : Vec Ideal S1024x2560 .bf16) (x5 x6 : Vec Ideal S1x128 .f32)

theorem kb3 (r : Fin 32) (l : Fin 128) : out3_10 (F := Ideal) x0 x1 x2 x3 x4 x5 x6 (ix3 0 r l)
    = ∑ d : Fin 1024, hid (fun k => x0 (ix3 0 r k)) (fun k => x1 (ix3 0 0 k)) (fun k => x2 (ix3 0 0 k)) (fun k => x3 (ix2 0 k)) d * x4 (ix2 d ⟨1024 + l.val, by omega⟩) := by
  unfold out3_10
  rw [View.canon_unit_zero (by decide)]
  pointwise [k3_pay18, k3_pay16, k3_pay14, k3_pay13, hid3]

theorem vb3 (r : Fin 32) (l : Fin 128) : out3_11 (F := Ideal) x0 x1 x2 x3 x4 x5 x6 (ix3 0 r l)
    = ∑ d : Fin 1024, hid (fun k => x0 (ix3 0 r k)) (fun k => x1 (ix3 0 0 k)) (fun k => x2 (ix3 0 0 k)) (fun k => x3 (ix2 0 k)) d * x4 (ix2 d ⟨1024 + (128 + l.val), by omega⟩) := by
  unfold out3_11
  rw [View.canon_unit_zero (by decide)]
  pointwise [k3_pay19, k3_pay17, k3_pay15, k3_pay13, hid3]

theorem iq3 (g : Fin 8) (r : Fin 32) (l : Fin 128) : out3_12 (F := Ideal) x0 x1 x2 x3 x4 x5 x6 (ix4 0 g r l)
    = ∑ d : Fin 1024, hid (fun k => x0 (ix3 0 r k)) (fun k => x1 (ix3 0 0 k)) (fun k => x2 (ix3 0 0 k)) (fun k => x3 (ix2 0 k)) d * x4 (ix2 d ⟨1280 + (g.val * 128 + l.val), by omega⟩) := by
  unfold out3_12
  canon_tiles x h
  all_goals
    obtain ⟨u, a, b, e, rfl⟩ : ∃ (u : Fin _) (a : Fin _) (b : Fin _) (e : Fin _), x = ix4 u a b e := ⟨x 0, x 1, x 2, x 3, eq_ix4 x⟩
    pointwise [k3_pay20, k3_pay21, k3_pay22, k3_pay23, k3_pay24, k3_pay25, k3_pay26, k3_pay27, hid3] at *
    obtain rfl : r = b := Fin.ext h2
    obtain rfl : l = e := Fin.ext h3
    refine congrArg (fun q : Fin 2560 => ∑ d : Fin 1024, hid (fun k => x0 (ix3 0 r k)) (fun k => x1 (ix3 0 0 k)) (fun k => x2 (ix3 0 0 k)) (fun k => x3 (ix2 0 k)) d * x4 (ix2 d q)) (Fin.ext ?_)
    simp only [h1] <;> omega

theorem q3 (g : Fin 8) (r : Fin 32) (l : Fin 128) : out3_7 (F := Ideal) x0 x1 x2 x3 x4 x5 x6 (ix4 0 g r l)
    = (∑ d : Fin 1024, hid (fun k => x0 (ix3 0 r k)) (fun k => x1 (ix3 0 0 k)) (fun k => x2 (ix3 0 0 k)) (fun k => x3 (ix2 0 k)) d * x4 (ix2 d ⟨g.val * 128 + l.val, by omega⟩)) * Ideal.ofBits .f32 0x3E000000#32 := by
  unfold out3_7
  canon_tiles x h
  all_goals
    obtain ⟨u, a, b, e, rfl⟩ : ∃ (u : Fin _) (a : Fin _) (b : Fin _) (e : Fin _), x = ix4 u a b e := ⟨x 0, x 1, x 2, x 3, eq_ix4 x⟩
    pointwise [k3_pay12, k3_pay11, k3_pay10, k3_pay9, k3_pay8, k3_pay7, k3_pay6, k3_pay5, k3_pay4, k3_pay3, k3_pay2, k3_pay1, hid, hid3] at *
    obtain rfl : r = b := Fin.ext h2
    obtain rfl : l = e := Fin.ext h3
    refine congrArg (fun q : Fin 2560 => (∑ d : Fin 1024, hid (fun k => x0 (ix3 0 r k)) (fun k => x1 (ix3 0 0 k)) (fun k => x2 (ix3 0 0 k)) (fun k => x3 (ix2 0 k)) d * x4 (ix2 d q)) * Ideal.ofBits .f32 0x3E000000#32) (Fin.ext ?_)
    simp only [h1] <;> omega

theorem ikb3 (hz : ∀ (d : Fin 1024) (k : Fin 64), x4 (ix2 d ⟨2304 + (64 + k.val), by omega⟩) = 0) (r : Fin 32) (l : Fin 64) :
    out3_14 (F := Ideal) x0 x1 x2 x3 x4 x5 x6 (ix3 0 r ⟨l.val, by omega⟩)
      = lnorm (fun l : Fin 64 => ∑ d : Fin 1024, hid (fun k => x0 (ix3 0 r k)) (fun k => x1 (ix3 0 0 k)) (fun k => x2 (ix3 0 0 k)) (fun k => x3 (ix2 0 k)) d * x4 (ix2 d ⟨2304 + l.val, by omega⟩))
        (fun l => x5 (ix2 0 ⟨l.val, by omega⟩)) (fun l => x6 (ix2 0 ⟨l.val, by omega⟩)) l := by
  unfold out3_14
  rw [View.canon_unit_zero (by decide)]
  have hp := t3 x0 x1 x2 x3 x4 x5 x6 r
  have hq := s3 x0 x1 x2 x3 x4 x5 x6 r
  generalize k3_pay37 (F := Ideal) x0 x1 x2 x3 x4 x5 x6 = p at hp hq ⊢
  generalize k3_pay39 (F := Ideal) x0 x1 x2 x3 x4 x5 x6 = q at hq ⊢
  pointwise [k3_pay34, k3_pay32, k3_pay38, k3_pay30]
  rw [hq]
  refine (lnorm_pad (fun k => p (ix2 r k)) (fun k => ?_) _ _ (fun l => x5 (ix2 0 ⟨l.val, by omega⟩))
    (fun l => x6 (ix2 0 ⟨l.val, by omega⟩)) l rfl rfl).trans ?_
  · rw [hp]
    exact Finset.sum_eq_zero fun d _ => by rw [hz, mul_zero]
  · simp only [hp]

/-- Past the index key's 64 lanes the bias is all that is left. -/
theorem ikb3_pad (r : Fin 32) (l : Fin 128) (hl : ¬ l.val < 64) :
    out3_14 (F := Ideal) x0 x1 x2 x3 x4 x5 x6 (ix3 0 r l) = x6 (ix2 0 l) := by
  unfold out3_14
  rw [View.canon_unit_zero (by decide)]
  generalize k3_pay37 (F := Ideal) x0 x1 x2 x3 x4 x5 x6 = p
  generalize k3_pay39 (F := Ideal) x0 x1 x2 x3 x4 x5 x6 = q
  pointwise [k3_pay34, k3_pay32, k3_pay38, k3_pay30]
  rw [lane_lt _ (by omega), if_neg hl]
  exact zero_add _

end Cert.Proof.Proj
-- ==== Proof.Proj.ArrQ3.lean ====
module

public import proofs.«01_k».proof.Proof.Proj.PayQ3
public import Idealize.ShloMosaic.Lib.Pipeline.ReadBack

@[expose] public section

set_option maxRecDepth 16384

noncomputable section

/-! The arrays the first projection kernel hands to the attention on the samples. -/

namespace Cert.Proof.Proj

open Idealize.ShloMosaic Idealize.ShloMosaic.TcCoe Idealize.SL.Sem
open Cert.ProjIdeal Cert.ProjIdeal.Gen

variable (V : (c : Dev nD) → (b : Ref sig .tc) → Buf (Elt Ideal) ((c : Thread nD τ).loc b))

theorem index3q : ∀ t, win3_0.index t = ![t.val, 0, 0] ∧ win3_1.index t = ![t.val, 0, 0] ∧ win3_2.index t = ![t.val, 0, 0]
    ∧ win3_3.index t = ![0, 0] ∧ win3_4.index t = ![0, 0] ∧ win3_5.index t = ![0, 0] ∧ win3_6.index t = ![0, 0]
    ∧ win3_7.index t = ![t.val, 0, 0, 0]
    ∧ win3_10.index t = ![t.val, 0, 0]
    ∧ win3_11.index t = ![t.val, 0, 0]
    ∧ win3_12.index t = ![t.val, 0, 0, 0]
    ∧ win3_14.index t = ![t.val, 0, 0] := by
  decide +kernel

theorem arr3_kb (c : Dev nD) : (dat3 (F := Ideal) V c).arrAt 10 cfg3.N = fun i : S16x32x128.Idx =>
    ∑ d : Fin 1024, hid (fun k => V c main_arg1 (ix3 (i 0) (i 1) k)) (fun k => V c main_v44 (ix3 (i 0) 0 k)) (fun k => V c main_v42 (ix3 (i 0) 0 k)) (fun k => V c main_v12 (ix2 0 k)) d * V c main_v3 (ix2 d ⟨1024 + (i 2).val, by have h : (i 2).val < 128 := (i 2).isLt; omega⟩) := by
  refine (dat3 V c).arrAt_eq_of_covers 10 _ (by decide +kernel) fun t hf y => ?_
  obtain ⟨u, r, l, rfl⟩ : ∃ (u : Fin 1) (r : Fin 32) (l : Fin 128), y = ix3 u r l := ⟨y 0, y 1, y 2, eq_ix3 y⟩
  obtain rfl : u = 0 := Subsingleton.elim _ _
  blk_simp
  rw [after3_10]
  refine (kb3 _ _ _ _ _ _ _ r l).trans ?_
  blk_point [iblk3, index3q t]

theorem arr3_vb (c : Dev nD) : (dat3 (F := Ideal) V c).arrAt 11 cfg3.N = fun i : S16x32x128.Idx =>
    ∑ d : Fin 1024, hid (fun k => V c main_arg1 (ix3 (i 0) (i 1) k)) (fun k => V c main_v44 (ix3 (i 0) 0 k)) (fun k => V c main_v42 (ix3 (i 0) 0 k)) (fun k => V c main_v12 (ix2 0 k)) d * V c main_v3 (ix2 d ⟨1024 + (128 + (i 2).val), by have h : (i 2).val < 128 := (i 2).isLt; omega⟩) := by
  refine (dat3 V c).arrAt_eq_of_covers 11 _ (by decide +kernel) fun t hf y => ?_
  obtain ⟨u, r, l, rfl⟩ : ∃ (u : Fin 1) (r : Fin 32) (l : Fin 128), y = ix3 u r l := ⟨y 0, y 1, y 2, eq_ix3 y⟩
  obtain rfl : u = 0 := Subsingleton.elim _ _
  blk_simp
  rw [after3_11]
  refine (vb3 _ _ _ _ _ _ _ r l).trans ?_
  blk_point [iblk3, index3q t]

theorem arr3_q (c : Dev nD) : (dat3 (F := Ideal) V c).arrAt 7 cfg3.N = fun i : S16x8x32x128.Idx =>
    (∑ d : Fin 1024, hid (fun k => V c main_arg1 (ix3 (i 0) (i 2) k)) (fun k => V c main_v44 (ix3 (i 0) 0 k)) (fun k => V c main_v42 (ix3 (i 0) 0 k)) (fun k => V c main_v12 (ix2 0 k)) d * V c main_v3 (ix2 d ⟨(i 1).val * 128 + (i 3).val, by have h1 : (i 1).val < 8 := (i 1).isLt; have h3 : (i 3).val < 128 := (i 3).isLt; omega⟩)) * Ideal.ofBits .f32 0x3E000000#32 := by
  refine (dat3 V c).arrAt_eq_of_covers 7 _ (by decide +kernel) fun t hf y => ?_
  obtain ⟨u, g, r, l, rfl⟩ : ∃ (u : Fin 1) (g : Fin 8) (r : Fin 32) (l : Fin 128), y = ix4 u g r l := ⟨y 0, y 1, y 2, y 3, eq_ix4 y⟩
  obtain rfl : u = 0 := Subsingleton.elim _ _
  blk_simp
  rw [after3_7]
  refine (q3 _ _ _ _ _ _ _ g r l).trans ?_
  blk_point [iblk3, index3q t]

theorem arr3_iq (c : Dev nD) : (dat3 (F := Ideal) V c).arrAt 12 cfg3.N = fun i : S16x8x32x128.Idx =>
    ∑ d : Fin 1024, hid (fun k => V c main_arg1 (ix3 (i 0) (i 2) k)) (fun k => V c main_v44 (ix3 (i 0) 0 k)) (fun k => V c main_v42 (ix3 (i 0) 0 k)) (fun k => V c main_v12 (ix2 0 k)) d * V c main_v3 (ix2 d ⟨1280 + ((i 1).val * 128 + (i 3).val), by have h1 : (i 1).val < 8 := (i 1).isLt; have h3 : (i 3).val < 128 := (i 3).isLt; omega⟩) := by
  refine (dat3 V c).arrAt_eq_of_covers 12 _ (by decide +kernel) fun t hf y => ?_
  obtain ⟨u, g, r, l, rfl⟩ : ∃ (u : Fin 1) (g : Fin 8) (r : Fin 32) (l : Fin 128), y = ix4 u g r l := ⟨y 0, y 1, y 2, y 3, eq_ix4 y⟩
  obtain rfl : u = 0 := Subsingleton.elim _ _
  blk_simp
  rw [after3_12]
  refine (iq3 _ _ _ _ _ _ _ g r l).trans ?_
  blk_point [iblk3, index3q t]

/-- The index key on its 64 lanes; the bias past them. -/
def ikLanesS (c : Dev nD) (b : Fin 16) (r : Fin 32) (l : Fin 128) : EReal :=
  if h : l.val < 64 then
    lnorm (fun l : Fin 64 => ∑ d : Fin 1024, hid (fun k => V c main_arg1 (ix3 b r k)) (fun k => V c main_v44 (ix3 b 0 k)) (fun k => V c main_v42 (ix3 b 0 k)) (fun k => V c main_v12 (ix2 0 k)) d * V c main_v3 (ix2 d ⟨2304 + l.val, by omega⟩)) (fun l => V c main_v9 (ix2 0 ⟨l.val, by omega⟩))
      (fun l => V c main_v11 (ix2 0 ⟨l.val, by omega⟩)) ⟨l.val, h⟩
  else V c main_v11 (ix2 0 l)

theorem arr3_ikb (c : Dev nD) (hz : ∀ (d : Fin 1024) (k : Fin 64), V c main_v3 (ix2 d ⟨2304 + (64 + k.val), by omega⟩) = (0 : EReal)) :
    (dat3 (F := Ideal) V c).arrAt 14 cfg3.N = fun i : S16x32x128.Idx => ikLanesS V c (i 0) (i 1) (i 2) := by
  refine (dat3 V c).arrAt_eq_of_covers 14 _ (by decide +kernel) fun t hf y => ?_
  obtain ⟨u, r, l, rfl⟩ : ∃ (u : Fin 1) (r : Fin 32) (l : Fin 128), y = ix3 u r l := ⟨y 0, y 1, y 2, eq_ix3 y⟩
  obtain rfl : u = 0 := Subsingleton.elim _ _
  blk_simp
  rw [after3_14]
  have e2 : (((win3_14.blk t).view.emb (ix3 0 r l)) 2 : ℕ) = l.val := by blk_simp [index3q t]
  unfold ikLanesS
  by_cases hl : l.val < 64
  · rw [dif_pos (by rw [e2]; exact hl)]
    refine (ikb3 _ _ _ _ _ _ _ (fun d k => (?_ : _ = _).trans (hz d k)) r ⟨l.val, hl⟩).trans ?_
    · blk_ext [iblk3, index3q t]
    · refine lnorm_congr (fun k => ?_) (fun k => ?_) (fun k => ?_) (Fin.ext e2.symm)
      · blk_point [iblk3, index3q t]
      · blk_ext [iblk3, index3q t]
      · blk_ext [iblk3, index3q t]
  · rw [dif_neg (by rw [e2]; exact hl)]
    refine (ikb3_pad _ _ _ _ _ _ _ r l hl).trans ?_
    blk_point [iblk3, index3q t]

end Cert.Proof.Proj
-- ==== Proof.Proj.OutQS.lean ====
module

public import proofs.«01_k».proof.Proof.Proj.OutS
public import proofs.«01_k».proof.Proof.Proj.ArrQ3
public import proofs.«01_k».proof.Proof.Proj.HostQ
public import proofs.«01_k».proof.Proof.Proj.KeepQ

@[expose] public section

set_option maxRecDepth 16384

noncomputable section

/-! What the kernels hand on from the samples, in terms of the program's arguments. -/

namespace Cert.Proof.Proj

open Idealize.ShloMosaic Idealize.ShloMosaic.TcCoe Idealize.SL.Sem
open Cert.ProjIdeal Cert.ProjIdeal.Gen

variable (m : (ℓ : Loc nD τ sig) → Buf (Elt Ideal) ℓ) (ρ : Dev nD → PrngReg) (c : Dev nD)

theorem zerosAS (b : Fin 16) (t : Fin 32) (J : Fin 2560)
    (h : ∀ d, (W5 m ρ c main_v3 : FVec Ideal S1024x2560 .bf16) (ix2 d J) = (0 : EReal)) :
    ∑ d : Fin 1024, hid (fun k => V22 m ρ c main_arg1 (ix3 b t k)) (fun k => V22 m ρ c main_v44 (ix3 b 0 k)) (fun k => V22 m ρ c main_v42 (ix3 b 0 k))
      (fun k => V22 m ρ c main_v12 (ix2 0 k)) d * V22 m ρ c main_v3 (ix2 d J) = 0 := by
  refine Finset.sum_eq_zero fun d _ => ?_
  have e : (V22 m ρ c main_v3 : FVec Ideal S1024x2560 .bf16) (ix2 d J) = (0 : EReal) := by
    show W22 m ρ c main_v3 _ = _
    rw [keep22_v3]; exact h d
  rw [e, mul_zero]

theorem zerosBS (b : Fin 16) (t : Fin 32) (J : Fin 5376)
    (h : ∀ d, (W9 m ρ c main_v7 : FVec Ideal S1024x5376 .bf16) (ix2 d J) = (0 : EReal)) :
    ∑ d : Fin 1024, hid (fun k => V23 m ρ c main_arg1 (ix3 b t k)) (fun k => V23 m ρ c main_v44 (ix3 b 0 k)) (fun k => V23 m ρ c main_v42 (ix3 b 0 k))
      (fun k => V23 m ρ c main_v12 (ix2 0 k)) d * V23 m ρ c main_v7 (ix2 d J) = 0 := by
  refine Finset.sum_eq_zero fun d _ => ?_
  have e : (V23 m ρ c main_v7 : FVec Ideal S1024x5376 .bf16) (ix2 d J) = (0 : EReal) := by
    show W23 m ρ c main_v7 _ = _
    rw [keep23_v7]; exact h d
  rw [e, mul_zero]

theorem okbS (b : Fin 16) (t : Fin 32) (l : Fin 128) :
    (W27 m ρ c main_v61_3 : FVec Ideal S16x32x128 .bf16) (ix3 b t l) = proj (A1 m c) (A3 m c) (A4 m c) (A5 m c) (A6 m c) (A7 m c) b t ⟨512 + l.val, by omega⟩ := by
  rw [keep27_v61_3]
  refine (congrFun ((W23_arr m ρ c 10).trans (arr3_kb (V22 m ρ) c)) (ix3 b t l)).trans ?_
  exact rowsAS m ρ c b t _ _ fun d => w_key m ρ c d l

theorem ovbS (b : Fin 16) (t : Fin 32) (l : Fin 128) :
    (W27 m ρ c main_v61_4 : FVec Ideal S16x32x128 .bf16) (ix3 b t l) = proj (A1 m c) (A3 m c) (A4 m c) (A5 m c) (A6 m c) (A7 m c) b t ⟨640 + l.val, by omega⟩ := by
  rw [keep27_v61_4]
  refine (congrFun ((W23_arr m ρ c 11).trans (arr3_vb (V22 m ρ) c)) (ix3 b t l)).trans ?_
  exact rowsAS m ρ c b t _ _ fun d => w_val m ρ c d l

theorem oq_loS (b : Fin 16) (g : Fin 4) (t : Fin 32) (l : Fin 64) :
    (W27 m ρ c main_v61_0 : FVec Ideal S16x8x32x128 .bf16) (ix4 b ⟨g.val, by omega⟩ t ⟨l.val, by omega⟩) = proj (A1 m c) (A3 m c) (A4 m c) (A5 m c) (A6 m c) (A7 m c) b t ⟨g.val * 64 + l.val, by omega⟩ * Ideal.ofBits .f32 0x3E000000#32 := by
  rw [keep27_v61_0]
  refine (congrFun ((W23_arr m ρ c 7).trans (arr3_q (V22 m ρ) c)) (ix4 b ⟨g.val, by omega⟩ t ⟨l.val, by omega⟩)).trans ?_
  exact congrArg (· * Ideal.ofBits .f32 0x3E000000#32) (rowsAS m ρ c b t _ _ fun d => w_q_lo m ρ c d g l)

theorem oq_lo_padS (b : Fin 16) (g : Fin 4) (t : Fin 32) (l : Fin 64) :
    (W27 m ρ c main_v61_0 : FVec Ideal S16x8x32x128 .bf16) (ix4 b ⟨g.val, by omega⟩ t ⟨64 + l.val, by omega⟩) = (0 : EReal) := by
  rw [keep27_v61_0]
  refine (congrFun ((W23_arr m ρ c 7).trans (arr3_q (V22 m ρ) c)) (ix4 b ⟨g.val, by omega⟩ t ⟨64 + l.val, by omega⟩)).trans ?_
  exact (congrArg (· * Ideal.ofBits .f32 0x3E000000#32) (zerosAS m ρ c b t _ fun d => w_q_lo_pad m ρ c d g l)).trans (zero_mul _)

theorem oq_hiS (b : Fin 16) (g : Fin 4) (t : Fin 32) (l : Fin 64) :
    (W27 m ρ c main_v61_0 : FVec Ideal S16x8x32x128 .bf16) (ix4 b ⟨4 + g.val, by omega⟩ t ⟨64 + l.val, by omega⟩) = proj (A1 m c) (A3 m c) (A4 m c) (A5 m c) (A6 m c) (A7 m c) b t ⟨(4 + g.val) * 64 + l.val, by omega⟩ * Ideal.ofBits .f32 0x3E000000#32 := by
  rw [keep27_v61_0]
  refine (congrFun ((W23_arr m ρ c 7).trans (arr3_q (V22 m ρ) c)) (ix4 b ⟨4 + g.val, by omega⟩ t ⟨64 + l.val, by omega⟩)).trans ?_
  exact congrArg (· * Ideal.ofBits .f32 0x3E000000#32) (rowsAS m ρ c b t _ _ fun d => w_q_hi m ρ c d g l)

theorem oq_hi_padS (b : Fin 16) (g : Fin 4) (t : Fin 32) (l : Fin 64) :
    (W27 m ρ c main_v61_0 : FVec Ideal S16x8x32x128 .bf16) (ix4 b ⟨4 + g.val, by omega⟩ t ⟨l.val, by omega⟩) = (0 : EReal) := by
  rw [keep27_v61_0]
  refine (congrFun ((W23_arr m ρ c 7).trans (arr3_q (V22 m ρ) c)) (ix4 b ⟨4 + g.val, by omega⟩ t ⟨l.val, by omega⟩)).trans ?_
  exact (congrArg (· * Ideal.ofBits .f32 0x3E000000#32) (zerosAS m ρ c b t _ fun d => w_q_hi_pad m ρ c d g l)).trans (zero_mul _)

theorem oiqS (b : Fin 16) (h : Fin 8) (t : Fin 32) (l : Fin 64) :
    (W27 m ρ c main_v61_5 : FVec Ideal S16x8x32x128 .bf16) (ix4 b h t ⟨l.val, by omega⟩) = proj (A1 m c) (A3 m c) (A4 m c) (A5 m c) (A6 m c) (A7 m c) b t ⟨768 + (h.val * 64 + l.val), by omega⟩ := by
  rw [keep27_v61_5]
  refine (congrFun ((W23_arr m ρ c 12).trans (arr3_iq (V22 m ρ) c)) (ix4 b h t ⟨l.val, by omega⟩)).trans ?_
  exact rowsAS m ρ c b t _ _ fun d => w_iq m ρ c d h l

theorem oiq_padS (b : Fin 16) (h : Fin 8) (t : Fin 32) (l : Fin 64) :
    (W27 m ρ c main_v61_5 : FVec Ideal S16x8x32x128 .bf16) (ix4 b h t ⟨64 + l.val, by omega⟩) = (0 : EReal) := by
  rw [keep27_v61_5]
  refine (congrFun ((W23_arr m ρ c 12).trans (arr3_iq (V22 m ρ) c)) (ix4 b h t ⟨64 + l.val, by omega⟩)).trans ?_
  exact zerosAS m ρ c b t _ fun d => w_iq_pad m ρ c d h l

theorem oikbS (b : Fin 16) (t : Fin 32) (l : Fin 64) :
    (W27 m ρ c main_v61_7 : FVec Ideal S16x32x128 .bf16) (ix3 b t ⟨l.val, by omega⟩)
      = lnorm (fun l => proj (A1 m c) (A3 m c) (A4 m c) (A5 m c) (A6 m c) (A7 m c) b t ⟨1280 + l.val, by omega⟩) (fun l => A8 m c (ix1 l)) (fun l => A9 m c (ix1 l)) l := by
  rw [keep27_v61_7]
  refine (congrFun ((W23_arr m ρ c 14).trans (arr3_ikb (V22 m ρ) c fun d k => ?_)) (ix3 b t ⟨l.val, by omega⟩)).trans ?_
  · show (W22 m ρ c main_v3 : FVec Ideal S1024x2560 .bf16) _ = _
    rw [keep22_v3]; exact w_ik_zero m ρ c d k
  · refine (dif_pos l.isLt).trans ?_
    refine lnorm_congr (fun k => rowsAS m ρ c b t _ _ fun d => w_ik m ρ c d k) (fun k => ?_) (fun k => ?_) rfl
    · show (W22 m ρ c main_v9 : FVec Ideal S1x128 .f32) _ = _
      rw [keep22_v9]; exact W10_v9 m ρ c k
    · show (W22 m ρ c main_v11 : FVec Ideal S1x128 .f32) _ = _
      rw [keep22_v11]; exact W12_v11 m ρ c k

theorem oikb_padS (b : Fin 16) (t : Fin 32) (l : Fin 64) :
    (W27 m ρ c main_v61_7 : FVec Ideal S16x32x128 .bf16) (ix3 b t ⟨64 + l.val, by omega⟩) = (0 : EReal) := by
  rw [keep27_v61_7]
  refine (congrFun ((W23_arr m ρ c 14).trans (arr3_ikb (V22 m ρ) c fun d k => ?_)) (ix3 b t ⟨64 + l.val, by omega⟩)).trans ?_
  · show (W22 m ρ c main_v3 : FVec Ideal S1024x2560 .bf16) _ = _
    rw [keep22_v3]; exact w_ik_zero m ρ c d k
  · refine (dif_neg (show ¬ 64 + l.val < 64 by omega)).trans ?_
    show (W22 m ρ c main_v11 : FVec Ideal S1x128 .f32) _ = _
    rw [keep22_v11]; exact W12_v11_pad m ρ c l

theorem ozrS (b : Fin 16) (t : Fin 32) (h : Fin 24) (l : Fin 64) :
    (W27 m ρ c main_v62_0 : FVec Ideal S16x32x3328 .f32) (ix3 b t ⟨h.val * 128 + l.val, by omega⟩) = proj (A1 m c) (A3 m c) (A4 m c) (A5 m c) (A6 m c) (A7 m c) b t ⟨1352 + (h.val * 64 + l.val), by omega⟩ := by
  rw [keep27_v62_0]
  refine (congrFun ((W24_arr m ρ c 5).trans (arr4_zr (V23 m ρ) c)) (ix3 b t ⟨h.val * 128 + l.val, by omega⟩)).trans ?_
  exact rowsBS m ρ c b t _ _ fun d => w_zh m ρ c d h l

theorem ozr_padS (b : Fin 16) (t : Fin 32) (h : Fin 24) (l : Fin 64) :
    (W27 m ρ c main_v62_0 : FVec Ideal S16x32x3328 .f32) (ix3 b t ⟨h.val * 128 + (64 + l.val), by omega⟩) = (0 : EReal) := by
  rw [keep27_v62_0]
  refine (congrFun ((W24_arr m ρ c 5).trans (arr4_zr (V23 m ρ) c)) (ix3 b t ⟨h.val * 128 + (64 + l.val), by omega⟩)).trans ?_
  exact zerosBS m ρ c b t _ fun d => w_zh_pad m ρ c d h l

theorem ozr_endS (b : Fin 16) (t : Fin 32) (p : Fin 256) :
    (W27 m ρ c main_v62_0 : FVec Ideal S16x32x3328 .f32) (ix3 b t ⟨3072 + p.val, by omega⟩) = proj (A1 m c) (A3 m c) (A4 m c) (A5 m c) (A6 m c) (A7 m c) b t ⟨1352 + (1536 + p.val), by omega⟩ := by
  rw [keep27_v62_0]
  refine (congrFun ((W24_arr m ρ c 5).trans (arr4_zr (V23 m ρ) c)) (ix3 b t ⟨3072 + p.val, by omega⟩)).trans ?_
  exact rowsBS m ρ c b t _ _ fun d => w_ze m ρ c d p

end Cert.Proof.Proj
-- ==== Proof.Proj.RefQ.lean ====
module

public import proofs.«01_k».proof.Proof.Proj.Ref

@[expose] public section

set_option maxRecDepth 16384

noncomputable section

/-! The plain projections of the prompt that go on to the attention and to the recurrence, each on its lanes. -/

namespace Cert.Proof.Proj

open Idealize.ShloMosaic Idealize.ShloMosaic.TcCoe Idealize.SL.Sem
open Cert.ProjReferenceIdeal Cert.ProjReferenceIdeal.Read

variable (x0 : FVec Ideal S2x8192x1024 .f32) (x2 : FVec Ideal S2x1024 .f32) (x4 : FVec Ideal S1024x6144 .f32) (x5 : FVec Ideal S6144 .f32)
  (x6 : FVec Ideal S1024 .f32) (x7 : FVec Ideal S1024x5192 .f32) (x8 x9 : FVec Ideal S64 .f32)

/-- The padding is zero. -/
theorem pad_zero : (FloatOps.sitofp (F := Ideal) .f32 (0#32 : BitVec 32)) = (0 : EReal) := by
  show (((0#32 : BitVec 32).toInt : ℝ) : EReal) = 0
  simp

theorem rkb (b : Fin 2) (t : Fin 8192) (l : Fin 128) :
    (val_main_v92 (F := Ideal) x0 x2 x4 x5 x6 x7 : FVec Ideal S2x8192x128 .bf16) (ix3 b t l) = proj x0 x2 x4 x5 x6 x7 b t ⟨512 + l.val, by omega⟩ := by
  pointwise [val_main_v92, val_main_v33, rproj]

theorem rvb (b : Fin 2) (t : Fin 8192) (l : Fin 128) :
    (val_main_v93 (F := Ideal) x0 x2 x4 x5 x6 x7 : FVec Ideal S2x8192x128 .bf16) (ix3 b t l) = proj x0 x2 x4 x5 x6 x7 b t ⟨640 + l.val, by omega⟩ := by
  pointwise [val_main_v93, val_main_v34, rproj]

theorem riq (b : Fin 2) (h : Fin 8) (t : Fin 8192) (l : Fin 64) :
    (val_main_v97 (F := Ideal) x0 x2 x4 x5 x6 x7 : FVec Ideal S2x8x8192x128 .bf16) (ix4 b h t ⟨l.val, by omega⟩)
      = proj x0 x2 x4 x5 x6 x7 b t ⟨768 + (h.val * 64 + l.val), by omega⟩ := by
  pointwise [val_main_v97, val_main_v96, val_main_v95, val_main_v94, val_main_v35, rproj]

theorem riq_pad (b : Fin 2) (h : Fin 8) (t : Fin 8192) (l : Fin 64) :
    (val_main_v97 (F := Ideal) x0 x2 x4 x5 x6 x7 : FVec Ideal S2x8x8192x128 .bf16) (ix4 b h t ⟨64 + l.val, by omega⟩) = (0 : EReal) := by
  pointwise [val_main_v97, val_main_v96, val_main_call3_v0, val_main_c_15]
  exact pad_zero

theorem rikb (b : Fin 2) (t : Fin 8192) (l : Fin 64) :
    (val_main_v99 (F := Ideal) x0 x2 x4 x5 x6 x7 x8 x9 : FVec Ideal S2x8192x128 .bf16) (ix3 b t ⟨l.val, by omega⟩)
      = lnorm (fun l => proj x0 x2 x4 x5 x6 x7 b t ⟨1280 + l.val, by omega⟩) (fun l => x8 (ix1 l)) (fun l => x9 (ix1 l)) l := by
  refine Eq.trans ?_ (rik x0 x2 x4 x5 x6 x7 x8 x9 b t l)
  pointwise [val_main_v99, val_main_v98]

theorem rikb_pad (b : Fin 2) (t : Fin 8192) (l : Fin 64) :
    (val_main_v99 (F := Ideal) x0 x2 x4 x5 x6 x7 x8 x9 : FVec Ideal S2x8192x128 .bf16) (ix3 b t ⟨64 + l.val, by omega⟩) = (0 : EReal) := by
  pointwise [val_main_v99, val_main_v98, val_main_call4_v0, val_main_c_16]
  exact pad_zero

theorem rq_lo (b : Fin 2) (g : Fin 4) (t : Fin 8192) (l : Fin 64) :
    (val_main_v91 (F := Ideal) x0 x2 x4 x5 x6 x7 : FVec Ideal S2x8x8192x128 .bf16) (ix4 b ⟨g.val, by omega⟩ t ⟨l.val, by omega⟩)
      = proj x0 x2 x4 x5 x6 x7 b t ⟨g.val * 64 + l.val, by omega⟩ * Ideal.ofBits .f32 0x3E000000#32 := by
  pointwise [val_main_v91, val_main_v90, val_main_v87, val_main_v86, val_main_v85, val_main_v84, val_main_v83, val_main_v82, val_main_cst_13, val_main_v32, rproj]

theorem rq_lo_pad (b : Fin 2) (g : Fin 4) (t : Fin 8192) (l : Fin 64) :
    (val_main_v91 (F := Ideal) x0 x2 x4 x5 x6 x7 : FVec Ideal S2x8x8192x128 .bf16) (ix4 b ⟨g.val, by omega⟩ t ⟨64 + l.val, by omega⟩) = (0 : EReal) := by
  pointwise [val_main_v91, val_main_v90, val_main_v87, val_main_call1_v0, val_main_c]
  exact pad_zero

theorem rq_hi (b : Fin 2) (g : Fin 4) (t : Fin 8192) (l : Fin 64) :
    (val_main_v91 (F := Ideal) x0 x2 x4 x5 x6 x7 : FVec Ideal S2x8x8192x128 .bf16) (ix4 b ⟨4 + g.val, by omega⟩ t ⟨64 + l.val, by omega⟩)
      = proj x0 x2 x4 x5 x6 x7 b t ⟨(4 + g.val) * 64 + l.val, by omega⟩ * Ideal.ofBits .f32 0x3E000000#32 := by
  pointwise [val_main_v91, val_main_v90, val_main_v89, val_main_v88, val_main_v85, val_main_v84, val_main_v83, val_main_v82, val_main_cst_13, val_main_v32, rproj]

theorem rq_hi_pad (b : Fin 2) (g : Fin 4) (t : Fin 8192) (l : Fin 64) :
    (val_main_v91 (F := Ideal) x0 x2 x4 x5 x6 x7 : FVec Ideal S2x8x8192x128 .bf16) (ix4 b ⟨4 + g.val, by omega⟩ t ⟨l.val, by omega⟩) = (0 : EReal) := by
  pointwise [val_main_v91, val_main_v90, val_main_v89, val_main_call2_v0, val_main_c_14]
  rw [dif_neg (fun h => h.1)]
  exact pad_zero

theorem rzr (b : Fin 2) (t : Fin 8192) (h : Fin 24) (l : Fin 64) :
    (val_main_v105 (F := Ideal) x0 x2 x4 x5 x6 x7 : FVec Ideal S2x8192x3328 .f32) (ix3 b t ⟨h.val * 128 + l.val, by omega⟩)
      = proj x0 x2 x4 x5 x6 x7 b t ⟨1352 + (h.val * 64 + l.val), by omega⟩ := by
  pointwise [val_main_v105, val_main_v103, val_main_v102, val_main_v101, val_main_v100, val_main_v38, rproj]
  have e : (h.val * 128 + l.val) % 128 = l.val := by omega
  rw [dif_pos (by omega), dif_pos (by omega)]
  simp only [e]

theorem rzr_pad (b : Fin 2) (t : Fin 8192) (h : Fin 24) (l : Fin 64) :
    (val_main_v105 (F := Ideal) x0 x2 x4 x5 x6 x7 : FVec Ideal S2x8192x3328 .f32) (ix3 b t ⟨h.val * 128 + (64 + l.val), by omega⟩) = (0 : EReal) := by
  pointwise [val_main_v105, val_main_v103, val_main_v102, val_main_call5_v0, val_main_c_17]
  rw [dif_pos (by omega), dif_neg (by omega)]
  exact pad_zero

theorem rzr_end (b : Fin 2) (t : Fin 8192) (p : Fin 256) :
    (val_main_v105 (F := Ideal) x0 x2 x4 x5 x6 x7 : FVec Ideal S2x8192x3328 .f32) (ix3 b t ⟨3072 + p.val, by omega⟩)
      = proj x0 x2 x4 x5 x6 x7 b t ⟨1352 + (1536 + p.val), by omega⟩ := by
  pointwise [val_main_v105, val_main_v104, val_main_v38, rproj]

end Cert.Proof.Proj
-- ==== Proof.Proj.RefQS.lean ====
module

public import proofs.«01_k».proof.Proof.Proj.RefS
public import proofs.«01_k».proof.Proof.Proj.RefQ

@[expose] public section

set_option maxRecDepth 16384

noncomputable section

/-! The plain projections of the samples that go on to the attention and to the recurrence, each on its lanes. -/

namespace Cert.Proof.Proj

open Idealize.ShloMosaic Idealize.ShloMosaic.TcCoe Idealize.SL.Sem
open Cert.ProjReferenceIdeal Cert.ProjReferenceIdeal.Read

variable (x1 : FVec Ideal S16x32x1024 .f32) (x3 : FVec Ideal S16x1024 .f32) (x4 : FVec Ideal S1024x6144 .f32) (x5 : FVec Ideal S6144 .f32)
  (x6 : FVec Ideal S1024 .f32) (x7 : FVec Ideal S1024x5192 .f32) (x8 x9 : FVec Ideal S64 .f32)

theorem rkbS (b : Fin 16) (t : Fin 32) (l : Fin 128) :
    (val_main_v198 (F := Ideal) x1 x3 x4 x5 x6 x7 : FVec Ideal S16x32x128 .bf16) (ix3 b t l) = proj x1 x3 x4 x5 x6 x7 b t ⟨512 + l.val, by omega⟩ := by
  pointwise [val_main_v198, val_main_v139, rprojS]

theorem rvbS (b : Fin 16) (t : Fin 32) (l : Fin 128) :
    (val_main_v199 (F := Ideal) x1 x3 x4 x5 x6 x7 : FVec Ideal S16x32x128 .bf16) (ix3 b t l) = proj x1 x3 x4 x5 x6 x7 b t ⟨640 + l.val, by omega⟩ := by
  pointwise [val_main_v199, val_main_v140, rprojS]

theorem riqS (b : Fin 16) (h : Fin 8) (t : Fin 32) (l : Fin 64) :
    (val_main_v203 (F := Ideal) x1 x3 x4 x5 x6 x7 : FVec Ideal S16x8x32x128 .bf16) (ix4 b h t ⟨l.val, by omega⟩)
      = proj x1 x3 x4 x5 x6 x7 b t ⟨768 + (h.val * 64 + l.val), by omega⟩ := by
  pointwise [val_main_v203, val_main_v202, val_main_v201, val_main_v200, val_main_v141, rprojS]

theorem riq_padS (b : Fin 16) (h : Fin 8) (t : Fin 32) (l : Fin 64) :
    (val_main_v203 (F := Ideal) x1 x3 x4 x5 x6 x7 : FVec Ideal S16x8x32x128 .bf16) (ix4 b h t ⟨64 + l.val, by omega⟩) = (0 : EReal) := by
  pointwise [val_main_v203, val_main_v202, val_main_call9_v0, val_main_c_35]
  exact pad_zero

theorem rikbS (b : Fin 16) (t : Fin 32) (l : Fin 64) :
    (val_main_v205 (F := Ideal) x1 x3 x4 x5 x6 x7 x8 x9 : FVec Ideal S16x32x128 .bf16) (ix3 b t ⟨l.val, by omega⟩)
      = lnorm (fun l => proj x1 x3 x4 x5 x6 x7 b t ⟨1280 + l.val, by omega⟩) (fun l => x8 (ix1 l)) (fun l => x9 (ix1 l)) l := by
  refine Eq.trans ?_ (rikS x1 x3 x4 x5 x6 x7 x8 x9 b t l)
  pointwise [val_main_v205, val_main_v204]

theorem rikb_padS (b : Fin 16) (t : Fin 32) (l : Fin 64) :
    (val_main_v205 (F := Ideal) x1 x3 x4 x5 x6 x7 x8 x9 : FVec Ideal S16x32x128 .bf16) (ix3 b t ⟨64 + l.val, by omega⟩) = (0 : EReal) := by
  pointwise [val_main_v205, val_main_v204, val_main_call10_v0, val_main_c_36]
  exact pad_zero

theorem rq_loS (b : Fin 16) (g : Fin 4) (t : Fin 32) (l : Fin 64) :
    (val_main_v197 (F := Ideal) x1 x3 x4 x5 x6 x7 : FVec Ideal S16x8x32x128 .bf16) (ix4 b ⟨g.val, by omega⟩ t ⟨l.val, by omega⟩)
      = proj x1 x3 x4 x5 x6 x7 b t ⟨g.val * 64 + l.val, by omega⟩ * Ideal.ofBits .f32 0x3E000000#32 := by
  pointwise [val_main_v197, val_main_v196, val_main_v193, val_main_v192, val_main_v191, val_main_v190, val_main_v189, val_main_v188, val_main_cst_32, val_main_v138, rprojS]

theorem rq_lo_padS (b : Fin 16) (g : Fin 4) (t : Fin 32) (l : Fin 64) :
    (val_main_v197 (F := Ideal) x1 x3 x4 x5 x6 x7 : FVec Ideal S16x8x32x128 .bf16) (ix4 b ⟨g.val, by omega⟩ t ⟨64 + l.val, by omega⟩) = (0 : EReal) := by
  pointwise [val_main_v197, val_main_v196, val_main_v193, val_main_call7_v0, val_main_c_33]
  exact pad_zero

theorem rq_hiS (b : Fin 16) (g : Fin 4) (t : Fin 32) (l : Fin 64) :
    (val_main_v197 (F := Ideal) x1 x3 x4 x5 x6 x7 : FVec Ideal S16x8x32x128 .bf16) (ix4 b ⟨4 + g.val, by omega⟩ t ⟨64 + l.val, by omega⟩)
      = proj x1 x3 x4 x5 x6 x7 b t ⟨(4 + g.val) * 64 + l.val, by omega⟩ * Ideal.ofBits .f32 0x3E000000#32 := by
  pointwise [val_main_v197, val_main_v196, val_main_v195, val_main_v194, val_main_v191, val_main_v190, val_main_v189, val_main_v188, val_main_cst_32, val_main_v138, rprojS]

theorem rq_hi_padS (b : Fin 16) (g : Fin 4) (t : Fin 32) (l : Fin 64) :
    (val_main_v197 (F := Ideal) x1 x3 x4 x5 x6 x7 : FVec Ideal S16x8x32x128 .bf16) (ix4 b ⟨4 + g.val, by omega⟩ t ⟨l.val, by omega⟩) = (0 : EReal) := by
  pointwise [val_main_v197, val_main_v196, val_main_v195, val_main_call8_v0, val_main_c_34]
  rw [dif_neg (fun h => h.1)]
  exact pad_zero

theorem rzrS (b : Fin 16) (t : Fin 32) (h : Fin 24) (l : Fin 64) :
    (val_main_v211 (F := Ideal) x1 x3 x4 x5 x6 x7 : FVec Ideal S16x32x3328 .f32) (ix3 b t ⟨h.val * 128 + l.val, by omega⟩)
      = proj x1 x3 x4 x5 x6 x7 b t ⟨1352 + (h.val * 64 + l.val), by omega⟩ := by
  pointwise [val_main_v211, val_main_v209, val_main_v208, val_main_v207, val_main_v206, val_main_v144, rprojS]
  have e : (h.val * 128 + l.val) % 128 = l.val := by omega
  rw [dif_pos (by omega), dif_pos (by omega)]
  simp only [e]

theorem rzr_padS (b : Fin 16) (t : Fin 32) (h : Fin 24) (l : Fin 64) :
    (val_main_v211 (F := Ideal) x1 x3 x4 x5 x6 x7 : FVec Ideal S16x32x3328 .f32) (ix3 b t ⟨h.val * 128 + (64 + l.val), by omega⟩) = (0 : EReal) := by
  pointwise [val_main_v211, val_main_v209, val_main_v208, val_main_call11_v0, val_main_c_37]
  rw [dif_pos (by omega), dif_neg (by omega)]
  exact pad_zero

theorem rzr_endS (b : Fin 16) (t : Fin 32) (p : Fin 256) :
    (val_main_v211 (F := Ideal) x1 x3 x4 x5 x6 x7 : FVec Ideal S16x32x3328 .f32) (ix3 b t ⟨3072 + p.val, by omega⟩)
      = proj x1 x3 x4 x5 x6 x7 b t ⟨1352 + (1536 + p.val), by omega⟩ := by
  pointwise [val_main_v211, val_main_v210, val_main_v144, rprojS]

end Cert.Proof.Proj
-- ==== Proof.Proj.SameQ.lean ====
module

public import proofs.«01_k».proof.Proof.Proj.Same
public import proofs.«01_k».proof.Proof.Proj.OutQ
public import proofs.«01_k».proof.Proof.Proj.OutQS
public import proofs.«01_k».proof.Proof.Proj.RefQ
public import proofs.«01_k».proof.Proof.Proj.RefQS

@[expose] public section

set_option maxRecDepth 16384

noncomputable section

/-! The kernels and the plain projections hand on the same arrays. -/

namespace Cert.Proof.Proj

open Idealize.ShloMosaic Idealize.ShloMosaic.TcCoe Idealize.SL.Sem
open Cert.ProjIdeal Cert.ProjIdeal.Gen

/-- A lane is in the lower or in the upper half. -/
theorem lane_split (l : Fin 128) : (∃ k : Fin 64, l = ⟨k.val, by omega⟩) ∨ (∃ k : Fin 64, l = ⟨64 + k.val, by omega⟩) := by
  by_cases h : l.val < 64
  · exact .inl ⟨⟨l.val, h⟩, rfl⟩
  · exact .inr ⟨⟨l.val - 64, by omega⟩, Fin.ext (by show l.val = 64 + (l.val - 64); omega)⟩

/-- A head is one of the first or one of the last four. -/
theorem head_split (l : Fin 8) : (∃ k : Fin 4, l = ⟨k.val, by omega⟩) ∨ (∃ k : Fin 4, l = ⟨4 + k.val, by omega⟩) := by
  by_cases h : l.val < 4
  · exact .inl ⟨⟨l.val, h⟩, rfl⟩
  · exact .inr ⟨⟨l.val - 4, by omega⟩, Fin.ext (by show l.val = 4 + (l.val - 4); omega)⟩

/-- A column of the recurrence's array is a head's, padding, or one of the last 256. -/
theorem col_split (p : Fin 3328) : (∃ (h : Fin 24) (k : Fin 64), p = ⟨h.val * 128 + k.val, by omega⟩)
    ∨ (∃ (h : Fin 24) (k : Fin 64), p = ⟨h.val * 128 + (64 + k.val), by omega⟩) ∨ (∃ q : Fin 256, p = ⟨3072 + q.val, by omega⟩) := by
  by_cases h : p.val < 3072
  · by_cases g : p.val % 128 < 64
    · exact .inl ⟨⟨p.val / 128, by omega⟩, ⟨p.val % 128, g⟩, Fin.ext (by show p.val = p.val / 128 * 128 + p.val % 128; omega)⟩
    · exact .inr (.inl ⟨⟨p.val / 128, by omega⟩, ⟨p.val % 128 - 64, by omega⟩, Fin.ext (by show p.val = p.val / 128 * 128 + (64 + (p.val % 128 - 64)); omega)⟩)
  · exact .inr (.inr ⟨⟨p.val - 3072, by omega⟩, Fin.ext (by show p.val = 3072 + (p.val - 3072); omega)⟩)

variable (m : (ℓ : Loc nD τ sig) → Buf (Elt Ideal) ℓ) (ρ : Dev nD → PrngReg) (c : Dev nD)

theorem same_q : Cert.ProjReferenceIdeal.Read.val_main_v91 (F := Ideal) (A0 m c) (A2 m c) (A4 m c) (A5 m c) (A6 m c) (A7 m c) = W27 m ρ c main_v53_0 := by
  funext i
  obtain ⟨b, h, t, l, rfl⟩ : ∃ (b : Fin 2) (h : Fin 8) (t : Fin 8192) (l : Fin 128), i = ix4 b h t l := ⟨i 0, i 1, i 2, i 3, eq_ix4 i⟩
  obtain ⟨g, rfl⟩ | ⟨g, rfl⟩ := head_split h <;> obtain ⟨k, rfl⟩ | ⟨k, rfl⟩ := lane_split l
  · exact (rq_lo (A0 m c) (A2 m c) (A4 m c) (A5 m c) (A6 m c) (A7 m c) b g t k).trans (oq_lo m ρ c b g t k).symm
  · exact (rq_lo_pad (A0 m c) (A2 m c) (A4 m c) (A5 m c) (A6 m c) (A7 m c) b g t k).trans (oq_lo_pad m ρ c b g t k).symm
  · exact (rq_hi_pad (A0 m c) (A2 m c) (A4 m c) (A5 m c) (A6 m c) (A7 m c) b g t k).trans (oq_hi_pad m ρ c b g t k).symm
  · exact (rq_hi (A0 m c) (A2 m c) (A4 m c) (A5 m c) (A6 m c) (A7 m c) b g t k).trans (oq_hi m ρ c b g t k).symm

theorem same_kb : Cert.ProjReferenceIdeal.Read.val_main_v92 (F := Ideal) (A0 m c) (A2 m c) (A4 m c) (A5 m c) (A6 m c) (A7 m c) = W27 m ρ c main_v53_3 := by
  funext i
  obtain ⟨b, t, l, rfl⟩ : ∃ (b : Fin 2) (t : Fin 8192) (l : Fin 128), i = ix3 b t l := ⟨i 0, i 1, i 2, eq_ix3 i⟩
  exact (rkb (A0 m c) (A2 m c) (A4 m c) (A5 m c) (A6 m c) (A7 m c) b t l).trans (okb m ρ c b t l).symm

theorem same_vb : Cert.ProjReferenceIdeal.Read.val_main_v93 (F := Ideal) (A0 m c) (A2 m c) (A4 m c) (A5 m c) (A6 m c) (A7 m c) = W27 m ρ c main_v53_4 := by
  funext i
  obtain ⟨b, t, l, rfl⟩ : ∃ (b : Fin 2) (t : Fin 8192) (l : Fin 128), i = ix3 b t l := ⟨i 0, i 1, i 2, eq_ix3 i⟩
  exact (rvb (A0 m c) (A2 m c) (A4 m c) (A5 m c) (A6 m c) (A7 m c) b t l).trans (ovb m ρ c b t l).symm

theorem same_iq : Cert.ProjReferenceIdeal.Read.val_main_v97 (F := Ideal) (A0 m c) (A2 m c) (A4 m c) (A5 m c) (A6 m c) (A7 m c) = W27 m ρ c main_v53_5 := by
  funext i
  obtain ⟨b, h, t, l, rfl⟩ : ∃ (b : Fin 2) (h : Fin 8) (t : Fin 8192) (l : Fin 128), i = ix4 b h t l := ⟨i 0, i 1, i 2, i 3, eq_ix4 i⟩
  obtain ⟨k, rfl⟩ | ⟨k, rfl⟩ := lane_split l
  · exact (riq (A0 m c) (A2 m c) (A4 m c) (A5 m c) (A6 m c) (A7 m c) b h t k).trans (oiq m ρ c b h t k).symm
  · exact (riq_pad (A0 m c) (A2 m c) (A4 m c) (A5 m c) (A6 m c) (A7 m c) b h t k).trans (oiq_pad m ρ c b h t k).symm

theorem same_ikb : Cert.ProjReferenceIdeal.Read.val_main_v99 (F := Ideal) (A0 m c) (A2 m c) (A4 m c) (A5 m c) (A6 m c) (A7 m c) (A8 m c) (A9 m c) = W27 m ρ c main_v53_7 := by
  funext i
  obtain ⟨b, t, l, rfl⟩ : ∃ (b : Fin 2) (t : Fin 8192) (l : Fin 128), i = ix3 b t l := ⟨i 0, i 1, i 2, eq_ix3 i⟩
  obtain ⟨k, rfl⟩ | ⟨k, rfl⟩ := lane_split l
  · exact (rikb (A0 m c) (A2 m c) (A4 m c) (A5 m c) (A6 m c) (A7 m c) (A8 m c) (A9 m c) b t k).trans (oikb m ρ c b t k).symm
  · exact (rikb_pad (A0 m c) (A2 m c) (A4 m c) (A5 m c) (A6 m c) (A7 m c) (A8 m c) (A9 m c) b t k).trans (oikb_pad m ρ c b t k).symm

theorem same_zr : Cert.ProjReferenceIdeal.Read.val_main_v105 (F := Ideal) (A0 m c) (A2 m c) (A4 m c) (A5 m c) (A6 m c) (A7 m c) = W27 m ρ c main_v54_0 := by
  funext i
  obtain ⟨b, t, l, rfl⟩ : ∃ (b : Fin 2) (t : Fin 8192) (l : Fin 3328), i = ix3 b t l := ⟨i 0, i 1, i 2, eq_ix3 i⟩
  obtain ⟨h, k, rfl⟩ | ⟨h, k, rfl⟩ | ⟨q, rfl⟩ := col_split l
  · exact (rzr (A0 m c) (A2 m c) (A4 m c) (A5 m c) (A6 m c) (A7 m c) b t h k).trans (ozr m ρ c b t h k).symm
  · exact (rzr_pad (A0 m c) (A2 m c) (A4 m c) (A5 m c) (A6 m c) (A7 m c) b t h k).trans (ozr_pad m ρ c b t h k).symm
  · exact (rzr_end (A0 m c) (A2 m c) (A4 m c) (A5 m c) (A6 m c) (A7 m c) b t q).trans (ozr_end m ρ c b t q).symm

theorem same_qS : Cert.ProjReferenceIdeal.Read.val_main_v197 (F := Ideal) (A1 m c) (A3 m c) (A4 m c) (A5 m c) (A6 m c) (A7 m c) = W27 m ρ c main_v61_0 := by
  funext i
  obtain ⟨b, h, t, l, rfl⟩ : ∃ (b : Fin 16) (h : Fin 8) (t : Fin 32) (l : Fin 128), i = ix4 b h t l := ⟨i 0, i 1, i 2, i 3, eq_ix4 i⟩
  obtain ⟨g, rfl⟩ | ⟨g, rfl⟩ := head_split h <;> obtain ⟨k, rfl⟩ | ⟨k, rfl⟩ := lane_split l
  · exact (rq_loS (A1 m c) (A3 m c) (A4 m c) (A5 m c) (A6 m c) (A7 m c) b g t k).trans (oq_loS m ρ c b g t k).symm
  · exact (rq_lo_padS (A1 m c) (A3 m c) (A4 m c) (A5 m c) (A6 m c) (A7 m c) b g t k).trans (oq_lo_padS m ρ c b g t k).symm
  · exact (rq_hi_padS (A1 m c) (A3 m c) (A4 m c) (A5 m c) (A6 m c) (A7 m c) b g t k).trans (oq_hi_padS m ρ c b g t k).symm
  · exact (rq_hiS (A1 m c) (A3 m c) (A4 m c) (A5 m c) (A6 m c) (A7 m c) b g t k).trans (oq_hiS m ρ c b g t k).symm

theorem same_kbS : Cert.ProjReferenceIdeal.Read.val_main_v198 (F := Ideal) (A1 m c) (A3 m c) (A4 m c) (A5 m c) (A6 m c) (A7 m c) = W27 m ρ c main_v61_3 := by
  funext i
  obtain ⟨b, t, l, rfl⟩ : ∃ (b : Fin 16) (t : Fin 32) (l : Fin 128), i = ix3 b t l := ⟨i 0, i 1, i 2, eq_ix3 i⟩
  exact (rkbS (A1 m c) (A3 m c) (A4 m c) (A5 m c) (A6 m c) (A7 m c) b t l).trans (okbS m ρ c b t l).symm

theorem same_vbS : Cert.ProjReferenceIdeal.Read.val_main_v199 (F := Ideal) (A1 m c) (A3 m c) (A4 m c) (A5 m c) (A6 m c) (A7 m c) = W27 m ρ c main_v61_4 := by
  funext i
  obtain ⟨b, t, l, rfl⟩ : ∃ (b : Fin 16) (t : Fin 32) (l : Fin 128), i = ix3 b t l := ⟨i 0, i 1, i 2, eq_ix3 i⟩
  exact (rvbS (A1 m c) (A3 m c) (A4 m c) (A5 m c) (A6 m c) (A7 m c) b t l).trans (ovbS m ρ c b t l).symm

theorem same_iqS : Cert.ProjReferenceIdeal.Read.val_main_v203 (F := Ideal) (A1 m c) (A3 m c) (A4 m c) (A5 m c) (A6 m c) (A7 m c) = W27 m ρ c main_v61_5 := by
  funext i
  obtain ⟨b, h, t, l, rfl⟩ : ∃ (b : Fin 16) (h : Fin 8) (t : Fin 32) (l : Fin 128), i = ix4 b h t l := ⟨i 0, i 1, i 2, i 3, eq_ix4 i⟩
  obtain ⟨k, rfl⟩ | ⟨k, rfl⟩ := lane_split l
  · exact (riqS (A1 m c) (A3 m c) (A4 m c) (A5 m c) (A6 m c) (A7 m c) b h t k).trans (oiqS m ρ c b h t k).symm
  · exact (riq_padS (A1 m c) (A3 m c) (A4 m c) (A5 m c) (A6 m c) (A7 m c) b h t k).trans (oiq_padS m ρ c b h t k).symm

theorem same_ikbS : Cert.ProjReferenceIdeal.Read.val_main_v205 (F := Ideal) (A1 m c) (A3 m c) (A4 m c) (A5 m c) (A6 m c) (A7 m c) (A8 m c) (A9 m c) = W27 m ρ c main_v61_7 := by
  funext i
  obtain ⟨b, t, l, rfl⟩ : ∃ (b : Fin 16) (t : Fin 32) (l : Fin 128), i = ix3 b t l := ⟨i 0, i 1, i 2, eq_ix3 i⟩
  obtain ⟨k, rfl⟩ | ⟨k, rfl⟩ := lane_split l
  · exact (rikbS (A1 m c) (A3 m c) (A4 m c) (A5 m c) (A6 m c) (A7 m c) (A8 m c) (A9 m c) b t k).trans (oikbS m ρ c b t k).symm
  · exact (rikb_padS (A1 m c) (A3 m c) (A4 m c) (A5 m c) (A6 m c) (A7 m c) (A8 m c) (A9 m c) b t k).trans (oikb_padS m ρ c b t k).symm

theorem same_zrS : Cert.ProjReferenceIdeal.Read.val_main_v211 (F := Ideal) (A1 m c) (A3 m c) (A4 m c) (A5 m c) (A6 m c) (A7 m c) = W27 m ρ c main_v62_0 := by
  funext i
  obtain ⟨b, t, l, rfl⟩ : ∃ (b : Fin 16) (t : Fin 32) (l : Fin 3328), i = ix3 b t l := ⟨i 0, i 1, i 2, eq_ix3 i⟩
  obtain ⟨h, k, rfl⟩ | ⟨h, k, rfl⟩ | ⟨q, rfl⟩ := col_split l
  · exact (rzrS (A1 m c) (A3 m c) (A4 m c) (A5 m c) (A6 m c) (A7 m c) b t h k).trans (ozrS m ρ c b t h k).symm
  · exact (rzr_padS (A1 m c) (A3 m c) (A4 m c) (A5 m c) (A6 m c) (A7 m c) b t h k).trans (ozr_padS m ρ c b t h k).symm
  · exact (rzr_endS (A1 m c) (A3 m c) (A4 m c) (A5 m c) (A6 m c) (A7 m c) b t q).trans (ozr_endS m ρ c b t q).symm

end Cert.Proof.Proj
-- ==== Proof.ScanRef.lean ====
module

public import proofs.«01_k».proof.Proof.Gen.ScanReferenceIdeal.Run
public import Idealize.ShloMosaic.Lib.Pointwise
public import Idealize.ShloMosaic.Lib.DynamicIndex

@[expose] public section

set_option maxRecDepth 16384

noncomputable section

/-! The recurrent scan on the prompt: what the reference computes, trip by trip. -/

namespace Cert.Proof.Scan

open Idealize.ShloMosaic Idealize.ShloMosaic.Tactic Idealize.SL.Sem
open Cert.ScanReferenceIdeal Cert.ScanReferenceIdeal.Value
open Idealize.ShloMosaic.StableHlo

/-- The states of a sequence after its first `n` chunks, started from zero: the recurrence on whole arrays. -/
def states (a : Vec Ideal S2x8x64x192x64 .f32) (b : Vec Ideal S2x8x64x192x128 .f32) :
    ℕ → Fin 2 → Fin 8 → Fin 64 → Fin 64 → EReal
  | 0, _, _, _, _ => 0
  | n + 1, s, q, i, l =>
    ∑ k : Fin 64, a (ix5 s q ⟨n % 64, Nat.mod_lt _ (by decide)⟩ ⟨i.val, by omega⟩ k) * states a b n s q k l
      + b (ix5 s q ⟨n % 64, Nat.mod_lt _ (by decide)⟩ ⟨i.val, by omega⟩ ⟨l.val, by omega⟩)

/-- The loop's counter and four zeros, as the starts of a slice. -/
theorem starts (n : ℕ) (hn : n < 64) (a : Fin 5) :
    ((![fun _ => BitVec.ofNat 32 n, constantI S_ 32 0#32, constantI S_ 32 0#32, constantI S_ 32 0#32, constantI S_ 32 0#32] :
      Fin 5 → S_.Idx → BitVec 32) a (Shape.Idx.first Gen.h_S_)).toInt = ((![n, 0, 0, 0, 0] : Fin 5 → ℕ) a : Int) := by
  fin_cases a
  · exact toInt_ofNat_of_lt (by omega)
  all_goals rfl

/-- One trip of the reference's loop, at an index. -/
theorem trip (x0 : Vec Ideal S64x2x8x192x64 .f32) (x1 : Vec Ideal S64x2x8x192x128 .f32) (s : Vec Ideal S2x8x64x64 .f32)
    (V : Valuation τ sig (Elt Ideal)) (n : ℕ) (hn : n < 64)
    (h0 : V (Proc.devRef .tc main_v3_0) = x0) (h1 : V (Proc.devRef .tc main_v3_1) = x1)
    (h2 : V (Proc.devRef .tc main_v3_2) = fun _ => BitVec.ofNat 32 n) (h3 : V (Proc.devRef .tc main_v3_3) = s)
    (b : Fin 2) (q : Fin 8) (i l : Fin 64) :
    (step_main_v3_3 V : Vec Ideal S2x8x64x64 .f32) (ix4 b q i l)
      = ∑ k : Fin 64, x0 (ix5 ⟨n, hn⟩ b q ⟨i.val, by omega⟩ k) * s (ix4 b q k l)
        + x1 (ix5 ⟨n, hn⟩ b q ⟨i.val, by omega⟩ ⟨l.val, by omega⟩) := by
  have e0 : S64x2x8x192x64.Slices ![n, 0, 0, 0, 0] S1x2x8x192x64 := ⟨rfl, fun a => by fin_cases a <;> simp <;> omega⟩
  have e1 : S64x2x8x192x128.Slices ![n, 0, 0, 0, 0] S1x2x8x192x128 := ⟨rfl, fun a => by fin_cases a <;> simp <;> omega⟩
  unfold step_main_v3_3
  rw [h0, h1, h2, h3]
  clear h0 h1 h2 h3 V
  simp only [id]
  erw [Host.dynamicSlice_eq_extractStridedSlice S1x2x8x192x64 x0 _ ![n, 0, 0, 0, 0] _ e0 (by exact starts n hn)]
  erw [Host.dynamicSlice_eq_extractStridedSlice S1x2x8x192x128 x1 _ ![n, 0, 0, 0, 0] _ e1 (by exact starts n hn)]
  pointwise

variable (m : (ℓ : Loc nD τ sig) → Buf (Elt Ideal) ℓ)

/-- The arrays the loop reads: the chunks' matrices with the chunks in front. -/
def front0 (a : Vec Ideal S2x8x64x192x64 .f32) : Vec Ideal S64x2x8x192x64 .f32 :=
  transpose S64x2x8x192x64 [2, 0, 1, 3, 4] a Gen.transposes_S2x8x64x192x64_S64x2x8x192x64_2_0_1_3_4

def front1 (b : Vec Ideal S2x8x64x192x128 .f32) : Vec Ideal S64x2x8x192x128 .f32 :=
  transpose S64x2x8x192x128 [2, 0, 1, 3, 4] b Gen.transposes_S2x8x64x192x128_S64x2x8x192x128_2_0_1_3_4

/-- What the loop starts from. -/
theorem entry (c : Dev nD) :
    entryContents preI m c (Proc.devRef .tc main_v3_0) = front0 (m ((c.tc : Thread nD τ).loc main_arg0))
    ∧ entryContents preI m c (Proc.devRef .tc main_v3_1) = front1 (m ((c.tc : Thread nD τ).loc main_arg1))
    ∧ entryContents preI m c (Proc.devRef .tc main_v3_2) = (fun _ => BitVec.ofNat 32 0)
    ∧ entryContents preI m c (Proc.devRef .tc main_v3_3)
      = broadcastInDim S2x8x64x64 ![] Gen.bcast_S_S2x8x64x64 (constant (F := Ideal) S_ .f32 0x00000000#32) := by
  refine ⟨?_, ?_, ctr_entry m c, ?_⟩ <;>
    (simp only [entryContents, afterL_cons, afterL_nil]; after_reads_simp; rfl)

/-- What the loop holds before its `n`-th trip. -/
theorem before (c : Dev nD) : ∀ n : ℕ, n ≤ 64 →
    (STEP^[n] (entryContents preI m c)) (Proc.devRef .tc main_v3_0) = front0 (m ((c.tc : Thread nD τ).loc main_arg0))
    ∧ (STEP^[n] (entryContents preI m c)) (Proc.devRef .tc main_v3_1) = front1 (m ((c.tc : Thread nD τ).loc main_arg1))
    ∧ (STEP^[n] (entryContents preI m c)) (Proc.devRef .tc main_v3_2) = (fun _ => BitVec.ofNat 32 n)
    ∧ ∀ (b : Fin 2) (q : Fin 8) (i l : Fin 64),
      ((STEP^[n] (entryContents preI m c)) (Proc.devRef .tc main_v3_3) : Vec Ideal S2x8x64x64 .f32) (ix4 b q i l)
        = states (m ((c.tc : Thread nD τ).loc main_arg0)) (m ((c.tc : Thread nD τ).loc main_arg1)) n b q i l := by
  intro n
  induction n with
  | zero =>
    intro _
    obtain ⟨h0, h1, h2, h3⟩ := entry m c
    refine ⟨h0, h1, h2, fun b q i l => (congrFun h3 _).trans ?_⟩
    show broadcastInDim S2x8x64x64 ![] Gen.bcast_S_S2x8x64x64 (constant (F := Ideal) S_ .f32 0x00000000#32) (ix4 b q i l) = (0 : EReal)
    pointwise
  | succ n ih =>
    intro hn
    obtain ⟨h0, h1, h2, h3⟩ := ih (Nat.le_of_succ_le hn)
    rw [Function.iterate_succ_apply']
    refine ⟨(STEP_main_v3_0 _).trans h0, (STEP_main_v3_1 _).trans h1, (STEP_main_v3_2 _).trans ?_, fun b q i l =>
      (congrFun (STEP_main_v3_3 _) _).trans ((trip _ _ _ _ n hn h0 h1 h2 rfl b q i l).trans ?_)⟩
    · unfold step_main_v3_2
      rw [h2]
      funext x
      show BitVec.ofNat 32 n + 1#32 = BitVec.ofNat 32 (n + 1)
      rw [BitVec.ofNat_add]
    · have f0 : ∀ (a : Vec Ideal S2x8x64x192x64 .f32) (r : Fin 192) (k : Fin 64),
          front0 a (ix5 ⟨n, hn⟩ b q r k) = a (ix5 b q ⟨n % 64, Nat.mod_lt _ (by decide)⟩ r k) := fun a r k => by
        simp only [Nat.mod_eq_of_lt hn]
        pointwise [front0]
      have f1 : ∀ (a : Vec Ideal S2x8x64x192x128 .f32) (r : Fin 192) (k : Fin 128),
          front1 a (ix5 ⟨n, hn⟩ b q r k) = a (ix5 b q ⟨n % 64, Nat.mod_lt _ (by decide)⟩ r k) := fun a r k => by
        simp only [Nat.mod_eq_of_lt hn]
        pointwise [front1]
      rw [states]
      simp only [f0, f1, h3]

/-- The reference's result, at an index. -/
theorem ref (c : Dev nD) (n : Fin 2) (q : Fin 8) (l i : Fin 64) :
    (out_main_v4 (STEP^[64] (entryContents preI m c)) : Vec Ideal S2x8x64x64 .f32) (ix4 n q l i)
      = states (m ((c.tc : Thread nD τ).loc main_arg0)) (m ((c.tc : Thread nD τ).loc main_arg1)) 64 n q i l := by
  refine Eq.trans ?_ ((before m c 64 le_rfl).2.2.2 n q i l)
  unfold out_main_v4
  generalize (STEP^[64] (entryContents preI m c)) (Proc.devRef .tc main_v3_3) = w
  pointwise

end Cert.Proof.Scan

end
-- ==== Proof.Scan.lean ====
module

public import proofs.«01_k».proof.Proof.Gen.ScanIdeal.Frame
public import proofs.«01_k».proof.Proof.ScanRef
public import Idealize.ShloMosaic.Lib.Pointwise
public import Idealize.ShloMosaic.Lib.Pipeline.ValueKit
public import Idealize.ShloMosaic.Lib.Pipeline.ReadBack

@[expose] public section

set_option maxRecDepth 16384

noncomputable section

/-! The recurrent scan on the prompt: what the kernel writes is what the reference computes. -/

namespace Cert.Proof.Scan

open Idealize.ShloMosaic Idealize.ShloMosaic.Tactic Idealize.SL.Sem
open Cert.ScanIdeal Cert.ScanIdeal.Gen

/-- One head's state after a chunk: the first rows of the chunk's matrix times the state, plus the chunk's own term. -/
def head (a : Vec Ideal S1x1x1x192x64 .f32) (h : Vec Ideal S1x64x128 .f32) (b : Vec Ideal S1x1x1x192x128 .f32)
    (i : Fin 64) (l : Fin 128) : EReal :=
  ∑ k : Fin 64, a (ix5 0 0 0 ⟨i.val, by omega⟩ k) * h (ix3 0 k l) + b (ix5 0 0 0 ⟨i.val, by omega⟩ l)

theorem pay0 (a h b) (i : Fin 64) (l : Fin 128) : k0_pay6 (F := Ideal) a h b (ix3 0 i l) = head a h b i l := by
  unfold head
  pointwise [k0_pay6, k0_pay5]

theorem pay1 (a h b) (i : Fin 64) (l : Fin 128) : k0_pay10 (F := Ideal) (k0_pay8 a h) b (ix3 0 i l) = head a h b i l := by
  unfold head
  pointwise [k0_pay10, k0_pay9, k0_pay8]

theorem pay2 (a h b) (i : Fin 64) (l : Fin 128) : k0_pay13 (F := Ideal) a h b (ix3 0 i l) = head a h b i l := by
  unfold head
  pointwise [k0_pay13, k0_pay12]

theorem pay3 (a h b) (i : Fin 64) (l : Fin 128) : k0_pay17 (F := Ideal) a h b (ix3 0 i l) = head a h b i l := by
  unfold head
  pointwise [k0_pay17, k0_pay16]

theorem pay4 (a h b) (i : Fin 64) (l : Fin 128) : k0_pay21 (F := Ideal) (k0_pay19 a h) b (ix3 0 i l) = head a h b i l := by
  unfold head
  pointwise [k0_pay21, k0_pay20, k0_pay19]

theorem pay5 (a h b) (i : Fin 64) (l : Fin 128) : k0_pay24 (F := Ideal) a h b (ix3 0 i l) = head a h b i l := by
  unfold head
  pointwise [k0_pay24, k0_pay23]

theorem pay6 (a h b) (i : Fin 64) (l : Fin 128) : k0_pay27 (F := Ideal) a h b (ix3 0 i l) = head a h b i l := by
  unfold head
  pointwise [k0_pay27, k0_pay26]

theorem pay7 (a h b) (i : Fin 64) (l : Fin 128) : k0_pay31 (F := Ideal) (k0_pay30 a h b) (ix3 0 i l) = head a h b i l := by
  unfold head
  pointwise [k0_pay31, k0_pay30, k0_pay29]

theorem qay0 (a h b) (i : Fin 64) (l : Fin 128) : k0_pay34 (F := Ideal) a h b (ix3 0 i l) = head a h b i l := by
  unfold head
  pointwise [k0_pay34, k0_pay33]

theorem qay1 (a h b) (i : Fin 64) (l : Fin 128) : k0_pay38 (F := Ideal) (k0_pay36 a) h b (ix3 0 i l) = head a h b i l := by
  unfold head
  pointwise [k0_pay38, k0_pay37, k0_pay36]

theorem qay2 (a h b) (i : Fin 64) (l : Fin 128) : k0_pay41 (F := Ideal) a h b (ix3 0 i l) = head a h b i l := by
  unfold head
  pointwise [k0_pay41, k0_pay40]

theorem qay3 (a h b) (i : Fin 64) (l : Fin 128) : k0_pay45 (F := Ideal) a h b (ix3 0 i l) = head a h b i l := by
  unfold head
  pointwise [k0_pay45, k0_pay44]

theorem qay4 (a h b) (i : Fin 64) (l : Fin 128) : k0_pay49 (F := Ideal) (k0_pay47 a h) b (ix3 0 i l) = head a h b i l := by
  unfold head
  pointwise [k0_pay49, k0_pay48, k0_pay47]

theorem qay5 (a h b) (i : Fin 64) (l : Fin 128) : k0_pay52 (F := Ideal) a h b (ix3 0 i l) = head a h b i l := by
  unfold head
  pointwise [k0_pay52, k0_pay51]

theorem qay6 (a h b) (i : Fin 64) (l : Fin 128) : k0_pay55 (F := Ideal) a h b (ix3 0 i l) = head a h b i l := by
  unfold head
  pointwise [k0_pay55, k0_pay54]

theorem qay7 (a h b) (i : Fin 64) (l : Fin 128) : k0_pay1 (F := Ideal) (k0_pay57 a h b) (ix3 0 i l) = head a h b i l := by
  unfold head
  pointwise [k0_pay1, k0_pay57]

/-- The states of all heads after chunk `r` of a block, from those before it. -/
def chunk (a : Vec Ideal S1x8x2x192x64 .f32) (b : Vec Ideal S1x8x2x192x128 .f32) (r : Fin 2)
    (h : Fin 8 → Fin 64 → Fin 128 → EReal) (q : Fin 8) (i : Fin 64) (l : Fin 128) : EReal :=
  ∑ k : Fin 64, a (ix5 0 q r ⟨i.val, by omega⟩ k) * h q k l + b (ix5 0 q r ⟨i.val, by omega⟩ l)

/-- A head's state, with the chunk's matrices loaded out of the blocks. -/
theorem head_ld (q r : ℕ) (hq : q < 8) (hr : r < 2) (a : Vec Ideal S1x8x2x192x64 .f32) (b : Vec Ideal S1x8x2x192x128 .f32)
    (H : Fin 8 → Fin 64 → Fin 128 → EReal) (h : Vec Ideal S1x64x128 .f32)
    (hh : ∀ (k : Fin 64) (l : Fin 128), h (ix3 0 k l) = H ⟨q, hq⟩ k l) (ia ib) (i : Fin 64) (l : Fin 128) :
    head (View.ld a (Rect.unit (s := S1x8x2x192x64) ![0, q, r, 0, 0] ![1, 1, 1, 192, 64] ia)) h
      (View.ld b (Rect.unit (s := S1x8x2x192x128) ![0, q, r, 0, 0] ![1, 1, 1, 192, 128] ib)) i l
    = chunk a b ⟨r, hr⟩ H ⟨q, hq⟩ i l := by
  unfold head chunk
  simp only [View.ld, hh]
  congr 1
  · refine Finset.sum_congr rfl fun k _ => ?_
    congr 2
    funext d; refine Fin.ext ?_; fin_cases d <;> simp [ix5]
  · congr 1
    funext d; refine Fin.ext ?_; fin_cases d <;> simp [ix5]

/-- A head loaded out of the state. -/
theorem ld_h (q : ℕ) (hq : q < 8) (h : Vec Ideal S8x64x128 .f32) (ih) (k : Fin 64) (l : Fin 128) :
    View.ld h (Rect.unit (s := S8x64x128) ![q, 0, 0] ![1, 64, 128] ih) (ix3 0 k l)
      = (fun (q : Fin 8) (k : Fin 64) (l : Fin 128) => h (ix3 q k l)) ⟨q, hq⟩ k l := by
  simp only [View.ld]
  congr 1
  funext d; refine Fin.ext ?_; fin_cases d <;> simp [ix3]

/-- A stored head is that head of the states after the chunk. -/
theorem piece (q : ℕ) (hq : q < 8) (G : Fin 8 → Fin 64 → Fin 128 → EReal) (w : Vec Ideal S1x64x128 .f32) (ih)
    (hw : ∀ i l, w (ix3 0 i l) = G ⟨q, hq⟩ i l) (x : (Rect.unit (s := S8x64x128) ![q, 0, 0] ![1, 64, 128] ih).shape.Idx) :
    w x = (fun y : S8x64x128.Idx => G (y 0) (y 1) (y 2)) ((Rect.unit (s := S8x64x128) ![q, 0, 0] ![1, 64, 128] ih).emb x) := by
  have hx : ∀ y : S1x64x128.Idx, w y = G ⟨q, hq⟩ (y 1) (y 2) := fun y => by
    refine Eq.trans (congrArg w ?_) (hw (y 1) (y 2))
    funext d; refine Fin.ext ?_; fin_cases d
    · have : (y 0).val < 1 := (y 0).isLt
      show (y 0).val = 0
      omega
    · rfl
    · rfl
  refine (hx x).trans ?_
  dsimp only
  congr 1 <;> (refine Fin.ext ?_; simp [ValueKit.rect_emb_unit_val])

/-- A buffer whose eight heads are stored one after the other holds what was stored, whatever was there before. -/
theorem heads (G : Fin 8 → Fin 64 → Fin 128 → EReal) (w0 w1 w2 w3 w4 w5 w6 w7 : Vec Ideal S1x64x128 .f32)
    (L : List (View.Piece (Elt Ideal) S8x64x128 .f32))
    (h0 : ∀ i l, w0 (ix3 0 i l) = G 0 i l)
    (h1 : ∀ i l, w1 (ix3 0 i l) = G 1 i l)
    (h2 : ∀ i l, w2 (ix3 0 i l) = G 2 i l)
    (h3 : ∀ i l, w3 (ix3 0 i l) = G 3 i l)
    (h4 : ∀ i l, w4 (ix3 0 i l) = G 4 i l)
    (h5 : ∀ i l, w5 (ix3 0 i l) = G 5 i l)
    (h6 : ∀ i l, w6 (ix3 0 i l) = G 6 i l)
    (h7 : ∀ i l, w7 (ix3 0 i l) = G 7 i l)
    (q : Fin 8) (i : Fin 64) (l : Fin 128) :
    View.canon ([⟨Rect.unit (s := S8x64x128) ![7, 0, 0] S1x64x128.size inb_S8x64x128_S1x64x128_7_0_0, w7⟩,
      ⟨Rect.unit (s := S8x64x128) ![6, 0, 0] S1x64x128.size inb_S8x64x128_S1x64x128_6_0_0, w6⟩,
      ⟨Rect.unit (s := S8x64x128) ![5, 0, 0] S1x64x128.size inb_S8x64x128_S1x64x128_5_0_0, w5⟩,
      ⟨Rect.unit (s := S8x64x128) ![4, 0, 0] S1x64x128.size inb_S8x64x128_S1x64x128_4_0_0, w4⟩,
      ⟨Rect.unit (s := S8x64x128) ![3, 0, 0] S1x64x128.size inb_S8x64x128_S1x64x128_3_0_0, w3⟩,
      ⟨Rect.unit (s := S8x64x128) ![2, 0, 0] S1x64x128.size inb_S8x64x128_S1x64x128_2_0_0, w2⟩,
      ⟨Rect.unit (s := S8x64x128) ![1, 0, 0] S1x64x128.size inb_S8x64x128_S1x64x128_1_0_0, w1⟩,
      ⟨Rect.unit (s := S8x64x128) ![0, 0, 0] S1x64x128.size inb_S8x64x128_S1x64x128_0_0_0, w0⟩] ++ L) (ix3 q i l) = G q i l := by
  refine Eq.trans (View.canon_append_of_piecesOf (fun y : S8x64x128.Idx => G (y 0) (y 1) (y 2)) L _
    ?_ _ ?_) ?_
  · exact ⟨piece 7 (by decide) G w7 inb_S8x64x128_S1x64x128_7_0_0 h7, piece 6 (by decide) G w6 inb_S8x64x128_S1x64x128_6_0_0 h6, piece 5 (by decide) G w5 inb_S8x64x128_S1x64x128_5_0_0 h5, piece 4 (by decide) G w4 inb_S8x64x128_S1x64x128_4_0_0 h4, piece 3 (by decide) G w3 inb_S8x64x128_S1x64x128_3_0_0 h3, piece 2 (by decide) G w2 inb_S8x64x128_S1x64x128_2_0_0 h2, piece 1 (by decide) G w1 inb_S8x64x128_S1x64x128_1_0_0 h1, piece 0 (by decide) G w0 inb_S8x64x128_S1x64x128_0_0_0 h0, trivial⟩
  · refine View.cover_of_tiledL (s := S8x64x128) _ ![1, 64, 128] ?_ _
    sl_kernel_rfl
  · rfl

/-- The states after both chunks of a block, from those before the block. -/
def both (a : Vec Ideal S1x8x2x192x64 .f32) (b : Vec Ideal S1x8x2x192x128 .f32) (h : Vec Ideal S8x64x128 .f32) :
    Fin 8 → Fin 64 → Fin 128 → EReal :=
  chunk a b 1 (chunk a b 0 fun q k l => h (ix3 q k l))

variable (m : (ℓ : Loc nD τ sig) → Buf (Elt Ideal) ℓ)

/-- The first point of a sequence starts from the block it is given. -/
theorem pointA (c : Dev nD) (t : Fin cfg0.N) (h0 : t.val % 32 = 0) (h1 : ¬t.val % 32 = 31) (q : Fin 8) (i : Fin 64)
    (l : Fin 128) :
    (outsAt0 m c t.val t.isLt).2.2 (ix3 q i l) = both (iblk m c 0 t) (iblk m c 1 t) (k0_pay4 (F := Ideal) (iblk m c 2 t)) q i l := by
  rw [outsAt0_A m c t h0 h1]
  dsimp only
  frame_open
  simp (disch := decide) only [↓ View.readCov_skip, ↓ View.readCov_cons_toLoadRect, ↓ View.readCov_fill]
  frame_out
  generalize (iblk m c 0 t) = a
  generalize (iblk m c 1 t) = b
  generalize (k0_pay4 (F := Ideal) (iblk m c 2 t)) = h
  exact heads (both a b h) _ _ _ _ _ _ _ _ [_, _, _, _, _, _, _, _, _]
    (fun i l => (qay0 _ _ _ i l).trans (head_ld 0 1 (by decide) (by decide) a b _ _ (fun k l => (pay0 _ _ _ k l).trans
      (head_ld 0 0 (by decide) (by decide) a b _ _ (ld_h 0 (by decide) h _) _ _ k l)) _ _ i l))
    (fun i l => (qay1 _ _ _ i l).trans (head_ld 1 1 (by decide) (by decide) a b _ _ (fun k l => (pay1 _ _ _ k l).trans
      (head_ld 1 0 (by decide) (by decide) a b _ _ (ld_h 1 (by decide) h _) _ _ k l)) _ _ i l))
    (fun i l => (qay2 _ _ _ i l).trans (head_ld 2 1 (by decide) (by decide) a b _ _ (fun k l => (pay2 _ _ _ k l).trans
      (head_ld 2 0 (by decide) (by decide) a b _ _ (ld_h 2 (by decide) h _) _ _ k l)) _ _ i l))
    (fun i l => (qay3 _ _ _ i l).trans (head_ld 3 1 (by decide) (by decide) a b _ _ (fun k l => (pay3 _ _ _ k l).trans
      (head_ld 3 0 (by decide) (by decide) a b _ _ (ld_h 3 (by decide) h _) _ _ k l)) _ _ i l))
    (fun i l => (qay4 _ _ _ i l).trans (head_ld 4 1 (by decide) (by decide) a b _ _ (fun k l => (pay4 _ _ _ k l).trans
      (head_ld 4 0 (by decide) (by decide) a b _ _ (ld_h 4 (by decide) h _) _ _ k l)) _ _ i l))
    (fun i l => (qay5 _ _ _ i l).trans (head_ld 5 1 (by decide) (by decide) a b _ _ (fun k l => (pay5 _ _ _ k l).trans
      (head_ld 5 0 (by decide) (by decide) a b _ _ (ld_h 5 (by decide) h _) _ _ k l)) _ _ i l))
    (fun i l => (qay6 _ _ _ i l).trans (head_ld 6 1 (by decide) (by decide) a b _ _ (fun k l => (pay6 _ _ _ k l).trans
      (head_ld 6 0 (by decide) (by decide) a b _ _ (ld_h 6 (by decide) h _) _ _ k l)) _ _ i l))
    (fun i l => (qay7 _ _ _ i l).trans (head_ld 7 1 (by decide) (by decide) a b _ _ (fun k l => (pay7 _ _ _ k l).trans
      (head_ld 7 0 (by decide) (by decide) a b _ _ (ld_h 7 (by decide) h _) _ _ k l)) _ _ i l))
    q i l

/-- A later point goes on from what the point before left. -/
theorem pointB (c : Dev nD) (t : Fin cfg0.N) (h0 : ¬t.val % 32 = 0) (h1 : ¬t.val % 32 = 31) (q : Fin 8) (i : Fin 64)
    (l : Fin 128) :
    (outsAt0 m c t.val t.isLt).2.2 (ix3 q i l) = both (iblk m c 0 t) (iblk m c 1 t) (outsAt0 m c (t.val - 1) (Nat.lt_of_le_of_lt (Nat.sub_le _ _) t.isLt)).2.2 q i l := by
  rw [outsAt0_B m c t h0 h1]
  dsimp only
  frame_open
  simp (disch := decide) only [↓ View.readCov_skip, ↓ View.readCov_cons_toLoadRect, ↓ View.readCov_fill]
  frame_out
  simp only [read_unread_whole]
  generalize (iblk m c 0 t) = a
  generalize (iblk m c 1 t) = b
  generalize (outsAt0 m c (t.val - 1) (Nat.lt_of_le_of_lt (Nat.sub_le _ _) t.isLt)).2.2 = h
  exact heads (both a b h) _ _ _ _ _ _ _ _ [_, _, _, _, _, _, _, _]
    (fun i l => (qay0 _ _ _ i l).trans (head_ld 0 1 (by decide) (by decide) a b _ _ (fun k l => (pay0 _ _ _ k l).trans
      (head_ld 0 0 (by decide) (by decide) a b _ _ (ld_h 0 (by decide) h _) _ _ k l)) _ _ i l))
    (fun i l => (qay1 _ _ _ i l).trans (head_ld 1 1 (by decide) (by decide) a b _ _ (fun k l => (pay1 _ _ _ k l).trans
      (head_ld 1 0 (by decide) (by decide) a b _ _ (ld_h 1 (by decide) h _) _ _ k l)) _ _ i l))
    (fun i l => (qay2 _ _ _ i l).trans (head_ld 2 1 (by decide) (by decide) a b _ _ (fun k l => (pay2 _ _ _ k l).trans
      (head_ld 2 0 (by decide) (by decide) a b _ _ (ld_h 2 (by decide) h _) _ _ k l)) _ _ i l))
    (fun i l => (qay3 _ _ _ i l).trans (head_ld 3 1 (by decide) (by decide) a b _ _ (fun k l => (pay3 _ _ _ k l).trans
      (head_ld 3 0 (by decide) (by decide) a b _ _ (ld_h 3 (by decide) h _) _ _ k l)) _ _ i l))
    (fun i l => (qay4 _ _ _ i l).trans (head_ld 4 1 (by decide) (by decide) a b _ _ (fun k l => (pay4 _ _ _ k l).trans
      (head_ld 4 0 (by decide) (by decide) a b _ _ (ld_h 4 (by decide) h _) _ _ k l)) _ _ i l))
    (fun i l => (qay5 _ _ _ i l).trans (head_ld 5 1 (by decide) (by decide) a b _ _ (fun k l => (pay5 _ _ _ k l).trans
      (head_ld 5 0 (by decide) (by decide) a b _ _ (ld_h 5 (by decide) h _) _ _ k l)) _ _ i l))
    (fun i l => (qay6 _ _ _ i l).trans (head_ld 6 1 (by decide) (by decide) a b _ _ (fun k l => (pay6 _ _ _ k l).trans
      (head_ld 6 0 (by decide) (by decide) a b _ _ (ld_h 6 (by decide) h _) _ _ k l)) _ _ i l))
    (fun i l => (qay7 _ _ _ i l).trans (head_ld 7 1 (by decide) (by decide) a b _ _ (fun k l => (pay7 _ _ _ k l).trans
      (head_ld 7 0 (by decide) (by decide) a b _ _ (ld_h 7 (by decide) h _) _ _ k l)) _ _ i l))
    q i l

/-- So does the last point of a sequence. -/
theorem pointC (c : Dev nD) (t : Fin cfg0.N) (h0 : ¬t.val % 32 = 0) (h1 : t.val % 32 = 31) (q : Fin 8) (i : Fin 64)
    (l : Fin 128) :
    (outsAt0 m c t.val t.isLt).2.2 (ix3 q i l) = both (iblk m c 0 t) (iblk m c 1 t) (outsAt0 m c (t.val - 1) (Nat.lt_of_le_of_lt (Nat.sub_le _ _) t.isLt)).2.2 q i l := by
  rw [outsAt0_C m c t h0 h1]
  dsimp only
  frame_open
  simp (disch := decide) only [↓ View.readCov_skip, ↓ View.readCov_cons_toLoadRect, ↓ View.readCov_fill]
  frame_out
  simp only [read_unread_whole]
  generalize (iblk m c 0 t) = a
  generalize (iblk m c 1 t) = b
  generalize (outsAt0 m c (t.val - 1) (Nat.lt_of_le_of_lt (Nat.sub_le _ _) t.isLt)).2.2 = h
  exact heads (both a b h) _ _ _ _ _ _ _ _ [_, _, _, _, _, _, _, _]
    (fun i l => (qay0 _ _ _ i l).trans (head_ld 0 1 (by decide) (by decide) a b _ _ (fun k l => (pay0 _ _ _ k l).trans
      (head_ld 0 0 (by decide) (by decide) a b _ _ (ld_h 0 (by decide) h _) _ _ k l)) _ _ i l))
    (fun i l => (qay1 _ _ _ i l).trans (head_ld 1 1 (by decide) (by decide) a b _ _ (fun k l => (pay1 _ _ _ k l).trans
      (head_ld 1 0 (by decide) (by decide) a b _ _ (ld_h 1 (by decide) h _) _ _ k l)) _ _ i l))
    (fun i l => (qay2 _ _ _ i l).trans (head_ld 2 1 (by decide) (by decide) a b _ _ (fun k l => (pay2 _ _ _ k l).trans
      (head_ld 2 0 (by decide) (by decide) a b _ _ (ld_h 2 (by decide) h _) _ _ k l)) _ _ i l))
    (fun i l => (qay3 _ _ _ i l).trans (head_ld 3 1 (by decide) (by decide) a b _ _ (fun k l => (pay3 _ _ _ k l).trans
      (head_ld 3 0 (by decide) (by decide) a b _ _ (ld_h 3 (by decide) h _) _ _ k l)) _ _ i l))
    (fun i l => (qay4 _ _ _ i l).trans (head_ld 4 1 (by decide) (by decide) a b _ _ (fun k l => (pay4 _ _ _ k l).trans
      (head_ld 4 0 (by decide) (by decide) a b _ _ (ld_h 4 (by decide) h _) _ _ k l)) _ _ i l))
    (fun i l => (qay5 _ _ _ i l).trans (head_ld 5 1 (by decide) (by decide) a b _ _ (fun k l => (pay5 _ _ _ k l).trans
      (head_ld 5 0 (by decide) (by decide) a b _ _ (ld_h 5 (by decide) h _) _ _ k l)) _ _ i l))
    (fun i l => (qay6 _ _ _ i l).trans (head_ld 6 1 (by decide) (by decide) a b _ _ (fun k l => (pay6 _ _ _ k l).trans
      (head_ld 6 0 (by decide) (by decide) a b _ _ (ld_h 6 (by decide) h _) _ _ k l)) _ _ i l))
    (fun i l => (qay7 _ _ _ i l).trans (head_ld 7 1 (by decide) (by decide) a b _ _ (fun k l => (pay7 _ _ _ k l).trans
      (head_ld 7 0 (by decide) (by decide) a b _ _ (ld_h 7 (by decide) h _) _ _ k l)) _ _ i l))
    q i l

/-- The last point of a sequence stores the states as the sequence's result. -/
theorem outC (c : Dev nD) (t : Fin cfg0.N) (h0 : ¬t.val % 32 = 0) (h1 : t.val % 32 = 31) (q : Fin 8) (i : Fin 64)
    (l : Fin 128) :
    (outsAt0 m c t.val t.isLt).2.1 (ix4 0 q i l) = both (iblk m c 0 t) (iblk m c 1 t) (outsAt0 m c (t.val - 1) (Nat.lt_of_le_of_lt (Nat.sub_le _ _) t.isLt)).2.2 q i l := by
  rw [outsAt0_C m c t h0 h1]
  dsimp only
  frame_open
  simp (disch := decide) only [↓ View.readCov_skip, ↓ View.readCov_cons_toLoadRect, ↓ View.readCov_fill]
  frame_out
  simp only [read_unread_whole]
  generalize (iblk m c 0 t) = a
  generalize (iblk m c 1 t) = b
  generalize (outsAt0 m c (t.val - 1) (Nat.lt_of_le_of_lt (Nat.sub_le _ _) t.isLt)).2.2 = h
  have h3 : ∀ w : Vec Ideal S8x64x128 .f32, k0_pay3 (F := Ideal) w (ix4 0 q i l) = w (ix3 q i l) := by
    intro w
    pointwise [k0_pay3]
  refine (h3 _).trans ?_
  rw [View.readCov_eq_canon']
  have hi : (Rect.unit (s := S8x64x128) ![0, 0, 0] S8x64x128.size inb_S8x64x128_S8x64x128_0_0_0).toLoadRect.idx (ix3 q i l)
      = ix3 q i l := by
    funext d; refine Fin.ext ?_; fin_cases d <;> simp [ix3]
  refine (congrArg _ hi).trans ?_
  exact heads (both a b h) _ _ _ _ _ _ _ _ [_, _, _, _, _, _, _, _]
    (fun i l => (qay0 _ _ _ i l).trans (head_ld 0 1 (by decide) (by decide) a b _ _ (fun k l => (pay0 _ _ _ k l).trans
      (head_ld 0 0 (by decide) (by decide) a b _ _ (ld_h 0 (by decide) h _) _ _ k l)) _ _ i l))
    (fun i l => (qay1 _ _ _ i l).trans (head_ld 1 1 (by decide) (by decide) a b _ _ (fun k l => (pay1 _ _ _ k l).trans
      (head_ld 1 0 (by decide) (by decide) a b _ _ (ld_h 1 (by decide) h _) _ _ k l)) _ _ i l))
    (fun i l => (qay2 _ _ _ i l).trans (head_ld 2 1 (by decide) (by decide) a b _ _ (fun k l => (pay2 _ _ _ k l).trans
      (head_ld 2 0 (by decide) (by decide) a b _ _ (ld_h 2 (by decide) h _) _ _ k l)) _ _ i l))
    (fun i l => (qay3 _ _ _ i l).trans (head_ld 3 1 (by decide) (by decide) a b _ _ (fun k l => (pay3 _ _ _ k l).trans
      (head_ld 3 0 (by decide) (by decide) a b _ _ (ld_h 3 (by decide) h _) _ _ k l)) _ _ i l))
    (fun i l => (qay4 _ _ _ i l).trans (head_ld 4 1 (by decide) (by decide) a b _ _ (fun k l => (pay4 _ _ _ k l).trans
      (head_ld 4 0 (by decide) (by decide) a b _ _ (ld_h 4 (by decide) h _) _ _ k l)) _ _ i l))
    (fun i l => (qay5 _ _ _ i l).trans (head_ld 5 1 (by decide) (by decide) a b _ _ (fun k l => (pay5 _ _ _ k l).trans
      (head_ld 5 0 (by decide) (by decide) a b _ _ (ld_h 5 (by decide) h _) _ _ k l)) _ _ i l))
    (fun i l => (qay6 _ _ _ i l).trans (head_ld 6 1 (by decide) (by decide) a b _ _ (fun k l => (pay6 _ _ _ k l).trans
      (head_ld 6 0 (by decide) (by decide) a b _ _ (ld_h 6 (by decide) h _) _ _ k l)) _ _ i l))
    (fun i l => (qay7 _ _ _ i l).trans (head_ld 7 1 (by decide) (by decide) a b _ _ (fun k l => (pay7 _ _ _ k l).trans
      (head_ld 7 0 (by decide) (by decide) a b _ _ (ld_h 7 (by decide) h _) _ _ k l)) _ _ i l))
    q i l

theorem idx (t : Fin cfg0.N) : win0_0.index t = ![t.val / 32, 0, t.val % 32, 0, 0] ∧ win0_1.index t = ![t.val / 32, 0, t.val % 32, 0, 0]
    ∧ win0_2.index t = ![t.val / 32, 0, 0, 0] ∧ win0_4.index t = ![t.val / 32, 0, 0, 0] := by
  revert t; decide +kernel

/-- A point belongs to one of the two sequences. -/
theorem half {n : ℕ} (hn : n < cfg0.N) : n / 32 < 2 := by
  have : n < 64 := lt_of_lt_of_eq hn N_0
  omega

theorem blk0 (c : Dev nD) (t : Fin cfg0.N) (q : Fin 8) (p : Fin 2) (r : Fin 192) (k : Fin 64) :
    (iblk m c 0 t : Vec Ideal S1x8x2x192x64 .f32) (ix5 0 q p r k)
      = m ((c.tc : Thread nD τ).loc main_arg0)
        (ix5 ⟨t.val / 32, half t.isLt⟩ q ⟨2 * (t.val % 32) + p.val, by omega⟩ r k) := by
  blk_ext! [iblk, V, idx t]

theorem blk1 (c : Dev nD) (t : Fin cfg0.N) (q : Fin 8) (p : Fin 2) (r : Fin 192) (k : Fin 128) :
    (iblk m c 1 t : Vec Ideal S1x8x2x192x128 .f32) (ix5 0 q p r k)
      = m ((c.tc : Thread nD τ).loc main_arg1)
        (ix5 ⟨t.val / 32, half t.isLt⟩ q ⟨2 * (t.val % 32) + p.val, by omega⟩ r k) := by
  blk_ext! [iblk, V, idx t]

theorem blk2 (c : Dev nD) (t : Fin cfg0.N) (q : Fin 8) (r : Fin 64) (k : Fin 128) :
    (iblk m c 2 t : Vec Ideal S1x8x64x128 .f32) (ix4 0 q r k)
      = (V m c main_v2 : Vec Ideal S2x8x64x128 .f32) (ix4 ⟨t.val / 32, half t.isLt⟩ q r k) := by
  unfold iblk
  generalize V m c main_v2 = w
  blk_ext! [idx t]

/-- The start the program makes is zero. -/
theorem start (c : Dev nD) (n : Fin 2) (q : Fin 8) (k l : Fin 64) :
    (V m c main_v2 : Vec Ideal S2x8x64x128 .f32) (ix4 n q k ⟨l.val, by omega⟩) = (0 : EReal) := by
  have e : (V m c main_v2 : Vec Ideal S2x8x64x128 .f32) = pad (α := Ideal .f32) S2x8x64x128 ![0, 0, 0, 0] ![0, 0, 0, 64] ![0, 0, 0, 0]
      (transpose S2x8x64x64 [0, 1, 3, 2] (broadcastInDim S2x8x64x64 ![] bcast_S_S2x8x64x64 (constant (F := Ideal) S_ .f32 0x00000000#32)) transposes_S2x8x64x64_S2x8x64x64_0_1_3_2)
      (sitofp .f32 (constantI S_ 32 0#32)) pads_S2x8x64x64_S2x8x64x128_000_000_000_0640 h_S_ := by
    show StableHlo.after (List.flatten [hostOps0, hostOps0_1]) (fun b => m (c, b)) _ = _
    simp only [hostOps0, hostOps0_1, List.flatten_cons, List.flatten_nil, List.append_nil, List.cons_append, List.nil_append]
    after_results
    rfl
  rw [e]
  pointwise

/-- One step of the recurrence, from a chunk of a block. -/
theorem chunk_states (c : Dev nD) (t : Fin cfg0.N) (p : Fin 2) (H : Fin 8 → Fin 64 → Fin 128 → EReal)
    (hH : ∀ (q : Fin 8) (k l : Fin 64), H q k ⟨l.val, by omega⟩
      = states (m ((c.tc : Thread nD τ).loc main_arg0)) (m ((c.tc : Thread nD τ).loc main_arg1)) (2 * (t.val % 32) + p.val)
        ⟨t.val / 32, half t.isLt⟩ q k l) (q : Fin 8) (i l : Fin 64) :
    chunk (iblk m c 0 t) (iblk m c 1 t) p H q i ⟨l.val, by omega⟩
      = states (m ((c.tc : Thread nD τ).loc main_arg0)) (m ((c.tc : Thread nD τ).loc main_arg1)) (2 * (t.val % 32) + p.val + 1)
        ⟨t.val / 32, half t.isLt⟩ q i l := by
  have hm : (2 * (t.val % 32) + p.val) % 64 = 2 * (t.val % 32) + p.val := Nat.mod_eq_of_lt (by omega)
  unfold chunk
  rw [states]
  simp only [blk0, blk1, hH, hm]

/-- The states after a point's two chunks. -/
theorem both_states (c : Dev nD) (t : Fin cfg0.N) (h : Vec Ideal S8x64x128 .f32)
    (hh : ∀ (q : Fin 8) (k l : Fin 64), h (ix3 q k ⟨l.val, by omega⟩)
      = states (m ((c.tc : Thread nD τ).loc main_arg0)) (m ((c.tc : Thread nD τ).loc main_arg1)) (2 * (t.val % 32))
        ⟨t.val / 32, half t.isLt⟩ q k l) (q : Fin 8) (i l : Fin 64) :
    both (iblk m c 0 t) (iblk m c 1 t) h q i ⟨l.val, by omega⟩
      = states (m ((c.tc : Thread nD τ).loc main_arg0)) (m ((c.tc : Thread nD τ).loc main_arg1)) (2 * (t.val % 32) + 2)
        ⟨t.val / 32, half t.isLt⟩ q i l := by
  unfold both
  exact chunk_states m c t 1 _ (fun q k l => chunk_states m c t 0 _ hh q k l) q i l

/-- The states after the first point of a sequence. -/
theorem first (c : Dev nD) (t : Fin cfg0.N) (h0 : t.val % 32 = 0) (q : Fin 8) (i l : Fin 64) :
    (outsAt0 m c t.val t.isLt).2.2 (ix3 q i ⟨l.val, by omega⟩)
      = states (m ((c.tc : Thread nD τ).loc main_arg0)) (m ((c.tc : Thread nD τ).loc main_arg1)) (2 * (t.val % 32) + 2)
        ⟨t.val / 32, half t.isLt⟩ q i l := by
  refine (pointA m c t h0 (by omega) q i _).trans (both_states m c t _ (fun q k l => ?_) q i l)
  have h4 : ∀ (h : Vec Ideal S1x8x64x128 .f32) (l : Fin 128), k0_pay4 (F := Ideal) h (ix3 q k l) = h (ix4 0 q k l) := by
    intro h l
    pointwise [k0_pay4]
  rw [h4, blk2, start, h0]
  rfl

/-- What the state holds after a point: the states after all chunks of the sequence so far. -/
theorem carried (c : Dev nD) : ∀ (n : ℕ) (hn : n < cfg0.N) (q : Fin 8) (i l : Fin 64),
    (outsAt0 m c n hn).2.2 (ix3 q i ⟨l.val, by omega⟩)
      = states (m ((c.tc : Thread nD τ).loc main_arg0)) (m ((c.tc : Thread nD τ).loc main_arg1)) (2 * (n % 32) + 2)
        ⟨n / 32, half hn⟩ q i l := by
  intro n
  induction n with
  | zero =>
    intro hn q i l
    exact first m c ⟨0, hn⟩ rfl q i l
  | succ n ih =>
    intro hn q i l
    by_cases h0 : (n + 1) % 32 = 0
    · exact first m c ⟨n + 1, hn⟩ h0 q i l
    · have hprev : ∀ (q : Fin 8) (k l : Fin 64),
          (outsAt0 m c ((⟨n + 1, hn⟩ : Fin cfg0.N).val - 1) (Nat.lt_of_le_of_lt (Nat.sub_le _ _) hn)).2.2 (ix3 q k ⟨l.val, by omega⟩)
            = states (m ((c.tc : Thread nD τ).loc main_arg0)) (m ((c.tc : Thread nD τ).loc main_arg1)) (2 * ((n + 1) % 32))
              ⟨(n + 1) / 32, half hn⟩ q k l := fun q k l => by
        have e1 : 2 * ((n + 1) % 32) = 2 * (n % 32) + 2 := by omega
        have e2 : (n + 1) / 32 = n / 32 := by omega
        simp only [e1, e2]
        exact ih (Nat.lt_of_succ_lt hn) q k l
      by_cases h1 : (n + 1) % 32 = 31
      · exact (pointC m c ⟨n + 1, hn⟩ h0 h1 q i _).trans (both_states m c ⟨n + 1, hn⟩ _ hprev q i l)
      · exact (pointB m c ⟨n + 1, hn⟩ h0 h1 q i _).trans (both_states m c ⟨n + 1, hn⟩ _ hprev q i l)
/-- The last point of a sequence. -/
theorem last (n : Fin 2) : 32 * n.val + 31 < cfg0.N := lt_of_lt_of_eq (by omega : 32 * n.val + 31 < 64) N_0.symm

/-- The kernel's second result: what the last point of each sequence stores. -/
theorem array (c : Dev nD) (n : Fin 2) (q : Fin 8) (i : Fin 64) (l : Fin 128) :
    ((dats m 0 c).arrAt 4 cfg0.N : Vec Ideal S2x8x64x128 .f32) (ix4 n q i l)
      = (outsAt0 m c (32 * n.val + 31) (last n)).2.1 (ix4 0 q i l) := by
  refine congrFun ((dats m 0 c).arrAt_eq_of_covers 4 (fun y : S2x8x64x128.Idx =>
    (outsAt0 m c (32 * (y 0).val + 31) (last (y 0))).2.1 (ix4 0 (y 1) (y 2) (y 3)))
    (by decide +kernel) fun t hf y => ?_) (ix4 n q i l)
  obtain ⟨q, i, l, rfl⟩ : ∃ (q : Fin 8) (i : Fin 64) (l : Fin 128), y = (ix4 0 q i l : S1x8x64x128.Idx) := ⟨y 1, y 2, y 3, by
    refine (eq_ix4 (y : S1x8x64x128.Idx)).trans ?_
    congr 1
    exact Fin.ext (Nat.lt_one_iff.mp (y 0).isLt)⟩
  have he : ((win0_4.blk t).view.emb (ix4 0 q i l) : S2x8x64x128.Idx) = ix4 ⟨t.val / 32, half t.isLt⟩ q i l := by
    blk_ext [idx t]
  have ht : 32 * (t.val / 32) + 31 = t.val := by
    have h31 : t.val % 32 = 31 := (flush0_4 t).mp hf
    omega
  show (win0_4.cut (grid0.coords t) ((dats m 0 c).after 4 t)) (ix4 0 q i l)
    = (fun y : S2x8x64x128.Idx => (outsAt0 m c (32 * (y 0).val + 31) (last (y 0))).2.1 (ix4 0 (y 1) (y 2) (y 3)))
      ((win0_4.blk t).view.emb (ix4 0 q i l))
  rw [he, after0_4]
  show (outsAt0 m c t.val t.isLt).2.1 (ix4 0 q i l) = (outsAt0 m c (32 * (t.val / 32) + 31) _).2.1 (ix4 0 q i l)
  simp only [ht]

/-- The kernel's second result: the states after all chunks. -/
theorem array_states (c : Dev nD) (n : Fin 2) (q : Fin 8) (i l : Fin 64) :
    ((dats m 0 c).arrAt 4 cfg0.N : Vec Ideal S2x8x64x128 .f32) (ix4 n q i ⟨l.val, by omega⟩)
      = states (m ((c.tc : Thread nD τ).loc main_arg0)) (m ((c.tc : Thread nD τ).loc main_arg1)) 64 n q i l := by
  have e0 : (32 * n.val + 31) % 32 = 31 := by omega
  have e4 : ¬(32 * n.val + 31) % 32 = 0 := by omega
  have e1 : (32 * n.val + 30) % 32 = 30 := by omega
  have e2 : (32 * n.val + 31) / 32 = n.val := by omega
  have e3 : (32 * n.val + 30) / 32 = n.val := by omega
  refine (array m c n q i _).trans ((outC m c ⟨32 * n.val + 31, last n⟩ e4 e0 q i _).trans
    ((both_states m c ⟨32 * n.val + 31, last n⟩ _ (fun q k l => ?_) q i l).trans ?_))
  · refine (carried m c (32 * n.val + 30) (lt_trans (Nat.lt_succ_self _) (last n)) q k l).trans ?_
    simp only [e0, e1, e2, e3]
  · simp only [e0, e2]

/-- The result of the program, from the kernel's. -/
theorem tail (c : Dev nD) (n : Fin 2) (q : Fin 8) (l i : Fin 64) :
    (Pipeline.afterTail₀ cfgs (dats m) 0 (V0 m) [hostOps1] c main_v5 : Vec Ideal S2x8x64x64 .f32) (ix4 n q l i)
      = ((dats m 0 c).arrAt 4 cfg0.N : Vec Ideal S2x8x64x128 .f32) (ix4 n q i ⟨l.val, by omega⟩) := by
  unfold Pipeline.afterTail₀
  have h := Pipeline.withArrays_arr (cfgs 0).spec (by decide) c (V0 m c) (fun w => (dats m 0 c).arrAt w (cfgs 0).N) 4
  revert h
  generalize Pipeline.withArrays (cfgs 0).spec c (V0 m c) (fun w => (dats m 0 c).arrAt w (cfgs 0).N) = W
  intro h
  have e : StableHlo.after hostOps1 W (Proc.devRef .tc main_v5)
      = transpose S2x8x64x64 [0, 1, 3, 2] (extractStridedSlice S2x8x64x64 ![0, 0, 0, 0] (W (Proc.devRef .tc main_v3_1)) slices_S2x8x64x128_S2x8x64x64_0_0_0_0) transposes_S2x8x64x64_S2x8x64x64_0_1_3_2 := by
    after_results
  refine (congrFun e _).trans ?_
  have h' : W (Proc.devRef .tc main_v3_1) = (dats m 0 c).arrAt 4 cfg0.N := h
  rw [h']
  generalize ((dats m 0 c).arrAt 4 cfg0.N : Vec Ideal S2x8x64x128 .f32) = w
  pointwise

/-- The program's result, at an index. -/
theorem value (c : Dev nD) (n : Fin 2) (q : Fin 8) (l i : Fin 64) :
    (Pipeline.afterTail₀ cfgs (dats m) 0 (V0 m) [hostOps1] c main_v5 : Vec Ideal S2x8x64x64 .f32) (ix4 n q l i)
      = states (m ((c.tc : Thread nD τ).loc main_arg0)) (m ((c.tc : Thread nD τ).loc main_arg1)) 64 n q i l :=
  (tail m c n q l i).trans (array_states m c n q i l)

end Cert.Proof.Scan

end
-- ==== Proof.ScanS.lean ====
module

public import proofs.«01_k».proof.Proof.Gen.ScanSIdeal.Frame
public import proofs.«01_k».proof.Proof.Gen.ScanSReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The recurrent scan on the sample: what the kernel writes is what the reference computes. -/

namespace Cert.Proof.ScanS

open Idealize.ShloMosaic Idealize.ShloMosaic.Tactic Idealize.SL.Sem
open Cert.ScanSIdeal Cert.ScanSIdeal.Gen

/-- One head's state after a chunk: the first rows of the chunk's matrix times the state, plus the chunk's own term. -/
def head (a : Vec Ideal S1x1x1x192x64 .f32) (h : Vec Ideal S1x64x128 .f32) (b : Vec Ideal S1x1x1x192x128 .f32)
    (i : Fin 64) (l : Fin 128) : EReal :=
  ∑ k : Fin 64, a (ix5 0 0 0 ⟨i.val, by omega⟩ k) * h (ix3 0 k l) + b (ix5 0 0 0 ⟨i.val, by omega⟩ l)

theorem pay0 (a h b) (i : Fin 64) (l : Fin 128) : k0_pay6 (F := Ideal) a h b (ix3 0 i l) = head a h b i l := by
  unfold head
  pointwise [k0_pay6, k0_pay5]

theorem pay1 (a h b) (i : Fin 64) (l : Fin 128) :
    k0_pay10 (F := Ideal) (k0_pay8 a h) b (ix3 0 i l) = head a h b i l := by
  unfold head
  pointwise [k0_pay10, k0_pay9, k0_pay8]

theorem pay2 (a h b) (i : Fin 64) (l : Fin 128) : k0_pay13 (F := Ideal) a h b (ix3 0 i l) = head a h b i l := by
  unfold head
  pointwise [k0_pay13, k0_pay12]

theorem pay3 (a h b) (i : Fin 64) (l : Fin 128) : k0_pay17 (F := Ideal) a h b (ix3 0 i l) = head a h b i l := by
  unfold head
  pointwise [k0_pay17, k0_pay16]

theorem pay4 (a h b) (i : Fin 64) (l : Fin 128) :
    k0_pay21 (F := Ideal) (k0_pay19 a h) b (ix3 0 i l) = head a h b i l := by
  unfold head
  pointwise [k0_pay21, k0_pay20, k0_pay19]

theorem pay5 (a h b) (i : Fin 64) (l : Fin 128) : k0_pay24 (F := Ideal) a h b (ix3 0 i l) = head a h b i l := by
  unfold head
  pointwise [k0_pay24, k0_pay23]

theorem pay6 (a h b) (i : Fin 64) (l : Fin 128) : k0_pay27 (F := Ideal) a h b (ix3 0 i l) = head a h b i l := by
  unfold head
  pointwise [k0_pay27, k0_pay26]

theorem pay7 (a h b) (i : Fin 64) (l : Fin 128) :
    k0_pay1 (F := Ideal) (k0_pay30 a h b) (ix3 0 i l) = head a h b i l := by
  unfold head
  pointwise [k0_pay1, k0_pay30, k0_pay29]

/-- The states of all heads after a chunk. -/
def chunk (a : Vec Ideal S1x8x1x192x64 .f32) (b : Vec Ideal S1x8x1x192x128 .f32) (h : Vec Ideal S1x8x64x128 .f32)
    (q : Fin 8) (i : Fin 64) (l : Fin 128) : EReal :=
  ∑ k : Fin 64, a (ix5 0 q 0 ⟨i.val, by omega⟩ k) * h (ix4 0 q k l) + b (ix5 0 q 0 ⟨i.val, by omega⟩ l)

/-- A head's state, with its operands loaded out of the blocks. -/
theorem head_ld (q : ℕ) (hq : q < 8) (a : Vec Ideal S1x8x1x192x64 .f32) (b : Vec Ideal S1x8x1x192x128 .f32)
    (h : Vec Ideal S1x8x64x128 .f32) (ia ib ih) (i : Fin 64) (l : Fin 128) :
    head (View.ld a (Rect.unit (s := S1x8x1x192x64) ![0, q, 0, 0, 0] ![1, 1, 1, 192, 64] ia))
      (View.ld (k0_pay4 h) (Rect.unit (s := S8x64x128) ![q, 0, 0] ![1, 64, 128] ih))
      (View.ld b (Rect.unit (s := S1x8x1x192x128) ![0, q, 0, 0, 0] ![1, 1, 1, 192, 128] ib)) i l
    = chunk a b h ⟨q, hq⟩ i l := by
  have h4 : ∀ (r : Fin 8) (k : Fin 64) (l : Fin 128), k0_pay4 (F := Ideal) h (ix3 r k l) = h (ix4 0 r k l) := by
    intro r k l
    pointwise [k0_pay4]
  unfold head chunk
  simp only [View.ld]
  congr 1
  · refine Finset.sum_congr rfl fun k _ => ?_
    rw [← h4]
    congr 2 <;> (funext d; refine Fin.ext ?_; fin_cases d <;> simp [ix3, ix5])
  · congr 1
    funext d; refine Fin.ext ?_; fin_cases d <;> simp [ix5]

/-- A stored head is that head of the states after the chunk. -/
theorem piece (q : ℕ) (hq : q < 8) (G : Fin 8 → Fin 64 → Fin 128 → EReal) (w : Vec Ideal S1x64x128 .f32) (ih)
    (hw : ∀ i l, w (ix3 0 i l) = G ⟨q, hq⟩ i l) (x : (Rect.unit (s := S8x64x128) ![q, 0, 0] ![1, 64, 128] ih).shape.Idx) :
    w x = (fun y : S8x64x128.Idx => G (y 0) (y 1) (y 2)) ((Rect.unit (s := S8x64x128) ![q, 0, 0] ![1, 64, 128] ih).emb x) := by
  have hx : ∀ y : S1x64x128.Idx, w y = G ⟨q, hq⟩ (y 1) (y 2) := fun y => by
    refine Eq.trans (congrArg w ?_) (hw (y 1) (y 2))
    funext d; refine Fin.ext ?_; fin_cases d
    · have : (y 0).val < 1 := (y 0).isLt
      show (y 0).val = 0
      omega
    · rfl
    · rfl
  refine (hx x).trans ?_
  dsimp only
  congr 1 <;> (refine Fin.ext ?_; simp [ValueKit.rect_emb_unit_val])

/-- A buffer whose eight heads are stored one after the other holds what was stored, whatever was there before. -/
theorem heads (G : Fin 8 → Fin 64 → Fin 128 → EReal) (w0 w1 w2 w3 w4 w5 w6 w7 : Vec Ideal S1x64x128 .f32)
    (L : List (View.Piece (Elt Ideal) S8x64x128 .f32))
    (h0 : ∀ i l, w0 (ix3 0 i l) = G 0 i l)
    (h1 : ∀ i l, w1 (ix3 0 i l) = G 1 i l)
    (h2 : ∀ i l, w2 (ix3 0 i l) = G 2 i l)
    (h3 : ∀ i l, w3 (ix3 0 i l) = G 3 i l)
    (h4 : ∀ i l, w4 (ix3 0 i l) = G 4 i l)
    (h5 : ∀ i l, w5 (ix3 0 i l) = G 5 i l)
    (h6 : ∀ i l, w6 (ix3 0 i l) = G 6 i l)
    (h7 : ∀ i l, w7 (ix3 0 i l) = G 7 i l)
    (q : Fin 8) (i : Fin 64) (l : Fin 128) :
    View.canon ([⟨Rect.unit (s := S8x64x128) ![7, 0, 0] S1x64x128.size inb_S8x64x128_S1x64x128_7_0_0, w7⟩,
      ⟨Rect.unit (s := S8x64x128) ![6, 0, 0] S1x64x128.size inb_S8x64x128_S1x64x128_6_0_0, w6⟩,
      ⟨Rect.unit (s := S8x64x128) ![5, 0, 0] S1x64x128.size inb_S8x64x128_S1x64x128_5_0_0, w5⟩,
      ⟨Rect.unit (s := S8x64x128) ![4, 0, 0] S1x64x128.size inb_S8x64x128_S1x64x128_4_0_0, w4⟩,
      ⟨Rect.unit (s := S8x64x128) ![3, 0, 0] S1x64x128.size inb_S8x64x128_S1x64x128_3_0_0, w3⟩,
      ⟨Rect.unit (s := S8x64x128) ![2, 0, 0] S1x64x128.size inb_S8x64x128_S1x64x128_2_0_0, w2⟩,
      ⟨Rect.unit (s := S8x64x128) ![1, 0, 0] S1x64x128.size inb_S8x64x128_S1x64x128_1_0_0, w1⟩,
      ⟨Rect.unit (s := S8x64x128) ![0, 0, 0] S1x64x128.size inb_S8x64x128_S1x64x128_0_0_0, w0⟩] ++ L) (ix3 q i l) = G q i l := by
  refine Eq.trans (View.canon_append_of_piecesOf (fun y : S8x64x128.Idx => G (y 0) (y 1) (y 2)) L _
    ?_ _ ?_) ?_
  · exact ⟨piece 7 (by decide) G w7 inb_S8x64x128_S1x64x128_7_0_0 h7, piece 6 (by decide) G w6 inb_S8x64x128_S1x64x128_6_0_0 h6, piece 5 (by decide) G w5 inb_S8x64x128_S1x64x128_5_0_0 h5, piece 4 (by decide) G w4 inb_S8x64x128_S1x64x128_4_0_0 h4, piece 3 (by decide) G w3 inb_S8x64x128_S1x64x128_3_0_0 h3, piece 2 (by decide) G w2 inb_S8x64x128_S1x64x128_2_0_0 h2, piece 1 (by decide) G w1 inb_S8x64x128_S1x64x128_1_0_0 h1, piece 0 (by decide) G w0 inb_S8x64x128_S1x64x128_0_0_0 h0, trivial⟩
  · refine View.cover_of_tiledL (s := S8x64x128) _ ![1, 64, 128] ?_ _
    sl_kernel_rfl
  · rfl

/-- What a point leaves in the state's block. -/
theorem point (m : (ℓ : Loc nD τ sig) → Buf (Elt Ideal) ℓ) (c : Dev nD) (t : Fin cfg0.N) (q : Fin 8) (i : Fin 64)
    (l : Fin 128) :
    (outsAt0 m c t).2 (ix4 0 q i l) = chunk (iblk m c 0 t) (iblk m c 1 t) (iblk m c 2 t) q i l := by
  unfold outsAt0
  dsimp only
  frame_open
  simp (disch := decide) only [↓ View.readCov_skip, ↓ View.readCov_cons_toLoadRect, ↓ View.readCov_fill]
  frame_out
  generalize (iblk m c 0 t) = a
  generalize (iblk m c 1 t) = b
  generalize (iblk m c 2 t) = h
  have h3 : ∀ w : Vec Ideal S8x64x128 .f32, k0_pay3 (F := Ideal) w (ix4 0 q i l) = w (ix3 q i l) := by
    intro w
    pointwise [k0_pay3]
  refine (h3 _).trans ?_
  rw [View.readCov_eq_canon']
  have hi : (Rect.unit (s := S8x64x128) ![0, 0, 0] S8x64x128.size inb_S8x64x128_S8x64x128_0_0_0).toLoadRect.idx (ix3 q i l)
      = ix3 q i l := by
    funext d; refine Fin.ext ?_; fin_cases d <;> simp [ix3]
  refine (congrArg _ hi).trans ?_
  exact heads (chunk a b h) _ _ _ _ _ _ _ _ [_]
    (fun i l => (pay0 _ _ _ i l).trans (head_ld 0 (by decide) a b h _ _ _ i l))
    (fun i l => (pay1 _ _ _ i l).trans (head_ld 1 (by decide) a b h _ _ _ i l))
    (fun i l => (pay2 _ _ _ i l).trans (head_ld 2 (by decide) a b h _ _ _ i l))
    (fun i l => (pay3 _ _ _ i l).trans (head_ld 3 (by decide) a b h _ _ _ i l))
    (fun i l => (pay4 _ _ _ i l).trans (head_ld 4 (by decide) a b h _ _ _ i l))
    (fun i l => (pay5 _ _ _ i l).trans (head_ld 5 (by decide) a b h _ _ _ i l))
    (fun i l => (pay6 _ _ _ i l).trans (head_ld 6 (by decide) a b h _ _ _ i l))
    (fun i l => (pay7 _ _ _ i l).trans (head_ld 7 (by decide) a b h _ _ _ i l))
    q i l

variable (m : (ℓ : Loc nD τ sig) → Buf (Elt Ideal) ℓ)

theorem idx (t : Fin cfg0.N) : win0_0.index t = ![t.val, 0, 0, 0, 0] ∧ win0_1.index t = ![t.val, 0, 0, 0, 0]
    ∧ win0_2.index t = ![t.val, 0, 0, 0] ∧ win0_4.index t = ![t.val, 0, 0, 0] := by
  revert t; decide +kernel

/-- The states of a sequence after its chunk, from whole arrays. -/
def state (a : Vec Ideal S16x8x1x192x64 .f32) (b : Vec Ideal S16x8x1x192x128 .f32) (h : Vec Ideal S16x8x64x128 .f32)
    (n : Fin 16) (q : Fin 8) (i : Fin 64) (l : Fin 128) : EReal :=
  ∑ k : Fin 64, a (ix5 n q 0 ⟨i.val, by omega⟩ k) * h (ix4 n q k l) + b (ix5 n q 0 ⟨i.val, by omega⟩ l)

theorem blk0 (c : Dev nD) (t : Fin cfg0.N) (q : Fin 8) (r : Fin 192) (k : Fin 64) :
    (iblk m c 0 t : Vec Ideal S1x8x1x192x64 .f32) (ix5 0 q 0 r k)
      = m ((c.tc : Thread nD τ).loc main_arg0) (ix5 ⟨t.val, t.isLt⟩ q 0 r k) := by
  blk_ext! [iblk, V, idx t]

theorem blk1 (c : Dev nD) (t : Fin cfg0.N) (q : Fin 8) (r : Fin 192) (k : Fin 128) :
    (iblk m c 1 t : Vec Ideal S1x8x1x192x128 .f32) (ix5 0 q 0 r k)
      = m ((c.tc : Thread nD τ).loc main_arg1) (ix5 ⟨t.val, t.isLt⟩ q 0 r k) := by
  blk_ext! [iblk, V, idx t]

theorem blk2 (c : Dev nD) (t : Fin cfg0.N) (q : Fin 8) (r : Fin 64) (k : Fin 128) :
    (iblk m c 2 t : Vec Ideal S1x8x64x128 .f32) (ix4 0 q r k)
      = (V m c main_v1 : Vec Ideal S16x8x64x128 .f32) (ix4 ⟨t.val, t.isLt⟩ q r k) := by
  unfold iblk
  generalize V m c main_v1 = w
  blk_ext! [idx t]

/-- The kernel's second result: the states after the chunk. -/
theorem array (c : Dev nD) (n : Fin 16) (q : Fin 8) (i : Fin 64) (l : Fin 128) :
    ((dats m 0 c).arrAt 4 cfg0.N : Vec Ideal S16x8x64x128 .f32) (ix4 n q i l)
      = state (m ((c.tc : Thread nD τ).loc main_arg0)) (m ((c.tc : Thread nD τ).loc main_arg1)) (V m c main_v1) n q i l := by
  refine congrFun ((dats m 0 c).arrAt_eq_of_covers 4 (fun y : S16x8x64x128.Idx =>
    state (m ((c.tc : Thread nD τ).loc main_arg0)) (m ((c.tc : Thread nD τ).loc main_arg1)) (V m c main_v1) (y 0) (y 1) (y 2) (y 3))
    (by decide +kernel) fun t hf y => ?_) (ix4 n q i l)
  obtain ⟨q, i, l, rfl⟩ : ∃ (q : Fin 8) (i : Fin 64) (l : Fin 128), y = (ix4 0 q i l : S1x8x64x128.Idx) := ⟨y 1, y 2, y 3, by
    refine (eq_ix4 (y : S1x8x64x128.Idx)).trans ?_
    congr 1
    exact Fin.ext (Nat.lt_one_iff.mp (y 0).isLt)⟩
  have he : ((win0_4.blk t).view.emb (ix4 0 q i l) : S16x8x64x128.Idx) = ix4 ⟨t.val, t.isLt⟩ q i l := by
    blk_ext [idx t]
  show (win0_4.cut (grid0.coords t) ((dats m 0 c).after 4 t)) (ix4 0 q i l)
    = (fun y : S16x8x64x128.Idx => state _ _ _ (y 0) (y 1) (y 2) (y 3)) ((win0_4.blk t).view.emb (ix4 0 q i l))
  rw [he, after0_4]
  refine (point m c t q i l).trans ?_
  unfold chunk state
  simp only [blk0, blk1, blk2]
  rfl

/-- The result of the program, from the kernel's. -/
theorem tail (c : Dev nD) (n : Fin 16) (q : Fin 8) (l i : Fin 64) :
    (Pipeline.afterTail₀ cfgs (dats m) 0 (V0 m) [hostOps1] c main_v4 : Vec Ideal S16x8x64x64 .f32) (ix4 n q l i)
      = ((dats m 0 c).arrAt 4 cfg0.N : Vec Ideal S16x8x64x128 .f32) (ix4 n q i ⟨l.val, by omega⟩) := by
  unfold Pipeline.afterTail₀
  have h := Pipeline.withArrays_arr (cfgs 0).spec (by decide) c (V0 m c) (fun w => (dats m 0 c).arrAt w (cfgs 0).N) 4
  revert h
  generalize Pipeline.withArrays (cfgs 0).spec c (V0 m c) (fun w => (dats m 0 c).arrAt w (cfgs 0).N) = W
  intro h
  have e : StableHlo.after hostOps1 W (Proc.devRef .tc main_v4)
      = transpose S16x8x64x64 [0, 1, 3, 2] (extractStridedSlice S16x8x64x64 ![0, 0, 0, 0] (W (Proc.devRef .tc main_v2_1)) slices_S16x8x64x128_S16x8x64x64_0_0_0_0) transposes_S16x8x64x64_S16x8x64x64_0_1_3_2 := by
    after_results
  refine (congrFun e _).trans ?_
  have h' : W (Proc.devRef .tc main_v2_1) = (dats m 0 c).arrAt 4 cfg0.N := h
  rw [h']
  generalize ((dats m 0 c).arrAt 4 cfg0.N : Vec Ideal S16x8x64x128 .f32) = w
  pointwise

/-- The padded and transposed start. -/
theorem start (c : Dev nD) (n : Fin 16) (q : Fin 8) (k l : Fin 64) :
    (V m c main_v1 : Vec Ideal S16x8x64x128 .f32) (ix4 n q k ⟨l.val, by omega⟩)
      = (m ((c.tc : Thread nD τ).loc main_arg2) : Vec Ideal S16x8x64x64 .f32) (ix4 n q l k) := by
  have e : (V m c main_v1 : Vec Ideal S16x8x64x128 .f32) = pad (α := Ideal .f32) S16x8x64x128 ![0, 0, 0, 0] ![0, 0, 0, 64] ![0, 0, 0, 0]
      (transpose S16x8x64x64 [0, 1, 3, 2] (m ((c.tc : Thread nD τ).loc main_arg2) : Vec Ideal S16x8x64x64 .f32) transposes_S16x8x64x64_S16x8x64x64_0_1_3_2)
      (sitofp .f32 (constantI S_ 32 0#32)) pads_S16x8x64x64_S16x8x64x128_000_000_000_0640 h_S_ := by
    show StableHlo.after (List.flatten [hostOps0, hostOps0_1]) (fun b => m (c, b)) _ = _
    simp only [hostOps0, hostOps0_1, List.flatten_cons, List.flatten_nil, List.append_nil, List.cons_append, List.nil_append]
    after_results
    rfl
  rw [e]
  pointwise

open Cert.ScanSReferenceIdeal.Read in
/-- The reference's result, at an index. -/
theorem ref (x0 x1 x2) (n : Fin 16) (q : Fin 8) (l i : Fin 64) :
    val_main_v7 (F := Ideal) x0 x1 x2 (ix4 n q l i)
      = ∑ k : Fin 64, x0 (ix5 n q 0 ⟨i.val, by omega⟩ k) * x2 (ix4 n q l k) + x1 (ix5 n q 0 ⟨i.val, by omega⟩ ⟨l.val, by omega⟩) := by
  simp only [val_main_v7, val_main_v6, val_main_v5, val_main_v4, val_main_v3, val_main_v2, val_main_v1, val_main_v0]
  pointwise

/-- The states read only the start they are given. -/
theorem state_start (a : Vec Ideal S16x8x1x192x64 .f32) (b : Vec Ideal S16x8x1x192x128 .f32) (h : Vec Ideal S16x8x64x128 .f32)
    (s : Vec Ideal S16x8x64x64 .f32) (n : Fin 16) (q : Fin 8) (i : Fin 64) (l : Fin 64)
    (hs : ∀ k : Fin 64, h (ix4 n q k ⟨l.val, by omega⟩) = s (ix4 n q l k)) :
    state a b h n q i ⟨l.val, by omega⟩
      = ∑ k : Fin 64, a (ix5 n q 0 ⟨i.val, by omega⟩ k) * s (ix4 n q l k) + b (ix5 n q 0 ⟨i.val, by omega⟩ ⟨l.val, by omega⟩) := by
  unfold state
  simp only [hs]

/-- The program's result is the reference's. -/
theorem value (c : Dev nD) :
    (Pipeline.afterTail₀ cfgs (dats m) 0 (V0 m) [hostOps1] c main_v4 : Vec Ideal S16x8x64x64 .f32)
      = Cert.ScanSReferenceIdeal.Read.val_main_v7 (F := Ideal) (m ((c.tc : Thread nD τ).loc main_arg0))
          (m ((c.tc : Thread nD τ).loc main_arg1)) (m ((c.tc : Thread nD τ).loc main_arg2)) := by
  funext y
  obtain ⟨n, q, l, i, rfl⟩ : ∃ (n : Fin 16) (q : Fin 8) (l i : Fin 64), y = ix4 n q l i := ⟨y 0, y 1, y 2, y 3, eq_ix4 y⟩
  rw [ref]
  refine (tail m c n q l i).trans ((array m c n q i _).trans ?_)
  exact state_start _ _ _ _ n q i l fun k => start m c n q k l

end Cert.Proof.ScanS

end
-- ==== Proof.Mix.Spec.lean ====
module

public import proofs.«01_k».proof.Proof.Proj.Spec

@[expose] public section

noncomputable section

/-! The scalar mathematics of the output mixing: the group norm of a head, the mixing of the two branches, the two
    root-mean-square norms. -/

namespace Cert.Proof.Mix

open Idealize.ShloMosaic

/-- The group norm of the 64 numbers of a head. -/
def gn (z : Fin 64 → EReal) (l : Fin 64) : EReal :=
  (z l - Ideal.div (∑ k : Fin 64, z k) (Ideal.ofBits .f32 0x42800000#32))
    * Ideal.rsqrt (Ideal.div (∑ k : Fin 64, (z k - Ideal.div (∑ k : Fin 64, z k) (Ideal.ofBits .f32 0x42800000#32))
        * (z k - Ideal.div (∑ k : Fin 64, z k) (Ideal.ofBits .f32 0x42800000#32))) (Ideal.ofBits .f32 0x42800000#32)
      + Ideal.ofBits .f32 0x3A27C5AC#32)

/-- The centred lanes of a padded head. -/
def cen (p : Fin 128 → EReal) (l : Fin 128) : EReal :=
  if l.val < 64 then p l - (∑ k : Fin 128, p k) * Ideal.ofBits .f32 0x3C800000#32 else 0

/-- The group norm computed over 128 lanes. -/
def gnPad (p : Fin 128 → EReal) (l : Fin 128) : EReal :=
  cen p l * Ideal.rsqrt ((∑ k : Fin 128, cen p k * cen p k) * Ideal.ofBits .f32 0x3C800000#32 + Ideal.ofBits .f32 0x3A27C5AC#32)

/-- The lane test of the padded norm. -/
theorem lane_sel (l : Fin 128) (a b : EReal) :
    Scalar.select (IntOp.cmpi CmpIPredicate.slt (BitVec.ofNat 32 l.val) 64#32) a b = if l.val < 64 then a else b :=
  Proj.lane_lt _ l.isLt a b

/-- The group norm over 128 lanes as the body's selects spell it. -/
theorem sel_gnPad (p : Fin 128 → EReal) (l : Fin 128) :
    Scalar.select (IntOp.cmpi CmpIPredicate.slt (BitVec.ofNat 32 l.val) 64#32)
        ((p l - (∑ x, p x) * Ideal.ofBits .f32 0x3C800000#32) * Ideal.rsqrt
          ((∑ x : Fin 128, Scalar.select (IntOp.cmpi CmpIPredicate.slt (BitVec.ofNat 32 x.val) 64#32)
              (Scalar.select (IntOp.cmpi CmpIPredicate.slt (BitVec.ofNat 32 x.val) 64#32)
                ((p x - (∑ x, p x) * Ideal.ofBits .f32 0x3C800000#32) * (p x - (∑ x, p x) * Ideal.ofBits .f32 0x3C800000#32)) 0) 0)
            * Ideal.ofBits .f32 0x3C800000#32 + Ideal.ofBits .f32 0x3A27C5AC#32)) 0 = gnPad p l := by
  simp only [lane_sel]
  have hs (x : Fin 128) : (if x.val < 64 then (if x.val < 64 then
      ((p x - (∑ x, p x) * Ideal.ofBits .f32 0x3C800000#32) * (p x - (∑ x, p x) * Ideal.ofBits .f32 0x3C800000#32)) else 0) else 0)
        = cen p x * cen p x := by
    unfold cen
    by_cases h : x.val < 64
    · simp only [if_pos h]
    · simp only [if_neg h, mul_zero]
  simp only [hs]
  unfold gnPad
  by_cases h : l.val < 64
  · rw [if_pos h]
    exact congrArg (· * _) (if_pos h).symm
  · rw [if_neg h]
    exact (((congrArg (· * _) (if_neg h)).trans (zero_mul _))).symm

/-- Over 128 lanes, the upper 64 zero, it is the group norm of the lower 64. -/
theorem gnPad_eq (p : Fin 128 → EReal) (hp : ∀ k : Fin 64, p ⟨64 + k.val, by omega⟩ = 0) (l : Fin 64) :
    gnPad p ⟨l.val, by omega⟩ = gn (fun k => p ⟨k.val, by omega⟩) l := by
  have hc (k : Fin 64) : cen p ⟨k.val, by omega⟩
      = p ⟨k.val, by omega⟩ - Ideal.div (∑ k : Fin 64, p ⟨k.val, by omega⟩) (Ideal.ofBits .f32 0x42800000#32) := by
    unfold cen
    rw [if_pos k.isLt, Proj.sum_low p hp, Proj.div64]
  have hz (k : Fin 64) : cen p ⟨64 + k.val, by omega⟩ = 0 := if_neg (by simp)
  unfold gnPad gn
  rw [Proj.sum_low (fun k => cen p k * cen p k) fun k => by rw [hz, mul_zero]]
  simp only [hc, Proj.div64]

/-- A root-mean-square norm with a weight. -/
def rms (x g : Fin 1024 → EReal) (d : Fin 1024) : EReal :=
  x d * Ideal.rsqrt (Ideal.div (∑ k : Fin 1024, x k * x k) (Ideal.ofBits .f32 0x44800000#32)
    + Ideal.ofBits .f32 0x358637BD#32) * g d

/-- The mixed branches after the output matrix. -/
def mixed {n : ℕ} (sa sb : Fin 1024 → EReal) (a w : Fin n → EReal) (wa wb : Fin n → Fin 1024 → EReal)
    (wo : Fin 1024 → Fin 1024 → EReal) (d : Fin 1024) : EReal :=
  ∑ e : Fin 1024, (sa e * (∑ k : Fin n, a k * wa k e) + sb e * (∑ k : Fin n, w k * wb k e)) * wo e d

/-- The place of attention column `k` among the 1024 lanes. -/
def posA (k : Fin 512) : Fin 1024 := ⟨k.val / 64 * 128 + k.val % 64 + k.val / 256 * 64, by omega⟩

/-- The place of recurrent column `k` among the 1024 lanes. -/
def posR (k : Fin 512) : Fin 1024 := ⟨k.val / 64 * 128 + k.val % 64, by omega⟩

theorem posA_inj : Function.Injective posA := by
  intro a b h
  have h := congrArg Fin.val h
  simp only [posA] at h
  exact Fin.ext (by omega)

theorem posR_inj : Function.Injective posR := by
  intro a b h
  have h := congrArg Fin.val h
  simp only [posR] at h
  exact Fin.ext (by omega)

/-- The mixing over padded lanes is the mixing over the columns, the other rows of the weights being zero. -/
theorem mixed_pad {sa sb : Fin 1024 → EReal} {a w : Fin 1024 → EReal} {wa wb : Fin 1024 → Fin 1024 → EReal}
    {wo : Fin 1024 → Fin 1024 → EReal} {sa' sb' : Fin 1024 → EReal} {a' w' : Fin 512 → EReal} {wa' wb' : Fin 512 → Fin 1024 → EReal}
    {wo' : Fin 1024 → Fin 1024 → EReal}
    (hsa : ∀ e, sa e = sa' e) (hsb : ∀ e, sb e = sb' e) (ha : ∀ k, a (posA k) = a' k) (hw : ∀ k, w (posR k) = w' k)
    (hwa : ∀ k e, wa (posA k) e = wa' k e) (hwb : ∀ k e, wb (posR k) e = wb' k e)
    (hza : ∀ p, p ∉ Set.range posA → ∀ e, wa p e = 0) (hzb : ∀ p, p ∉ Set.range posR → ∀ e, wb p e = 0)
    (hwo : ∀ e d, wo e d = wo' e d) (d : Fin 1024) : mixed sa sb a w wa wb wo d = mixed sa' sb' a' w' wa' wb' wo' d := by
  unfold mixed
  refine Finset.sum_congr rfl fun e _ => ?_
  rw [hsa, hsb, hwo]
  rw [Fintype.sum_of_injective posA posA_inj (fun k => a' k * wa' k e) (fun p => a p * wa p e)
    (fun p hp => by show a p * wa p e = 0; rw [hza p hp, mul_zero]) (fun k => by show _ = a (posA k) * wa (posA k) e; rw [ha, hwa])]
  rw [Fintype.sum_of_injective posR posR_inj (fun k => w' k * wb' k e) (fun p => w p * wb p e)
    (fun p hp => by show w p * wb p e = 0; rw [hzb p hp, mul_zero]) (fun k => by show _ = w (posR k) * wb (posR k) e; rw [hw, hwb])]

end Cert.Proof.Mix
-- ==== Proof.Mix.Pay.lean ====
module

public import proofs.«01_k».proof.Proof.Gen.MixIdeal.Frame
public import proofs.«01_k».proof.Proof.Mix.Spec
public import Idealize.ShloMosaic.Lib.Pipeline.ValueKit

@[expose] public section

set_option maxRecDepth 16384

noncomputable section

/-! The heads of a block after the padded group norm. -/

namespace Cert.Proof.Mix

open Idealize.ShloMosaic Idealize.ShloMosaic.TcCoe Idealize.SL.Sem
open Cert.MixIdeal Cert.MixIdeal.Gen

variable (v : Vec Ideal S1x256x128 .f32)

theorem head0 (r : Fin 256) (l : Fin 128) :
    k0_pay5 (F := Ideal) k0_pay3 (k0_pay4 v) (ix2 r l) = gnPad (fun k => v (ix3 0 r k)) l := by
  pointwise [k0_pay5, k0_pay3, k0_pay4]
  exact sel_gnPad (fun k => v (ix3 0 r k)) l

theorem head1 (r : Fin 256) (l : Fin 128) :
    k0_pay6 (F := Ideal) k0_pay3 v (ix2 r l) = gnPad (fun k => v (ix3 0 r k)) l := by
  pointwise [k0_pay6, k0_pay3]
  exact sel_gnPad (fun k => v (ix3 0 r k)) l

theorem head2 (r : Fin 256) (l : Fin 128) :
    k0_pay9 (F := Ideal) k0_pay3 (k0_pay7 v) (k0_pay8 v) (ix2 r l) = gnPad (fun k => v (ix3 0 r k)) l := by
  pointwise [k0_pay9, k0_pay8, k0_pay7, k0_pay3]
  exact sel_gnPad (fun k => v (ix3 0 r k)) l

theorem head3 (r : Fin 256) (l : Fin 128) :
    k0_pay10 (F := Ideal) k0_pay3 v (ix2 r l) = gnPad (fun k => v (ix3 0 r k)) l := by
  pointwise [k0_pay10, k0_pay3]
  exact sel_gnPad (fun k => v (ix3 0 r k)) l

theorem head4 (r : Fin 256) (l : Fin 128) :
    k0_pay13 (F := Ideal) k0_pay3 (k0_pay11 v) (k0_pay12 v) (Scalar.ofBits .f32 0x3C800000#32) (ix2 r l)
      = gnPad (fun k => v (ix3 0 r k)) l := by
  pointwise [k0_pay13, k0_pay12, k0_pay11, k0_pay3]
  exact sel_gnPad (fun k => v (ix3 0 r k)) l

theorem head5 (r : Fin 256) (l : Fin 128) :
    k0_pay14 (F := Ideal) k0_pay3 v (ix2 r l) = gnPad (fun k => v (ix3 0 r k)) l := by
  pointwise [k0_pay14, k0_pay3]
  exact sel_gnPad (fun k => v (ix3 0 r k)) l

/-- Head `h` of eight. -/
def pick (p0 p1 p2 p3 p4 p5 p6 p7 : EReal) (h : Fin 8) : EReal :=
  ![p0, p1, p2, p3, p4, p5, p6, p7] h

theorem cat (a0 a1 a2 a3 a4 a5 : FVec Ideal S256x128 .f32) (v6 v7 : Vec Ideal S1x256x128 .f32) (w b : Vec Ideal S1x1024 .f32)
    (r : Fin 256) (h : Fin 8) (l : Fin 128) :
    k0_pay17 (F := Ideal) k0_pay3 a0 a1 a2 a3 a4 a5 (k0_pay15 v6) (k0_pay16 v6) v7 w b (ix2 r ⟨h.val * 128 + l.val, by omega⟩)
      = pick (a0 (ix2 r l)) (a1 (ix2 r l)) (a2 (ix2 r l)) (a3 (ix2 r l)) (a4 (ix2 r l)) (a5 (ix2 r l))
          (gnPad (fun k => v6 (ix3 0 r k)) l) (gnPad (fun k => v7 (ix3 0 r k)) l) h
        * w (ix2 0 ⟨h.val * 128 + l.val, by omega⟩) + b (ix2 0 ⟨h.val * 128 + l.val, by omega⟩) := by
  have hl := l.isLt
  fin_cases h
  · pointwise [k0_pay17, k0_pay15, k0_pay16, k0_pay3]
    try rw [dif_pos (by omega)]
    rfl
  · pointwise [k0_pay17, k0_pay15, k0_pay16, k0_pay3]
    try rw [dif_neg (by omega)]
    try rw [dif_pos (by omega)]
    have e : 128 + l.val - 128 = l.val := by omega
    try simp only [e]
    rfl
  · pointwise [k0_pay17, k0_pay15, k0_pay16, k0_pay3]
    try rw [dif_neg (by omega)]
    try rw [dif_neg (by omega)]
    try rw [dif_pos (by omega)]
    have e : 256 + l.val - 128 - 128 = l.val := by omega
    try simp only [e]
    rfl
  · pointwise [k0_pay17, k0_pay15, k0_pay16, k0_pay3]
    try rw [dif_neg (by omega)]
    try rw [dif_neg (by omega)]
    try rw [dif_neg (by omega)]
    try rw [dif_pos (by omega)]
    have e : 384 + l.val - 128 - 128 - 128 = l.val := by omega
    try simp only [e]
    rfl
  · pointwise [k0_pay17, k0_pay15, k0_pay16, k0_pay3]
    try rw [dif_neg (by omega)]
    try rw [dif_neg (by omega)]
    try rw [dif_neg (by omega)]
    try rw [dif_neg (by omega)]
    try rw [dif_pos (by omega)]
    have e : 512 + l.val - 128 - 128 - 128 - 128 = l.val := by omega
    try simp only [e]
    rfl
  · pointwise [k0_pay17, k0_pay15, k0_pay16, k0_pay3]
    try rw [dif_neg (by omega)]
    try rw [dif_neg (by omega)]
    try rw [dif_neg (by omega)]
    try rw [dif_neg (by omega)]
    try rw [dif_neg (by omega)]
    try rw [dif_pos (by omega)]
    have e : 640 + l.val - 128 - 128 - 128 - 128 - 128 = l.val := by omega
    try simp only [e]
    rfl
  · pointwise [k0_pay17, k0_pay15, k0_pay16, k0_pay3]
    try rw [dif_neg (by omega)]
    try rw [dif_neg (by omega)]
    try rw [dif_neg (by omega)]
    try rw [dif_neg (by omega)]
    try rw [dif_neg (by omega)]
    try rw [dif_neg (by omega)]
    try rw [dif_pos (by omega)]
    have e : 768 + l.val - 128 - 128 - 128 - 128 - 128 - 128 = l.val := by omega
    try simp only [e]
    exact congrArg (fun z => z * w _ + b _) (sel_gnPad (fun k => v6 (ix3 0 r k)) l)
  · pointwise [k0_pay17, k0_pay15, k0_pay16, k0_pay3]
    try rw [dif_neg (by omega)]
    try rw [dif_neg (by omega)]
    try rw [dif_neg (by omega)]
    try rw [dif_neg (by omega)]
    try rw [dif_neg (by omega)]
    try rw [dif_neg (by omega)]
    try rw [dif_neg (by omega)]
    have e : 896 + l.val - 128 - 128 - 128 - 128 - 128 - 128 - 128 = l.val := by omega
    try simp only [e]
    exact congrArg (fun z => z * w _ + b _) (sel_gnPad (fun k => v7 (ix3 0 r k)) l)

theorem att (v0 v1 v2 v3 v4 v5 v6 v7 : Vec Ideal S1x1x256x128 .bf16) (r : Fin 256) (h : Fin 8) (l : Fin 128) :
    k0_pay2 (F := Ideal) v0 v1 v2 v3 v4 v5 v6 v7 (ix2 r ⟨h.val * 128 + l.val, by omega⟩)
      = pick (v0 (ix4 0 0 r l)) (v1 (ix4 0 0 r l)) (v2 (ix4 0 0 r l)) (v3 (ix4 0 0 r l)) (v4 (ix4 0 0 r l)) (v5 (ix4 0 0 r l))
          (v6 (ix4 0 0 r l)) (v7 (ix4 0 0 r l)) h := by
  have hl := l.isLt
  fin_cases h
  · pointwise [k0_pay2]
    try rw [dif_pos (by omega)]
    rfl
  · pointwise [k0_pay2]
    try rw [dif_neg (by omega)]
    try rw [dif_pos (by omega)]
    have e : 128 + l.val - 128 = l.val := by omega
    try simp only [e]
    rfl
  · pointwise [k0_pay2]
    try rw [dif_neg (by omega)]
    try rw [dif_neg (by omega)]
    try rw [dif_pos (by omega)]
    have e : 256 + l.val - 128 - 128 = l.val := by omega
    try simp only [e]
    rfl
  · pointwise [k0_pay2]
    try rw [dif_neg (by omega)]
    try rw [dif_neg (by omega)]
    try rw [dif_neg (by omega)]
    try rw [dif_pos (by omega)]
    have e : 384 + l.val - 128 - 128 - 128 = l.val := by omega
    try simp only [e]
    rfl
  · pointwise [k0_pay2]
    try rw [dif_neg (by omega)]
    try rw [dif_neg (by omega)]
    try rw [dif_neg (by omega)]
    try rw [dif_neg (by omega)]
    try rw [dif_pos (by omega)]
    have e : 512 + l.val - 128 - 128 - 128 - 128 = l.val := by omega
    try simp only [e]
    rfl
  · pointwise [k0_pay2]
    try rw [dif_neg (by omega)]
    try rw [dif_neg (by omega)]
    try rw [dif_neg (by omega)]
    try rw [dif_neg (by omega)]
    try rw [dif_neg (by omega)]
    try rw [dif_pos (by omega)]
    have e : 640 + l.val - 128 - 128 - 128 - 128 - 128 = l.val := by omega
    try simp only [e]
    rfl
  · pointwise [k0_pay2]
    try rw [dif_neg (by omega)]
    try rw [dif_neg (by omega)]
    try rw [dif_neg (by omega)]
    try rw [dif_neg (by omega)]
    try rw [dif_neg (by omega)]
    try rw [dif_neg (by omega)]
    try rw [dif_pos (by omega)]
    have e : 768 + l.val - 128 - 128 - 128 - 128 - 128 - 128 = l.val := by omega
    try simp only [e]
    rfl
  · pointwise [k0_pay2]
    try rw [dif_neg (by omega)]
    try rw [dif_neg (by omega)]
    try rw [dif_neg (by omega)]
    try rw [dif_neg (by omega)]
    try rw [dif_neg (by omega)]
    try rw [dif_neg (by omega)]
    try rw [dif_neg (by omega)]
    have e : 896 + l.val - 128 - 128 - 128 - 128 - 128 - 128 - 128 = l.val := by omega
    try simp only [e]
    rfl

end Cert.Proof.Mix
-- ==== Proof.Mix.Out.lean ====
module

public import proofs.«01_k».proof.Proof.Mix.Pay

@[expose] public section

set_option maxRecDepth 16384

noncomputable section

/-! What a grid point writes, from its blocks. -/

namespace Cert.Proof.Mix

open Idealize.ShloMosaic Idealize.ShloMosaic.TcCoe Idealize.SL.Sem
open Cert.MixIdeal Cert.MixIdeal.Gen

variable (x0 : Vec Ideal S1x8x256x128 .bf16) (x1 x2 x3 x4 x5 x6 : Vec Ideal S1x256x1024 .f32) (x7 x8 x9 : Vec Ideal S1x1x1024 .f32)
  (x10 x11 x12 : Vec Ideal S1024x1024 .bf16) (x13 x14 x15 x16 : Vec Ideal S1x1024 .f32) (x17 : Vec Ideal S1024x32 .f32)
  (x18 : Vec Ideal S1x32 .f32)

/-- The attention lanes of a row. -/
def attK (r : Fin 256) (p : Fin 1024) : EReal := x0 (ix4 0 ⟨p.val / 128, by omega⟩ r ⟨p.val % 128, by omega⟩)

/-- The recurrent lanes of a row. -/
def rwK (r : Fin 256) (p : Fin 1024) : EReal :=
  (gnPad (fun k => x1 (ix3 0 r ⟨p.val / 128 * 128 + k.val, by omega⟩)) ⟨p.val % 128, by omega⟩ * x13 (ix2 0 p) + x14 (ix2 0 p))
    * x2 (ix3 0 r p) + x3 (ix3 0 r p)

/-- The residual stream of a row after the mixing. -/
def x1K (r : Fin 256) (d : Fin 1024) : EReal :=
  x6 (ix3 0 r d) + x7 (ix3 0 0 d) * rms (mixed (fun e => x4 (ix3 0 r e)) (fun e => x5 (ix3 0 r e)) (attK x0 r)
    (rwK x1 x2 x3 x13 x14 r) (fun k e => x10 (ix2 k e)) (fun k e => x11 (ix2 k e)) (fun k e => x12 (ix2 k e)))
      (fun d => x15 (ix2 0 d)) d

/-- A lane is a lane of a head. -/
theorem split (p : Fin 1024) : ∃ (h : Fin 8) (l : Fin 128), p = ⟨h.val * 128 + l.val, by omega⟩ :=
  ⟨⟨p.val / 128, by omega⟩, ⟨p.val % 128, by omega⟩, Fin.ext (by show p.val = p.val / 128 * 128 + p.val % 128; omega)⟩

theorem pay_att (r : Fin 256) (p : Fin 1024) :
    k0_pay36 (F := Ideal) x0 x1 x2 x3 x4 x5 x6 x7 x8 x9 x10 x11 x12 x13 x14 x15 x16 x17 x18 (ix2 r p) = attK x0 r p := by
  obtain ⟨h, l, rfl⟩ := split p
  have hl := l.isLt
  have e1 : (h.val * 128 + l.val) / 128 = h.val := by omega
  have e2 : (h.val * 128 + l.val) % 128 = l.val := by omega
  unfold k0_pay36 attK
  rw [att]
  simp only [e1, e2]
  have hx (n : Fin 8) (inb) : View.ld x0 (Rect.unit (s := S1x8x256x128) ![0, n.val, 0, 0] S1x1x256x128.size inb) (ix4 0 0 r l) = x0 (ix4 0 n r l) := by
    refine congrArg x0 ?_
    blk_ext
    all_goals rw [Rect.idx_unit_val]
    all_goals simp [ix2, ix3, ix4]
  fin_cases h
  · exact hx 0 _
  · exact hx 1 _
  · exact hx 2 _
  · exact hx 3 _
  · exact hx 4 _
  · exact hx 5 _
  · exact hx 6 _
  · exact hx 7 _

theorem pay_rw (r : Fin 256) (p : Fin 1024) :
    k0_pay38 (F := Ideal) x0 x1 x2 x3 x4 x5 x6 x7 x8 x9 x10 x11 x12 x13 x14 x15 x16 x17 x18 (ix2 r p)
      = gnPad (fun k => x1 (ix3 0 r ⟨p.val / 128 * 128 + k.val, by omega⟩)) ⟨p.val % 128, by omega⟩ * x13 (ix2 0 p) + x14 (ix2 0 p) := by
  obtain ⟨h, l, rfl⟩ := split p
  have hl := l.isLt
  have e1 : (h.val * 128 + l.val) / 128 = h.val := by omega
  have e2 : (h.val * 128 + l.val) % 128 = l.val := by omega
  unfold k0_pay38 k0_pay37
  rw [cat, head0, head1, head2, head3, head4, head5]
  simp only [e1, e2]
  have hw (x : Vec Ideal S1x1024 .f32) (q : Fin 1024) : View.ld x r0_16 (ix2 0 q) = x (ix2 0 q) := by
    refine congrArg x ?_
    blk_ext
    all_goals rw [Rect.idx_unit_val]
    all_goals simp [ix2, ix3, ix4]
  rw [hw, hw]
  refine congrArg (fun z => z * x13 _ + x14 _) ?_
  have hx (n : ℕ) (hn : n < 8) (inb) : gnPad (fun k => View.ld x1 (Rect.unit (s := S1x256x1024) ![0, 0, n * 128] S1x256x128.size inb) (ix3 0 r k)) l
      = gnPad (fun k => x1 (ix3 0 r ⟨n * 128 + k.val, by omega⟩)) l := by
    refine congrArg (fun z => gnPad z l) (funext fun k => congrArg x1 ?_)
    blk_ext
    all_goals rw [Rect.idx_unit_val]
    all_goals simp [ix2, ix3, ix4]
  fin_cases h
  · exact hx 0 (by omega) _
  · exact hx 1 (by omega) _
  · exact hx 2 (by omega) _
  · exact hx 3 (by omega) _
  · exact hx 4 (by omega) _
  · exact hx 5 (by omega) _
  · exact hx 6 (by omega) _
  · exact hx 7 (by omega) _

theorem pay_o (r : Fin 256) (d : Fin 1024) :
    k0_pay39 (F := Ideal) x0 x1 x2 x3 x4 x5 x6 x7 x8 x9 x10 x11 x12 x13 x14 x15 x16 x17 x18 (ix2 r d)
      = mixed (fun e => x4 (ix3 0 r e)) (fun e => x5 (ix3 0 r e)) (attK x0 r)
        (rwK x1 x2 x3 x13 x14 r) (fun k e => x10 (ix2 k e)) (fun k e => x11 (ix2 k e)) (fun k e => x12 (ix2 k e)) d := by
  have ha := pay_att x0 x1 x2 x3 x4 x5 x6 x7 x8 x9 x10 x11 x12 x13 x14 x15 x16 x17 x18 r
  have hb := pay_rw x0 x1 x2 x3 x4 x5 x6 x7 x8 x9 x10 x11 x12 x13 x14 x15 x16 x17 x18 r
  unfold k0_pay39
  generalize k0_pay36 (F := Ideal) x0 x1 x2 x3 x4 x5 x6 x7 x8 x9 x10 x11 x12 x13 x14 x15 x16 x17 x18 = A at ha ⊢
  generalize k0_pay38 (F := Ideal) x0 x1 x2 x3 x4 x5 x6 x7 x8 x9 x10 x11 x12 x13 x14 x15 x16 x17 x18 = B at hb ⊢
  pointwise [k0_pay18, mixed, rwK]
  simp only [ha, hb]

/-- The first result. -/
theorem out_x1 (r : Fin 256) (d : Fin 1024) :
    out0_19 (F := Ideal) x0 x1 x2 x3 x4 x5 x6 x7 x8 x9 x10 x11 x12 x13 x14 x15 x16 x17 x18 (ix3 0 r d)
      = x1K x0 x1 x2 x3 x4 x5 x6 x7 x10 x11 x12 x13 x14 x15 r d := by
  have ho := pay_o x0 x1 x2 x3 x4 x5 x6 x7 x8 x9 x10 x11 x12 x13 x14 x15 x16 x17 x18 r
  have hs : k0_pay43 (F := Ideal) x0 x1 x2 x3 x4 x5 x6 x7 x8 x9 x10 x11 x12 x13 x14 x15 x16 x17 x18
    = mulf (k0_pay39 x0 x1 x2 x3 x4 x5 x6 x7 x8 x9 x10 x11 x12 x13 x14 x15 x16 x17 x18)
      (k0_pay39 x0 x1 x2 x3 x4 x5 x6 x7 x8 x9 x10 x11 x12 x13 x14 x15 x16 x17 x18) := rfl
  unfold out0_19
  rw [View.canon_unit_zero (by decide), hs]
  generalize k0_pay39 (F := Ideal) x0 x1 x2 x3 x4 x5 x6 x7 x8 x9 x10 x11 x12 x13 x14 x15 x16 x17 x18 = O at ho ⊢
  pointwise [k0_pay24, k0_pay23, k0_pay40, k0_pay41, k0_pay42, k0_pay19, k0_pay20, k0_pay21, x1K, rms]
  simp only [ho]

/-- The second result. -/
theorem out_h2 (r : Fin 256) (d : Fin 1024) :
    out0_20 (F := Ideal) x0 x1 x2 x3 x4 x5 x6 x7 x8 x9 x10 x11 x12 x13 x14 x15 x16 x17 x18 (ix3 0 r d)
      = rms (x1K x0 x1 x2 x3 x4 x5 x6 x7 x10 x11 x12 x13 x14 x15 r) (fun d => x16 (ix2 0 d)) d * (1 + x8 (ix3 0 0 d)) + x9 (ix3 0 0 d) := by
  have ho := out_x1 x0 x1 x2 x3 x4 x5 x6 x7 x8 x9 x10 x11 x12 x13 x14 x15 x16 x17 x18 r
  unfold out0_19 at ho
  rw [View.canon_unit_zero (by decide)] at ho
  have hx (d : Fin 1024) : k0_pay23 (F := Ideal) (k0_pay39 x0 x1 x2 x3 x4 x5 x6 x7 x8 x9 x10 x11 x12 x13 x14 x15 x16 x17 x18)
      (k0_pay40 x0 x1 x2 x3 x4 x5 x6 x7 x8 x9 x10 x11 x12 x13 x14 x15 x16 x17 x18) (k0_pay41 x0 x1 x2 x3 x4 x5 x6 x7 x8 x9 x10 x11 x12 x13 x14 x15 x16 x17 x18)
      (k0_pay42 x0 x1 x2 x3 x4 x5 x6 x7 x8 x9 x10 x11 x12 x13 x14 x15 x16 x17 x18)
      (k0_pay43 x0 x1 x2 x3 x4 x5 x6 x7 x8 x9 x10 x11 x12 x13 x14 x15 x16 x17 x18) (ix2 r d) = x1K x0 x1 x2 x3 x4 x5 x6 x7 x10 x11 x12 x13 x14 x15 r d := by
    rw [← ho]
    generalize k0_pay39 (F := Ideal) x0 x1 x2 x3 x4 x5 x6 x7 x8 x9 x10 x11 x12 x13 x14 x15 x16 x17 x18 = a
    generalize k0_pay40 (F := Ideal) x0 x1 x2 x3 x4 x5 x6 x7 x8 x9 x10 x11 x12 x13 x14 x15 x16 x17 x18 = b
    generalize k0_pay41 (F := Ideal) x0 x1 x2 x3 x4 x5 x6 x7 x8 x9 x10 x11 x12 x13 x14 x15 x16 x17 x18 = c
    generalize k0_pay42 (F := Ideal) x0 x1 x2 x3 x4 x5 x6 x7 x8 x9 x10 x11 x12 x13 x14 x15 x16 x17 x18 = e
    generalize k0_pay43 (F := Ideal) x0 x1 x2 x3 x4 x5 x6 x7 x8 x9 x10 x11 x12 x13 x14 x15 x16 x17 x18 = f
    unfold k0_pay24
    generalize k0_pay23 (F := Ideal) a b c e f = X
    pointwise
  unfold out0_20
  rw [View.canon_unit_zero (by decide)]
  unfold k0_pay44 k0_pay25
  generalize k0_pay23 (F := Ideal) _ _ _ _ _ = X at hx ⊢
  pointwise [k0_pay26, rms]
  simp only [hx]

end Cert.Proof.Mix
-- ==== Proof.Rows.lean ====
module

public import proofs.«01_k».proof.Proof.Columns

@[expose] public section

noncomputable section

/-! Rows of a matrix picked by a literal list of row numbers. -/

namespace Cert.Proof

open Idealize.ShloMosaic

/-- A gather of rows: where the list names row `b`, the result's row is row `b` of the matrix. -/
theorem gather_row {α : Type} {D n k : ℕ} (g : GatherDims ⟨2, ![n, D]⟩ ⟨2, ![k, 1]⟩ ⟨2, ![k, D]⟩)
    (hoff : g.offsetDims = [1]) (hcoll : g.collapsedSliceDims = [0]) (hob : g.operandBatchingDims = [])
    (hsim : g.startIndexMap = [0]) (hivd : g.indexVectorDim = 1) (x : (⟨2, ![n, D]⟩ : Shape).Idx → α)
    (I : IVec ⟨2, ![k, 1]⟩ 32) (d : Fin D) (p : Fin k) (b : Fin n) (hb : I (ix2 p 0) = BitVec.ofNat 32 b.val)
    (hn : n < 2 ^ 31) : Host.gather g x I (ix2 p d) = x (ix2 b d) := by
  obtain ⟨off, coll, ob, sb, sim, ivd, ss, wf⟩ := g
  simp only at hoff hcoll hob hsim hivd
  subst hoff hcoll hob hsim hivd
  have hsb : sb = [] := by
    have := wf
    simpa using (GatherDims.ob_length ⟨[1], [0], [], sb, [0], 1, ss, wf⟩).symm
  subst hsb
  generalize hg : (⟨[1], [0], [], [], [0], 1, ss, wf⟩ : GatherDims ⟨2, ![n, D]⟩ ⟨2, ![k, 1]⟩ ⟨2, ![k, D]⟩) = g
  have hs1 : g.sliceSizes 0 = 1 := g.slice_collapsed 0 (by subst hg; exact List.mem_singleton.2 rfl)
  unfold Host.gather
  refine congrArg x (funext fun a => Fin.ext ?_)
  match a with
  | ⟨0, _⟩ =>
    show g.start _ I 0 + g.batchCoord _ 0 + g.offCoord _ 0 = b.val
    have h0 : g.batchCoord (ix2 p d) 0 = 0 := by subst hg; rfl
    have h1 : g.offCoord (ix2 p d) 0 = 0 := by subst hg; rfl
    have h2 : g.start (ix2 p d) I 0 = min (I (ix2 p 0)).toInt.toNat (n - g.sliceSizes 0) := by
      subst hg
      show min (I _).toInt.toNat _ = _
      congr 4
      funext q
      match q with
      | ⟨0, _⟩ => rfl
      | ⟨1, _⟩ => rfl
    have := b.isLt
    rw [h0, h1, h2, hb, hs1, StableHlo.Predicate.toInt_ofNat_small _ (by omega)]
    show min ((b.val : Int)).toNat (n - 1) + 0 + 0 = b.val
    omega
  | ⟨1, _⟩ =>
    show g.start _ I 1 + g.batchCoord _ 1 + g.offCoord _ 1 = d.val
    have h0 : g.batchCoord (ix2 p d) 1 = 0 := by subst hg; rfl
    have h1 : g.offCoord (ix2 p d) 1 = d.val := by subst hg; rfl
    have h2 : g.start (ix2 p d) I 1 = 0 := by subst hg; rfl
    rw [h0, h1, h2]; omega

/-- Rows taken with the default treatment of numbers out of range: negative ones count from the end, others give the
    fill value. -/
def takenRows {α : Type} {D n k : ℕ} (g : GatherDims ⟨2, ![n, D]⟩ ⟨2, ![k, 1]⟩ ⟨2, ![k, D]⟩)
    (b0 : (⟨0, ![]⟩ : Shape).BroadcastsInDim ⟨1, ![k]⟩ ![]) (b1 : (⟨1, ![k]⟩ : Shape).BroadcastsInDim ⟨2, ![k, 1]⟩ ![0])
    (b2 : (⟨0, ![]⟩ : Shape).BroadcastsInDim ⟨2, ![k, 1]⟩ ![])
    (b3 : (⟨1, ![1]⟩ : Shape).BroadcastsInDim ⟨2, ![1, 1]⟩ ![1])
    (b4 : (⟨2, ![1, 1]⟩ : Shape).BroadcastsInDim ⟨2, ![k, 1]⟩ ![0, 1])
    (b5 : (⟨1, ![k]⟩ : Shape).BroadcastsInDim ⟨2, ![k, D]⟩ ![0])
    (hr : (⟨2, ![k, 1]⟩ : Shape).ReducesTo [1] ⟨1, ![k]⟩) (hu : 0 < (⟨0, ![]⟩ : Shape).numel) (nn hi : BitVec 32)
    (x : (⟨2, ![n, D]⟩ : Shape).Idx → α) (fill : (⟨2, ![k, D]⟩ : Shape).Idx → α) (I : IVec ⟨1, ![k]⟩ 32) :
    (⟨2, ![k, D]⟩ : Shape).Idx → α :=
  select (broadcastInDim ⟨2, ![k, D]⟩ ![0] b5 (Host.reduce IntOp.andi
      (andi (cmpi .sge (listed I nn b0 b1) (broadcastInDim ⟨2, ![k, 1]⟩ ![] b2 (constantI ⟨0, ![]⟩ 32 0#32)))
        (cmpi .sle (listed I nn b0 b1)
          (broadcastInDim ⟨2, ![k, 1]⟩ ![0, 1] b4 (broadcastInDim ⟨2, ![1, 1]⟩ ![1] b3 (constantI ⟨1, ![1]⟩ 32 hi)))))
      (constantI ⟨0, ![]⟩ 1 1#1) hr hu))
    (Host.gather g x (listed I nn b0 b1)) fill

/-- At a list whose numbers are all in range: the rows themselves. -/
theorem takenRows_apply {α : Type} {D n k : ℕ} (g : GatherDims ⟨2, ![n, D]⟩ ⟨2, ![k, 1]⟩ ⟨2, ![k, D]⟩)
    (hoff : g.offsetDims = [1]) (hcoll : g.collapsedSliceDims = [0]) (hob : g.operandBatchingDims = [])
    (hsim : g.startIndexMap = [0]) (hivd : g.indexVectorDim = 1) (b0) (b1) (b2) (b3) (b4) (b5) (hr) (hu)
    (nn hi : BitVec 32) (x : (⟨2, ![n, D]⟩ : Shape).Idx → α) (fill : (⟨2, ![k, D]⟩ : Shape).Idx → α)
    (I : IVec ⟨1, ![k]⟩ 32) (J : Fin k → Fin n) (hI : ∀ p, I (ix1 p) = BitVec.ofNat 32 (J p).val) (hn : n < 2 ^ 31)
    (hhi : hi = BitVec.ofNat 32 (n - 1)) (d : Fin D) (p : Fin k) :
    takenRows g b0 b1 b2 b3 b4 b5 hr hu nn hi x fill I (ix2 p d) = x (ix2 (J p) d) := by
  have hL := listed_apply I nn b0 b1 J hn hI
  unfold takenRows
  generalize listed I nn b0 b1 = Lx at hL ⊢
  have hred : ∀ j, Host.reduce IntOp.andi
      (andi (cmpi .sge Lx (broadcastInDim ⟨2, ![k, 1]⟩ ![] b2 (constantI ⟨0, ![]⟩ 32 0#32)))
        (cmpi .sle Lx (broadcastInDim ⟨2, ![k, 1]⟩ ![0, 1] b4
          (broadcastInDim ⟨2, ![1, 1]⟩ ![1] b3 (constantI ⟨1, ![1]⟩ 32 hi)))))
      (constantI ⟨0, ![]⟩ 1 1#1) hr hu j = 1#1 := by
    intro j
    refine Host.reduce_andi_one _ _ hr hu j rfl fun i => ?_
    obtain ⟨q, z, rfl⟩ : ∃ (a : Fin _) (b : Fin _), i = ix2 a b := ⟨i 0, i 1, eq_ix2 i⟩
    have hlt := (J q).isLt
    show IntOp.andi (IntOp.cmpi .sge (Lx (ix2 q z)) 0#32) (IntOp.cmpi .sle (Lx (ix2 q z)) hi) = 1#1
    rw [hL, hhi]
    have h1 : IntOp.cmpi .sge (BitVec.ofNat 32 (J q).val) 0#32 = 1#1 := by
      simp [IntOp.cmpi, BitVec.sle, StableHlo.Predicate.toInt_ofNat_small _ (show (J q).val < 2 ^ 31 by omega)]
    have h2 : IntOp.cmpi .sle (BitVec.ofNat 32 (J q).val) (BitVec.ofNat 32 (n - 1)) = 1#1 :=
      (StableHlo.Predicate.sle_ofNat_iff _ _ (by omega) (by omega)).2 (by omega)
    rw [h1, h2]; rfl
  show Scalar.select (Host.reduce IntOp.andi _ _ hr hu _) (Host.gather g x Lx (ix2 p d)) _ = _
  rw [hred]
  exact gather_row g hoff hcoll hob hsim hivd x Lx d p (J p) (hL p 0) hn

end Cert.Proof
-- ==== Proof.Mix.Host.lean ====
module

public import proofs.«01_k».proof.Proof.Gen.MixIdeal.Frame
public import proofs.«01_k».proof.Proof.Rows
public import proofs.«01_k».proof.Proof.Mix.Spec
public import Idealize.ShloMosaic.Lib.Pipeline.ValueKit
public import Idealize.ShloMosaic.Lib.Pipeline.ReadBack

@[expose] public section

set_option maxRecDepth 16384

noncomputable section

/-! The arrays as the kernel reads them. -/

namespace Cert.Proof.Mix

open Idealize.ShloMosaic Idealize.ShloMosaic.TcCoe Idealize.SL.Sem
open Cert.MixIdeal Cert.MixIdeal.Gen

variable (m : (ℓ : Loc nD τ sig) → Buf (Elt Ideal) ℓ) (c : Dev nD)

/-- Position `p` of a list is its entry `p`. -/
theorem place1 {k : ℕ} (p : Fin k) : (⟨1, ![k]⟩ : Shape).rowMajor (ix1 p) = p.cast (by simp [Shape.numel]) :=
  Fin.ext (Shape.rowMajor_val_one _)

set_option maxHeartbeats 4000000 in
theorem woa_eq : (V m c main_v3 : FVec Ideal S1024x1024 .bf16) = truncf (F := Ideal) .bf16
    (select (broadcastInDim S1024x1024 ![0, 1] bcast_S1024x1_S1024x1024_0_1
        (broadcastInDim S1024x1 ![0] bcast_S1024_S1024x1_0 (fun i => lit0 (S1024.rowMajor i))))
      (takenRows gather_S512x1024_S1024x1_S1024x1024_1_0_n_n_0_1_11024 bcast_S_S1024 bcast_S1024_S1024x1_0 bcast_S_S1024x1 bcast_S1_S1x1_1
        bcast_S1x1_S1024x1_0_1 bcast_S1024_S1024x1024_0 reducesTo_S1024x1_S1024_d1 h_S_ 512#32 511#32
        (m ((c : Thread nD τ).loc main_arg10) : FVec Ideal S512x1024 .f32)
        (broadcastInDim S1024x1024 ![] bcast_S_S1024x1024 (constant S_ .f32 2143289344#32)) (fun i => lit1 (S1024.rowMajor i)))
      (broadcastInDim S1024x1024 ![] bcast_S_S1024x1024 (constant S_ .f32 0#32))) bitsLt_bf16_f32 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

set_option maxHeartbeats 4000000 in
theorem wor_eq : (V m c main_v7 : FVec Ideal S1024x1024 .bf16) = truncf (F := Ideal) .bf16
    (select (broadcastInDim S1024x1024 ![0, 1] bcast_S1024x1_S1024x1024_0_1
        (broadcastInDim S1024x1 ![0] bcast_S1024_S1024x1_0 (fun i => lit2 (S1024.rowMajor i))))
      (takenRows gather_S512x1024_S1024x1_S1024x1024_1_0_n_n_0_1_11024 bcast_S_S1024 bcast_S1024_S1024x1_0 bcast_S_S1024x1 bcast_S1_S1x1_1
        bcast_S1x1_S1024x1_0_1 bcast_S1024_S1024x1024_0 reducesTo_S1024x1_S1024_d1 h_S_ 512#32 511#32
        (m ((c : Thread nD τ).loc main_arg11) : FVec Ideal S512x1024 .f32)
        (broadcastInDim S1024x1024 ![] bcast_S_S1024x1024 (constant S_ .f32 2143289344#32)) (fun i => lit3 (S1024.rowMajor i)))
      (broadcastInDim S1024x1024 ![] bcast_S_S1024x1024 (constant S_ .f32 0#32))) bitsLt_bf16_f32 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem lit1_bound : ∀ p : Fin 1024, (lit1 p).toNat < 512 := by decide +kernel

theorem lit3_bound : ∀ p : Fin 1024, (lit3 p).toNat < 512 := by decide +kernel

theorem woa_apply (p d : Fin 1024) : (V m c main_v3 : FVec Ideal S1024x1024 .bf16) (ix2 p d)
    = Scalar.select (lit0 p) ((m ((c : Thread nD τ).loc main_arg10) : FVec Ideal S512x1024 .f32) (ix2 ⟨(lit1 p).toNat, lit1_bound p⟩ d))
        (Ideal.ofBits .f32 0#32) := by
  rw [woa_eq]
  have h := takenRows_apply gather_S512x1024_S1024x1_S1024x1024_1_0_n_n_0_1_11024 rfl rfl rfl rfl rfl bcast_S_S1024 bcast_S1024_S1024x1_0
    bcast_S_S1024x1 bcast_S1_S1x1_1 bcast_S1x1_S1024x1_0_1 bcast_S1024_S1024x1024_0 reducesTo_S1024x1_S1024_d1 h_S_ 512#32 511#32
    (m ((c : Thread nD τ).loc main_arg10) : FVec Ideal S512x1024 .f32)
    (broadcastInDim S1024x1024 ![] bcast_S_S1024x1024 (constant (F := Ideal) S_ .f32 2143289344#32)) (fun i => lit1 (S1024.rowMajor i))
    (fun p => ⟨(lit1 p).toNat, lit1_bound p⟩) (fun p => (by
      show _ = _
      rw [place1]
      show lit1 p = BitVec.ofNat 32 (lit1 p).toNat
      simp)) (by norm_num) rfl d p
  generalize takenRows (α := Ideal .f32) _ _ _ _ _ _ _ _ _ _ _ _ _ _ = T at h ⊢
  pointwise
  rw [h]
  all_goals rw [place1]
  all_goals rfl

theorem wor_apply (p d : Fin 1024) : (V m c main_v7 : FVec Ideal S1024x1024 .bf16) (ix2 p d)
    = Scalar.select (lit2 p) ((m ((c : Thread nD τ).loc main_arg11) : FVec Ideal S512x1024 .f32) (ix2 ⟨(lit3 p).toNat, lit3_bound p⟩ d))
        (Ideal.ofBits .f32 0#32) := by
  rw [wor_eq]
  have h := takenRows_apply gather_S512x1024_S1024x1_S1024x1024_1_0_n_n_0_1_11024 rfl rfl rfl rfl rfl bcast_S_S1024 bcast_S1024_S1024x1_0
    bcast_S_S1024x1 bcast_S1_S1x1_1 bcast_S1x1_S1024x1_0_1 bcast_S1024_S1024x1024_0 reducesTo_S1024x1_S1024_d1 h_S_ 512#32 511#32
    (m ((c : Thread nD τ).loc main_arg11) : FVec Ideal S512x1024 .f32)
    (broadcastInDim S1024x1024 ![] bcast_S_S1024x1024 (constant (F := Ideal) S_ .f32 2143289344#32)) (fun i => lit3 (S1024.rowMajor i))
    (fun p => ⟨(lit3 p).toNat, lit3_bound p⟩) (fun p => (by
      show _ = _
      rw [place1]
      show lit3 p = BitVec.ofNat 32 (lit3 p).toNat
      simp)) (by norm_num) rfl d p
  generalize takenRows (α := Ideal .f32) _ _ _ _ _ _ _ _ _ _ _ _ _ _ = T at h ⊢
  pointwise
  rw [h]
  all_goals rw [place1]
  all_goals rfl

set_option maxHeartbeats 4000000 in
theorem lnw_eq : (V m c main_v12 : FVec Ideal S1x1024 .f32) =
    select (α := Ideal .f32) (broadcastInDim S1x1024 ![1] bcast_S1024_S1x1024_1 (fun i => lit2 (S1024.rowMajor i)))
      (taken gather_S1x512_S1024x1_S1x1024_0_1_n_n_1_1_11 bcast_S_S1024 bcast_S1024_S1024x1_0 bcast_S_S1024x1 bcast_S1_S1x1_1
        bcast_S1x1_S1024x1_0_1 bcast_S1024_S1x1024_1 reducesTo_S1024x1_S1024_d1 h_S_ 512#32 511#32
        (shapeCast S1x512 (m ((c : Thread nD τ).loc main_arg13) : FVec Ideal S512 .f32) shapeCasts_S512_S1x512)
        (broadcastInDim S1x1024 ![] bcast_S_S1x1024 (constant (F := Ideal) S_ .f32 2143289344#32)) (fun i => lit3 (S1024.rowMajor i)))
      (broadcastInDim S1x1024 ![] bcast_S_S1x1024 (constant (F := Ideal) S_ .f32 0#32)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

set_option maxHeartbeats 4000000 in
theorem lnb_eq : (V m c main_v16 : FVec Ideal S1x1024 .f32) =
    select (α := Ideal .f32) (broadcastInDim S1x1024 ![1] bcast_S1024_S1x1024_1 (fun i => lit2 (S1024.rowMajor i)))
      (taken gather_S1x512_S1024x1_S1x1024_0_1_n_n_1_1_11 bcast_S_S1024 bcast_S1024_S1024x1_0 bcast_S_S1024x1 bcast_S1_S1x1_1
        bcast_S1x1_S1024x1_0_1 bcast_S1024_S1x1024_1 reducesTo_S1024x1_S1024_d1 h_S_ 512#32 511#32
        (shapeCast S1x512 (m ((c : Thread nD τ).loc main_arg14) : FVec Ideal S512 .f32) shapeCasts_S512_S1x512)
        (broadcastInDim S1x1024 ![] bcast_S_S1x1024 (constant (F := Ideal) S_ .f32 2143289344#32)) (fun i => lit3 (S1024.rowMajor i)))
      (broadcastInDim S1x1024 ![] bcast_S_S1x1024 (constant (F := Ideal) S_ .f32 0#32)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem lnw_apply (p : Fin 1024) : (V m c main_v12 : FVec Ideal S1x1024 .f32) (ix2 0 p)
    = Scalar.select (lit2 p) ((m ((c : Thread nD τ).loc main_arg13) : FVec Ideal S512 .f32) (ix1 ⟨(lit3 p).toNat, lit3_bound p⟩))
        (Ideal.ofBits .f32 0#32) := by
  rw [lnw_eq]
  have h := taken_apply gather_S1x512_S1024x1_S1x1024_0_1_n_n_1_1_11 rfl rfl rfl rfl rfl bcast_S_S1024 bcast_S1024_S1024x1_0
    bcast_S_S1024x1 bcast_S1_S1x1_1 bcast_S1x1_S1024x1_0_1 bcast_S1024_S1x1024_1 reducesTo_S1024x1_S1024_d1 h_S_ 512#32 511#32
    (shapeCast S1x512 (m ((c : Thread nD τ).loc main_arg13) : FVec Ideal S512 .f32) shapeCasts_S512_S1x512)
    (broadcastInDim S1x1024 ![] bcast_S_S1x1024 (constant (F := Ideal) S_ .f32 2143289344#32)) (fun i => lit3 (S1024.rowMajor i))
    (fun p => ⟨(lit3 p).toNat, lit3_bound p⟩) (fun p => (by
      show _ = _
      rw [place1]
      show lit3 p = BitVec.ofNat 32 (lit3 p).toNat
      simp)) (by norm_num) rfl 0 p
  generalize taken (α := Ideal .f32) _ _ _ _ _ _ _ _ _ _ _ _ _ _ = T at h ⊢
  pointwise
  rw [h]
  all_goals rw [place1]
  all_goals pointwise
  all_goals rfl

theorem lnb_apply (p : Fin 1024) : (V m c main_v16 : FVec Ideal S1x1024 .f32) (ix2 0 p)
    = Scalar.select (lit2 p) ((m ((c : Thread nD τ).loc main_arg14) : FVec Ideal S512 .f32) (ix1 ⟨(lit3 p).toNat, lit3_bound p⟩))
        (Ideal.ofBits .f32 0#32) := by
  rw [lnb_eq]
  have h := taken_apply gather_S1x512_S1024x1_S1x1024_0_1_n_n_1_1_11 rfl rfl rfl rfl rfl bcast_S_S1024 bcast_S1024_S1024x1_0
    bcast_S_S1024x1 bcast_S1_S1x1_1 bcast_S1x1_S1024x1_0_1 bcast_S1024_S1x1024_1 reducesTo_S1024x1_S1024_d1 h_S_ 512#32 511#32
    (shapeCast S1x512 (m ((c : Thread nD τ).loc main_arg14) : FVec Ideal S512 .f32) shapeCasts_S512_S1x512)
    (broadcastInDim S1x1024 ![] bcast_S_S1x1024 (constant (F := Ideal) S_ .f32 2143289344#32)) (fun i => lit3 (S1024.rowMajor i))
    (fun p => ⟨(lit3 p).toNat, lit3_bound p⟩) (fun p => (by
      show _ = _
      rw [place1]
      show lit3 p = BitVec.ofNat 32 (lit3 p).toNat
      simp)) (by norm_num) rfl 0 p
  generalize taken (α := Ideal .f32) _ _ _ _ _ _ _ _ _ _ _ _ _ _ = T at h ⊢
  pointwise
  rw [h]
  all_goals rw [place1]
  all_goals pointwise
  all_goals rfl

set_option maxHeartbeats 4000000 in
theorem gpost_apply (d : Fin 1024) : (V m c main_v17 : FVec Ideal S1x1024 .f32) (ix2 0 d) = m ((c : Thread nD τ).loc main_arg15) (ix1 d) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  pointwise

set_option maxHeartbeats 4000000 in
theorem gpre_apply (d : Fin 1024) : (V m c main_v18 : FVec Ideal S1x1024 .f32) (ix2 0 d) = m ((c : Thread nD τ).loc main_arg16) (ix1 d) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  pointwise

set_option maxHeartbeats 4000000 in
theorem wout_apply (k d : Fin 1024) : (V m c main_v8 : FVec Ideal S1024x1024 .bf16) (ix2 k d) = (m ((c : Thread nD τ).loc main_arg12) : FVec Ideal S1024x1024 .f32) (ix2 k d) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  pointwise

/-- The listed rows: column `k` of the attention lanes. -/
theorem lits_att : ∀ k : Fin 512, lit0 (posA k) = 1#1 ∧ (lit1 (posA k)).toNat = k.val := by decide +kernel

theorem lits_rec : ∀ k : Fin 512, lit2 (posR k) = 1#1 ∧ (lit3 (posR k)).toNat = k.val := by decide +kernel

theorem lits_att_off : ∀ p : Fin 1024, lit0 p = 0#1 ∨ ∃ k, posA k = p := by decide +kernel

theorem lits_rec_off : ∀ p : Fin 1024, lit2 p = 0#1 ∨ ∃ k, posR k = p := by decide +kernel

theorem woa_pos (k : Fin 512) (d : Fin 1024) : (V m c main_v3 : FVec Ideal S1024x1024 .bf16) (ix2 (posA k) d)
    = (m ((c : Thread nD τ).loc main_arg10) : FVec Ideal S512x1024 .f32) (ix2 k d) := by
  rw [woa_apply, (lits_att k).1]
  refine (if_pos rfl).trans ?_
  exact congrArg (fun z => (m ((c : Thread nD τ).loc main_arg10) : FVec Ideal S512x1024 .f32) (ix2 z d)) (Fin.ext (lits_att k).2)

theorem wor_pos (k : Fin 512) (d : Fin 1024) : (V m c main_v7 : FVec Ideal S1024x1024 .bf16) (ix2 (posR k) d)
    = (m ((c : Thread nD τ).loc main_arg11) : FVec Ideal S512x1024 .f32) (ix2 k d) := by
  rw [wor_apply, (lits_rec k).1]
  refine (if_pos rfl).trans ?_
  exact congrArg (fun z => (m ((c : Thread nD τ).loc main_arg11) : FVec Ideal S512x1024 .f32) (ix2 z d)) (Fin.ext (lits_rec k).2)

theorem lnw_pos (k : Fin 512) : (V m c main_v12 : FVec Ideal S1x1024 .f32) (ix2 0 (posR k))
    = (m ((c : Thread nD τ).loc main_arg13) : FVec Ideal S512 .f32) (ix1 k) := by
  rw [lnw_apply, (lits_rec k).1]
  refine (if_pos rfl).trans ?_
  exact congrArg (fun z => (m ((c : Thread nD τ).loc main_arg13) : FVec Ideal S512 .f32) (ix1 z)) (Fin.ext (lits_rec k).2)

theorem lnb_pos (k : Fin 512) : (V m c main_v16 : FVec Ideal S1x1024 .f32) (ix2 0 (posR k))
    = (m ((c : Thread nD τ).loc main_arg14) : FVec Ideal S512 .f32) (ix1 k) := by
  rw [lnb_apply, (lits_rec k).1]
  refine (if_pos rfl).trans ?_
  exact congrArg (fun z => (m ((c : Thread nD τ).loc main_arg14) : FVec Ideal S512 .f32) (ix1 z)) (Fin.ext (lits_rec k).2)

theorem bits0 : Ideal.ofBits .f32 0#32 = 0 := by
  simp [Ideal.ofBits, Ideal.ieee]

theorem woa_off (p : Fin 1024) (hp : p ∉ Set.range posA) (d : Fin 1024) : ((V m c main_v3 : FVec Ideal S1024x1024 .bf16) (ix2 p d) : EReal) = (0 : EReal) := by
  rw [woa_apply, (lits_att_off p).resolve_right fun ⟨k, hk⟩ => hp ⟨k, hk⟩]
  exact (if_neg (by decide)).trans bits0

theorem wor_off (p : Fin 1024) (hp : p ∉ Set.range posR) (d : Fin 1024) : ((V m c main_v7 : FVec Ideal S1024x1024 .bf16) (ix2 p d) : EReal) = (0 : EReal) := by
  rw [wor_apply, (lits_rec_off p).resolve_right fun ⟨k, hk⟩ => hp ⟨k, hk⟩]
  exact (if_neg (by decide)).trans bits0

end Cert.Proof.Mix
-- ==== Proof.Mix.HostY.lean ====
module

public import proofs.«01_k».proof.Proof.Gen.MixIdeal.Frame
public import proofs.«01_k».proof.Proof.Rows
public import proofs.«01_k».proof.Proof.Mix.Spec
public import Idealize.ShloMosaic.Lib.Pipeline.ValueKit
public import Idealize.ShloMosaic.Lib.Pipeline.ReadBack

@[expose] public section

set_option maxRecDepth 16384

noncomputable section

/-! The recurrent output as the kernel reads it: every head padded with zeros. -/

namespace Cert.Proof.Mix

open Idealize.ShloMosaic Idealize.ShloMosaic.TcCoe Idealize.SL.Sem
open Cert.MixIdeal Cert.MixIdeal.Gen

variable (m : (ℓ : Loc nD τ sig) → Buf (Elt Ideal) ℓ) (c : Dev nD)

set_option maxHeartbeats 4000000 in
theorem y_eq : (V m c main_v21 : FVec Ideal S2x8192x1024 .f32) = shapeCast S2x8192x1024
    (pad S2x8192x8x128 ![0, 0, 0, 0] ![0, 0, 0, 64] ![0, 0, 0, 0] (m ((c : Thread nD τ).loc main_arg1) : FVec Ideal S2x8192x8x64 .f32)
      (sitofp (F := Ideal) .f32 (constantI S_ 32 0#32)) pads_S2x8192x8x64_S2x8192x8x128_000_000_000_0640 h_S_)
    shapeCasts_S2x8192x8x128_S2x8192x1024 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  have h1 (x : FVec Ideal S2x8192x8x128 .f32) : (StableHlo.TRef.of main_v20 : StableHlo.TRef sig ⟨S2x8192x8x128, .f32⟩).toBuf (Val := Elt Ideal) x = x := rfl
  have h2 (x : FVec Ideal S2x8192x8x64 .f32) : (StableHlo.TRef.of main_arg1 : StableHlo.TRef sig ⟨S2x8192x8x64, .f32⟩).ofBuf (Val := Elt Ideal) x = x := rfl
  have h3 (x : FVec Ideal S_ .f32) : (StableHlo.TRef.of main_call8_v0 : StableHlo.TRef sig ⟨S_, .f32⟩).toBuf (Val := Elt Ideal) x = x := rfl
  have h4 (x : FVec Ideal S_ .f32) : (StableHlo.TRef.of main_call8_v0 : StableHlo.TRef sig ⟨S_, .f32⟩).ofBuf (Val := Elt Ideal) x = x := rfl
  have h5 (x : IVec S_ 32) : (StableHlo.TRef.of main_c_6 : StableHlo.TRef sig ⟨S_, .i32⟩).ofBuf (Val := Elt Ideal) x = x := rfl
  refine congrArg (fun z => shapeCast S2x8192x1024 z shapeCasts_S2x8192x8x128_S2x8192x1024) ?_
  refine (h1 _).trans ?_
  exact congrArg₂ (fun (x : FVec Ideal S2x8192x8x64 .f32) (v : FVec Ideal S_ .f32) => pad S2x8192x8x128 ![0, 0, 0, 0] ![0, 0, 0, 64] ![0, 0, 0, 0] x v pads_S2x8192x8x64_S2x8192x8x128_000_000_000_0640 h_S_)
    (h2 _) ((h4 _).trans ((h3 _).trans (congrArg (sitofp (F := Ideal) .f32) (h5 _))))

theorem y_low (b : Fin 2) (t : Fin 8192) (h : Fin 8) (k : Fin 64) :
    (V m c main_v21 : FVec Ideal S2x8192x1024 .f32) (ix3 b t ⟨h.val * 128 + k.val, by omega⟩)
      = (m ((c : Thread nD τ).loc main_arg1) : FVec Ideal S2x8192x8x64 .f32) (ix4 b t h k) := by
  have hk := k.isLt
  have e : (h.val * 128 + k.val) % 128 = k.val := by omega
  rw [y_eq]
  generalize (m ((c : Thread nD τ).loc main_arg1) : FVec Ideal S2x8192x8x64 .f32) = y
  pointwise
  try simp only [e]
  refine dif_pos fun a => ?_
  match a with
  | ⟨0, _⟩ => exact ⟨Nat.zero_le _, Nat.mod_one _, (Nat.div_one _).trans_lt b.isLt⟩
  | ⟨1, _⟩ => exact ⟨Nat.zero_le _, Nat.mod_one _, (Nat.div_one _).trans_lt t.isLt⟩
  | ⟨2, _⟩ => exact ⟨Nat.zero_le _, Nat.mod_one _, (Nat.div_one _).trans_lt h.isLt⟩
  | ⟨3, _⟩ => exact ⟨Nat.zero_le _, Nat.mod_one _, (Nat.div_one _).trans_lt k.isLt⟩

theorem y_high (b : Fin 2) (t : Fin 8192) (h : Fin 8) (k : Fin 64) :
    ((V m c main_v21 : FVec Ideal S2x8192x1024 .f32) (ix3 b t ⟨h.val * 128 + (64 + k.val), by omega⟩) : EReal) = (0 : EReal) := by
  have hk := k.isLt
  have e : (h.val * 128 + (64 + k.val)) % 128 = 64 + k.val := by omega
  rw [y_eq]
  generalize (m ((c : Thread nD τ).loc main_arg1) : FVec Ideal S2x8192x8x64 .f32) = y
  pointwise
  try simp only [e]
  refine (dif_neg fun h' => ?_).trans ?_
  · have h3 : (64 + k.val - 0) / 1 < 64 := (h' 3).2.2
    omega
  · show (FloatOps.sitofp (F := Ideal) .f32 (0#32 : BitVec 32) : EReal) = 0
    show (((0#32 : BitVec 32).toInt : ℝ) : EReal) = 0
    simp

end Cert.Proof.Mix
-- ==== Proof.Mix.Ref.lean ====
module

public import proofs.«01_k».proof.Proof.Mix.Spec
public import proofs.«01_k».proof.Proof.Gen.MixReferenceIdeal.Read
public import Idealize.ShloMosaic.Lib.Pointwise

@[expose] public section

set_option maxRecDepth 16384

noncomputable section

/-! The reference of the output mixing, at an index. -/

namespace Cert.Proof.Mix

open Idealize.ShloMosaic
open Cert.MixReferenceIdeal Cert.MixReferenceIdeal.Read

variable (x0 : FVec Ideal S2x8x8192x128 .bf16) (x1 : FVec Ideal S2x8192x8x64 .f32) (x2 x3 x4 x5 x6 : FVec Ideal S2x8192x1024 .f32)
  (x7 x8 x9 : FVec Ideal S2x1x1024 .f32) (x10 x11 : FVec Ideal S512x1024 .f32) (x12 : FVec Ideal S1024x1024 .f32)
  (x13 x14 : FVec Ideal S512 .f32) (x15 x16 : FVec Ideal S1024 .f32) (b : Fin 2) (t : Fin 8192)

/-- The attention columns of a row. -/
def refA (k : Fin 512) : EReal := x0 (ix4 b ⟨k.val / 64, by omega⟩ t ⟨k.val % 64 + k.val / 256 * 64, by omega⟩)

/-- The recurrent columns of a row. -/
def refR (k : Fin 512) : EReal :=
  (gn (fun j => x1 (ix4 b t ⟨k.val / 64, by omega⟩ j)) ⟨k.val % 64, by omega⟩ * x13 (ix1 k) + x14 (ix1 k)) * x2 (ix3 b t (posR k)) + x3 (ix3 b t (posR k))

/-- The residual stream of a row after the mixing. -/
def refX (d : Fin 1024) : EReal :=
  x6 (ix3 b t d) + x7 (ix3 b 0 d) * rms (mixed (fun e => x4 (ix3 b t e)) (fun e => x5 (ix3 b t e)) (refA x0 b t) (refR x1 x2 x3 x13 x14 b t)
    (fun k e => x10 (ix2 k e)) (fun k e => x11 (ix2 k e)) (fun k e => x12 (ix2 k e))) (fun d => x15 (ix1 d)) d

theorem ref_att (k : Fin 512) : (val_main_v5 (F := Ideal) x0 : FVec Ideal S2x8192x512 .f32) (ix3 b t k) = refA x0 b t k := by
  pointwise [val_main_v5, val_main_v4, val_main_v3, val_main_v2, val_main_v1, val_main_v0, refA]
  have hk := k.isLt
  by_cases h : k.val / 64 < 4
  · rw [dif_pos h]
    refine congrArg x0 ?_
    congr 1
    exact Fin.ext (by show k.val % 64 = k.val % 64 + k.val / 256 * 64; omega)
  · rw [dif_neg h]
    refine congrArg x0 ?_
    congr 1
    · exact Fin.ext (by show 4 + (k.val / 64 - 4) = k.val / 64; omega)
    · exact Fin.ext (by show 64 + k.val % 64 = k.val % 64 + k.val / 256 * 64; omega)

theorem ref_gn (h : Fin 8) (l : Fin 64) : (val_main_v23 (F := Ideal) x1 : FVec Ideal S2x8192x8x64 .f32) (ix4 b t h l) = gn (fun j => x1 (ix4 b t h j)) l := by
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_cst, val_main_cst_0, val_main_cst_1, val_main_cst_2, val_main_cst_3, gn]

theorem ref_rw (k : Fin 512) : (val_main_v38 (F := Ideal) x1 x2 x3 x13 x14 : FVec Ideal S2x8192x512 .f32) (ix3 b t k) = refR x1 x2 x3 x13 x14 b t k := by
  have hg := ref_gn x1 b t
  simp only [val_main_v38, val_main_v37, val_main_v36, val_main_v35, val_main_v34, val_main_v33, val_main_v32, val_main_v31, val_main_v30,
    val_main_v29, val_main_v28, val_main_v27, val_main_v26, val_main_v25, val_main_v24]
  generalize val_main_v23 (F := Ideal) x1 = y at hg ⊢
  pointwise [refR, posR]
  rw [← hg]

theorem ref_o (d : Fin 1024) : (val_main_v44 (F := Ideal) x0 x1 x2 x3 x4 x5 x10 x11 x12 x13 x14 : FVec Ideal S2x8192x1024 .f32) (ix3 b t d)
    = mixed (fun e => x4 (ix3 b t e)) (fun e => x5 (ix3 b t e)) (refA x0 b t) (refR x1 x2 x3 x13 x14 b t)
    (fun k e => x10 (ix2 k e)) (fun k e => x11 (ix2 k e)) (fun k e => x12 (ix2 k e)) d := by
  have ha := ref_att x0 b t
  have hr := ref_rw x1 x2 x3 x13 x14 b t
  simp only [val_main_v44, val_main_v43, val_main_v42, val_main_v41, val_main_v40, val_main_v39]
  generalize val_main_v5 (F := Ideal) x0 = A at ha ⊢
  generalize val_main_v38 (F := Ideal) x1 x2 x3 x13 x14 = B at hr ⊢
  pointwise [mixed]
  simp only [ha, hr]

theorem ref_x1 (d : Fin 1024) : (val_main_v60 (F := Ideal) x0 x1 x2 x3 x4 x5 x6 x7 x10 x11 x12 x13 x14 x15 : FVec Ideal S2x8192x1024 .f32) (ix3 b t d)
    = refX x0 x1 x2 x3 x4 x5 x6 x7 x10 x11 x12 x13 x14 x15 b t d := by
  have ho := ref_o x0 x1 x2 x3 x4 x5 x10 x11 x12 x13 x14 b t
  simp only [val_main_v60, val_main_v59, val_main_v58, val_main_v57, val_main_v56, val_main_v55, val_main_v54, val_main_v53, val_main_v52,
    val_main_v51, val_main_v50, val_main_v49, val_main_v48, val_main_v47, val_main_v46, val_main_v45, val_main_cst_4, val_main_cst_5, val_main_cst_6]
  generalize val_main_v44 (F := Ideal) x0 x1 x2 x3 x4 x5 x10 x11 x12 x13 x14 = O at ho ⊢
  pointwise [refX, rms]
  simp only [ho]

theorem ref_h2 (d : Fin 1024) : (val_main_v80 (F := Ideal) x0 x1 x2 x3 x4 x5 x6 x7 x8 x9 x10 x11 x12 x13 x14 x15 x16 : FVec Ideal S2x8192x1024 .bf16) (ix3 b t d)
    = rms (refX x0 x1 x2 x3 x4 x5 x6 x7 x10 x11 x12 x13 x14 x15 b t) (fun d => x16 (ix1 d)) d * (1 + x8 (ix3 b 0 d)) + x9 (ix3 b 0 d) := by
  have ho := ref_x1 x0 x1 x2 x3 x4 x5 x6 x7 x10 x11 x12 x13 x14 x15 b t
  simp only [val_main_v80, val_main_v79, val_main_v78, val_main_v77, val_main_v76, val_main_v75, val_main_v74, val_main_v73, val_main_v72,
    val_main_v71, val_main_v70, val_main_v69, val_main_v68, val_main_v67, val_main_v66, val_main_v65, val_main_v64, val_main_v63, val_main_v62,
    val_main_v61, val_main_cst_7, val_main_cst_8, val_main_cst_9, val_main_cst_10]
  generalize val_main_v60 (F := Ideal) x0 x1 x2 x3 x4 x5 x6 x7 x10 x11 x12 x13 x14 x15 = O at ho ⊢
  pointwise [rms]
  simp only [ho]

end Cert.Proof.Mix
-- ==== Proof.Mix.Blk.lean ====
module

public import proofs.«01_k».proof.Proof.Gen.MixIdeal.Value
public import Idealize.ShloMosaic.Lib.Pointwise
public import Idealize.ShloMosaic.Lib.Pipeline.ValueKit
public import Idealize.ShloMosaic.Lib.Pipeline.ReadBack

@[expose] public section

set_option maxRecDepth 16384

noncomputable section

/-! The blocks the mixing kernel reads. -/

namespace Cert.Proof.Mix

open Idealize.ShloMosaic Idealize.ShloMosaic.TcCoe Idealize.SL.Sem
open Cert.MixIdeal Cert.MixIdeal.Gen

variable (m : (ℓ : Loc nD τ sig) → Buf (Elt Ideal) ℓ) (c : Dev nD)

theorem idx : ∀ t : Fin cfg0.N, win0_0.index t = ![t.val / 32, 0, t.val % 32, 0] ∧ win0_1.index t = ![t.val / 32, t.val % 32, 0]
    ∧ win0_2.index t = ![t.val / 32, t.val % 32, 0] ∧ win0_3.index t = ![t.val / 32, t.val % 32, 0]
    ∧ win0_4.index t = ![t.val / 32, t.val % 32, 0] ∧ win0_5.index t = ![t.val / 32, t.val % 32, 0]
    ∧ win0_6.index t = ![t.val / 32, t.val % 32, 0] ∧ win0_7.index t = ![t.val / 32, 0, 0]
    ∧ win0_8.index t = ![t.val / 32, 0, 0] ∧ win0_9.index t = ![t.val / 32, 0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0]
    ∧ win0_19.index t = ![t.val / 32, t.val % 32, 0] ∧ win0_20.index t = ![t.val / 32, t.val % 32, 0] := by
  decide +kernel

theorem lt_N (t : Fin cfg0.N) : t.val < 64 := lt_of_lt_of_eq t.isLt (show cfg0.N = 64 from N_0)

/-- The batch of point `t`. -/
def bat (t : Fin cfg0.N) : Fin 2 := ⟨t.val / 32, by have := lt_N t; omega⟩

/-- The array row of row `r` of the block of point `t`. -/
def row (t : Fin cfg0.N) (r : Fin 256) : Fin 8192 := ⟨t.val % 32 * 256 + r.val, by omega⟩

variable (t : Fin cfg0.N)

variable (V' : (c : Dev nD) → (b : Ref sig .tc) → Buf (Elt Ideal) ((c : Thread nD τ).loc b))

/-- The block of window `w` at point `t`, whatever the arrays are. -/
def gblk (c : Dev nD) (w : Fin cfg0.W) (t : Fin cfg0.N) : ((cfg0.win w).xblock (cfg0.grid.coords t)).Idx → Elt Ideal (cfg0.win w).elt :=
  ((cfg0.win w).blk t).view.read (Elt Ideal) (V' c (Pipeline.arrRef spec0 w))

theorem iblk_eq (w : Fin cfg0.W) : iblk m c w t = gblk (V m) c w t := rfl

theorem gblk0 (h : Fin 8) (r : Fin 256) (l : Fin 128) : (gblk V' c 0 t : Vec Ideal S1x8x256x128 .bf16) (ix4 0 h r l) = V' c main_arg0 (ix4 (bat t) h (row t r) l) := by
  blk_ext [gblk, idx t, bat, row]

theorem gblk1 (r : Fin 256) (l : Fin 1024) : (gblk V' c 1 t : Vec Ideal S1x256x1024 .f32) (ix3 0 r l) = V' c main_v21 (ix3 (bat t) (row t r) l) := by
  blk_ext [gblk, idx t, bat, row]

theorem gblk2 (r : Fin 256) (l : Fin 1024) : (gblk V' c 2 t : Vec Ideal S1x256x1024 .f32) (ix3 0 r l) = V' c main_arg2 (ix3 (bat t) (row t r) l) := by
  blk_ext [gblk, idx t, bat, row]

theorem gblk3 (r : Fin 256) (l : Fin 1024) : (gblk V' c 3 t : Vec Ideal S1x256x1024 .f32) (ix3 0 r l) = V' c main_arg3 (ix3 (bat t) (row t r) l) := by
  blk_ext [gblk, idx t, bat, row]

theorem gblk4 (r : Fin 256) (l : Fin 1024) : (gblk V' c 4 t : Vec Ideal S1x256x1024 .f32) (ix3 0 r l) = V' c main_arg4 (ix3 (bat t) (row t r) l) := by
  blk_ext [gblk, idx t, bat, row]

theorem gblk5 (r : Fin 256) (l : Fin 1024) : (gblk V' c 5 t : Vec Ideal S1x256x1024 .f32) (ix3 0 r l) = V' c main_arg5 (ix3 (bat t) (row t r) l) := by
  blk_ext [gblk, idx t, bat, row]

theorem gblk6 (r : Fin 256) (l : Fin 1024) : (gblk V' c 6 t : Vec Ideal S1x256x1024 .f32) (ix3 0 r l) = V' c main_arg6 (ix3 (bat t) (row t r) l) := by
  blk_ext [gblk, idx t, bat, row]

theorem gblk7 (l : Fin 1024) : (gblk V' c 7 t : Vec Ideal S1x1x1024 .f32) (ix3 0 0 l) = V' c main_arg7 (ix3 (bat t) 0 l) := by
  blk_ext [gblk, idx t, bat]

theorem gblk8 (l : Fin 1024) : (gblk V' c 8 t : Vec Ideal S1x1x1024 .f32) (ix3 0 0 l) = V' c main_arg8 (ix3 (bat t) 0 l) := by
  blk_ext [gblk, idx t, bat]

theorem gblk9 (l : Fin 1024) : (gblk V' c 9 t : Vec Ideal S1x1x1024 .f32) (ix3 0 0 l) = V' c main_arg9 (ix3 (bat t) 0 l) := by
  blk_ext [gblk, idx t, bat]

theorem gblk10 (k l : Fin 1024) : (gblk V' c 10 t : Vec Ideal S1024x1024 .bf16) (ix2 k l) = V' c main_v3 (ix2 k l) := by
  blk_ext [gblk, idx t]

theorem gblk11 (k l : Fin 1024) : (gblk V' c 11 t : Vec Ideal S1024x1024 .bf16) (ix2 k l) = V' c main_v7 (ix2 k l) := by
  blk_ext [gblk, idx t]

theorem gblk12 (k l : Fin 1024) : (gblk V' c 12 t : Vec Ideal S1024x1024 .bf16) (ix2 k l) = V' c main_v8 (ix2 k l) := by
  blk_ext [gblk, idx t]

theorem gblk13 (l : Fin 1024) : (gblk V' c 13 t : Vec Ideal S1x1024 .f32) (ix2 0 l) = V' c main_v12 (ix2 0 l) := by
  blk_ext [gblk, idx t]

theorem gblk14 (l : Fin 1024) : (gblk V' c 14 t : Vec Ideal S1x1024 .f32) (ix2 0 l) = V' c main_v16 (ix2 0 l) := by
  blk_ext [gblk, idx t]

theorem gblk15 (l : Fin 1024) : (gblk V' c 15 t : Vec Ideal S1x1024 .f32) (ix2 0 l) = V' c main_v17 (ix2 0 l) := by
  blk_ext [gblk, idx t]

theorem gblk16 (l : Fin 1024) : (gblk V' c 16 t : Vec Ideal S1x1024 .f32) (ix2 0 l) = V' c main_v18 (ix2 0 l) := by
  blk_ext [gblk, idx t]

end Cert.Proof.Mix
-- ==== Proof.Mix.BlkV.lean ====
module

public import proofs.«01_k».proof.Proof.Mix.Blk

@[expose] public section

set_option maxRecDepth 16384

noncomputable section

/-! The blocks the mixing kernel reads, of the arrays it is launched on. -/

namespace Cert.Proof.Mix

open Idealize.ShloMosaic Idealize.ShloMosaic.TcCoe Idealize.SL.Sem
open Cert.MixIdeal Cert.MixIdeal.Gen

variable (m : (ℓ : Loc nD τ sig) → Buf (Elt Ideal) ℓ) (c : Dev nD)

variable (t : Fin cfg0.N)

theorem blk0 (h : Fin 8) (r : Fin 256) (l : Fin 128) : (iblk m c 0 t : Vec Ideal S1x8x256x128 .bf16) (ix4 0 h r l) = m ((c : Thread nD τ).loc main_arg0) (ix4 (bat t) h (row t r) l) :=
  (congrFun (iblk_eq m c t 0) _).trans ((gblk0 c t (V m) h r l).trans (congrFun (V_main_arg0 m c) _))

theorem blk1 (r : Fin 256) (l : Fin 1024) : (iblk m c 1 t : Vec Ideal S1x256x1024 .f32) (ix3 0 r l) = V m c main_v21 (ix3 (bat t) (row t r) l) :=
  (congrFun (iblk_eq m c t 1) _).trans (gblk1 c t (V m) r l)

theorem blk2 (r : Fin 256) (l : Fin 1024) : (iblk m c 2 t : Vec Ideal S1x256x1024 .f32) (ix3 0 r l) = m ((c : Thread nD τ).loc main_arg2) (ix3 (bat t) (row t r) l) :=
  (congrFun (iblk_eq m c t 2) _).trans ((gblk2 c t (V m) r l).trans (congrFun (V_main_arg2 m c) _))

theorem blk3 (r : Fin 256) (l : Fin 1024) : (iblk m c 3 t : Vec Ideal S1x256x1024 .f32) (ix3 0 r l) = m ((c : Thread nD τ).loc main_arg3) (ix3 (bat t) (row t r) l) :=
  (congrFun (iblk_eq m c t 3) _).trans ((gblk3 c t (V m) r l).trans (congrFun (V_main_arg3 m c) _))

theorem blk4 (r : Fin 256) (l : Fin 1024) : (iblk m c 4 t : Vec Ideal S1x256x1024 .f32) (ix3 0 r l) = m ((c : Thread nD τ).loc main_arg4) (ix3 (bat t) (row t r) l) :=
  (congrFun (iblk_eq m c t 4) _).trans ((gblk4 c t (V m) r l).trans (congrFun (V_main_arg4 m c) _))

theorem blk5 (r : Fin 256) (l : Fin 1024) : (iblk m c 5 t : Vec Ideal S1x256x1024 .f32) (ix3 0 r l) = m ((c : Thread nD τ).loc main_arg5) (ix3 (bat t) (row t r) l) :=
  (congrFun (iblk_eq m c t 5) _).trans ((gblk5 c t (V m) r l).trans (congrFun (V_main_arg5 m c) _))

theorem blk6 (r : Fin 256) (l : Fin 1024) : (iblk m c 6 t : Vec Ideal S1x256x1024 .f32) (ix3 0 r l) = m ((c : Thread nD τ).loc main_arg6) (ix3 (bat t) (row t r) l) :=
  (congrFun (iblk_eq m c t 6) _).trans ((gblk6 c t (V m) r l).trans (congrFun (V_main_arg6 m c) _))

theorem blk7 (l : Fin 1024) : (iblk m c 7 t : Vec Ideal S1x1x1024 .f32) (ix3 0 0 l) = m ((c : Thread nD τ).loc main_arg7) (ix3 (bat t) 0 l) :=
  (congrFun (iblk_eq m c t 7) _).trans ((gblk7 c t (V m) l).trans (congrFun (V_main_arg7 m c) _))

theorem blk8 (l : Fin 1024) : (iblk m c 8 t : Vec Ideal S1x1x1024 .f32) (ix3 0 0 l) = m ((c : Thread nD τ).loc main_arg8) (ix3 (bat t) 0 l) :=
  (congrFun (iblk_eq m c t 8) _).trans ((gblk8 c t (V m) l).trans (congrFun (V_main_arg8 m c) _))

theorem blk9 (l : Fin 1024) : (iblk m c 9 t : Vec Ideal S1x1x1024 .f32) (ix3 0 0 l) = m ((c : Thread nD τ).loc main_arg9) (ix3 (bat t) 0 l) :=
  (congrFun (iblk_eq m c t 9) _).trans ((gblk9 c t (V m) l).trans (congrFun (V_main_arg9 m c) _))

theorem blk10 (k l : Fin 1024) : (iblk m c 10 t : Vec Ideal S1024x1024 .bf16) (ix2 k l) = V m c main_v3 (ix2 k l) :=
  (congrFun (iblk_eq m c t 10) _).trans (gblk10 c t (V m) k l)

theorem blk11 (k l : Fin 1024) : (iblk m c 11 t : Vec Ideal S1024x1024 .bf16) (ix2 k l) = V m c main_v7 (ix2 k l) :=
  (congrFun (iblk_eq m c t 11) _).trans (gblk11 c t (V m) k l)

theorem blk12 (k l : Fin 1024) : (iblk m c 12 t : Vec Ideal S1024x1024 .bf16) (ix2 k l) = V m c main_v8 (ix2 k l) :=
  (congrFun (iblk_eq m c t 12) _).trans (gblk12 c t (V m) k l)

theorem blk13 (l : Fin 1024) : (iblk m c 13 t : Vec Ideal S1x1024 .f32) (ix2 0 l) = V m c main_v12 (ix2 0 l) :=
  (congrFun (iblk_eq m c t 13) _).trans (gblk13 c t (V m) l)

theorem blk14 (l : Fin 1024) : (iblk m c 14 t : Vec Ideal S1x1024 .f32) (ix2 0 l) = V m c main_v16 (ix2 0 l) :=
  (congrFun (iblk_eq m c t 14) _).trans (gblk14 c t (V m) l)

theorem blk15 (l : Fin 1024) : (iblk m c 15 t : Vec Ideal S1x1024 .f32) (ix2 0 l) = V m c main_v17 (ix2 0 l) :=
  (congrFun (iblk_eq m c t 15) _).trans (gblk15 c t (V m) l)

theorem blk16 (l : Fin 1024) : (iblk m c 16 t : Vec Ideal S1x1024 .f32) (ix2 0 l) = V m c main_v18 (ix2 0 l) :=
  (congrFun (iblk_eq m c t 16) _).trans (gblk16 c t (V m) l)

end Cert.Proof.Mix
-- ==== Proof.Mix.Arr.lean ====
module

public import proofs.«01_k».proof.Proof.Mix.Out
public import proofs.«01_k».proof.Proof.Mix.Host
public import proofs.«01_k».proof.Proof.Mix.HostY
public import proofs.«01_k».proof.Proof.Mix.Ref
public import proofs.«01_k».proof.Proof.Mix.BlkV
public import proofs.«01_k».proof.Proof.Gen.MixIdeal.Value
public import Idealize.ShloMosaic.Lib.Pipeline.ReadBack

@[expose] public section

set_option maxRecDepth 16384

noncomputable section

/-! The arrays the mixing kernel leaves are the reference's. -/

namespace Cert.Proof.Mix

open Idealize.ShloMosaic Idealize.ShloMosaic.TcCoe Idealize.SL.Sem
open Cert.MixIdeal Cert.MixIdeal.Gen

variable (m : (ℓ : Loc nD τ sig) → Buf (Elt Ideal) ℓ) (c : Dev nD)

variable (t : Fin cfg0.N)

theorem add_mul_congr {a b z w : EReal} (h : z = w) : a + b * z = a + b * w := by rw [h]

theorem mul_add_congr {a b z w : EReal} (h : z = w) : z * a + b = w * a + b := by rw [h]

theorem affine_congr {a b c d z w : EReal} (h : z = w) : (z * a + b) * c + d = (w * a + b) * c + d := by rw [h]

theorem att_row (r : Fin 256) (k : Fin 512) : attK (iblk m c 0 t) r (posA k) = refA (m ((c : Thread nD τ).loc main_arg0)) (bat t) (row t r) k := by
  unfold attK refA
  rw [blk0]
  refine congrArg _ ?_
  congr 1
  · exact Fin.ext (by simp only [posA]; omega)
  · exact Fin.ext (by simp only [posA]; omega)

theorem rec_row (r : Fin 256) (k : Fin 512) : rwK (iblk m c 1 t) (iblk m c 2 t) (iblk m c 3 t) (iblk m c 13 t) (iblk m c 14 t) r (posR k)
    = refR (m ((c : Thread nD τ).loc main_arg1)) (m ((c : Thread nD τ).loc main_arg2)) (m ((c : Thread nD τ).loc main_arg3))
      (m ((c : Thread nD τ).loc main_arg13)) (m ((c : Thread nD τ).loc main_arg14)) (bat t) (row t r) k := by
  unfold rwK refR
  rw [blk2, blk3, blk13, blk14, lnw_pos, lnb_pos]
  refine affine_congr ?_
  have e1 : (posR k).val / 128 = k.val / 64 := by simp only [posR]; omega
  have e2 : (posR k).val % 128 = k.val % 64 := by simp only [posR]; omega
  simp only [e1, e2, blk1]
  refine (gnPad_eq (fun j => (V m c main_v21 : FVec Ideal S2x8192x1024 .f32) (ix3 (bat t) (row t r) ⟨k.val / 64 * 128 + j.val, by omega⟩))
    (fun j => y_high m c (bat t) (row t r) ⟨k.val / 64, by omega⟩ j) ⟨k.val % 64, by omega⟩).trans ?_
  exact congrArg (fun z => gn z _) (funext fun j => y_low m c (bat t) (row t r) ⟨k.val / 64, by omega⟩ j)

theorem woa_row (k : Fin 512) (e : Fin 1024) : (iblk m c 10 t : Vec Ideal S1024x1024 .bf16) (ix2 (posA k) e)
    = (m ((c : Thread nD τ).loc main_arg10) : FVec Ideal S512x1024 .f32) (ix2 k e) := (blk10 m c t (posA k) e).trans (woa_pos m c k e)

theorem wor_row (k : Fin 512) (e : Fin 1024) : (iblk m c 11 t : Vec Ideal S1024x1024 .bf16) (ix2 (posR k) e)
    = (m ((c : Thread nD τ).loc main_arg11) : FVec Ideal S512x1024 .f32) (ix2 k e) := (blk11 m c t (posR k) e).trans (wor_pos m c k e)

theorem woa_zero (p : Fin 1024) (hp : p ∉ Set.range posA) (e : Fin 1024) :
    ((iblk m c 10 t : Vec Ideal S1024x1024 .bf16) (ix2 p e) : EReal) = (0 : EReal) := (blk10 m c t p e).trans (woa_off m c p hp e)

theorem wor_zero (p : Fin 1024) (hp : p ∉ Set.range posR) (e : Fin 1024) :
    ((iblk m c 11 t : Vec Ideal S1024x1024 .bf16) (ix2 p e) : EReal) = (0 : EReal) := (blk11 m c t p e).trans (wor_off m c p hp e)

theorem wout_row (k e : Fin 1024) : (iblk m c 12 t : Vec Ideal S1024x1024 .bf16) (ix2 k e)
    = (m ((c : Thread nD τ).loc main_arg12) : FVec Ideal S1024x1024 .f32) (ix2 k e) := (blk12 m c t k e).trans (wout_apply m c k e)

theorem gpost_row (d : Fin 1024) : (iblk m c 15 t : Vec Ideal S1x1024 .f32) (ix2 0 d)
    = (m ((c : Thread nD τ).loc main_arg15) : FVec Ideal S1024 .f32) (ix1 d) := (blk15 m c t d).trans (gpost_apply m c d)

theorem gpre_row (d : Fin 1024) : (iblk m c 16 t : Vec Ideal S1x1024 .f32) (ix2 0 d)
    = (m ((c : Thread nD τ).loc main_arg16) : FVec Ideal S1024 .f32) (ix1 d) := (blk16 m c t d).trans (gpre_apply m c d)

theorem rms_congr {x y g h : Fin 1024 → EReal} (hx : ∀ d, x d = y d) (hg : ∀ d, g d = h d) (d : Fin 1024) : rms x g d = rms y h d := by
  rw [funext hx, funext hg]

/-- The row a grid point writes is the reference's row. -/
theorem x1_row (r : Fin 256) (d : Fin 1024) :
    x1K (iblk m c 0 t) (iblk m c 1 t) (iblk m c 2 t) (iblk m c 3 t) (iblk m c 4 t) (iblk m c 5 t) (iblk m c 6 t) (iblk m c 7 t)
      (iblk m c 10 t) (iblk m c 11 t) (iblk m c 12 t) (iblk m c 13 t) (iblk m c 14 t) (iblk m c 15 t) r d
    = refX (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg10))
      (m ((c : Thread nD τ).loc main_arg11)) (m ((c : Thread nD τ).loc main_arg12)) (m ((c : Thread nD τ).loc main_arg13))
      (m ((c : Thread nD τ).loc main_arg14)) (m ((c : Thread nD τ).loc main_arg15)) (bat t) (row t r) d := by
  unfold x1K refX
  rw [blk6, blk7]
  refine add_mul_congr ?_
  refine rms_congr (fun e => ?_) (fun e => gpost_row m c t e) d
  exact mixed_pad (fun e => blk4 m c t r e) (fun e => blk5 m c t r e) (att_row m c t r) (rec_row m c t r) (woa_row m c t) (wor_row m c t)
    (woa_zero m c t) (wor_zero m c t) (wout_row m c t) e

open Cert.MixReferenceIdeal.Read in
theorem value_x1 : val_main_v60 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg10))
      (m ((c : Thread nD τ).loc main_arg11)) (m ((c : Thread nD τ).loc main_arg12)) (m ((c : Thread nD τ).loc main_arg13))
      (m ((c : Thread nD τ).loc main_arg14)) (m ((c : Thread nD τ).loc main_arg15)) = (dats m 0 c).arrAt 19 cfg0.N := by
  refine ((dats m 0 c).arrAt_eq_of_covers 19 _ (by decide +kernel) fun t hf y => ?_).symm
  obtain ⟨u, r, l, rfl⟩ : ∃ (u : Fin 1) (r : Fin 256) (l : Fin 1024), y = ix3 u r l := ⟨y 0, y 1, y 2, eq_ix3 y⟩
  obtain rfl : u = 0 := Subsingleton.elim _ _
  have he : ((win0_19.blk t).view.emb (ix3 0 r l) : S2x8192x1024.Idx) = ix3 (bat t) (row t r) l := by
    blk_ext [idx t, row, bat]
  show (win0_19.cut (grid0.coords t) ((dats m 0 c).after 19 t)) (ix3 0 r l) = val_main_v60 (F := Ideal) _ _ _ _ _ _ _ _ _ _ _ _ _ _ ((win0_19.blk t).view.emb (ix3 0 r l))
  rw [he, ref_x1, after0_19]
  refine (out_x1 _ _ _ _ _ _ _ _ _ _ _ _ _ _ _ _ _ _ _ r l).trans ?_
  exact x1_row m c t r l

open Cert.MixReferenceIdeal.Read in
theorem value_h2 : val_main_v80 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
      (m ((c : Thread nD τ).loc main_arg13)) (m ((c : Thread nD τ).loc main_arg14)) (m ((c : Thread nD τ).loc main_arg15))
      (m ((c : Thread nD τ).loc main_arg16)) = (dats m 0 c).arrAt 20 cfg0.N := by
  refine ((dats m 0 c).arrAt_eq_of_covers 20 _ (by decide +kernel) fun t hf y => ?_).symm
  obtain ⟨u, r, l, rfl⟩ : ∃ (u : Fin 1) (r : Fin 256) (l : Fin 1024), y = ix3 u r l := ⟨y 0, y 1, y 2, eq_ix3 y⟩
  obtain rfl : u = 0 := Subsingleton.elim _ _
  have he : ((win0_20.blk t).view.emb (ix3 0 r l) : S2x8192x1024.Idx) = ix3 (bat t) (row t r) l := by
    blk_ext [idx t, row, bat]
  show (win0_20.cut (grid0.coords t) ((dats m 0 c).after 20 t)) (ix3 0 r l) = val_main_v80 (F := Ideal) _ _ _ _ _ _ _ _ _ _ _ _ _ _ _ _ _ ((win0_20.blk t).view.emb (ix3 0 r l))
  rw [he, ref_h2, after0_20]
  refine (out_h2 _ _ _ _ _ _ _ _ _ _ _ _ _ _ _ _ _ _ _ r l).trans ?_
  rw [blk8, blk9]
  refine mul_add_congr ?_
  exact rms_congr (fun d => x1_row m c t r d) (fun d => gpre_row m c t d) l

end Cert.Proof.Mix
-- ==== Proof.lean ====
module

public import proofs.«01_k».proof.Defs
public import proofs.«01_k».proof.Proof.Gen.Moe.Frame
public import proofs.«01_k».proof.Proof.Gen.MoeIdeal.Value
public import proofs.«01_k».proof.Proof.Gen.MoeReferenceIdeal.Run
public import proofs.«01_k».proof.Proof.Gen.MoeReferenceIdeal.Read
public import proofs.«01_k».proof.Proof.Moe
public import proofs.«01_k».proof.Proof.Gen.MoeS.Frame
public import proofs.«01_k».proof.Proof.Gen.MoeSIdeal.Value
public import proofs.«01_k».proof.Proof.Gen.MoeSReferenceIdeal.Run
public import proofs.«01_k».proof.Proof.Gen.MoeSReferenceIdeal.Read
public import proofs.«01_k».proof.Proof.MoeS
public import proofs.«01_k».proof.Proof.Gen.Proj.Frame
public import proofs.«01_k».proof.Proof.Gen.ProjIdeal.Frame
public import proofs.«01_k».proof.Proof.Gen.ProjReferenceIdeal.Run
public import proofs.«01_k».proof.Proof.Gen.ProjReferenceIdeal.Read
public import proofs.«01_k».proof.Proof.Proj.SameQ
public import proofs.«01_k».proof.Proof.Gen.Scan.Frame
public import proofs.«01_k».proof.Proof.Gen.ScanIdeal.Frame
public import proofs.«01_k».proof.Proof.Gen.ScanReferenceIdeal.Run
public import proofs.«01_k».proof.Proof.Gen.ScanS.Frame
public import proofs.«01_k».proof.Proof.Gen.ScanSIdeal.Frame
public import proofs.«01_k».proof.Proof.Gen.ScanSReferenceIdeal.Run
public import proofs.«01_k».proof.Proof.Gen.ScanSReferenceIdeal.Read
public import proofs.«01_k».proof.Proof.Scan
public import proofs.«01_k».proof.Proof.ScanS
public import proofs.«01_k».proof.Proof.Mix.Arr
public import proofs.«01_k».proof.Proof.Gen.Mix.Frame
public import proofs.«01_k».proof.Proof.Gen.MixIdeal.Value
public import proofs.«01_k».proof.Proof.Gen.MixReferenceIdeal.Run
public import proofs.«01_k».proof.Proof.Gen.MixReferenceIdeal.Read
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_MoeReferenceIdeal : quiescent_MoeReferenceIdeal := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

theorem algebraic_MoeIdeal_MoeReferenceIdeal : algebraic_MoeIdeal_MoeReferenceIdeal := by
  intro m ρ m' ρ' _ hagree
  refine ⟨_, Cert.MoeIdeal.Value.run_blocks (F := Ideal) m ρ, ?_⟩
  refine (θ_run Cert.MoeReferenceIdeal.defs _ _).mono (fun _ h c => ⟨?_, (h c).2⟩) (Cert.MoeReferenceIdeal.Value.run (F := Ideal) m' ρ')
  rw [(h c).1]
  exact (Cert.MoeReferenceIdeal.Read.val_main_v45_eq m' c).trans (by
    simp only [hagree c]
    exact Moe.value m c)

theorem quiescent_MoeSReferenceIdeal : quiescent_MoeSReferenceIdeal := fun m ρ _ =>
  (θ_run Cert.MoeSReferenceIdeal.defs _ _).mono (fun r h => ⟨fun c => (h c).2, sem_eq_zero_of_no_sems (by decide) r.2⟩)
    (Cert.MoeSReferenceIdeal.Value.run (F := Ideal) m ρ)

theorem algebraic_MoeSIdeal_MoeSReferenceIdeal : algebraic_MoeSIdeal_MoeSReferenceIdeal := by
  intro m ρ m' ρ' _ hagree
  refine ⟨_, Cert.MoeSIdeal.Value.run_blocks (F := Ideal) m ρ, ?_⟩
  refine (θ_run Cert.MoeSReferenceIdeal.defs _ _).mono (fun _ h c => ⟨?_, (h c).2⟩) (Cert.MoeSReferenceIdeal.Value.run (F := Ideal) m' ρ')
  rw [(h c).1]
  exact (Cert.MoeSReferenceIdeal.Read.val_main_v45_eq m' c).trans (by
    simp only [hagree c]
    exact MoeS.value m c)

theorem quiescent_ProjReferenceIdeal : quiescent_ProjReferenceIdeal := fun m ρ _ =>
  (θ_run Cert.ProjReferenceIdeal.defs _ _).mono
    (fun r h => ⟨fun c => (h c).2.2.2.2.2.2.2.2.2.2.2.2.2.2.2.2.2.2.2.2.2.2.2.2.2.2, sem_eq_zero_of_no_sems (by decide) r.2⟩)
    (Cert.ProjReferenceIdeal.Value.run (F := Ideal) m ρ)

section Projections
open Cert.ProjIdeal.Gen Idealize.ShloMosaic.TcCoe

theorem algebraic_ProjIdeal_ProjReferenceIdeal : algebraic_ProjIdeal_ProjReferenceIdeal := by
  intro m ρ m' ρ' _ hagree
  refine ⟨fun c => W27 m ρ c (Proc.devRef .tc Cert.ProjIdeal.main_v59), fun c => W27 m ρ c (Proc.devRef .tc Cert.ProjIdeal.main_v60), fun c => W27 m ρ c (Proc.devRef .tc Cert.ProjIdeal.main_v53_6), fun c => W27 m ρ c (Proc.devRef .tc Cert.ProjIdeal.main_v58), fun c => W27 m ρ c (Proc.devRef .tc Cert.ProjIdeal.main_v53_8), fun c => W27 m ρ c (Proc.devRef .tc Cert.ProjIdeal.main_v54_1), fun c => W27 m ρ c (Proc.devRef .tc Cert.ProjIdeal.main_v54_2), fun c => W27 m ρ c (Proc.devRef .tc Cert.ProjIdeal.main_v53_0), fun c => W27 m ρ c (Proc.devRef .tc Cert.ProjIdeal.main_v53_3), fun c => W27 m ρ c (Proc.devRef .tc Cert.ProjIdeal.main_v53_4), fun c => W27 m ρ c (Proc.devRef .tc Cert.ProjIdeal.main_v53_5), fun c => W27 m ρ c (Proc.devRef .tc Cert.ProjIdeal.main_v53_7), fun c => W27 m ρ c (Proc.devRef .tc Cert.ProjIdeal.main_v54_0), fun c => W27 m ρ c (Proc.devRef .tc Cert.ProjIdeal.main_v67), fun c => W27 m ρ c (Proc.devRef .tc Cert.ProjIdeal.main_v68), fun c => W27 m ρ c (Proc.devRef .tc Cert.ProjIdeal.main_v61_6), fun c => W27 m ρ c (Proc.devRef .tc Cert.ProjIdeal.main_v66), fun c => W27 m ρ c (Proc.devRef .tc Cert.ProjIdeal.main_v61_8), fun c => W27 m ρ c (Proc.devRef .tc Cert.ProjIdeal.main_v62_1), fun c => W27 m ρ c (Proc.devRef .tc Cert.ProjIdeal.main_v62_2), fun c => W27 m ρ c (Proc.devRef .tc Cert.ProjIdeal.main_v61_0), fun c => W27 m ρ c (Proc.devRef .tc Cert.ProjIdeal.main_v61_3), fun c => W27 m ρ c (Proc.devRef .tc Cert.ProjIdeal.main_v61_4), fun c => W27 m ρ c (Proc.devRef .tc Cert.ProjIdeal.main_v61_5), fun c => W27 m ρ c (Proc.devRef .tc Cert.ProjIdeal.main_v61_7), fun c => W27 m ρ c (Proc.devRef .tc Cert.ProjIdeal.main_v62_0), ?_, ?_⟩
  · refine (θ_run Cert.ProjIdeal.defs _ _).mono (fun r h c => ?_) (Proj.run_all (F := Ideal) m ρ)
    exact ⟨h c _ (Cert.ProjIdeal.Gen.mem_uc Cert.ProjIdeal.main_v59 (by decide)), h c _ (Cert.ProjIdeal.Gen.mem_uc Cert.ProjIdeal.main_v60 (by decide)), h c _ (Cert.ProjIdeal.Gen.mem_uc Cert.ProjIdeal.main_v53_6 (by decide)), h c _ (Cert.ProjIdeal.Gen.mem_uc Cert.ProjIdeal.main_v58 (by decide)), h c _ (Cert.ProjIdeal.Gen.mem_uc Cert.ProjIdeal.main_v53_8 (by decide)), h c _ (Cert.ProjIdeal.Gen.mem_uc Cert.ProjIdeal.main_v54_1 (by decide)), h c _ (Cert.ProjIdeal.Gen.mem_uc Cert.ProjIdeal.main_v54_2 (by decide)), h c _ (Cert.ProjIdeal.Gen.mem_uc Cert.ProjIdeal.main_v53_0 (by decide)), h c _ (Cert.ProjIdeal.Gen.mem_uc Cert.ProjIdeal.main_v53_3 (by decide)), h c _ (Cert.ProjIdeal.Gen.mem_uc Cert.ProjIdeal.main_v53_4 (by decide)), h c _ (Cert.ProjIdeal.Gen.mem_uc Cert.ProjIdeal.main_v53_5 (by decide)), h c _ (Cert.ProjIdeal.Gen.mem_uc Cert.ProjIdeal.main_v53_7 (by decide)), h c _ (Cert.ProjIdeal.Gen.mem_uc Cert.ProjIdeal.main_v54_0 (by decide)), h c _ (Cert.ProjIdeal.Gen.mem_uc Cert.ProjIdeal.main_v67 (by decide)), h c _ (Cert.ProjIdeal.Gen.mem_uc Cert.ProjIdeal.main_v68 (by decide)), h c _ (Cert.ProjIdeal.Gen.mem_uc Cert.ProjIdeal.main_v61_6 (by decide)), h c _ (Cert.ProjIdeal.Gen.mem_uc Cert.ProjIdeal.main_v66 (by decide)), h c _ (Cert.ProjIdeal.Gen.mem_uc Cert.ProjIdeal.main_v61_8 (by decide)), h c _ (Cert.ProjIdeal.Gen.mem_uc Cert.ProjIdeal.main_v62_1 (by decide)), h c _ (Cert.ProjIdeal.Gen.mem_uc Cert.ProjIdeal.main_v62_2 (by decide)), h c _ (Cert.ProjIdeal.Gen.mem_uc Cert.ProjIdeal.main_v61_0 (by decide)), h c _ (Cert.ProjIdeal.Gen.mem_uc Cert.ProjIdeal.main_v61_3 (by decide)), h c _ (Cert.ProjIdeal.Gen.mem_uc Cert.ProjIdeal.main_v61_4 (by decide)), h c _ (Cert.ProjIdeal.Gen.mem_uc Cert.ProjIdeal.main_v61_5 (by decide)), h c _ (Cert.ProjIdeal.Gen.mem_uc Cert.ProjIdeal.main_v61_7 (by decide)), h c _ (Cert.ProjIdeal.Gen.mem_uc Cert.ProjIdeal.main_v62_0 (by decide)),
      (h c _ (Cert.ProjIdeal.Gen.mem_uc Cert.ProjIdeal.main_arg0 (by decide))).trans (W27_main_arg0 m ρ c), (h c _ (Cert.ProjIdeal.Gen.mem_uc Cert.ProjIdeal.main_arg1 (by decide))).trans (W27_main_arg1 m ρ c), (h c _ (Cert.ProjIdeal.Gen.mem_uc Cert.ProjIdeal.main_arg2 (by decide))).trans (W27_main_arg2 m ρ c), (h c _ (Cert.ProjIdeal.Gen.mem_uc Cert.ProjIdeal.main_arg3 (by decide))).trans (W27_main_arg3 m ρ c), (h c _ (Cert.ProjIdeal.Gen.mem_uc Cert.ProjIdeal.main_arg4 (by decide))).trans (W27_main_arg4 m ρ c), (h c _ (Cert.ProjIdeal.Gen.mem_uc Cert.ProjIdeal.main_arg5 (by decide))).trans (W27_main_arg5 m ρ c), (h c _ (Cert.ProjIdeal.Gen.mem_uc Cert.ProjIdeal.main_arg6 (by decide))).trans (W27_main_arg6 m ρ c), (h c _ (Cert.ProjIdeal.Gen.mem_uc Cert.ProjIdeal.main_arg7 (by decide))).trans (W27_main_arg7 m ρ c), (h c _ (Cert.ProjIdeal.Gen.mem_uc Cert.ProjIdeal.main_arg8 (by decide))).trans (W27_main_arg8 m ρ c), (h c _ (Cert.ProjIdeal.Gen.mem_uc Cert.ProjIdeal.main_arg9 (by decide))).trans (W27_main_arg9 m ρ c)⟩
  · refine (θ_run Cert.ProjReferenceIdeal.defs _ _).mono (fun _ h c => ?_) (Cert.ProjReferenceIdeal.Value.run (F := Ideal) m' ρ')
    obtain ⟨h0, h1, h2, h3, h4, h5, h6, h7, h8, h9, h10, h11, h12, h13, h14, h15, h16, h17, h18, h19, h20, h21, h22, h23, h24, h25, hargs⟩ := h c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, hargs⟩
    · exact (Cert.ProjReferenceIdeal.Read.val_main_v41_eq _).trans (by simp only [StableHlo.launchContents_devRef, hagree c]; exact Proj.same_key m ρ c)
    · exact (Cert.ProjReferenceIdeal.Read.val_main_v42_eq _).trans (by simp only [StableHlo.launchContents_devRef, hagree c]; exact Proj.same_val m ρ c)
    · exact (Cert.ProjReferenceIdeal.Read.val_main_v66_eq _).trans (by simp only [StableHlo.launchContents_devRef, hagree c]; exact Proj.same_ik m ρ c)
    · exact (Cert.ProjReferenceIdeal.Read.val_main_v67_eq _).trans (by simp only [StableHlo.launchContents_devRef, hagree c]; exact Proj.same_shift m ρ c)
    · exact (Cert.ProjReferenceIdeal.Read.val_main_v69_eq _).trans (by simp only [StableHlo.launchContents_devRef, hagree c]; exact Proj.same_iw m ρ c)
    · exact (Cert.ProjReferenceIdeal.Read.val_main_v75_eq _).trans (by simp only [StableHlo.launchContents_devRef, hagree c]; exact Proj.same_ga m ρ c)
    · exact (Cert.ProjReferenceIdeal.Read.val_main_v81_eq _).trans (by simp only [StableHlo.launchContents_devRef, hagree c]; exact Proj.same_gb m ρ c)
    · exact (Cert.ProjReferenceIdeal.Read.val_main_v91_eq _).trans (by simp only [StableHlo.launchContents_devRef, hagree c]; exact Proj.same_q m ρ c)
    · exact (Cert.ProjReferenceIdeal.Read.val_main_v92_eq _).trans (by simp only [StableHlo.launchContents_devRef, hagree c]; exact Proj.same_kb m ρ c)
    · exact (Cert.ProjReferenceIdeal.Read.val_main_v93_eq _).trans (by simp only [StableHlo.launchContents_devRef, hagree c]; exact Proj.same_vb m ρ c)
    · exact (Cert.ProjReferenceIdeal.Read.val_main_v97_eq _).trans (by simp only [StableHlo.launchContents_devRef, hagree c]; exact Proj.same_iq m ρ c)
    · exact (Cert.ProjReferenceIdeal.Read.val_main_v99_eq _).trans (by simp only [StableHlo.launchContents_devRef, hagree c]; exact Proj.same_ikb m ρ c)
    · exact (Cert.ProjReferenceIdeal.Read.val_main_v105_eq _).trans (by simp only [StableHlo.launchContents_devRef, hagree c]; exact Proj.same_zr m ρ c)
    · exact (Cert.ProjReferenceIdeal.Read.val_main_v147_eq _).trans (by simp only [StableHlo.launchContents_devRef, hagree c]; exact Proj.same_keyS m ρ c)
    · exact (Cert.ProjReferenceIdeal.Read.val_main_v148_eq _).trans (by simp only [StableHlo.launchContents_devRef, hagree c]; exact Proj.same_valS m ρ c)
    · exact (Cert.ProjReferenceIdeal.Read.val_main_v172_eq _).trans (by simp only [StableHlo.launchContents_devRef, hagree c]; exact Proj.same_ikS m ρ c)
    · exact (Cert.ProjReferenceIdeal.Read.val_main_v173_eq _).trans (by simp only [StableHlo.launchContents_devRef, hagree c]; exact Proj.same_shiftS m ρ c)
    · exact (Cert.ProjReferenceIdeal.Read.val_main_v175_eq _).trans (by simp only [StableHlo.launchContents_devRef, hagree c]; exact Proj.same_iwS m ρ c)
    · exact (Cert.ProjReferenceIdeal.Read.val_main_v181_eq _).trans (by simp only [StableHlo.launchContents_devRef, hagree c]; exact Proj.same_gaS m ρ c)
    · exact (Cert.ProjReferenceIdeal.Read.val_main_v187_eq _).trans (by simp only [StableHlo.launchContents_devRef, hagree c]; exact Proj.same_gbS m ρ c)
    · exact (Cert.ProjReferenceIdeal.Read.val_main_v197_eq _).trans (by simp only [StableHlo.launchContents_devRef, hagree c]; exact Proj.same_qS m ρ c)
    · exact (Cert.ProjReferenceIdeal.Read.val_main_v198_eq _).trans (by simp only [StableHlo.launchContents_devRef, hagree c]; exact Proj.same_kbS m ρ c)
    · exact (Cert.ProjReferenceIdeal.Read.val_main_v199_eq _).trans (by simp only [StableHlo.launchContents_devRef, hagree c]; exact Proj.same_vbS m ρ c)
    · exact (Cert.ProjReferenceIdeal.Read.val_main_v203_eq _).trans (by simp only [StableHlo.launchContents_devRef, hagree c]; exact Proj.same_iqS m ρ c)
    · exact (Cert.ProjReferenceIdeal.Read.val_main_v205_eq _).trans (by simp only [StableHlo.launchContents_devRef, hagree c]; exact Proj.same_ikbS m ρ c)
    · exact (Cert.ProjReferenceIdeal.Read.val_main_v211_eq _).trans (by simp only [StableHlo.launchContents_devRef, hagree c]; exact Proj.same_zrS m ρ c)

end Projections

theorem quiescent_ScanReferenceIdeal : quiescent_ScanReferenceIdeal := fun m ρ _ =>
  (θ_run Cert.ScanReferenceIdeal.defs _ _).mono (fun r h => ⟨fun c => (h c).2, sem_eq_zero_of_no_sems (by decide) r.2⟩)
    (Cert.ScanReferenceIdeal.Value.run (F := Ideal) m ρ)

section ScanPrompt
open Cert.ScanIdeal Cert.ScanIdeal.Gen

set_option maxRecDepth 16384 in
theorem algebraic_ScanIdeal_ScanReferenceIdeal : algebraic_ScanIdeal_ScanReferenceIdeal := by
  intro m ρ m' ρ' _ hagree
  refine ⟨fun c => Pipeline.afterTail₀ cfgs (dats m) 0 (V0 m) [hostOps1] c main_v5, ?_, ?_⟩
  · exact (θ_run defs _ _).mono (fun r h c => ⟨(h c).2 main_v5 (Pipeline.mem_restRefs_of main_v5 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
      (run_main (F := Ideal) m ρ)
  · refine (θ_run Cert.ScanReferenceIdeal.defs _ _).mono (fun _ h c => ⟨(h c).1.trans ?_, (h c).2⟩)
      (Cert.ScanReferenceIdeal.Value.run (F := Ideal) m' ρ')
    funext y
    obtain ⟨n, q, l, i, rfl⟩ : ∃ (n : Fin 2) (q : Fin 8) (l i : Fin 64), y = ix4 n q l i := ⟨y 0, y 1, y 2, y 3, eq_ix4 y⟩
    refine (Scan.ref m' c n q l i).trans (Eq.trans ?_ (Scan.value m c n q l i).symm)
    simp only [hagree c]

end ScanPrompt

theorem quiescent_ScanSReferenceIdeal : quiescent_ScanSReferenceIdeal := fun m ρ _ =>
  (θ_run Cert.ScanSReferenceIdeal.defs _ _).mono (fun r h => ⟨fun c => (h c).2, sem_eq_zero_of_no_sems (by decide) r.2⟩)
    (Cert.ScanSReferenceIdeal.Value.run (F := Ideal) m ρ)

section ScanSample
open Cert.ScanSIdeal Cert.ScanSIdeal.Gen

theorem algebraic_ScanSIdeal_ScanSReferenceIdeal : algebraic_ScanSIdeal_ScanSReferenceIdeal := by
  intro m ρ m' ρ' _ hagree
  refine ⟨fun c => Pipeline.afterTail₀ cfgs (dats m) 0 (V0 m) [hostOps1] c main_v4, ?_, ?_⟩
  · exact (θ_run defs _ _).mono (fun r h c => ⟨(h c).2 main_v4 (Pipeline.mem_restRefs_of main_v4 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
      (run_main (F := Ideal) m ρ)
  · refine (θ_run Cert.ScanSReferenceIdeal.defs _ _).mono (fun _ h c => ⟨(h c).1.trans ?_, (h c).2⟩)
      (Cert.ScanSReferenceIdeal.Value.run (F := Ideal) m' ρ')
    refine (Cert.ScanSReferenceIdeal.Read.val_main_v7_eq _ _ _).trans ?_
    simp only [hagree c]
    exact (ScanS.value m c).symm

end ScanSample

theorem quiescent_MixReferenceIdeal : quiescent_MixReferenceIdeal := fun m ρ _ =>
  (θ_run Cert.MixReferenceIdeal.defs _ _).mono
    (fun r h => ⟨fun c => (h c).2.2, sem_eq_zero_of_no_sems (by decide) r.2⟩)
    (Cert.MixReferenceIdeal.Value.run (F := Ideal) m ρ)

theorem algebraic_MixIdeal_MixReferenceIdeal : algebraic_MixIdeal_MixReferenceIdeal := by
  intro m ρ m' ρ' _ hagree
  refine ⟨_, _, (θ_run Cert.MixIdeal.defs _ _).mono (fun _ h c => ⟨(h c).1, (h c).2.1, (h c).2.2.2⟩)
    (Cert.MixIdeal.Value.run_blocks (F := Ideal) m ρ), ?_⟩
  refine (θ_run Cert.MixReferenceIdeal.defs _ _).mono (fun _ h c => ⟨(h c).1.trans ?_, (h c).2.1.trans ?_, (h c).2.2⟩)
    (Cert.MixReferenceIdeal.Value.run (F := Ideal) m' ρ')
  · exact (Cert.MixReferenceIdeal.Read.val_main_v60_eq m' c).trans (by
      simp only [hagree c]
      exact Mix.value_x1 m c)
  · exact (Cert.MixReferenceIdeal.Read.val_main_v80_eq m' c).trans (by
      simp only [hagree c]
      exact Mix.value_h2 m c)

theorem claim : Cert.Claim := ⟨Cert.Moe.Gen.facts, Cert.MoeIdeal.Gen.facts, Cert.MoeReferenceIdeal.Gen.facts,
  Cert.Proj.Gen.facts, Cert.ProjIdeal.Gen.facts, Cert.ProjReferenceIdeal.Gen.facts,
  Cert.MoeS.Gen.facts, Cert.MoeSIdeal.Gen.facts, Cert.MoeSReferenceIdeal.Gen.facts,
  Cert.Scan.Gen.facts, Cert.ScanIdeal.Gen.facts, Cert.ScanReferenceIdeal.Gen.facts,
  Cert.ScanS.Gen.facts, Cert.ScanSIdeal.Gen.facts, Cert.ScanSReferenceIdeal.Gen.facts,
  Cert.Mix.Gen.facts, Cert.MixIdeal.Gen.facts, Cert.MixReferenceIdeal.Gen.facts,
  fun m ρ _ => Cert.Moe.Gen.frame m ρ, fun m ρ _ => Cert.MoeIdeal.Gen.frame m ρ, quiescent_MoeReferenceIdeal,
  fun m ρ _ => Cert.Proj.Gen.frame m ρ, fun m ρ _ => Cert.ProjIdeal.Gen.frame m ρ, quiescent_ProjReferenceIdeal,
  fun m ρ _ => Cert.MoeS.Gen.frame m ρ, fun m ρ _ => Cert.MoeSIdeal.Gen.frame m ρ, quiescent_MoeSReferenceIdeal,
  fun m ρ _ => Cert.Scan.Gen.frame m ρ, fun m ρ _ => Cert.ScanIdeal.Gen.frame m ρ, quiescent_ScanReferenceIdeal,
  fun m ρ _ => Cert.ScanS.Gen.frame m ρ, fun m ρ _ => Cert.ScanSIdeal.Gen.frame m ρ, quiescent_ScanSReferenceIdeal,
  fun m ρ _ => Cert.Mix.Gen.frame m ρ, fun m ρ _ => Cert.MixIdeal.Gen.frame m ρ, quiescent_MixReferenceIdeal,
  (trivial : preserves_Moe_MoeIdeal), algebraic_MoeIdeal_MoeReferenceIdeal,
  (trivial : preserves_Proj_ProjIdeal), algebraic_ProjIdeal_ProjReferenceIdeal,
  (trivial : preserves_MoeS_MoeSIdeal), algebraic_MoeSIdeal_MoeSReferenceIdeal,
  (trivial : preserves_Scan_ScanIdeal), algebraic_ScanIdeal_ScanReferenceIdeal,
  (trivial : preserves_ScanS_ScanSIdeal), algebraic_ScanSIdeal_ScanSReferenceIdeal,
  (trivial : preserves_Mix_MixIdeal), algebraic_MixIdeal_MixReferenceIdeal⟩

end Cert.Proof
